-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)) (v4 : (c : Dev Cert.KernelIdeal.nD) → Buf (Elt Ideal) ((c.tc : Thread Cert.KernelIdeal.nD Cert.KernelIdeal.τ).loc Cert.KernelIdeal.main_v37_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_v37_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v13) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_4)) (v2 : (c : Dev Cert.Kernel8Ideal.nD) → Buf (Elt Ideal) ((c.tc : Thread Cert.Kernel8Ideal.nD Cert.Kernel8Ideal.τ).loc Cert.Kernel8Ideal.main_v4_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_4) = v1 c
          ∧ r.2.mem ((c.tc : Thread Cert.Kernel8Ideal.nD Cert.Kernel8Ideal.τ).loc Cert.Kernel8Ideal.main_v4_5) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v71) = v0 c
          ∧ r.2.mem ((c.tc : Thread Cert.Reference8Ideal.nD Cert.Reference8Ideal.τ).loc Cert.Reference8Ideal.main_v72) = v1 c
          ∧ r.2.mem ((c.tc : Thread Cert.Reference8Ideal.nD Cert.Reference8Ideal.τ).loc Cert.Reference8Ideal.main_v55) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v64) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v3_3)) (v1 : (c : Dev Cert.Kernel10Ideal.nD) → Buf (Elt Ideal) ((c.tc : Thread Cert.Kernel10Ideal.nD Cert.Kernel10Ideal.τ).loc Cert.Kernel10Ideal.main_v3_4)) (v2 : (c : Dev Cert.Kernel10Ideal.nD) → Buf (Elt Ideal) ((c.tc : Thread Cert.Kernel10Ideal.nD Cert.Kernel10Ideal.τ).loc Cert.Kernel10Ideal.main_v3_5)) (v3 : (c : Dev Cert.Kernel10Ideal.nD) → Buf (Elt Ideal) ((c.tc : Thread Cert.Kernel10Ideal.nD Cert.Kernel10Ideal.τ).loc Cert.Kernel10Ideal.main_v3_6)) (v4 : (c : Dev Cert.Kernel10Ideal.nD) → Buf (Elt Ideal) ((c.tc : Thread Cert.Kernel10Ideal.nD Cert.Kernel10Ideal.τ).loc Cert.Kernel10Ideal.main_v3_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_3) = v0 c
          ∧ r.2.mem ((c.tc : Thread Cert.Kernel10Ideal.nD Cert.Kernel10Ideal.τ).loc Cert.Kernel10Ideal.main_v3_4) = v1 c
          ∧ r.2.mem ((c.tc : Thread Cert.Kernel10Ideal.nD Cert.Kernel10Ideal.τ).loc Cert.Kernel10Ideal.main_v3_5) = v2 c
          ∧ r.2.mem ((c.tc : Thread Cert.Kernel10Ideal.nD Cert.Kernel10Ideal.τ).loc Cert.Kernel10Ideal.main_v3_6) = v3 c
          ∧ r.2.mem ((c.tc : Thread Cert.Kernel10Ideal.nD Cert.Kernel10Ideal.τ).loc Cert.Kernel10Ideal.main_v3_7) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v67) = v0 c
          ∧ r.2.mem ((c.tc : Thread Cert.Reference10Ideal.nD Cert.Reference10Ideal.τ).loc Cert.Reference10Ideal.main_v68) = v1 c
          ∧ r.2.mem ((c.tc : Thread Cert.Reference10Ideal.nD Cert.Reference10Ideal.τ).loc Cert.Reference10Ideal.main_v69) = v2 c
          ∧ r.2.mem ((c.tc : Thread Cert.Reference10Ideal.nD Cert.Reference10Ideal.τ).loc Cert.Reference10Ideal.main_v70) = v3 c
          ∧ r.2.mem ((c.tc : Thread Cert.Reference10Ideal.nD Cert.Reference10Ideal.τ).loc Cert.Reference10Ideal.main_v71) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8448x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8448x1024 .f32 := Host.absf main_arg4
  let main_cst_6 : FVec F S_ .f32 := constant S_ .f32 0x7F800000#32
  let main_v20 : FVec F S8448x1024 .f32 := broadcastInDim S8448x1024 ![] bcast_S_S8448x1024 main_cst_6
  let main_v21 : IVec S8448x1024 1 := cmpf .olt main_v19 main_v20
  let main_c_7 : IVec S_ 1 := constantI S_ 1 1#1
  let main_v22 : IVec S_ 1 := (fun x v => Host.reduce IntOp.andi x v reducesTo_S8448x1024_S_d0_1 h_S_) main_v21 main_c_7
  let main_v23 : IVec S_ 1 := andi main_v18 main_v22
  main_v23

def fn {F : FTy → Type} [FloatOps F] (main_arg0 : FVec F S8448x1024 .f32) (main_arg1 : FVec F S1x1024 .f32) (main_arg2 : FVec F S1024x5632 .f32) (main_arg3 : FVec F S2816x1024 .f32) (main_arg4 : FVec F S8448x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite8.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S8192x1024 : Shape := ⟨2, ![8192, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1x1024 .f32) (main_arg5 : FVec F S8192x1024 .f32) (main_v14 : IVec S_ 1) (main_v15 : FVec F S2816x1024 .f32) (main_cst_5 : FVec F S_ .f32) : IVec S_ 1 :=
  let main_v16 : FVec F S2816x1024 .f32 := broadcastInDim S2816x1024 ![] bcast_S_S2816x1024 main_cst_5
  let main_v17 : IVec S2816x1024 1 := cmpf .olt main_v15 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S8192x1024 .f32 := Host.absf main_arg5
  let main_cst_9 : FVec F S_ .f32 := constant S_ .f32 0x7F800000#32
  let main_v26 : FVec F S8192x1024 .f32 := broadcastInDim S8192x1024 ![] bcast_S_S8192x1024 main_cst_9
  let main_v27 : IVec S8192x1024 1 := cmpf .olt main_v25 main_v26
  let main_c_10 : IVec S_ 1 := constantI S_ 1 1#1
  let main_v28 : IVec S_ 1 := (fun x v => Host.reduce IntOp.andi x v reducesTo_S8192x1024_S_d0_1 h_S_) main_v27 main_c_10
  let main_v29 : IVec S_ 1 := andi main_v24 main_v28
  main_v29

def fn {F : FTy → Type} [FloatOps F] (main_arg0 : FVec F S8448x1024 .f32) (main_arg1 : FVec F S1x1024 .f32) (main_arg2 : FVec F S1024x5632 .f32) (main_arg3 : FVec F S2816x1024 .f32) (main_arg4 : FVec F S1x1024 .f32) (main_arg5 : FVec F S8192x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1024x5632 .f32 := Host.absf main_arg2
  let main_cst_3 : FVec F S_ .f32 := constant S_ .f32 0x7F800000#32
  let main_v11 : FVec F S1024x5632 .f32 := broadcastInDim S1024x5632 ![] bcast_S_S1024x5632 main_cst_3
  let main_v12 : IVec S1024x5632 1 := cmpf .olt main_v10 main_v11
  let main_c_4 : IVec S_ 1 := constantI S_ 1 1#1
  let main_v13 : IVec S_ 1 := (fun x v => Host.reduce IntOp.andi x v reducesTo_S1024x5632_S_d0_1 h_S_) main_v12 main_c_4
  let main_v14 : IVec S_ 1 := andi main_v9 main_v13
  let main_v15 : FVec F S2816x1024 .f32 := Host.absf main_arg3
  let main_cst_5 : FVec F S_ .f32 := constant S_ .f32 0x7F800000#32
  fn_part1 (F := F) main_arg4 main_arg5 main_v14 main_v15 main_cst_5
-- ==== Kernel.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S8448x8x704 : Shape := ⟨3, ![8448, 8, 704]⟩
abbrev S8x8448x704 : Shape := ⟨3, ![8, 8448, 704]⟩
abbrev S4x8448x704 : Shape := ⟨3, ![4, 8448, 704]⟩
abbrev S1024x8x704 : Shape := ⟨3, ![1024, 8, 704]⟩
abbrev S8x1024x704 : Shape := ⟨3, ![8, 1024, 704]⟩
abbrev S704x1024 : Shape := ⟨2, ![704, 1024]⟩
abbrev S1x1024x704 : Shape := ⟨3, ![1, 1024, 704]⟩
abbrev S1x704x704 : Shape := ⟨3, ![1, 704, 704]⟩
abbrev S704 : Shape := ⟨1, ![704]⟩
abbrev S704x1 : Shape := ⟨2, ![704, 1]⟩
abbrev S704x704 : Shape := ⟨2, ![704, 704]⟩
abbrev S1024x704 : Shape := ⟨2, ![1024, 704]⟩
abbrev S1024 : Shape := ⟨1, ![1024]⟩

abbrev nBuf : Space → Nat
  | .hbm => 62
  | .vmem => 26
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x5632, .f32⟩
  | .hbm, ⟨21, _⟩ => ⟨S8448x8x704, .f32⟩
  | .hbm, ⟨22, _⟩ => ⟨S8x8448x704, .f32⟩
  | .hbm, ⟨23, _⟩ => ⟨S4x8448x704, .f32⟩
  | .hbm, ⟨24, _⟩ => ⟨S4x8448x704, .f32⟩
  | .hbm, ⟨25, _⟩ => ⟨S4x8448x704, .f32⟩
  | .hbm, ⟨26, _⟩ => ⟨S4x8448x704, .f32⟩
  | .hbm, ⟨27, _⟩ => ⟨S_, .f32⟩
  | .hbm, ⟨28, _⟩ => ⟨S4x8448x704, .f32⟩
  | .hbm, ⟨29, _⟩ => ⟨S4x8448x704, .f32⟩
  | .hbm, ⟨30, _⟩ => ⟨S_, .f32⟩
  | .hbm, ⟨31, _⟩ => ⟨S4x8448x704, .f32⟩
  | .hbm, ⟨32, _⟩ => ⟨S4x8448x704, .f32⟩
  | .hbm, ⟨33, _⟩ => ⟨S4x8448x704, .f32⟩
  | .hbm, ⟨34, _⟩ => ⟨S4x8448x704, .f32⟩
  | .hbm, ⟨35, _⟩ => ⟨S4x8448x704, .f32⟩
  | .hbm, ⟨36, _⟩ => ⟨S_, .f32⟩
  | .hbm, ⟨37, _⟩ => ⟨S4x8448x704, .f32⟩
  | .hbm, ⟨38, _⟩ => ⟨S4x8448x704, .f32⟩
  | .hbm, ⟨39, _⟩ => ⟨S_, .f32⟩
  | .hbm, ⟨40, _⟩ => ⟨S4x8448x704, .f32⟩
  | .hbm, ⟨41, _⟩ => ⟨S4x8448x704, .f32⟩
  | .hbm, ⟨42, _⟩ => ⟨S_, .f32⟩
  | .hbm, ⟨43, _⟩ => ⟨S4x8448x704, .f32⟩
  | .hbm, ⟨44, _⟩ => ⟨S4x8448x704, .f32⟩
  | .hbm, ⟨45, _⟩ => ⟨S4x8448x704, .f32⟩
  | .hbm, ⟨46, _⟩ => ⟨S_, .f32⟩
  | .hbm, ⟨47, _⟩ => ⟨S4x8448x704, .f32⟩
  | .hbm, ⟨48, _⟩ => ⟨S4x8448x704, .f32⟩
  | .hbm, ⟨49, _⟩ => ⟨S4x8448x704, .f32⟩
  | .hbm, ⟨50, _⟩ => ⟨S4x8448x704, .f32⟩
  | .hbm, ⟨51, _⟩ => ⟨S1024x8x704, .f32⟩
  | .hbm, ⟨52, _⟩ => ⟨S8x1024x704, .f32⟩
  | .hbm, ⟨53, _⟩ => ⟨S8x1024x704, .bf16⟩
  | .hbm, ⟨54, _⟩ => ⟨S2816x1024, .bf16⟩
  | .hbm, ⟨55, _⟩ => ⟨S4x8448x704, .bf16⟩
  | .hbm, ⟨56, _⟩ => ⟨S4x8448x704, .bf16⟩
  | .hbm, ⟨57, _⟩ => ⟨S8448x1024, .f32⟩
  | .hbm, ⟨58, _⟩ => ⟨S1x1024, .f32⟩
  | .hbm, ⟨59, _⟩ => ⟨S8448x1024, .bf16⟩
  | .hbm, ⟨60, _⟩ => ⟨S4x8448x704, .bf16⟩
  | .hbm, ⟨61, _⟩ => ⟨S4x8448x704, .bf16⟩
  | .local _ .vmem, ⟨0, _⟩ => ⟨S704x1024, .f32⟩
  | .local _ .vmem, ⟨1, _⟩ => ⟨S704x1024, .f32⟩
  | .local _ .vmem, ⟨2, _⟩ => ⟨S704x1024, .f32⟩
  | .local _ .vmem, ⟨3, _⟩ => ⟨S704x1024, .f32⟩
  | .local _ .vmem, ⟨4, _⟩ => ⟨S1x1024, .f32⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S704x1024, .bf16⟩
  | .local _ .vmem, ⟨10, _⟩ => ⟨S704x1024, .bf16⟩
  | .local _ .vmem, ⟨11, _⟩ => ⟨S1x704x704, .bf16⟩
  | .local _ .vmem, ⟨12, _⟩ => ⟨S1x704x704, .bf16⟩
  | .local _ .vmem, ⟨13, _⟩ => ⟨S1x704x704, .bf16⟩
  | .local _ .vmem, ⟨14, _⟩ => ⟨S1x704x704, .bf16⟩
  | .local _ .vmem, ⟨15, _⟩ => ⟨S704x1024, .f32⟩
  | .local _ .vmem, ⟨16, _⟩ => ⟨S704x1024, .f32⟩
  | .local _ .vmem, ⟨17, _⟩ => ⟨S1x1024, .f32⟩
  | .local _ .vmem, ⟨18, _⟩ => ⟨S704x1024, .bf16⟩
  | .local _ .vmem, ⟨19, _⟩ => ⟨S704x1024, .bf16⟩
  | .local _ .vmem, ⟨20, _⟩ => ⟨S1x704x704, .bf16⟩
  | .local _ .vmem, ⟨21, _⟩ => ⟨S1x704x704, .bf16⟩
  | .local _ .vmem, ⟨22, _⟩ => ⟨S1x704x704, .bf16⟩
  | .local _ .vmem, ⟨23, _⟩ => ⟨S1x704x704, .bf16⟩
  | .local _ .vmem, ⟨24, _⟩ => ⟨S704x1024, .f32⟩
  | .local _ .vmem, ⟨25, _⟩ => ⟨S704x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v37_2 : Ref sig .tc := ⟨.hbm, 59, rfl⟩
abbrev main_v37_3 : Ref sig .tc := ⟨.hbm, 60, rfl⟩
abbrev main_v37_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![12, 4], ![false, false]⟩

def k0_cond4 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_33 : BitVec 32 := 0#32
  let v45 : BitVec 1 := Scalar.cmpi .ne v44 c0_i32_33
  v45

def k0_cond3 (i : grid0.Coords) : BitVec 1 :=
  let arg0 : BitVec 32 := BitVec.ofNat 32 (i 0).val
  let c0_i32_3 : BitVec 32 := 0#32
  let v6 : BitVec 1 := Scalar.cmpi .eq arg0 c0_i32_3
  let arg1 : BitVec 32 := BitVec.ofNat 32 (i 1).val
  let c0_i32_4 : BitVec 32 := 0#32
  let v7 : BitVec 1 := Scalar.cmpi .eq arg1 c0_i32_4
  let v8 : BitVec 1 := Scalar.andi v6 v7
  let v9 : BitVec 32 := Scalar.extui v8
  let c0_i32_5 : BitVec 32 := 0#32
  let v10 : BitVec 1 := Scalar.cmpi .ne v9 c0_i32_5
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S704x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x704x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x704x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S8448x2816 : Shape := ⟨2, ![8448, 2816]⟩
abbrev S1024 : Shape := ⟨1, ![1024]⟩
abbrev S8448x8x704 : Shape := ⟨3, ![8448, 8, 704]⟩
abbrev S8x8448x704 : Shape := ⟨3, ![8, 8448, 704]⟩
abbrev S4x8448x704 : Shape := ⟨3, ![4, 8448, 704]⟩

abbrev nBuf : Space → Nat
  | .hbm => 137
  | .vmem => 0
  | .smem => 0
  | _ => 0

abbrev hbmTy0_0 (i : Nat) : BufTy := match i % 128 with
  | 0 => ⟨S8448x1024, .f32⟩
  | 1 => ⟨S1x1024, .f32⟩
  | 2 => ⟨S1024x5632, .f32⟩
  | 3 => ⟨S2816x1024, .f32⟩
  | 4 => ⟨S8448x1024, .f32⟩
  | 5 => ⟨S8448x1024, .f32⟩
  | 6 => ⟨S_, .f32⟩
  | 7 => ⟨S8448, .f32⟩
  | 8 => ⟨S8448x1, .f32⟩
  | 9 => ⟨S_, .f32⟩
  | 10 => ⟨S8448x1, .f32⟩
  | 11 => ⟨S8448x1, .f32⟩
  | 12 => ⟨S_, .f32⟩
  | 13 => ⟨S8448x1, .f32⟩
  | 14 => ⟨S8448x1, .f32⟩
  | 15 => ⟨S8448x1, .f32⟩
  | 16 => ⟨S8448x1, .f32⟩
  | 17 => ⟨S_, .f32⟩
  | 18 => ⟨S8448x1, .f32⟩
  | 19 => ⟨S8448x1, .f32⟩
  | 20 => ⟨S8448x1024, .f32⟩
  | 21 => ⟨S8448x1024, .f32⟩
  | 22 => ⟨S8448x1024, .f32⟩
  | 23 => ⟨S8448x1024, .f32⟩
  | 24 => ⟨S8448x5632, .f32⟩
  | 25 => ⟨S8448x2816, .f32⟩
  | 26 => ⟨S8448x2816, .f32⟩
  | 27 => ⟨S8448x2816, .f32⟩
  | 28 => ⟨S8448x2816, .f32⟩
  | 29 => ⟨S_, .f32⟩
  | 30 => ⟨S8448x2816, .f32⟩
  | 31 => ⟨S8448x2816, .f32⟩
  | 32 => ⟨S_, .f32⟩
  | 33 => ⟨S8448x2816, .f32⟩
  | 34 => ⟨S8448x2816, .f32⟩
  | 35 => ⟨S_, .f32⟩
  | 36 => ⟨S8448x2816, .f32⟩
  | 37 => ⟨S8448x2816, .f32⟩
  | 38 => ⟨S8448x2816, .f32⟩
  | 39 => ⟨S8448x2816, .f32⟩
  | 40 => ⟨S8448x2816, .f32⟩
  | 41 => ⟨S8448x1024, .f32⟩
  | 42 => ⟨S_, .f32⟩
  | 43 => ⟨S8448x1024, .f32⟩
  | 44 => ⟨S8448x1024, .f32⟩
  | 45 => ⟨S8448x1024, .f32⟩
  | 46 => ⟨S8448x1024, .f32⟩
  | 47 => ⟨S_, .f32⟩
  | 48 => ⟨S8448x1024, .f32⟩
  | 49 => ⟨S8448x1024, .f32⟩
  | 50 => ⟨S8448x2816, .f32⟩
  | 51 => ⟨S8448x2816, .f32⟩
  | 52 => ⟨S8448x2816, .f32⟩
  | 53 => ⟨S8448x2816, .f32⟩
  | 54 => ⟨S8448x2816, .f32⟩
  | 55 => ⟨S8448x2816, .f32⟩
  | 56 => ⟨S8448x2816, .f32⟩
  | 57 => ⟨S8448x5632, .f32⟩
  | 58 => ⟨S8448x1024, .f32⟩
  | 59 => ⟨S8448x1024, .f32⟩
  | 60 => ⟨S_, .f32⟩
  | 61 => ⟨S1024, .f32⟩
  | 62 => ⟨S1x1024, .f32⟩
  | 63 => ⟨S8448x1024, .f32⟩
  | 64 => ⟨S8448x1024, .f32⟩
  | 65 => ⟨S8448x1024, .f32⟩
  | 66 => ⟨S_, .f32⟩
  | 67 => ⟨S8448, .f32⟩
  | 68 => ⟨S8448x1, .f32⟩
  | 69 => ⟨S8448x1024, .f32⟩
  | 70 => ⟨S8448x1024, .f32⟩
  | 71 => ⟨S8448x1024, .f32⟩
  | 72 => ⟨S8448x1, .f32⟩
  | 73 => ⟨S_, .f32⟩
  | 74 => ⟨S8448x1, .f32⟩
  | 75 => ⟨S8448x1, .f32⟩
  | 76 => ⟨S_, .f32⟩
  | 77 => ⟨S8448, .f32⟩
  | 78 => ⟨S8448x1024, .f32⟩
  | 79 => ⟨S8448x1024, .f32⟩
  | 80 => ⟨S8448x1024, .f32⟩
  | 81 => ⟨S8448x1024, .f32⟩
  | 82 => ⟨S8448x1024, .f32⟩
  | 83 => ⟨S8448x1024, .f32⟩
  | 84 => ⟨S_, .f32⟩
  | 85 => ⟨S8448, .f32⟩
  | 86 => ⟨S8448x1, .f32⟩
  | 87 => ⟨S_, .f32⟩
  | 88 => ⟨S8448x1, .f32⟩
  | 89 => ⟨S8448x1, .f32⟩
  | 90 => ⟨S_, .f32⟩
  | 91 => ⟨S8448x1, .f32⟩
  | 92 => ⟨S8448x1, .f32⟩
  | 93 => ⟨S8448x1, .f32⟩
  | 94 => ⟨S8448x1024, .f32⟩
  | 95 => ⟨S8448x1024, .f32⟩
  | 96 => ⟨S8448x1024, .f32⟩
  | 97 => ⟨S8448x1024, .f32⟩
  | 98 => ⟨S8448x5632, .f32⟩
  | 99 => ⟨S8448x2816, .f32⟩
  | 100 => ⟨S8448x2816, .f32⟩
  | 101 => ⟨S8448x2816, .f32⟩
  | 102 => ⟨S8448x2816, .f32⟩
  | 103 => ⟨S_, .f32⟩
  | 104 => ⟨S8448x2816, .f32⟩
  | 105 => ⟨S8448x2816, .f32⟩
  | 106 => ⟨S_, .f32⟩
  | 107 => ⟨S8448x2816, .f32⟩
  | 108 => ⟨S8448x2816, .f32⟩
  | 109 => ⟨S_, .f32⟩
  | 110 => ⟨S8448x2816, .f32⟩
  | 111 => ⟨S8448x2816, .f32⟩
  | 112 => ⟨S8448x2816, .f32⟩
  | 113 => ⟨S8448x2816, .f32⟩
  | 114 => ⟨S8448x2816, .f32⟩
  | 115 => ⟨S8448x1024, .f32⟩
  | 116 => ⟨S_, .f32⟩
  | 117 => ⟨S8448x1024, .f32⟩
  | 118 => ⟨S8448x1024, .f32⟩
  | 119 => ⟨S_, .f32⟩
  | 120 => ⟨S8448x1024, .f32⟩
  | 121 => ⟨S8448x1024, .f32⟩
  | 122 => ⟨S8448x2816, .f32⟩
  | 123 => ⟨S8448x2816, .f32⟩
  | 124 => ⟨S8448x2816, .f32⟩
  | 125 => ⟨S8448x2816, .f32⟩
  | 126 => ⟨S8448x2816, .f32⟩
  | 127 => ⟨S8448x2816, .f32⟩
  | _ => ⟨S8448x1024, .f32⟩

abbrev hbmTy0_1 (i : Nat) : BufTy := match i % 128 with
  | 0 => ⟨S8448x2816, .f32⟩
  | 1 => ⟨S8448x5632, .f32⟩
  | 2 => ⟨S8448x8x704, .f32⟩
  | 3 => ⟨S8x8448x704, .f32⟩
  | 4 => ⟨S8448x1024, .bf16⟩
  | 5 => ⟨S4x8448x704, .f32⟩
  | 6 => ⟨S4x8448x704, .bf16⟩
  | 7 => ⟨S4x8448x704, .f32⟩
  | 8 => ⟨S4x8448x704, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_v68_2 : Ref sig .tc := ⟨.hbm, 108, rfl⟩
abbrev main_call2_cst_1 : Ref sig .tc := ⟨.hbm, 109, rfl⟩
abbrev main_call2_v6 : Ref sig .tc := ⟨.hbm, 110, rfl⟩
abbrev main_call2_v7 : Ref sig .tc := ⟨.hbm, 111, rfl⟩
abbrev main_v68_1 : Ref sig .tc := ⟨.hbm, 112, rfl⟩
abbrev main_v68_0 : Ref sig .tc := ⟨.hbm, 113, rfl⟩
abbrev main_v69 : Ref sig .tc := ⟨.hbm, 114, rfl⟩
abbrev main_v70 : Ref sig .tc := ⟨.hbm, 115, rfl⟩
abbrev main_cst_12 : Ref sig .tc := ⟨.hbm, 116, rfl⟩
abbrev main_v71 : Ref sig .tc := ⟨.hbm, 117, rfl⟩
abbrev main_v72 : Ref sig .tc := ⟨.hbm, 118, rfl⟩
abbrev main_cst_13 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩

abbrev nD : Nat := 1
abbrev τ : Topo := Topo.v7x

variable {F : FTy → Type} [FloatOps F]
-- ==== Kernel2.lean ====
abbrev S8448x1024 : Shape := ⟨2, ![8448, 1024]⟩
abbrev S4x8448x704 : Shape := ⟨3, ![4, 8448, 704]⟩
abbrev S4x1024x704 : Shape := ⟨3, ![4, 1024, 704]⟩
abbrev S2816x1024 : Shape := ⟨2, ![2816, 1024]⟩
abbrev S1x2816x704 : Shape := ⟨3, ![1, 2816, 704]⟩
abbrev S1x1024x704 : Shape := ⟨3, ![1, 1024, 704]⟩
abbrev S2816x704 : Shape := ⟨2, ![2816, 704]⟩
abbrev S1024x704 : Shape := ⟨2, ![1024, 704]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S4x8448x704, .f32⟩
  | .hbm, ⟨2, _⟩ => ⟨S8448x1024, .bf16⟩
  | .hbm, ⟨3, _⟩ => ⟨S4x8448x704, .bf16⟩
  | .hbm, ⟨4, _⟩ => ⟨S4x1024x704, .f32⟩
  | .local _ .vmem, ⟨0, _⟩ => ⟨S2816x1024, .bf16⟩
  | .local _ .vmem, ⟨1, _⟩ => ⟨S2816x1024, .bf16⟩
  | .local _ .vmem, ⟨2, _⟩ => ⟨S1x2816x704, .bf16⟩
  | .local _ .vmem, ⟨3, _⟩ => ⟨S1x2816x704, .bf16⟩
  | .local _ .vmem, ⟨4, _⟩ => ⟨S1x1024x704, .f32⟩
  | .local _ .vmem, ⟨5, _⟩ => ⟨S1x1024x704, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_8 : BitVec 32 := 0#32
  let v10 : BitVec 1 := Scalar.cmpi .ne v9 c0_i32_8
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2816x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x1024 : Shape := ⟨2, ![8448, 1024]⟩
abbrev S4x8448x704 : Shape := ⟨3, ![4, 8448, 704]⟩
abbrev S_ : Shape := ⟨0, ![]⟩
abbrev S4x1024x704 : Shape := ⟨3, ![4, 1024, 704]⟩
abbrev S4x704x8448 : Shape := ⟨3, ![4, 704, 8448]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S4x8448x704, .f32⟩
  | .hbm, ⟨2, _⟩ => ⟨S_, .f32⟩
  | .hbm, ⟨3, _⟩ => ⟨S4x1024x704, .f32⟩
  | .hbm, ⟨4, _⟩ => ⟨S4x704x8448, .f32⟩
  | .hbm, ⟨5, _⟩ => ⟨S4x8448x704, .f32⟩
  | .hbm, ⟨6, _⟩ => ⟨S4x704x8448, .f32⟩
  | .hbm, ⟨7, _⟩ => ⟨S4x704x1024, .f32⟩
  | .hbm, ⟨8, _⟩ => ⟨S4x1024x704, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4x8448x704 : Shape := ⟨3, ![4, 8448, 704]⟩
abbrev S8448x1024 : Shape := ⟨2, ![8448, 1024]⟩
abbrev S2816x1024 : Shape := ⟨2, ![2816, 1024]⟩
abbrev S1x2816x704 : Shape := ⟨3, ![1, 2816, 704]⟩
abbrev S704x1024 : Shape := ⟨2, ![704, 1024]⟩
abbrev S2816x704 : Shape := ⟨2, ![2816, 704]⟩

abbrev nBuf : Space → Nat
  | .hbm => 4
  | .vmem => 6
  | .smem => 0
  | _ => 0

abbrev bufTy : (tb : Table) → Fin (tcTables nBuf tb) → BufTy
  | .hbm, ⟨0, _⟩ => ⟨S4x8448x704, .f32⟩
  | .hbm, ⟨1, _⟩ => ⟨S8448x1024, .f32⟩
  | .hbm, ⟨2, _⟩ => ⟨S4x8448x704, .bf16⟩
  | .hbm, ⟨3, _⟩ => ⟨S2816x1024, .f32⟩
  | .local _ .vmem, ⟨0, _⟩ => ⟨S1x2816x704, .bf16⟩
  | .local _ .vmem, ⟨1, _⟩ => ⟨S1x2816x704, .bf16⟩
  | .local _ .vmem, ⟨2, _⟩ => ⟨S2816x1024, .f32⟩
  | .local _ .vmem, ⟨3, _⟩ => ⟨S2816x1024, .f32⟩
  | .local _ .vmem, ⟨4, _⟩ => ⟨S704x1024, .f32⟩
  | .local _ .vmem, ⟨5, _⟩ => ⟨S704x1024, .f32⟩
  | _, _ => ⟨S4x8448x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2816x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x8448x704 : Shape := ⟨3, ![4, 8448, 704]⟩
abbrev S8448x1024 : Shape := ⟨2, ![8448, 1024]⟩
abbrev S_ : Shape := ⟨0, ![]⟩
abbrev S2816x1024 : Shape := ⟨2, ![2816, 1024]⟩
abbrev S8448x4x704 : Shape := ⟨3, ![8448, 4, 704]⟩
abbrev S8448x2816 : Shape := ⟨2, ![8448, 2816]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4x8448x704, .f32⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x4x704, .f32⟩
  | .hbm, ⟨5, _⟩ => ⟨S8448x2816, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S1024x2816, .f32⟩
  | .hbm, ⟨14, _⟩ => ⟨S2816x1024, .f32⟩
  | _, _ => ⟨S4x8448x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S4x8448x704 : Shape := ⟨3, ![4, 8448, 704]⟩
abbrev S768x1024 : Shape := ⟨2, ![768, 1024]⟩
abbrev S1x1024x704 : Shape := ⟨3, ![1, 1024, 704]⟩
abbrev S704x1024 : Shape := ⟨2, ![704, 1024]⟩
abbrev S1x768x704 : Shape := ⟨3, ![1, 768, 704]⟩
abbrev S768 : Shape := ⟨1, ![768]⟩
abbrev S768x1 : Shape := ⟨2, ![768, 1]⟩
abbrev S1024x704 : Shape := ⟨2, ![1024, 704]⟩
abbrev S768x704 : Shape := ⟨2, ![768, 704]⟩

abbrev nBuf : Space → Nat
  | .hbm => 12
  | .vmem => 19
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x8x704, .f32⟩
  | .hbm, ⟨5, _⟩ => ⟨S8x1024x704, .f32⟩
  | .hbm, ⟨6, _⟩ => ⟨S8x1024x704, .bf16⟩
  | .hbm, ⟨7, _⟩ => ⟨S2816x1024, .bf16⟩
  | .hbm, ⟨8, _⟩ => ⟨S8448x1024, .f32⟩
  | .hbm, ⟨9, _⟩ => ⟨S4x8448x704, .bf16⟩
  | .hbm, ⟨10, _⟩ => ⟨S4x8448x704, .bf16⟩
  | .hbm, ⟨11, _⟩ => ⟨S4x8448x704, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S704x1024, .bf16⟩
  | .local _ .vmem, ⟨8, _⟩ => ⟨S704x1024, .bf16⟩
  | .local _ .vmem, ⟨9, _⟩ => ⟨S768x1024, .f32⟩
  | .local _ .vmem, ⟨10, _⟩ => ⟨S768x1024, .f32⟩
  | .local _ .vmem, ⟨11, _⟩ => ⟨S1x768x704, .bf16⟩
  | .local _ .vmem, ⟨12, _⟩ => ⟨S1x768x704, .bf16⟩
  | .local _ .vmem, ⟨13, _⟩ => ⟨S1x768x704, .bf16⟩
  | .local _ .vmem, ⟨14, _⟩ => ⟨S1x768x704, .bf16⟩
  | .local _ .vmem, ⟨15, _⟩ => ⟨S1x768x704, .bf16⟩
  | .local _ .vmem, ⟨16, _⟩ => ⟨S1x768x704, .bf16⟩
  | .local _ .vmem, ⟨17, _⟩ => ⟨S768x1024, .bf16⟩
  | .local _ .vmem, ⟨18, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_27 : BitVec 32 := 0#32
  let v42 : BitVec 1 := Scalar.cmpi .ne v41 c0_i32_27
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x768x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S8448x2816 : Shape := ⟨2, ![8448, 2816]⟩

abbrev nBuf : Space → Nat
  | .hbm => 37
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x5632, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S_, .f32⟩
  | .hbm, ⟨25, _⟩ => ⟨S8448x2816, .f32⟩
  | .hbm, ⟨26, _⟩ => ⟨S8448x2816, .f32⟩
  | .hbm, ⟨27, _⟩ => ⟨S_, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x1024, .f32⟩
  | .hbm, ⟨33, _⟩ => ⟨S_, .f32⟩
  | .hbm, ⟨34, _⟩ => ⟨S8448x1024, .f32⟩
  | .hbm, ⟨35, _⟩ => ⟨S8448x1024, .f32⟩
  | .hbm, ⟨36, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel5.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .bf16⟩
  | .hbm, ⟨3, _⟩ => ⟨S8448x1024, .bf16⟩
  | .hbm, ⟨4, _⟩ => ⟨S1024x1024, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S1024x1024, .f32⟩
  | .hbm, ⟨6, _⟩ => ⟨S1024x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8448x1024 : Shape := ⟨2, ![8448, 1024]⟩
abbrev S8448x4096 : Shape := ⟨2, ![8448, 4096]⟩
abbrev S1024x10240 : Shape := ⟨2, ![1024, 10240]⟩
abbrev S1056x1024 : Shape := ⟨2, ![1056, 1024]⟩
abbrev S1024x1024 : Shape := ⟨2, ![1024, 1024]⟩

abbrev nBuf : Space → Nat
  | .hbm => 17
  | .vmem => 18
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S8448x4096, .f32⟩
  | .hbm, ⟨7, _⟩ => ⟨S1024x10240, .f32⟩
  | .hbm, ⟨8, _⟩ => ⟨S8448x1024, .bf16⟩
  | .hbm, ⟨9, _⟩ => ⟨S8448x1024, .bf16⟩
  | .hbm, ⟨10, _⟩ => ⟨S8448x1024, .bf16⟩
  | .hbm, ⟨11, _⟩ => ⟨S8448x1024, .bf16⟩
  | .hbm, ⟨12, _⟩ => ⟨S8448x1024, .bf16⟩
  | .hbm, ⟨13, _⟩ => ⟨S8448x1024, .bf16⟩
  | .hbm, ⟨14, _⟩ => ⟨S8448x4096, .bf16⟩
  | .hbm, ⟨15, _⟩ => ⟨S1024x10240, .bf16⟩
  | .hbm, ⟨16, _⟩ => ⟨S8448x1024, .f32⟩
  | .local _ .vmem, ⟨0, _⟩ => ⟨S1056x1024, .bf16⟩
  | .local _ .vmem, ⟨1, _⟩ => ⟨S1056x1024, .bf16⟩
  | .local _ .vmem, ⟨2, _⟩ => ⟨S1056x1024, .bf16⟩
  | .local _ .vmem, ⟨3, _⟩ => ⟨S1056x1024, .bf16⟩
  | .local _ .vmem, ⟨4, _⟩ => ⟨S1056x1024, .bf16⟩
  | .local _ .vmem, ⟨5, _⟩ => ⟨S1056x1024, .bf16⟩
  | .local _ .vmem, ⟨6, _⟩ => ⟨S1056x1024, .bf16⟩
  | .local _ .vmem, ⟨7, _⟩ => ⟨S1056x1024, .bf16⟩
  | .local _ .vmem, ⟨8, _⟩ => ⟨S1056x1024, .bf16⟩
  | .local _ .vmem, ⟨9, _⟩ => ⟨S1056x1024, .bf16⟩
  | .local _ .vmem, ⟨10, _⟩ => ⟨S1056x1024, .bf16⟩
  | .local _ .vmem, ⟨11, _⟩ => ⟨S1056x1024, .bf16⟩
  | .local _ .vmem, ⟨12, _⟩ => ⟨S1056x1024, .bf16⟩
  | .local _ .vmem, ⟨13, _⟩ => ⟨S1056x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1056x1024, .f32⟩
  | .local _ .vmem, ⟨17, _⟩ => ⟨S1056x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32_5 : BitVec 32 := 2#32
  let v13 : BitVec 1 := Scalar.cmpi .sge arg1 c2_i32_5
  let c3_i32 : BitVec 32 := 3#32
  let v14 : BitVec 1 := Scalar.cmpi .slt arg1 c3_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c3_i32_7 : BitVec 32 := 3#32
  let v18 : BitVec 1 := Scalar.cmpi .sge arg1 c3_i32_7
  let c4_i32 : BitVec 32 := 4#32
  let v19 : BitVec 1 := Scalar.cmpi .slt arg1 c4_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c4_i32_9 : BitVec 32 := 4#32
  let v23 : BitVec 1 := Scalar.cmpi .sge arg1 c4_i32_9
  let c5_i32 : BitVec 32 := 5#32
  let v24 : BitVec 1 := Scalar.cmpi .slt arg1 c5_i32
  let v25 : BitVec 1 := Scalar.andi v23 v24
  let v26 : BitVec 32 := Scalar.extui v25
  let c0_i32_10 : BitVec 32 := 0#32
  let v27 : BitVec 1 := Scalar.cmpi .ne v26 c0_i32_10
  v27

def k0_cond7 (i : grid0.Coords) : BitVec 1 :=
  let arg1 : BitVec 32 := BitVec.ofNat 32 (i 1).val
  let c5_i32_11 : BitVec 32 := 5#32
  let v28 : BitVec 1 := Scalar.cmpi .sge arg1 c5_i32_11
  let c6_i32 : BitVec 32 := 6#32
  let v29 : BitVec 1 := Scalar.cmpi .slt arg1 c6_i32
  let v30 : BitVec 1 := Scalar.andi v28 v29
  let v31 : BitVec 32 := Scalar.extui v30
  let c0_i32_12 : BitVec 32 := 0#32
  let v32 : BitVec 1 := Scalar.cmpi .ne v31 c0_i32_12
  v32

def k0_cond8 (i : grid0.Coords) : BitVec 1 :=
  let arg1 : BitVec 32 := BitVec.ofNat 32 (i 1).val
  let c6_i32_13 : BitVec 32 := 6#32
  let v33 : BitVec 1 := Scalar.cmpi .sge arg1 c6_i32_13
  let c10_i32 : BitVec 32 := 10#32
  let v34 : BitVec 1 := Scalar.cmpi .slt arg1 c10_i32
  let v35 : BitVec 1 := Scalar.andi v33 v34
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1056x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S8448x1024 : Shape := ⟨2, ![8448, 1024]⟩
abbrev S8448x4096 : Shape := ⟨2, ![8448, 4096]⟩
abbrev S1024x10240 : Shape := ⟨2, ![1024, 10240]⟩
abbrev S_ : Shape := ⟨0, ![]⟩
abbrev S8448x10240 : Shape := ⟨2, ![8448, 10240]⟩

abbrev nBuf : Space → Nat
  | .hbm => 20
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S8448x4096, .f32⟩
  | .hbm, ⟨7, _⟩ => ⟨S1024x10240, .f32⟩
  | .hbm, ⟨8, _⟩ => ⟨S_, .f32⟩
  | .hbm, ⟨9, _⟩ => ⟨S8448x1024, .f32⟩
  | .hbm, ⟨10, _⟩ => ⟨S8448x10240, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x4096, .f32⟩
  | .hbm, ⟨18, _⟩ => ⟨S8448x10240, .f32⟩
  | .hbm, ⟨19, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== Kernel7.lean ====
abbrev S8448x1024 : Shape := ⟨2, ![8448, 1024]⟩
abbrev S1x1024 : Shape := ⟨2, ![1, 1024]⟩
abbrev S1024x10368 : Shape := ⟨2, ![1024, 10368]⟩
abbrev S8448x10368 : Shape := ⟨2, ![8448, 10368]⟩
abbrev S768x1024 : Shape := ⟨2, ![768, 1024]⟩
abbrev S1024x3456 : Shape := ⟨2, ![1024, 3456]⟩
abbrev S768x3456 : Shape := ⟨2, ![768, 3456]⟩
abbrev S768 : Shape := ⟨1, ![768]⟩
abbrev S768x1 : Shape := ⟨2, ![768, 1]⟩

abbrev nBuf : Space → Nat
  | .hbm => 6
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x10368, .f32⟩
  | .hbm, ⟨3, _⟩ => ⟨S1024x10368, .bf16⟩
  | .hbm, ⟨4, _⟩ => ⟨S8448x10368, .f32⟩
  | .hbm, ⟨5, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1024x3456, .bf16⟩
  | .local _ .vmem, ⟨4, _⟩ => ⟨S1024x3456, .bf16⟩
  | .local _ .vmem, ⟨5, _⟩ => ⟨S768x3456, .f32⟩
  | .local _ .vmem, ⟨6, _⟩ => ⟨S768x3456, .f32⟩
  | .local _ .vmem, ⟨7, _⟩ => ⟨S768x1024, .bf16⟩
  | .local _ .vmem, ⟨8, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3456 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S8448x1024 : Shape := ⟨2, ![8448, 1024]⟩
abbrev S1x1024 : Shape := ⟨2, ![1, 1024]⟩
abbrev S1024x10368 : Shape := ⟨2, ![1024, 10368]⟩
abbrev S_ : Shape := ⟨0, ![]⟩
abbrev S8448 : Shape := ⟨1, ![8448]⟩
abbrev S8448x1 : Shape := ⟨2, ![8448, 1]⟩
abbrev S8448x10368 : Shape := ⟨2, ![8448, 10368]⟩

abbrev nBuf : Space → Nat
  | .hbm => 20
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x10368, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x10368, .f32⟩
  | .hbm, ⟨19, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel8.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S8192x1024 : Shape := ⟨2, ![8192, 1024]⟩
abbrev S1024x8x704 : Shape := ⟨3, ![1024, 8, 704]⟩
abbrev S8x1024x704 : Shape := ⟨3, ![8, 1024, 704]⟩
abbrev S4x8448x704 : Shape := ⟨3, ![4, 8448, 704]⟩
abbrev S1x128 : Shape := ⟨2, ![1, 128]⟩
abbrev S768x1024 : Shape := ⟨2, ![768, 1024]⟩
abbrev S1x1024x704 : Shape := ⟨3, ![1, 1024, 704]⟩
abbrev S704x1024 : Shape := ⟨2, ![704, 1024]⟩
abbrev S256x1024 : Shape := ⟨2, ![256, 1024]⟩
abbrev S1x768x704 : Shape := ⟨3, ![1, 768, 704]⟩
abbrev S768 : Shape := ⟨1, ![768]⟩
abbrev S768x1 : Shape := ⟨2, ![768, 1]⟩
abbrev S1024x704 : Shape := ⟨2, ![1024, 704]⟩
abbrev S768x704 : Shape := ⟨2, ![768, 704]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 16
  | .vmem => 28
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S8192x1024, .f32⟩
  | .hbm, ⟨6, _⟩ => ⟨S1024x8x704, .f32⟩
  | .hbm, ⟨7, _⟩ => ⟨S8x1024x704, .f32⟩
  | .hbm, ⟨8, _⟩ => ⟨S8x1024x704, .bf16⟩
  | .hbm, ⟨9, _⟩ => ⟨S2816x1024, .bf16⟩
  | .hbm, ⟨10, _⟩ => ⟨S8448x1024, .f32⟩
  | .hbm, ⟨11, _⟩ => ⟨S4x8448x704, .bf16⟩
  | .hbm, ⟨12, _⟩ => ⟨S4x8448x704, .bf16⟩
  | .hbm, ⟨13, _⟩ => ⟨S4x8448x704, .bf16⟩
  | .hbm, ⟨14, _⟩ => ⟨S1x128, .f32⟩
  | .hbm, ⟨15, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S704x1024, .bf16⟩
  | .local _ .vmem, ⟨8, _⟩ => ⟨S704x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S768x1024, .f32⟩
  | .local _ .vmem, ⟨17, _⟩ => ⟨S768x1024, .f32⟩
  | .local _ .vmem, ⟨18, _⟩ => ⟨S1x768x704, .bf16⟩
  | .local _ .vmem, ⟨19, _⟩ => ⟨S1x768x704, .bf16⟩
  | .local _ .vmem, ⟨20, _⟩ => ⟨S1x768x704, .bf16⟩
  | .local _ .vmem, ⟨21, _⟩ => ⟨S1x768x704, .bf16⟩
  | .local _ .vmem, ⟨22, _⟩ => ⟨S1x768x704, .bf16⟩
  | .local _ .vmem, ⟨23, _⟩ => ⟨S1x768x704, .bf16⟩
  | .local _ .vmem, ⟨24, _⟩ => ⟨S1x128, .f32⟩
  | .local _ .vmem, ⟨25, _⟩ => ⟨S1x1024, .f32⟩
  | .local _ .vmem, ⟨26, _⟩ => ⟨S768x1024, .bf16⟩
  | .local _ .vmem, ⟨27, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨2, ![11, 4], ![false, false]⟩

def k0_cond3 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_30 : BitVec 32 := 0#32
  let v47 : BitVec 1 := Scalar.cmpi .ne v46 c0_i32_30
  v47

def k0_cond2 (i : grid0.Coords) : BitVec 1 :=
  let arg0 : BitVec 32 := BitVec.ofNat 32 (i 0).val
  let c0_i32_27 : BitVec 32 := 0#32
  let v40 : BitVec 1 := Scalar.cmpi .eq arg0 c0_i32_27
  let arg1 : BitVec 32 := BitVec.ofNat 32 (i 1).val
  let c0_i32_28 : BitVec 32 := 0#32
  let v41 : BitVec 1 := Scalar.cmpi .eq arg1 c0_i32_28
  let v42 : BitVec 1 := Scalar.andi v40 v41
  let v43 : BitVec 32 := Scalar.extui v42
  let c0_i32_29 : BitVec 32 := 0#32
  let v44 : BitVec 1 := Scalar.cmpi .ne v43 c0_i32_29
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let c31_i32 : BitVec 32 := 31#32
  let v3 : BitVec 32 := Scalar.maxsi c0_i32 v2
  let v4 : BitVec 32 := Scalar.minsi c31_i32 v3
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x768x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x768x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x768x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference8Ideal.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S8192x1024 : Shape := ⟨2, ![8192, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S8448x2816 : Shape := ⟨2, ![8448, 2816]⟩
abbrev S8192 : Shape := ⟨1, ![8192]⟩
abbrev S1024 : Shape := ⟨1, ![1024]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S8192x1024, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x5632, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S_, .f32⟩
  | .hbm, ⟨27, _⟩ => ⟨S8448x2816, .f32⟩
  | .hbm, ⟨28, _⟩ => ⟨S8448x2816, .f32⟩
  | .hbm, ⟨29, _⟩ => ⟨S_, .f32⟩
  | .hbm, ⟨30, _⟩ => ⟨S8448x2816, .f32⟩
  | .hbm, ⟨31, _⟩ => ⟨S8448x2816, .f32⟩
  | .hbm, ⟨32, _⟩ => ⟨S8448x2816, .f32⟩
  | .hbm, ⟨33, _⟩ => ⟨S8448x2816, .f32⟩
  | .hbm, ⟨34, _⟩ => ⟨S8448x1024, .f32⟩
  | .hbm, ⟨35, _⟩ => ⟨S_, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S_, .f32⟩
  | .hbm, ⟨41, _⟩ => ⟨S8448, .f32⟩
  | .hbm, ⟨42, _⟩ => ⟨S8448x1, .f32⟩
  | .hbm, ⟨43, _⟩ => ⟨S_, .f32⟩
  | .hbm, ⟨44, _⟩ => ⟨S8448x1, .f32⟩
  | .hbm, ⟨45, _⟩ => ⟨S8448x1, .f32⟩
  | .hbm, ⟨46, _⟩ => ⟨S_, .f32⟩
  | .hbm, ⟨47, _⟩ => ⟨S8448x1, .f32⟩
  | .hbm, ⟨48, _⟩ => ⟨S8448x1, .f32⟩
  | .hbm, ⟨49, _⟩ => ⟨S8448x1, .f32⟩
  | .hbm, ⟨50, _⟩ => ⟨S8448x1, .f32⟩
  | .hbm, ⟨51, _⟩ => ⟨S_, .f32⟩
  | .hbm, ⟨52, _⟩ => ⟨S8448x1, .f32⟩
  | .hbm, ⟨53, _⟩ => ⟨S8448x1, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8448x1024, .f32⟩
  | .hbm, ⟨84, _⟩ => ⟨S8448x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8448x1024, .f32⟩
  | .hbm, ⟨89, _⟩ => ⟨S8448x1024, .f32⟩
  | .hbm, ⟨90, _⟩ => ⟨S8448x1024, .f32⟩
  | .hbm, ⟨91, _⟩ => ⟨S_, .f32⟩
  | .hbm, ⟨92, _⟩ => ⟨S8448, .f32⟩
  | .hbm, ⟨93, _⟩ => ⟨S8448x1, .f32⟩
  | .hbm, ⟨94, _⟩ => ⟨S8448x1024, .f32⟩
  | .hbm, ⟨95, _⟩ => ⟨S8448x1024, .f32⟩
  | .hbm, ⟨96, _⟩ => ⟨S8448x1, .f32⟩
  | .hbm, ⟨97, _⟩ => ⟨S_, .f32⟩
  | .hbm, ⟨98, _⟩ => ⟨S8448x1, .f32⟩
  | .hbm, ⟨99, _⟩ => ⟨S8448x1, .f32⟩
  | .hbm, ⟨100, _⟩ => ⟨S_, .f32⟩
  | .hbm, ⟨101, _⟩ => ⟨S8448, .f32⟩
  | .hbm, ⟨102, _⟩ => ⟨S8448x1024, .f32⟩
  | .hbm, ⟨103, _⟩ => ⟨S8448x1024, .f32⟩
  | .hbm, ⟨104, _⟩ => ⟨S8448x1024, .f32⟩
  | .hbm, ⟨105, _⟩ => ⟨S8448x1024, .f32⟩
  | .hbm, ⟨106, _⟩ => ⟨S8448x1024, .f32⟩
  | .hbm, ⟨107, _⟩ => ⟨S1x128, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_cst_12 : Ref sig .tc := ⟨.hbm, 73, rfl⟩
abbrev main_cst_13 : Ref sig .tc := ⟨.hbm, 74, rfl⟩
abbrev main_v46 : Ref sig .tc := ⟨.hbm, 75, rfl⟩
abbrev main_v47 : Ref sig .tc := ⟨.hbm, 76, rfl⟩
abbrev main_cst_14 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_15 : Ref sig .tc := ⟨.hbm, 82, rfl⟩
abbrev main_v52 : Ref sig .tc := ⟨.hbm, 83, rfl⟩
abbrev main_v53 : Ref sig .tc := ⟨.hbm, 84, rfl⟩
abbrev main_cst_16 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_17 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_18 : Ref sig .tc := ⟨.hbm, 97, rfl⟩
abbrev main_v64 : Ref sig .tc := ⟨.hbm, 98, rfl⟩
abbrev main_v65 : Ref sig .tc := ⟨.hbm, 99, rfl⟩
abbrev main_cst_19 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== Kernel9.lean ====
abbrev S8448x1024 : Shape := ⟨2, ![8448, 1024]⟩
abbrev S8448x10368 : Shape := ⟨2, ![8448, 10368]⟩
abbrev S1x128 : Shape := ⟨2, ![1, 128]⟩
abbrev S1x1024 : Shape := ⟨2, ![1, 1024]⟩
abbrev S1024x1024 : Shape := ⟨2, ![1024, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 13
  | .vmem => 23
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x10368, .f32⟩
  | .hbm, ⟨3, _⟩ => ⟨S1x128, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8448x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S8448x1024 : Shape := ⟨2, ![8448, 1024]⟩
abbrev S8448x10368 : Shape := ⟨2, ![8448, 10368]⟩
abbrev S1x128 : Shape := ⟨2, ![1, 128]⟩
abbrev S1x1024 : Shape := ⟨2, ![1, 1024]⟩
abbrev S1024x1024 : Shape := ⟨2, ![1024, 1024]⟩
abbrev S8448x8x128 : Shape := ⟨3, ![8448, 8, 128]⟩
abbrev S_ : Shape := ⟨0, ![]⟩
abbrev S8448x8 : Shape := ⟨2, ![8448, 8]⟩
abbrev S8448x8x1 : Shape := ⟨3, ![8448, 8, 1]⟩
abbrev S1x1x128 : Shape := ⟨3, ![1, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x10368, .f32⟩
  | .hbm, ⟨3, _⟩ => ⟨S1x128, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x8x128, .f32⟩
  | .hbm, ⟨14, _⟩ => ⟨S8448x8x128, .f32⟩
  | .hbm, ⟨15, _⟩ => ⟨S_, .f32⟩
  | .hbm, ⟨16, _⟩ => ⟨S8448x8, .f32⟩
  | .hbm, ⟨17, _⟩ => ⟨S8448x8x1, .f32⟩
  | .hbm, ⟨18, _⟩ => ⟨S_, .f32⟩
  | .hbm, ⟨19, _⟩ => ⟨S8448x8x1, .f32⟩
  | .hbm, ⟨20, _⟩ => ⟨S8448x8x1, .f32⟩
  | .hbm, ⟨21, _⟩ => ⟨S_, .f32⟩
  | .hbm, ⟨22, _⟩ => ⟨S8448x8x1, .f32⟩
  | .hbm, ⟨23, _⟩ => ⟨S8448x8x1, .f32⟩
  | .hbm, ⟨24, _⟩ => ⟨S8448x8x1, .f32⟩
  | .hbm, ⟨25, _⟩ => ⟨S8448x8x128, .f32⟩
  | .hbm, ⟨26, _⟩ => ⟨S8448x8x128, .f32⟩
  | .hbm, ⟨27, _⟩ => ⟨S1x1x128, .f32⟩
  | .hbm, ⟨28, _⟩ => ⟨S8448x8x128, .f32⟩
  | .hbm, ⟨29, _⟩ => ⟨S8448x8x128, .f32⟩
  | .hbm, ⟨30, _⟩ => ⟨S8448x8x128, .f32⟩
  | .hbm, ⟨31, _⟩ => ⟨S8448x8x128, .f32⟩
  | .hbm, ⟨32, _⟩ => ⟨S8448x8x128, .f32⟩
  | .hbm, ⟨33, _⟩ => ⟨S_, .f32⟩
  | .hbm, ⟨34, _⟩ => ⟨S8448x8x128, .f32⟩
  | .hbm, ⟨35, _⟩ => ⟨S8448x8x128, .f32⟩
  | .hbm, ⟨36, _⟩ => ⟨S_, .f32⟩
  | .hbm, ⟨37, _⟩ => ⟨S8448x8x128, .f32⟩
  | .hbm, ⟨38, _⟩ => ⟨S8448x8x128, .f32⟩
  | .hbm, ⟨39, _⟩ => ⟨S8448x8x128, .f32⟩
  | .hbm, ⟨40, _⟩ => ⟨S8448x8x128, .f32⟩
  | .hbm, ⟨41, _⟩ => ⟨S8448x1024, .f32⟩
  | .hbm, ⟨42, _⟩ => ⟨S8448x8x128, .f32⟩
  | .hbm, ⟨43, _⟩ => ⟨S_, .f32⟩
  | .hbm, ⟨44, _⟩ => ⟨S8448x8, .f32⟩
  | .hbm, ⟨45, _⟩ => ⟨S8448x8x1, .f32⟩
  | .hbm, ⟨46, _⟩ => ⟨S_, .f32⟩
  | .hbm, ⟨47, _⟩ => ⟨S8448x8x1, .f32⟩
  | .hbm, ⟨48, _⟩ => ⟨S8448x8x1, .f32⟩
  | .hbm, ⟨49, _⟩ => ⟨S8448x8x128, .f32⟩
  | .hbm, ⟨50, _⟩ => ⟨S8448x8x128, .f32⟩
  | .hbm, ⟨51, _⟩ => ⟨S8448x8x128, .f32⟩
  | .hbm, ⟨52, _⟩ => ⟨S_, .f32⟩
  | .hbm, ⟨53, _⟩ => ⟨S8448x8, .f32⟩
  | .hbm, ⟨54, _⟩ => ⟨S8448x8x1, .f32⟩
  | .hbm, ⟨55, _⟩ => ⟨S_, .f32⟩
  | .hbm, ⟨56, _⟩ => ⟨S8448x8x1, .f32⟩
  | .hbm, ⟨57, _⟩ => ⟨S8448x8x1, .f32⟩
  | .hbm, ⟨58, _⟩ => ⟨S8448x8x128, .f32⟩
  | .hbm, ⟨59, _⟩ => ⟨S8448x8x128, .f32⟩
  | .hbm, ⟨60, _⟩ => ⟨S_, .f32⟩
  | .hbm, ⟨61, _⟩ => ⟨S8448x8x1, .f32⟩
  | .hbm, ⟨62, _⟩ => ⟨S8448x8x1, .f32⟩
  | .hbm, ⟨63, _⟩ => ⟨S8448x8x1, .f32⟩
  | .hbm, ⟨64, _⟩ => ⟨S8448x8x128, .f32⟩
  | .hbm, ⟨65, _⟩ => ⟨S8448x8x128, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S_, .f32⟩
  | .hbm, ⟨72, _⟩ => ⟨S8448x1024, .f32⟩
  | .hbm, ⟨73, _⟩ => ⟨S8448x1024, .f32⟩
  | .hbm, ⟨74, _⟩ => ⟨S_, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S8448x1024, .f32⟩
  | .hbm, ⟨79, _⟩ => ⟨S8448x1024, .f32⟩
  | .hbm, ⟨80, _⟩ => ⟨S8448x1024, .f32⟩
  | .hbm, ⟨81, _⟩ => ⟨S_, .f32⟩
  | .hbm, ⟨82, _⟩ => ⟨S8448x1024, .f32⟩
  | .hbm, ⟨83, _⟩ => ⟨S8448x1024, .f32⟩
  | .hbm, ⟨84, _⟩ => ⟨S_, .f32⟩
  | .hbm, ⟨85, _⟩ => ⟨S8448x1024, .f32⟩
  | .hbm, ⟨86, _⟩ => ⟨S8448x1024, .f32⟩
  | .hbm, ⟨87, _⟩ => ⟨S8448x1024, .f32⟩
  | .hbm, ⟨88, _⟩ => ⟨S8448x1024, .f32⟩
  | .hbm, ⟨89, _⟩ => ⟨S8448x1024, .f32⟩
  | .hbm, ⟨90, _⟩ => ⟨S8448x1024, .f32⟩
  | .hbm, ⟨91, _⟩ => ⟨S_, .f32⟩
  | .hbm, ⟨92, _⟩ => ⟨S8448x1024, .f32⟩
  | .hbm, ⟨93, _⟩ => ⟨S8448x1024, .f32⟩
  | .hbm, ⟨94, _⟩ => ⟨S_, .f32⟩
  | .hbm, ⟨95, _⟩ => ⟨S8448x1024, .f32⟩
  | .hbm, ⟨96, _⟩ => ⟨S8448x1024, .f32⟩
  | .hbm, ⟨97, _⟩ => ⟨S8448x1024, .f32⟩
  | .hbm, ⟨98, _⟩ => ⟨S8448x1024, .f32⟩
  | .hbm, ⟨99, _⟩ => ⟨S8448x1024, .f32⟩
  | .hbm, ⟨100, _⟩ => ⟨S8448x1024, .f32⟩
  | .hbm, ⟨101, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_v49 : Ref sig .tc := ⟨.hbm, 83, rfl⟩
abbrev main_cst_8 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_9 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩

abbrev nD : Nat := 1
abbrev τ : Topo := Topo.v7x

variable {F : FTy → Type} [FloatOps F]
-- ==== Kernel10.lean ====
abbrev S8448x1024 : Shape := ⟨2, ![8448, 1024]⟩
abbrev S8448x10368 : Shape := ⟨2, ![8448, 10368]⟩
abbrev S1x128 : Shape := ⟨2, ![1, 128]⟩
abbrev S1x1024 : Shape := ⟨2, ![1, 1024]⟩
abbrev S1024x1024 : Shape := ⟨2, ![1024, 1024]⟩
abbrev S8448x4096 : Shape := ⟨2, ![8448, 4096]⟩
abbrev S256x1024 : Shape := ⟨2, ![256, 1024]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 22
  | .vmem => 39
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x10368, .f32⟩
  | .hbm, ⟨3, _⟩ => ⟨S1x128, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8448x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S8448x1024, .f32⟩
  | .hbm, ⟨13, _⟩ => ⟨S8448x1024, .f32⟩
  | .hbm, ⟨14, _⟩ => ⟨S8448x4096, .bf16⟩
  | .hbm, ⟨15, _⟩ => ⟨S8448x1024, .bf16⟩
  | .hbm, ⟨16, _⟩ => ⟨S8448x1024, .bf16⟩
  | .hbm, ⟨17, _⟩ => ⟨S8448x1024, .bf16⟩
  | .hbm, ⟨18, _⟩ => ⟨S8448x1024, .bf16⟩
  | .hbm, ⟨19, _⟩ => ⟨S8448x1024, .bf16⟩
  | .hbm, ⟨20, _⟩ => ⟨S1x128, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x4096, .bf16⟩
  | .local _ .vmem, ⟨24, _⟩ => ⟨S256x4096, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S1x128, .f32⟩
  | .local _ .vmem, ⟨36, _⟩ => ⟨S1x1024, .f32⟩
  | .local _ .vmem, ⟨37, _⟩ => ⟨S256x1024, .f32⟩
  | .local _ .vmem, ⟨38, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev main_v3_8 : Ref sig .tc := ⟨.hbm, 20, rfl⟩
abbrev main_v3_9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg21_0 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem21_0 : DmaSem sig := 36

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference10Ideal.lean ====
abbrev S8448x1024 : Shape := ⟨2, ![8448, 1024]⟩
abbrev S8448x10368 : Shape := ⟨2, ![8448, 10368]⟩
abbrev S1x128 : Shape := ⟨2, ![1, 128]⟩
abbrev S1x1024 : Shape := ⟨2, ![1, 1024]⟩
abbrev S1024x1024 : Shape := ⟨2, ![1024, 1024]⟩
abbrev S8448x8x128 : Shape := ⟨3, ![8448, 8, 128]⟩
abbrev S_ : Shape := ⟨0, ![]⟩
abbrev S8448x8 : Shape := ⟨2, ![8448, 8]⟩
abbrev S8448x8x1 : Shape := ⟨3, ![8448, 8, 1]⟩
abbrev S1x1x128 : Shape := ⟨3, ![1, 1, 128]⟩

abbrev nBuf : Space → Nat
  | .hbm => 109
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x10368, .f32⟩
  | .hbm, ⟨3, _⟩ => ⟨S1x128, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x8x128, .f32⟩
  | .hbm, ⟨14, _⟩ => ⟨S8448x8x128, .f32⟩
  | .hbm, ⟨15, _⟩ => ⟨S_, .f32⟩
  | .hbm, ⟨16, _⟩ => ⟨S8448x8, .f32⟩
  | .hbm, ⟨17, _⟩ => ⟨S8448x8x1, .f32⟩
  | .hbm, ⟨18, _⟩ => ⟨S_, .f32⟩
  | .hbm, ⟨19, _⟩ => ⟨S8448x8x1, .f32⟩
  | .hbm, ⟨20, _⟩ => ⟨S8448x8x1, .f32⟩
  | .hbm, ⟨21, _⟩ => ⟨S_, .f32⟩
  | .hbm, ⟨22, _⟩ => ⟨S8448x8x1, .f32⟩
  | .hbm, ⟨23, _⟩ => ⟨S8448x8x1, .f32⟩
  | .hbm, ⟨24, _⟩ => ⟨S8448x8x1, .f32⟩
  | .hbm, ⟨25, _⟩ => ⟨S8448x8x128, .f32⟩
  | .hbm, ⟨26, _⟩ => ⟨S8448x8x128, .f32⟩
  | .hbm, ⟨27, _⟩ => ⟨S1x1x128, .f32⟩
  | .hbm, ⟨28, _⟩ => ⟨S8448x8x128, .f32⟩
  | .hbm, ⟨29, _⟩ => ⟨S8448x8x128, .f32⟩
  | .hbm, ⟨30, _⟩ => ⟨S8448x8x128, .f32⟩
  | .hbm, ⟨31, _⟩ => ⟨S8448x8x128, .f32⟩
  | .hbm, ⟨32, _⟩ => ⟨S8448x8x128, .f32⟩
  | .hbm, ⟨33, _⟩ => ⟨S_, .f32⟩
  | .hbm, ⟨34, _⟩ => ⟨S8448x8x128, .f32⟩
  | .hbm, ⟨35, _⟩ => ⟨S8448x8x128, .f32⟩
  | .hbm, ⟨36, _⟩ => ⟨S_, .f32⟩
  | .hbm, ⟨37, _⟩ => ⟨S8448x8x128, .f32⟩
  | .hbm, ⟨38, _⟩ => ⟨S8448x8x128, .f32⟩
  | .hbm, ⟨39, _⟩ => ⟨S8448x8x128, .f32⟩
  | .hbm, ⟨40, _⟩ => ⟨S8448x8x128, .f32⟩
  | .hbm, ⟨41, _⟩ => ⟨S8448x1024, .f32⟩
  | .hbm, ⟨42, _⟩ => ⟨S8448x8x128, .f32⟩
  | .hbm, ⟨43, _⟩ => ⟨S_, .f32⟩
  | .hbm, ⟨44, _⟩ => ⟨S8448x8, .f32⟩
  | .hbm, ⟨45, _⟩ => ⟨S8448x8x1, .f32⟩
  | .hbm, ⟨46, _⟩ => ⟨S_, .f32⟩
  | .hbm, ⟨47, _⟩ => ⟨S8448x8x1, .f32⟩
  | .hbm, ⟨48, _⟩ => ⟨S8448x8x1, .f32⟩
  | .hbm, ⟨49, _⟩ => ⟨S8448x8x128, .f32⟩
  | .hbm, ⟨50, _⟩ => ⟨S8448x8x128, .f32⟩
  | .hbm, ⟨51, _⟩ => ⟨S8448x8x128, .f32⟩
  | .hbm, ⟨52, _⟩ => ⟨S_, .f32⟩
  | .hbm, ⟨53, _⟩ => ⟨S8448x8, .f32⟩
  | .hbm, ⟨54, _⟩ => ⟨S8448x8x1, .f32⟩
  | .hbm, ⟨55, _⟩ => ⟨S_, .f32⟩
  | .hbm, ⟨56, _⟩ => ⟨S8448x8x1, .f32⟩
  | .hbm, ⟨57, _⟩ => ⟨S8448x8x1, .f32⟩
  | .hbm, ⟨58, _⟩ => ⟨S8448x8x128, .f32⟩
  | .hbm, ⟨59, _⟩ => ⟨S8448x8x128, .f32⟩
  | .hbm, ⟨60, _⟩ => ⟨S_, .f32⟩
  | .hbm, ⟨61, _⟩ => ⟨S8448x8x1, .f32⟩
  | .hbm, ⟨62, _⟩ => ⟨S8448x8x1, .f32⟩
  | .hbm, ⟨63, _⟩ => ⟨S8448x8x1, .f32⟩
  | .hbm, ⟨64, _⟩ => ⟨S8448x8x128, .f32⟩
  | .hbm, ⟨65, _⟩ => ⟨S8448x8x128, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S_, .f32⟩
  | .hbm, ⟨72, _⟩ => ⟨S8448x1024, .f32⟩
  | .hbm, ⟨73, _⟩ => ⟨S8448x1024, .f32⟩
  | .hbm, ⟨74, _⟩ => ⟨S_, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S8448x1024, .f32⟩
  | .hbm, ⟨79, _⟩ => ⟨S8448x1024, .f32⟩
  | .hbm, ⟨80, _⟩ => ⟨S8448x1024, .f32⟩
  | .hbm, ⟨81, _⟩ => ⟨S8448x1024, .f32⟩
  | .hbm, ⟨82, _⟩ => ⟨S8448x1024, .f32⟩
  | .hbm, ⟨83, _⟩ => ⟨S_, .f32⟩
  | .hbm, ⟨84, _⟩ => ⟨S8448x1024, .f32⟩
  | .hbm, ⟨85, _⟩ => ⟨S8448x1024, .f32⟩
  | .hbm, ⟨86, _⟩ => ⟨S_, .f32⟩
  | .hbm, ⟨87, _⟩ => ⟨S8448x1024, .f32⟩
  | .hbm, ⟨88, _⟩ => ⟨S8448x1024, .f32⟩
  | .hbm, ⟨89, _⟩ => ⟨S8448x1024, .f32⟩
  | .hbm, ⟨90, _⟩ => ⟨S8448x1024, .f32⟩
  | .hbm, ⟨91, _⟩ => ⟨S8448x1024, .f32⟩
  | .hbm, ⟨92, _⟩ => ⟨S_, .f32⟩
  | .hbm, ⟨93, _⟩ => ⟨S8448x1024, .f32⟩
  | .hbm, ⟨94, _⟩ => ⟨S8448x1024, .f32⟩
  | .hbm, ⟨95, _⟩ => ⟨S_, .f32⟩
  | .hbm, ⟨96, _⟩ => ⟨S8448x1024, .f32⟩
  | .hbm, ⟨97, _⟩ => ⟨S8448x1024, .f32⟩
  | .hbm, ⟨98, _⟩ => ⟨S8448x1024, .f32⟩
  | .hbm, ⟨99, _⟩ => ⟨S8448x1024, .f32⟩
  | .hbm, ⟨100, _⟩ => ⟨S8448x1024, .f32⟩
  | .hbm, ⟨101, _⟩ => ⟨S8448x1024, .f32⟩
  | .hbm, ⟨102, _⟩ => ⟨S8448x1024, .f32⟩
  | .hbm, ⟨103, _⟩ => ⟨S8448x1024, .f32⟩
  | .hbm, ⟨104, _⟩ => ⟨S8448x1024, .bf16⟩
  | .hbm, ⟨105, _⟩ => ⟨S8448x1024, .bf16⟩
  | .hbm, ⟨106, _⟩ => ⟨S8448x1024, .bf16⟩
  | .hbm, ⟨107, _⟩ => ⟨S8448x1024, .bf16⟩
  | .hbm, ⟨108, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_7 : Ref sig .tc := ⟨.hbm, 83, rfl⟩
abbrev main_v50 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_9 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]
-- ==== Proof.DwBlocks.lean ====
/- The weight gradient by column blocks (`Kernel2Ideal`): twelve points, three row blocks for each of the four column
   blocks. At the point that writes block `p` back the output's buffer holds the three partial products added in order,
   which is the product over all the rows. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.Math

open Cert.Kernel2Ideal Cert.Kernel2Ideal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section Bodies
variable {F : FTy → Type} [FloatOps F]

/-- The first row block's point leaves the product of its blocks. -/
theorem first (c : Dev nD) (i : grid0.Coords) (a3 : Memref sig .tc .vmem S2816x1024 .bf16) (h3 : a3.IsWhole)
    (a4 : Memref sig .tc .vmem S1x2816x704 .bf16) (h4 : a4.IsWhole) (a5 : Memref sig .tc .vmem S1x1024x704 .f32)
    (h5 : a5.IsWhole) (hc0 : cond0_0 i) (hc1 : ¬cond0_1 i) (x : Vec F S2816x1024 .bf16) (y : Vec F S1x2816x704 .bf16) :
    out0_A_2 c i a3 h3 a4 h4 a5 h5 hc0 hc1 x y = k0_pay2 x y := by
  unfold out0_A_2
  rw [View.read_writes_eq_canon _ _ _ (cover0_A_2 c i a3 h3 a4 h4 a5 h5 hc0 hc1 x y)]
  unfold kernelRun0_A
  dsimp only
  rw [View.canon_unit_zero hz3]
  simp only [View.readAt_eq_ld, h3.read_unread, h4.read_unread, View.ld_unit_zero (S := S2816x1024) hz2,
    View.ld_unit_zero (S := S1x2816x704) hz3]

/-- Every later point adds the product of its blocks to what the buffer held. -/
theorem later (c : Dev nD) (i : grid0.Coords) (a3 : Memref sig .tc .vmem S2816x1024 .bf16) (h3 : a3.IsWhole)
    (a4 : Memref sig .tc .vmem S1x2816x704 .bf16) (h4 : a4.IsWhole) (a5 : Memref sig .tc .vmem S1x1024x704 .f32)
    (h5 : a5.IsWhole) (hc0 : ¬cond0_0 i) (hc1 : cond0_1 i) (x : Vec F S2816x1024 .bf16) (y : Vec F S1x2816x704 .bf16)
    (o : Vec F S1x1024x704 .f32) :
    out0_B_2 c i a3 h3 a4 h4 a5 h5 hc0 hc1 x y o = k0_pay3 x y o := by
  unfold out0_B_2
  rw [View.read_writes_eq_canon _ _ _ (cover0_B_2 c i a3 h3 a4 h4 a5 h5 hc0 hc1 x y o)]
  unfold kernelRun0_B
  dsimp only
  rw [View.canon_unit_zero hz3]
  simp only [View.readAt_eq_ld, h3.read_unread, h4.read_unread, h5.read_unread, View.ld_unit_zero (S := S2816x1024) hz2,
    View.ld_unit_zero (S := S1x2816x704) hz3, View.ld_unit_zero (S := S1x1024x704) hz3]

end Bodies

/-- The product of two blocks at an index. -/
theorem pay2_at (x : Vec Ideal S2816x1024 .bf16) (y : Vec Ideal S1x2816x704 .bf16) (d : Fin 1024) (f : Fin 704) :
    k0_pay2 x y (ix3 0 d f) = ∑ q : Fin 2816, x (ix2 q d) * y (ix3 0 q f) := by
  pointwise [k0_pay2, k0_pay1]

theorem pay3_at (x : Vec Ideal S2816x1024 .bf16) (y : Vec Ideal S1x2816x704 .bf16) (o : Vec Ideal S1x1024x704 .f32)
    (d : Fin 1024) (f : Fin 704) :
    k0_pay3 x y o (ix3 0 d f) = o (ix3 0 d f) + ∑ q : Fin 2816, x (ix2 q d) * y (ix3 0 q f) := by
  pointwise [k0_pay3, k0_pay1]

/-! ### The blocks the windows bring in, read off the arguments -/

theorem rows_eq (c : Dev nD) : V m c main_v0 = m ((c : Thread nD τ).loc main_arg0) := by
  unfold V hostOps0
  after_results
  rfl

theorem cols_eq (c : Dev nD) : V m c main_v1 = m ((c : Thread nD τ).loc main_arg1) := by
  unfold V hostOps0
  after_results
  rfl

/-- Point `t`'s blocks of the two operands. -/
abbrev rowsBlk (c : Dev nD) (t : Fin cfg0.N) : Vec Ideal S2816x1024 .bf16 := iblk m c 0 t
abbrev colsBlk (c : Dev nD) (t : Fin cfg0.N) : Vec Ideal S1x2816x704 .bf16 := iblk m c 1 t

theorem rows_at (c : Dev nD) (t : Fin cfg0.N) (q : Fin 2816) (d : Fin 1024) :
    rowsBlk m c t (ix2 q d)
      = m ((c : Thread nD τ).loc main_arg0) (ix2 ⟨t.val % 3 * 2816 + q.val, by omega⟩ d) := by
  have hi : ∀ t : Fin cfg0.N, win0_0.index t 0 = t.val % 3 ∧ win0_0.index t 1 = 0 := by decide +kernel
  rw [← rows_eq m c]
  unfold rowsBlk iblk
  rw [View.read_apply]
  show V m c main_v0 _ = V m c main_v0 _
  congr 1
  funext a
  apply Fin.ext
  match a with
  | ⟨0, _⟩ => show win0_0.index t 0 * 2816 + 1 * q.val = t.val % 3 * 2816 + q.val; rw [(hi t).1]; omega
  | ⟨1, _⟩ => show win0_0.index t 1 * 1024 + 1 * d.val = d.val; rw [(hi t).2]; omega

theorem cols_at (c : Dev nD) (t : Fin cfg0.N) (q : Fin 2816) (f : Fin 704) :
    colsBlk m c t (ix3 0 q f)
      = m ((c : Thread nD τ).loc main_arg1) (ix3 ⟨t.val / 3, by have := t.isLt; have : cfg0.N = 12 := N_0; omega⟩
          ⟨t.val % 3 * 2816 + q.val, by omega⟩ f) := by
  have hi : ∀ t : Fin cfg0.N, win0_1.index t 0 = t.val / 3 ∧ win0_1.index t 1 = t.val % 3 ∧ win0_1.index t 2 = 0 := by
    decide +kernel
  rw [← cols_eq m c]
  unfold colsBlk iblk
  rw [View.read_apply]
  show V m c main_v1 _ = V m c main_v1 _
  congr 1
  funext a
  apply Fin.ext
  match a with
  | ⟨0, _⟩ => show win0_1.index t 0 * 1 + 1 * 0 = t.val / 3; rw [(hi t).1]; omega
  | ⟨1, _⟩ => show win0_1.index t 1 * 2816 + 1 * q.val = t.val % 3 * 2816 + q.val; rw [(hi t).2.1]; omega
  | ⟨2, _⟩ => show win0_1.index t 2 * 704 + 1 * f.val = f.val; rw [(hi t).2.2]; omega

/-! ### The result -/

/-- Column block `p` of the product of the two arguments, contracted over the rows. -/
def spec (n : Vec Ideal S8448x1024 .f32) (a : Vec Ideal S4x8448x704 .f32) : Vec Ideal S4x1024x704 .f32 :=
  fun i => ∑ x : Fin 8448, n (ix2 x (i 1)) * a (ix3 (i 0) x (i 2))

/-- The share of row block `k` in it. -/
def part (n : Vec Ideal S8448x1024 .f32) (a : Vec Ideal S4x8448x704 .f32) (k : Fin 3) (p : Fin 4) (d : Fin 1024)
    (f : Fin 704) : EReal :=
  ∑ q : Fin 2816, n (ix2 ⟨k.val * 2816 + q.val, by omega⟩ d) * a (ix3 p ⟨k.val * 2816 + q.val, by omega⟩ f)

theorem spec_parts (n : Vec Ideal S8448x1024 .f32) (a : Vec Ideal S4x8448x704 .f32) (p : Fin 4) (d : Fin 1024)
    (f : Fin 704) : spec n a (ix3 p d f) = part n a 0 p d f + part n a 1 p d f + part n a 2 p d f := by
  show (∑ x : Fin 8448, n (ix2 x d) * a (ix3 p x f)) = _
  rw [Fin.sum_univ_tiles 3 2816 rfl, Fin.sum_univ_three]
  rfl

theorem part_at (c : Dev nD) (t : Fin cfg0.N) (k : Fin 3) (p : Fin 4) (hk : t.val % 3 = k.val) (hp : t.val / 3 = p.val)
    (d : Fin 1024) (f : Fin 704) :
    (∑ q : Fin 2816, rowsBlk m c t (ix2 q d) * colsBlk m c t (ix3 0 q f))
      = part (m ((c : Thread nD τ).loc main_arg0)) (m ((c : Thread nD τ).loc main_arg1)) k p d f := by
  obtain ⟨k, hk'⟩ := k
  obtain ⟨p, hp'⟩ := p
  dsimp only at hk hp
  subst hk hp
  unfold part
  refine Finset.sum_congr rfl fun q _ => ?_
  rw [rows_at, cols_at]

/-- What the buffer holds at the point that writes it back. -/
theorem full (c : Dev nD) (t : Fin cfg0.N) (ht : t.val % 3 = 2) (p : Fin 4) (hp : t.val / 3 = p.val) (d : Fin 1024)
    (f : Fin 704) :
    (outsAt0 m c t.val t.isLt : Vec Ideal S1x1024x704 .f32) (ix3 0 d f)
      = spec (m ((c : Thread nD τ).loc main_arg0)) (m ((c : Thread nD τ).loc main_arg1)) (ix3 p d f) := by
  have hN : cfg0.N = 12 := N_0
  have hlt := t.isLt
  have e1 := outsAt0_B m c ⟨t.val - 1, by omega⟩ (by dsimp only; omega) (by dsimp only; omega)
  have e0 := outsAt0_A m c ⟨t.val - 1 - 1, by omega⟩ (by dsimp only; omega) (by dsimp only; omega)
  rw [first] at e0
  rw [later] at e1
  rw [outsAt0_B m c t (by omega) (by omega), later, pay3_at]
  dsimp only at e0 e1
  rw [e1, pay3_at, e0, pay2_at, spec_parts,
    part_at m c t 2 p ht hp, part_at m c ⟨t.val - 1, by omega⟩ 1 p (by dsimp only; omega) (by dsimp only; omega),
    part_at m c ⟨t.val - 1 - 1, by omega⟩ 0 p (by dsimp only; omega) (by dsimp only; omega)]

/-- An index of the array is in point `t`'s block iff each coordinate is in the block's range on its axis. -/
theorem mem_out (t : Fin cfg0.N) (i : S4x1024x704.Idx) :
    i ∈ ((cfg0.win 2).blk t).view.set ↔ ∀ a : Fin 3, win0_2.index t a * S1x1024x704.size a ≤ (i a).val
      ∧ (i a).val < win0_2.index t a * S1x1024x704.size a + S1x1024x704.size a := by
  show i ∈ ((View.whole main_v2).slice (win0_2.rect t)).set ↔ _
  rw [View.set_slice_whole, Rect.mem_set_unit]
  exact Iff.rfl

theorem final (c : Dev nD) : (dats m 0 c).arrAt 2 cfg0.N
    = spec (m ((c : Thread nD τ).loc main_arg0)) (m ((c : Thread nD τ).loc main_arg1)) := by
  have hN : cfg0.N = 12 := N_0
  have hi : ∀ t : Fin cfg0.N, win0_2.index t 0 = t.val / 3 ∧ win0_2.index t 1 = 0 ∧ win0_2.index t 2 = 0 := by
    decide +kernel
  refine (dats m 0 c).arrAt_eq_of_cover 2 _ (fun t hf => ?_) (fun i => ?_)
  · have ht : t.val % 3 = 2 := (flush0_2 t).mp hf
    rw [Value.flushed2]
    funext y
    rw [View.read_apply]
    have hy : y = ix3 0 (y 1) (y 2) := by
      funext a
      match a with
      | ⟨0, _⟩ => exact Subsingleton.elim (α := Fin 1) _ _
      | ⟨1, _⟩ => rfl
      | ⟨2, _⟩ => rfl
    rw [hy]
    have htl : t.val < cfg0.N := t.isLt
    refine Eq.trans (full m c t ht ⟨t.val / 3, by omega⟩ rfl (y 1) (y 2)) ?_
    refine congrArg (spec _ _) ?_
    funext a
    apply Fin.ext
    match a with
    | ⟨0, _⟩ => show t.val / 3 = win0_2.index t 0 * 1 + 1 * 0; rw [(hi t).1]; omega
    | ⟨1, _⟩ => show (y 1).val = win0_2.index t 1 * 1024 + 1 * (y 1).val; rw [(hi t).2.1]; omega
    | ⟨2, _⟩ => show (y 2).val = win0_2.index t 2 * 704 + 1 * (y 2).val; rw [(hi t).2.2]; omega
  · have h0 : (i 0).val < 4 := (i 0).isLt
    have h1 : (i 1).val < 1024 := (i 1).isLt
    have h2 : (i 2).val < 704 := (i 2).isLt
    have key := hi ⟨3 * (i 0).val + 2, by omega⟩
    dsimp only at key
    refine ⟨⟨3 * (i 0).val + 2, by omega⟩, (flush0_2 _).mpr (by dsimp only; omega), ?_⟩
    rw [mem_out]
    intro a
    match a with
    | ⟨0, _⟩ => show win0_2.index _ 0 * 1 ≤ (i 0).val ∧ (i 0).val < win0_2.index _ 0 * 1 + 1; rw [key.1]; omega
    | ⟨1, _⟩ => show win0_2.index _ 1 * 1024 ≤ (i 1).val ∧ (i 1).val < win0_2.index _ 1 * 1024 + 1024; rw [key.2.1]; omega
    | ⟨2, _⟩ => show win0_2.index _ 2 * 704 ≤ (i 2).val ∧ (i 2).val < win0_2.index _ 2 * 704 + 704; rw [key.2.2]; omega

end Cert.Kernel2Ideal.Math

namespace Cert.Reference2Ideal.Math

open Cert.Reference2Ideal Cert.Reference2Ideal.Read

/-- The reference's product is the same sum, its two factors the other way round. -/
theorem spec_eq (n : Vec Ideal S8448x1024 .f32) (a : Vec Ideal S4x8448x704 .f32) :
    val_main_v5 (F := Ideal) n a = Cert.Kernel2Ideal.Math.spec n a := by
  funext i
  rw [val_main_v5_apply, val_main_v4_apply]
  unfold Cert.Kernel2Ideal.Math.spec
  refine Finset.sum_congr rfl fun k _ => ?_
  rw [val_main_v3_apply, mul_comm]
  refine congrArg₂ (· * ·) (congrArg _ ?_) (congrArg _ ?_)
  · idx_ext
  · idx_ext

end Cert.Reference2Ideal.Math

namespace Cert.Proof

theorem dw_blocks :
    algebraic_Kernel2Ideal_Reference2Ideal := by
  intro m g m' g' _ heq
  refine ⟨fun c => Cert.Kernel2Ideal.Math.spec
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)), ?_, ?_⟩
  · refine (θ_run _ _ _).mono (fun r h c => ?_) (Cert.Kernel2Ideal.Value.run_blocks m g)
    obtain ⟨h0, h1, h2⟩ := h c
    exact ⟨h0.trans (Cert.Kernel2Ideal.Math.final m c), h1, h2⟩
  · refine (θ_run _ _ _).mono (fun r h c => ?_) (Cert.Reference2Ideal.Value.run m' g')
    obtain ⟨h0, h1, h2⟩ := h c
    refine ⟨h0.trans ?_, h1, h2⟩
    rw [(heq c).1, (heq c).2]
    exact Cert.Reference2Ideal.Math.spec_eq _ _

end Cert.Proof

end
-- ==== Proof.Reals.lean ====
/- Sums of extended reals against a finite factor. -/
module

public import proofs.«01_k».proof.Defs
public import Idealize.ShloMosaic.Lib.Pointwise

@[expose] public section

open Idealize.ShloMosaic

namespace Cert.Reals

/-- A nonnegative real factor goes into a sum of extended reals. -/
theorem coe_mul_sum {ι : Type} [Fintype ι] (r : ℝ) (hr : 0 ≤ r) (f : ι → EReal) :
    (r : EReal) * ∑ i, f i = ∑ i, (r : EReal) * f i := by
  classical
  refine Finset.induction_on (Finset.univ : Finset ι) (by simp) fun a s ha ih => ?_
  rw [Finset.sum_insert ha, Finset.sum_insert ha, ← ih]
  exact EReal.left_distrib_of_nonneg_of_ne_top (by exact_mod_cast hr) (EReal.coe_ne_top r) _ _

/-- The words of the constants: a half, minus a half, a row's length, and the small positive number under the root. -/
theorem half : Ideal.ofBits .f32 0x3F000000#32 = ((1 / 2 : ℝ) : EReal) := by
  simp [Ideal.ofBits, Ideal.ieee, -EReal.coe_mul]; norm_num
theorem neg_half : Ideal.ofBits .f32 0xBF000000#32 = ((-(1 / 2) : ℝ) : EReal) := by
  simp [Ideal.ofBits, Ideal.ieee, -EReal.coe_mul]; norm_num
theorem width : Ideal.ofBits .f32 0x44800000#32 = ((1024 : ℝ) : EReal) := by
  simp [Ideal.ofBits, Ideal.ieee, -EReal.coe_mul]; norm_num
theorem small : ∃ e : ℝ, 0 < e ∧ Ideal.ofBits .f32 0x358637BD#32 = (e : EReal) := by
  refine ⟨_, ?_, by simp [Ideal.ofBits, Ideal.ieee, -EReal.coe_mul]; rfl⟩
  norm_num

end Cert.Reals
-- ==== Proof.DwOut.lean ====
/- The scaled weight gradient (`Kernel3Ideal`): twelve points, three row blocks for each of the four blocks of hidden
   columns. At the point that writes block `p` back the output's buffer holds half the three partial products' sum. -/
module

public import proofs.«01_k».proof.Defs
public import proofs.«01_k».proof.Proof.Reals
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.Math

open Cert.Kernel3Ideal Cert.Kernel3Ideal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section Bodies
variable {F : FTy → Type} [FloatOps F]

/-- The first row block's point leaves the product of its blocks. -/
theorem first (c : Dev nD) (i : grid0.Coords) (a3 : Memref sig .tc .vmem S1x2816x704 .bf16) (h3 : a3.IsWhole)
    (a4 : Memref sig .tc .vmem S2816x1024 .f32) (h4 : a4.IsWhole) (a5 : Memref sig .tc .vmem S704x1024 .f32)
    (h5 : a5.IsWhole) (hc0 : cond0_0 i) (hc1 : ¬cond0_1 i) (hc2 : ¬cond0_2 i) (x : Vec F S1x2816x704 .bf16)
    (y : Vec F S2816x1024 .f32) : out0_A_2 c i a3 h3 a4 h4 a5 h5 hc0 hc1 hc2 x y = k0_pay1 x y := by
  unfold out0_A_2
  rw [View.read_writes_eq_canon _ _ _ (cover0_A_2 c i a3 h3 a4 h4 a5 h5 hc0 hc1 hc2 x y)]
  unfold kernelRun0_A
  dsimp only
  rw [View.canon_unit_zero hz2]
  simp only [View.readAt_eq_ld, h3.read_unread, h4.read_unread, View.ld_unit_zero (S := S2816x1024) hz2,
    View.ld_unit_zero (S := S1x2816x704) hz3]

/-- The middle point adds the product of its blocks to what the buffer held. -/
theorem middle (c : Dev nD) (i : grid0.Coords) (a3 : Memref sig .tc .vmem S1x2816x704 .bf16) (h3 : a3.IsWhole)
    (a4 : Memref sig .tc .vmem S2816x1024 .f32) (h4 : a4.IsWhole) (a5 : Memref sig .tc .vmem S704x1024 .f32)
    (h5 : a5.IsWhole) (hc0 : ¬cond0_0 i) (hc1 : cond0_1 i) (hc2 : ¬cond0_2 i) (x : Vec F S1x2816x704 .bf16)
    (y : Vec F S2816x1024 .f32) (o : Vec F S704x1024 .f32) :
    out0_B_2 c i a3 h3 a4 h4 a5 h5 hc0 hc1 hc2 x y o = k0_pay2 x y o := by
  unfold out0_B_2
  rw [View.read_writes_eq_canon _ _ _ (cover0_B_2 c i a3 h3 a4 h4 a5 h5 hc0 hc1 hc2 x y o)]
  unfold kernelRun0_B
  dsimp only
  rw [View.canon_unit_zero hz2]
  simp only [View.readAt_eq_ld, h3.read_unread, h4.read_unread, h5.read_unread, View.ld_unit_zero (S := S2816x1024) hz2,
    View.ld_unit_zero (S := S1x2816x704) hz3, View.ld_unit_zero (S := S704x1024) hz2]

/-- The last point adds its own product and scales the sum. -/
theorem last (c : Dev nD) (i : grid0.Coords) (a3 : Memref sig .tc .vmem S1x2816x704 .bf16) (h3 : a3.IsWhole)
    (a4 : Memref sig .tc .vmem S2816x1024 .f32) (h4 : a4.IsWhole) (a5 : Memref sig .tc .vmem S704x1024 .f32)
    (h5 : a5.IsWhole) (hc0 : ¬cond0_0 i) (hc1 : cond0_1 i) (hc2 : cond0_2 i) (x : Vec F S1x2816x704 .bf16)
    (y : Vec F S2816x1024 .f32) (o : Vec F S704x1024 .f32) :
    out0_C_2 c i a3 h3 a4 h4 a5 h5 hc0 hc1 hc2 x y o = k0_pay3 (k0_pay2 x y o) := by
  unfold out0_C_2
  rw [View.read_writes_eq_canon _ _ _ (cover0_C_2 c i a3 h3 a4 h4 a5 h5 hc0 hc1 hc2 x y o)]
  unfold kernelRun0_C
  dsimp only
  sl_unfold_words
  rw [View.canon_cons_unit_zero (S := S704x1024) hz2, View.readCov_unit_zero (S := S704x1024) _ hz2]
  simp only [View.readAt_eq_ld, h3.read_unread, h4.read_unread, h5.read_unread, View.ld_unit_zero (S := S2816x1024) hz2,
    View.ld_unit_zero (S := S1x2816x704) hz3, View.ld_unit_zero (S := S704x1024) hz2]

end Bodies

/-- The product of two blocks at an index. -/
theorem pay1_at (x : Vec Ideal S1x2816x704 .bf16) (y : Vec Ideal S2816x1024 .f32) (f : Fin 704) (d : Fin 1024) :
    k0_pay1 x y (ix2 f d) = ∑ q : Fin 2816, x (ix3 0 q f) * y (ix2 q d) := by
  pointwise [k0_pay1]

theorem pay2_at (x : Vec Ideal S1x2816x704 .bf16) (y : Vec Ideal S2816x1024 .f32) (o : Vec Ideal S704x1024 .f32)
    (f : Fin 704) (d : Fin 1024) :
    k0_pay2 x y o (ix2 f d) = o (ix2 f d) + ∑ q : Fin 2816, x (ix3 0 q f) * y (ix2 q d) := by
  pointwise [k0_pay2, k0_pay1]

theorem pay3_at (o : Vec Ideal S704x1024 .f32) (f : Fin 704) (d : Fin 1024) :
    k0_pay3 o (ix2 f d) = o (ix2 f d) * Ideal.ofBits .f32 0x3F000000#32 := by
  pointwise [k0_pay3]

/-! ### The blocks the windows bring in, read off the arguments -/

theorem hid_eq (c : Dev nD) : V m c main_v0 = m ((c : Thread nD τ).loc main_arg0) := by
  unfold V hostOps0
  after_results
  rfl

/-- Point `t`'s blocks of the two operands. -/
abbrev hidBlk (c : Dev nD) (t : Fin cfg0.N) : Vec Ideal S1x2816x704 .bf16 := iblk m c 0 t
abbrev ctBlk (c : Dev nD) (t : Fin cfg0.N) : Vec Ideal S2816x1024 .f32 := iblk m c 1 t

theorem hid_at (c : Dev nD) (t : Fin cfg0.N) (q : Fin 2816) (f : Fin 704) :
    hidBlk m c t (ix3 0 q f)
      = m ((c : Thread nD τ).loc main_arg0) (ix3 ⟨t.val / 3, by have := t.isLt; have : cfg0.N = 12 := N_0; omega⟩
          ⟨t.val % 3 * 2816 + q.val, by omega⟩ f) := by
  have hi : ∀ t : Fin cfg0.N, win0_0.index t 0 = t.val / 3 ∧ win0_0.index t 1 = t.val % 3 ∧ win0_0.index t 2 = 0 := by
    decide +kernel
  rw [← hid_eq m c]
  unfold hidBlk iblk
  rw [View.read_apply]
  show V m c main_v0 _ = V m c main_v0 _
  congr 1
  funext a
  apply Fin.ext
  match a with
  | ⟨0, _⟩ => show win0_0.index t 0 * 1 + 1 * 0 = t.val / 3; rw [(hi t).1]; omega
  | ⟨1, _⟩ => show win0_0.index t 1 * 2816 + 1 * q.val = t.val % 3 * 2816 + q.val; rw [(hi t).2.1]; omega
  | ⟨2, _⟩ => show win0_0.index t 2 * 704 + 1 * f.val = f.val; rw [(hi t).2.2]; omega

theorem ct_at (c : Dev nD) (t : Fin cfg0.N) (q : Fin 2816) (d : Fin 1024) :
    ctBlk m c t (ix2 q d)
      = m ((c : Thread nD τ).loc main_arg1) (ix2 ⟨t.val % 3 * 2816 + q.val, by omega⟩ d) := by
  have hi : ∀ t : Fin cfg0.N, win0_1.index t 0 = t.val % 3 ∧ win0_1.index t 1 = 0 := by decide +kernel
  rw [← V_main_arg1 m c]
  unfold ctBlk iblk
  rw [View.read_apply]
  show V m c main_arg1 _ = V m c main_arg1 _
  congr 1
  funext a
  apply Fin.ext
  match a with
  | ⟨0, _⟩ => show win0_1.index t 0 * 2816 + 1 * q.val = t.val % 3 * 2816 + q.val; rw [(hi t).1]; omega
  | ⟨1, _⟩ => show win0_1.index t 1 * 1024 + 1 * d.val = d.val; rw [(hi t).2]; omega

/-! ### The result -/

/-- Half the product of the hidden columns with the rows' gradients. -/
def spec (h : Vec Ideal S4x8448x704 .f32) (y : Vec Ideal S8448x1024 .f32) : Vec Ideal S2816x1024 .f32 :=
  fun i => (∑ x : Fin 8448, h (ix3 ⟨(i 0).val / 704, by have : (i 0).val < 2816 := (i 0).isLt; omega⟩ x
      ⟨(i 0).val % 704, by omega⟩) * y (ix2 x (i 1))) * Ideal.ofBits .f32 0x3F000000#32

/-- The share of row block `k` in the sum. -/
def part (h : Vec Ideal S4x8448x704 .f32) (y : Vec Ideal S8448x1024 .f32) (k : Fin 3) (p : Fin 4) (f : Fin 704)
    (d : Fin 1024) : EReal :=
  ∑ q : Fin 2816, h (ix3 p ⟨k.val * 2816 + q.val, by omega⟩ f) * y (ix2 ⟨k.val * 2816 + q.val, by omega⟩ d)

theorem spec_parts (h : Vec Ideal S4x8448x704 .f32) (y : Vec Ideal S8448x1024 .f32) (p : Fin 4) (f : Fin 704)
    (d : Fin 1024) : spec h y (ix2 ⟨p.val * 704 + f.val, by omega⟩ d)
      = (part h y 0 p f d + part h y 1 p f d + part h y 2 p f d) * Ideal.ofBits .f32 0x3F000000#32 := by
  have e0 : (⟨(p.val * 704 + f.val) / 704, by omega⟩ : Fin 4) = p := Fin.ext (by dsimp only; omega)
  have e1 : (⟨(p.val * 704 + f.val) % 704, by omega⟩ : Fin 704) = f := Fin.ext (by dsimp only; omega)
  show (∑ x : Fin 8448, h (ix3 ⟨(p.val * 704 + f.val) / 704, _⟩ x ⟨(p.val * 704 + f.val) % 704, _⟩) * y (ix2 x d)) * _ = _
  rw [e0, e1, Fin.sum_univ_tiles 3 2816 rfl, Fin.sum_univ_three]
  rfl

theorem part_at (c : Dev nD) (t : Fin cfg0.N) (k : Fin 3) (p : Fin 4) (hk : t.val % 3 = k.val) (hp : t.val / 3 = p.val)
    (f : Fin 704) (d : Fin 1024) :
    (∑ q : Fin 2816, hidBlk m c t (ix3 0 q f) * ctBlk m c t (ix2 q d))
      = part (m ((c : Thread nD τ).loc main_arg0)) (m ((c : Thread nD τ).loc main_arg1)) k p f d := by
  obtain ⟨k, hk'⟩ := k
  obtain ⟨p, hp'⟩ := p
  dsimp only at hk hp
  subst hk hp
  unfold part
  refine Finset.sum_congr rfl fun q _ => ?_
  rw [hid_at, ct_at]

/-- What the buffer holds at the point that writes it back. -/
theorem full (c : Dev nD) (t : Fin cfg0.N) (ht : t.val % 3 = 2) (p : Fin 4) (hp : t.val / 3 = p.val) (f : Fin 704)
    (d : Fin 1024) :
    (outsAt0 m c t.val t.isLt : Vec Ideal S704x1024 .f32) (ix2 f d)
      = spec (m ((c : Thread nD τ).loc main_arg0)) (m ((c : Thread nD τ).loc main_arg1))
          (ix2 ⟨p.val * 704 + f.val, by omega⟩ d) := by
  have hN : cfg0.N = 12 := N_0
  have hlt := t.isLt
  have e1 := outsAt0_B m c ⟨t.val - 1, by omega⟩ (by dsimp only; omega) (by dsimp only; omega) (by dsimp only; omega)
  have e0 := outsAt0_A m c ⟨t.val - 1 - 1, by omega⟩ (by dsimp only; omega) (by dsimp only; omega) (by dsimp only; omega)
  rw [first] at e0
  rw [middle] at e1
  rw [outsAt0_C m c t (by omega) (by omega) ht, last, pay3_at, pay2_at]
  dsimp only at e0 e1
  rw [e1, pay2_at, e0, pay1_at, spec_parts,
    part_at m c t 2 p ht hp, part_at m c ⟨t.val - 1, by omega⟩ 1 p (by dsimp only; omega) (by dsimp only; omega),
    part_at m c ⟨t.val - 1 - 1, by omega⟩ 0 p (by dsimp only; omega) (by dsimp only; omega)]

/-- An index of the array is in point `t`'s block iff each coordinate is in the block's range on its axis. -/
theorem mem_out (t : Fin cfg0.N) (i : S2816x1024.Idx) :
    i ∈ ((cfg0.win 2).blk t).view.set ↔ ∀ a : Fin 2, win0_2.index t a * S704x1024.size a ≤ (i a).val
      ∧ (i a).val < win0_2.index t a * S704x1024.size a + S704x1024.size a := by
  show i ∈ ((View.whole main_v1).slice (win0_2.rect t)).set ↔ _
  rw [View.set_slice_whole, Rect.mem_set_unit]
  exact Iff.rfl

theorem final (c : Dev nD) : (dats m 0 c).arrAt 2 cfg0.N
    = spec (m ((c : Thread nD τ).loc main_arg0)) (m ((c : Thread nD τ).loc main_arg1)) := by
  have hN : cfg0.N = 12 := N_0
  have hi : ∀ t : Fin cfg0.N, win0_2.index t 0 = t.val / 3 ∧ win0_2.index t 1 = 0 := by decide +kernel
  refine (dats m 0 c).arrAt_eq_of_cover 2 _ (fun t hf => ?_) (fun i => ?_)
  · have ht : t.val % 3 = 2 := (flush0_2 t).mp hf
    rw [Value.flushed2]
    funext y
    rw [View.read_apply]
    have hy : y = ix2 (y 0) (y 1) := by
      funext a
      match a with
      | ⟨0, _⟩ => rfl
      | ⟨1, _⟩ => rfl
    rw [hy]
    have htl : t.val < cfg0.N := t.isLt
    refine Eq.trans (full m c t ht ⟨t.val / 3, by omega⟩ rfl (y 0) (y 1)) ?_
    refine congrArg (spec _ _) ?_
    funext a
    apply Fin.ext
    match a with
    | ⟨0, _⟩ => show t.val / 3 * 704 + (y 0).val = win0_2.index t 0 * 704 + 1 * (y 0).val; rw [(hi t).1]; omega
    | ⟨1, _⟩ => show (y 1).val = win0_2.index t 1 * 1024 + 1 * (y 1).val; rw [(hi t).2]; omega
  · have h0 : (i 0).val < 2816 := (i 0).isLt
    have h1 : (i 1).val < 1024 := (i 1).isLt
    have key := hi ⟨3 * ((i 0).val / 704) + 2, by omega⟩
    dsimp only at key
    refine ⟨⟨3 * ((i 0).val / 704) + 2, by omega⟩, (flush0_2 _).mpr (by dsimp only; omega), ?_⟩
    rw [mem_out]
    intro a
    match a with
    | ⟨0, _⟩ => show win0_2.index _ 0 * 704 ≤ (i 0).val ∧ (i 0).val < win0_2.index _ 0 * 704 + 704; rw [key.1]; omega
    | ⟨1, _⟩ => show win0_2.index _ 1 * 1024 ≤ (i 1).val ∧ (i 1).val < win0_2.index _ 1 * 1024 + 1024; rw [key.2]; omega

end Cert.Kernel3Ideal.Math

namespace Cert.Reference3Ideal.Math

open Cert.Reference3Ideal Cert.Reference3Ideal.Read

/-- The reference scales every term, the kernel the sum. -/
theorem spec_eq (h : Vec Ideal S4x8448x704 .f32) (y : Vec Ideal S8448x1024 .f32) :
    val_main_v9 (F := Ideal) h y = Cert.Kernel3Ideal.Math.spec h y := by
  funext i
  have h0 : (i 0).val < 2816 := (i 0).isLt
  rw [val_main_v9_apply, val_main_v8_apply]
  unfold Cert.Kernel3Ideal.Math.spec
  rw [mul_comm, Reals.half, Reals.coe_mul_sum _ (by norm_num)]
  refine Finset.sum_congr rfl fun k _ => ?_
  rw [val_main_v7_apply, val_main_v6_apply, val_main_v2_apply, val_main_v1_apply]
  show Ideal.ofBits .f32 0x3F000000#32 * y _ * h _ = _
  rw [Reals.half, mul_assoc, mul_comm (y _)]
  refine congrArg _ (congrArg₂ (· * ·) (congrArg _ ?_) (congrArg _ ?_))
  · funext a
    apply Fin.ext
    match a with
    | ⟨0, _⟩ => show (k.val * 2816 + (i 0).val) / 704 % 4 = (i 0).val / 704; omega
    | ⟨1, _⟩ => show (k.val * 2816 + (i 0).val) / 2816 = k.val; omega
    | ⟨2, _⟩ => show (k.val * 2816 + (i 0).val) % 704 = (i 0).val % 704; omega
  · idx_ext

end Cert.Reference3Ideal.Math

namespace Cert.Proof

theorem dw_out :
    algebraic_Kernel3Ideal_Reference3Ideal := by
  intro m g m' g' _ heq
  refine ⟨fun c => Cert.Kernel3Ideal.Math.spec
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)), ?_, ?_⟩
  · refine (θ_run _ _ _).mono (fun r h c => ?_) (Cert.Kernel3Ideal.Value.run_blocks m g)
    obtain ⟨h0, h1, h2⟩ := h c
    exact ⟨h0.trans (Cert.Kernel3Ideal.Math.final m c), h1, h2⟩
  · refine (θ_run _ _ _).mono (fun r h c => ?_) (Cert.Reference3Ideal.Value.run m' g')
    obtain ⟨h0, h1, h2⟩ := h c
    refine ⟨h0.trans ?_, h1, h2⟩
    rw [(heq c).1, (heq c).2]
    exact Cert.Reference3Ideal.Math.spec_eq _ _

end Cert.Proof

end
-- ==== Proof.FfnFwd.lean ====
/- The forward call of the gated feed-forward (`Kernel4Ideal`): eleven row blocks, four blocks of hidden columns each. The
   first point of a row block normalises the rows and clears the accumulator; every point adds its block's product; the
   last one writes the rows plus half the sum. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.Math

open Cert.Kernel4Ideal Cert.Kernel4Ideal.Gen

variable (m : (ℓ : Loc nD τ sig) → Buf (Elt Ideal) ℓ)
theorem hz2 : (![0, 0] : Fin 2 → Nat) = fun _ => 0 := funext fun a => by fin_cases a <;> rfl
theorem hz3 : (![0, 0, 0] : Fin 3 → Nat) = fun _ => 0 := funext fun a => by fin_cases a <;> rfl

/-- Point `t`'s blocks of the operands. -/
abbrev hBlk (c : Dev nD) (t : Fin cfg0.N) : Vec Ideal S768x1024 .f32 := iblk m c 0 t
abbrev gainBlk (c : Dev nD) (t : Fin cfg0.N) : Vec Ideal S1x1024 .f32 := iblk m c 1 t
abbrev gateBlk (c : Dev nD) (t : Fin cfg0.N) : Vec Ideal S1x1024x704 .bf16 := iblk m c 2 t
abbrev upBlk (c : Dev nD) (t : Fin cfg0.N) : Vec Ideal S1x1024x704 .bf16 := iblk m c 3 t
abbrev outBlk (c : Dev nD) (t : Fin cfg0.N) : Vec Ideal S704x1024 .bf16 := iblk m c 4 t

/-- The scratches after the point's body. -/
abbrev nrm (c : Dev nD) (t : Fin cfg0.N) : Vec Ideal S768x1024 .bf16 := (outsAt0 m c t.val t.isLt).2.2.2.2.1
abbrev acc (c : Dev nD) (t : Fin cfg0.N) : Vec Ideal S768x1024 .f32 := (outsAt0 m c t.val t.isLt).2.2.2.2.2

/-! ### One point's body -/

theorem nrm_A (c : Dev nD) (t : Fin cfg0.N) (h0 : t.val % 4 = 0) (h1 : ¬t.val % 4 = 3) :
    nrm m c t = k0_pay3 (hBlk m c t) (gainBlk m c t) := by
  unfold nrm
  rw [outsAt0_A m c t h0 h1]
  dsimp only
  unfold sout0_A_0
  rw [View.read_writes_eq_canon _ _ _ (fun y => scover0_A_0 (y := y) ..)]
  unfold kernelRun0_A
  dsimp only
  sl_unfold_words
  rw [View.canon_unit_zero hz2]
  simp only [View.readAt_eq_ld, (hs0_0 t).read_unread, (hs0_1 t).read_unread, View.ld_unit_zero (S := S768x1024) hz2,
    View.ld_unit_zero (S := S1x1024) hz2]

theorem acc_A (c : Dev nD) (t : Fin cfg0.N) (h0 : t.val % 4 = 0) (h1 : ¬t.val % 4 = 3) :
    acc m c t = k0_pay1 (k0_pay9 (k0_pay3 (hBlk m c t) (gainBlk m c t)) (gateBlk m c t) (upBlk m c t)) (k0_pay4 (F := Ideal)) (outBlk m c t) := by
  unfold acc
  rw [outsAt0_A m c t h0 h1]
  dsimp only
  unfold sout0_A_1
  rw [View.read_writes_eq_canon _ _ _ (fun y => scover0_A_1 (y := y) ..)]
  unfold kernelRun0_A
  dsimp only
  sl_unfold_words
  rw [View.canon_cons_unit_zero (S := S768x1024) hz2, View.readCov_unit_zero (S := S768x1024) _ hz2,
    View.readCov_unit_zero (S := S768x1024) _ hz2]
  simp only [View.readAt_eq_ld, (hs0_0 t).read_unread, (hs0_1 t).read_unread,
    (hs0_2 t).read_unread, (hs0_3 t).read_unread, (hs0_4 t).read_unread, View.ld_unit_zero (S := S768x1024) hz2,
    View.ld_unit_zero (S := S1x1024) hz2, View.ld_unit_zero (S := S704x1024) hz2, View.ld_unit_zero (S := S1x1024x704) hz3]

theorem nrm_B (c : Dev nD) (t : Fin cfg0.N) (h0 : ¬t.val % 4 = 0) (h1 : ¬t.val % 4 = 3) :
    nrm m c t = (outsAt0 m c (t.val - 1) (by omega)).2.2.2.2.1 := by
  unfold nrm
  rw [outsAt0_B m c t h0 h1]
  dsimp only
  unfold sout0_B_0
  rfl
theorem nrm_C (c : Dev nD) (t : Fin cfg0.N) (h0 : ¬t.val % 4 = 0) (h1 : t.val % 4 = 3) :
    nrm m c t = (outsAt0 m c (t.val - 1) (by omega)).2.2.2.2.1 := by
  unfold nrm
  rw [outsAt0_C m c t h0 h1]
  dsimp only
  unfold sout0_C_0
  rfl
theorem acc_B (c : Dev nD) (t : Fin cfg0.N) (h0 : ¬t.val % 4 = 0) (h1 : ¬t.val % 4 = 3) :
    acc m c t = k0_pay1 (k0_pay9 (outsAt0 m c (t.val - 1) (by omega)).2.2.2.2.1 (gateBlk m c t) (upBlk m c t)) (outsAt0 m c (t.val - 1) (by omega)).2.2.2.2.2 (outBlk m c t) := by
  unfold acc
  rw [outsAt0_B m c t h0 h1]
  dsimp only
  unfold sout0_B_1
  rw [View.read_writes_eq_canon _ _ _ (fun y => scover0_B_1 (y := y) ..)]
  unfold kernelRun0_B
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, View.ld_unit_zero (S := S768x1024) hz2,
    View.ld_unit_zero (S := S1x1024) hz2, View.ld_unit_zero (S := S704x1024) hz2, View.ld_unit_zero (S := S1x1024x704) hz3]
theorem out_C (c : Dev nD) (t : Fin cfg0.N) (h0 : ¬t.val % 4 = 0) (h1 : t.val % 4 = 3) :
    (outsAt0 m c t.val t.isLt).1 = k0_pay2 (hBlk m c t) (k0_pay1 (k0_pay9 (outsAt0 m c (t.val - 1) (by omega)).2.2.2.2.1 (gateBlk m c t) (upBlk m c t)) (outsAt0 m c (t.val - 1) (by omega)).2.2.2.2.2 (outBlk m c t)) := by
  rw [outsAt0_C m c t h0 h1]
  dsimp only
  unfold out0_C_5
  rw [View.read_writes_eq_canon _ _ _ (fun y => cover0_C_5 (y := y) ..)]
  unfold kernelRun0_C
  dsimp only
  sl_unfold_words
  rw [View.canon_unit_zero hz2, View.readCov_unit_zero (S := S768x1024) _ hz2]
  simp only [View.readAt_eq_ld, (Memref.isWhole_whole _).read_unread, (hs0_0 t).read_unread, (hs0_1 t).read_unread,
    (hs0_2 t).read_unread, (hs0_3 t).read_unread, (hs0_4 t).read_unread, View.ld_unit_zero (S := S768x1024) hz2,
    View.ld_unit_zero (S := S1x1024) hz2, View.ld_unit_zero (S := S704x1024) hz2, View.ld_unit_zero (S := S1x1024x704) hz3]

/-! ### The payloads at an index -/

theorem pay3_at (x : Vec Ideal S768x1024 .f32) (g : Vec Ideal S1x1024 .f32) (r : Fin 768) (d : Fin 1024) :
    k0_pay3 x g (ix2 r d)
      = x (ix2 r d) * Ideal.rsqrt (Ideal.div (∑ e, x (ix2 r e) * x (ix2 r e)) (Ideal.ofBits .f32 0x44800000#32)
          + Ideal.ofBits .f32 0x358637BD#32) * g (ix2 0 d) := by
  pointwise [k0_pay3]

theorem pay9_at (n : Vec Ideal S768x1024 .bf16) (u : Vec Ideal S1x1024x704 .bf16) (v : Vec Ideal S1x1024x704 .bf16)
    (r : Fin 768) (q : Fin 704) :
    k0_pay9 n u v (ix2 r q)
      = (∑ e, n (ix2 r e) * u (ix3 0 e q)) * Ideal.logistic (∑ e, n (ix2 r e) * u (ix3 0 e q))
        * ∑ e, n (ix2 r e) * v (ix3 0 e q) := by
  pointwise [k0_pay9, k0_pay8, k0_pay7, k0_pay6, k0_pay5]

theorem pay1_at (u : FVec Ideal S768x704 .bf16) (a : Vec Ideal S768x1024 .f32) (w : Vec Ideal S704x1024 .bf16)
    (r : Fin 768) (d : Fin 1024) :
    k0_pay1 u a w (ix2 r d) = a (ix2 r d) + ∑ q, u (ix2 r q) * w (ix2 q d) := by
  pointwise [k0_pay1]

theorem pay4_at (r : Fin 768) (d : Fin 1024) : (k0_pay4 (F := Ideal)) (ix2 r d) = 0 := by
  pointwise [k0_pay4]

theorem pay2_at (x : Vec Ideal S768x1024 .f32) (a : Vec Ideal S768x1024 .f32) (r : Fin 768) (d : Fin 1024) :
    k0_pay2 x a (ix2 r d) = x (ix2 r d) + Ideal.ofBits .f32 0x3F000000#32 * a (ix2 r d) := by
  pointwise [k0_pay2]

/-! ### The blocks the windows bring in, read off the arguments -/

/-- The host's re-layout of the first weight: eight blocks of columns. -/
theorem cols_at (c : Dev nD) (k : Fin 8) (d : Fin 1024) (q : Fin 704) :
    V m c main_v2 (ix3 k d q)
      = m ((c : Thread nD τ).loc main_arg2) (ix2 d ⟨k.val * 704 + q.val, by omega⟩) := by
  unfold V hostOps0
  after_results
  pointwise []

theorem wo_at (c : Dev nD) : V m c main_v3 = m ((c : Thread nD τ).loc main_arg3) := by
  unfold V hostOps0
  after_results
  rfl

theorem h_at (c : Dev nD) (t : Fin cfg0.N) (r : Fin 768) (d : Fin 1024) :
    hBlk m c t (ix2 r d) = m ((c : Thread nD τ).loc main_arg0)
      (ix2 ⟨t.val / 4 * 768 + r.val, by have := t.isLt; have : cfg0.N = 44 := N_0; omega⟩ d) := by
  have hi : ∀ t : Fin cfg0.N, win0_0.index t 0 = t.val / 4 ∧ win0_0.index t 1 = 0 := by decide +kernel
  rw [← V_main_arg0 m c]
  unfold hBlk iblk
  rw [View.read_apply]
  show V m c main_arg0 _ = V m c main_arg0 _
  congr 1
  funext a
  apply Fin.ext
  match a with
  | ⟨0, _⟩ => show win0_0.index t 0 * 768 + 1 * r.val = t.val / 4 * 768 + r.val; rw [(hi t).1]; omega
  | ⟨1, _⟩ => show win0_0.index t 1 * 1024 + 1 * d.val = d.val; rw [(hi t).2]; omega

theorem gain_at (c : Dev nD) (t : Fin cfg0.N) (d : Fin 1024) :
    gainBlk m c t (ix2 0 d) = m ((c : Thread nD τ).loc main_arg1) (ix2 0 d) := by
  have hi : ∀ t : Fin cfg0.N, win0_1.index t 0 = 0 ∧ win0_1.index t 1 = 0 := by decide +kernel
  rw [← V_main_arg1 m c]
  unfold gainBlk iblk
  rw [View.read_apply]
  show V m c main_arg1 _ = V m c main_arg1 _
  congr 1
  funext a
  apply Fin.ext
  match a with
  | ⟨0, _⟩ => show win0_1.index t 0 * 1 + 1 * 0 = 0; rw [(hi t).1]
  | ⟨1, _⟩ => show win0_1.index t 1 * 1024 + 1 * d.val = d.val; rw [(hi t).2]; omega

theorem gate_at (c : Dev nD) (t : Fin cfg0.N) (d : Fin 1024) (q : Fin 704) :
    gateBlk m c t (ix3 0 d q) = m ((c : Thread nD τ).loc main_arg2) (ix2 d ⟨t.val % 4 * 704 + q.val, by omega⟩) := by
  have hi : ∀ t : Fin cfg0.N, win0_2.index t 0 = t.val % 4 ∧ win0_2.index t 1 = 0 ∧ win0_2.index t 2 = 0 := by
    decide +kernel
  refine Eq.trans ?_ (cols_at m c ⟨t.val % 4, by omega⟩ d q)
  unfold gateBlk iblk
  rw [View.read_apply]
  show V m c main_v2 _ = V m c main_v2 _
  congr 1
  funext a
  apply Fin.ext
  match a with
  | ⟨0, _⟩ => show win0_2.index t 0 * 1 + 1 * 0 = t.val % 4; rw [(hi t).1]; omega
  | ⟨1, _⟩ => show win0_2.index t 1 * 1024 + 1 * d.val = d.val; rw [(hi t).2.1]; omega
  | ⟨2, _⟩ => show win0_2.index t 2 * 704 + 1 * q.val = q.val; rw [(hi t).2.2]; omega

theorem up_at (c : Dev nD) (t : Fin cfg0.N) (d : Fin 1024) (q : Fin 704) :
    upBlk m c t (ix3 0 d q)
      = m ((c : Thread nD τ).loc main_arg2) (ix2 d ⟨(t.val % 4 + 4) * 704 + q.val, by omega⟩) := by
  have hi : ∀ t : Fin cfg0.N, win0_3.index t 0 = t.val % 4 + 4 ∧ win0_3.index t 1 = 0 ∧ win0_3.index t 2 = 0 := by
    decide +kernel
  refine Eq.trans ?_ (cols_at m c ⟨t.val % 4 + 4, by omega⟩ d q)
  unfold upBlk iblk
  rw [View.read_apply]
  show V m c main_v2 _ = V m c main_v2 _
  congr 1
  funext a
  apply Fin.ext
  match a with
  | ⟨0, _⟩ => show win0_3.index t 0 * 1 + 1 * 0 = t.val % 4 + 4; rw [(hi t).1]; omega
  | ⟨1, _⟩ => show win0_3.index t 1 * 1024 + 1 * d.val = d.val; rw [(hi t).2.1]; omega
  | ⟨2, _⟩ => show win0_3.index t 2 * 704 + 1 * q.val = q.val; rw [(hi t).2.2]; omega

theorem out_at (c : Dev nD) (t : Fin cfg0.N) (q : Fin 704) (d : Fin 1024) :
    outBlk m c t (ix2 q d) = m ((c : Thread nD τ).loc main_arg3) (ix2 ⟨t.val % 4 * 704 + q.val, by omega⟩ d) := by
  have hi : ∀ t : Fin cfg0.N, win0_4.index t 0 = t.val % 4 ∧ win0_4.index t 1 = 0 := by decide +kernel
  rw [← wo_at m c]
  unfold outBlk iblk
  rw [View.read_apply]
  show V m c main_v3 _ = V m c main_v3 _
  congr 1
  funext a
  apply Fin.ext
  match a with
  | ⟨0, _⟩ => show win0_4.index t 0 * 704 + 1 * q.val = t.val % 4 * 704 + q.val; rw [(hi t).1]; omega
  | ⟨1, _⟩ => show win0_4.index t 1 * 1024 + 1 * d.val = d.val; rw [(hi t).2]; omega

/-! ### The result -/

/-- The rows normalised by their root mean square. -/
def rowNorm (h : Vec Ideal S8448x1024 .f32) (g : Vec Ideal S1x1024 .f32) (x : Fin 8448) (d : Fin 1024) : EReal :=
  h (ix2 x d) * Ideal.rsqrt (Ideal.div (∑ e, h (ix2 x e) * h (ix2 x e)) (Ideal.ofBits .f32 0x44800000#32)
    + Ideal.ofBits .f32 0x358637BD#32) * g (ix2 0 d)

/-- A column of the first product. -/
def pre (h : Vec Ideal S8448x1024 .f32) (g : Vec Ideal S1x1024 .f32) (w : Vec Ideal S1024x5632 .f32) (x : Fin 8448)
    (k : Fin 5632) : EReal := ∑ e : Fin 1024, rowNorm h g x e * w (ix2 e k)

/-- The gated hidden value. -/
def hid (h : Vec Ideal S8448x1024 .f32) (g : Vec Ideal S1x1024 .f32) (w : Vec Ideal S1024x5632 .f32) (x : Fin 8448)
    (q : Fin 2816) : EReal :=
  pre h g w x ⟨q.val, by omega⟩ * Ideal.logistic (pre h g w x ⟨q.val, by omega⟩) * pre h g w x ⟨2816 + q.val, by omega⟩

def spec (h : Vec Ideal S8448x1024 .f32) (g : Vec Ideal S1x1024 .f32) (w : Vec Ideal S1024x5632 .f32)
    (o : Vec Ideal S2816x1024 .f32) : Vec Ideal S8448x1024 .f32 :=
  fun i => h (ix2 (i 0) (i 1)) + Ideal.ofBits .f32 0x3F000000#32 * ∑ q : Fin 2816, hid h g w (i 0) q * o (ix2 q (i 1))

/-- The share of hidden block `k` in the second product. -/
def part (h : Vec Ideal S8448x1024 .f32) (g : Vec Ideal S1x1024 .f32) (w : Vec Ideal S1024x5632 .f32)
    (o : Vec Ideal S2816x1024 .f32) (k : Fin 4) (x : Fin 8448) (d : Fin 1024) : EReal :=
  ∑ q : Fin 704, hid h g w x ⟨k.val * 704 + q.val, by omega⟩ * o (ix2 ⟨k.val * 704 + q.val, by omega⟩ d)

theorem spec_parts (h : Vec Ideal S8448x1024 .f32) (g : Vec Ideal S1x1024 .f32) (w : Vec Ideal S1024x5632 .f32)
    (o : Vec Ideal S2816x1024 .f32) (x : Fin 8448) (d : Fin 1024) :
    spec h g w o (ix2 x d) = h (ix2 x d) + Ideal.ofBits .f32 0x3F000000#32
      * (part h g w o 0 x d + part h g w o 1 x d + part h g w o 2 x d + part h g w o 3 x d) := by
  show _ + _ * ∑ q : Fin 2816, hid h g w x q * o (ix2 q d) = _
  rw [Fin.sum_univ_tiles 4 704 rfl, Fin.sum_univ_four]
  rfl

/-- The scratch that keeps the normalised rows holds the row block's at every point of its run. -/
theorem nrm_at (c : Dev nD) (n : ℕ) (hn : n < cfg0.N) (r : Fin 768) (d : Fin 1024) :
    nrm m c ⟨n, hn⟩ (ix2 r d) = rowNorm (m ((c : Thread nD τ).loc main_arg0)) (m ((c : Thread nD τ).loc main_arg1))
      ⟨n / 4 * 768 + r.val, by have : cfg0.N = 44 := N_0; omega⟩ d := by
  have first : ∀ t : Fin cfg0.N, t.val % 4 = 0 → nrm m c t (ix2 r d)
      = rowNorm (m ((c : Thread nD τ).loc main_arg0)) (m ((c : Thread nD τ).loc main_arg1))
        ⟨t.val / 4 * 768 + r.val, by have := t.isLt; have : cfg0.N = 44 := N_0; omega⟩ d := by
    intro t ht
    rw [nrm_A m c t ht (by omega), pay3_at]
    simp only [h_at, gain_at]
    rfl
  induction n with
  | zero => exact first ⟨0, hn⟩ rfl
  | succ n ih =>
    by_cases h0 : (n + 1) % 4 = 0
    · exact first ⟨n + 1, hn⟩ h0
    · have e : nrm m c ⟨n + 1, hn⟩ = nrm m c ⟨n, by omega⟩ := by
        by_cases h1 : (n + 1) % 4 = 3
        · exact nrm_C m c ⟨n + 1, hn⟩ h0 h1
        · exact nrm_B m c ⟨n + 1, hn⟩ h0 h1
      have e' : (n + 1) / 4 = n / 4 := by omega
      rw [e, ih (by omega) first]
      simp only [e']

/-- What a point of row block `i` and hidden block `k` adds to the accumulator. -/
theorem part_at (c : Dev nD) (t : Fin cfg0.N) (k : Fin 4) (x : Fin 8448) (r : Fin 768) (hk : t.val % 4 = k.val)
    (hx : t.val / 4 * 768 + r.val = x.val) (n : Vec Ideal S768x1024 .bf16)
    (hn : ∀ e, n (ix2 r e) = nrm m c t (ix2 r e)) (d : Fin 1024) :
    (∑ q : Fin 704, k0_pay9 n (gateBlk m c t) (upBlk m c t) (ix2 r q) * outBlk m c t (ix2 q d))
      = part (m ((c : Thread nD τ).loc main_arg0)) (m ((c : Thread nD τ).loc main_arg1))
          (m ((c : Thread nD τ).loc main_arg2)) (m ((c : Thread nD τ).loc main_arg3)) k x d := by
  obtain ⟨k, hk'⟩ := k
  obtain ⟨x, hx'⟩ := x
  dsimp only at hk hx
  subst hk hx
  unfold part
  refine Finset.sum_congr rfl fun q _ => ?_
  have hu : (⟨(t.val % 4 + 4) * 704 + q.val, by omega⟩ : Fin 5632) = ⟨2816 + (t.val % 4 * 704 + q.val), by omega⟩ :=
    Fin.ext (by dsimp only; omega)
  rw [pay9_at, out_at]
  simp only [hn, nrm_at m c t.val t.isLt, gate_at, up_at, hu]
  rfl

/-- What the output's buffer holds at the point that writes it back. -/
theorem full (c : Dev nD) (t : Fin cfg0.N) (ht : t.val % 4 = 3) (x : Fin 8448) (r : Fin 768)
    (hx : t.val / 4 * 768 + r.val = x.val) (d : Fin 1024) :
    ((outsAt0 m c t.val t.isLt).1 : Vec Ideal S768x1024 .f32) (ix2 r d)
      = spec (m ((c : Thread nD τ).loc main_arg0)) (m ((c : Thread nD τ).loc main_arg1))
          (m ((c : Thread nD τ).loc main_arg2)) (m ((c : Thread nD τ).loc main_arg3)) (ix2 x d) := by
  have hN : cfg0.N = 44 := N_0
  have hlt := t.isLt
  have e2 := acc_B m c ⟨t.val - 1, by omega⟩ (by dsimp only; omega) (by dsimp only; omega)
  have e1 := acc_B m c ⟨t.val - 1 - 1, by omega⟩ (by dsimp only; omega) (by dsimp only; omega)
  have e0 := acc_A m c ⟨t.val - 1 - 1 - 1, by omega⟩ (by dsimp only; omega) (by dsimp only; omega)
  have n3 := nrm_C m c t (by omega) ht
  have n2 := nrm_B m c ⟨t.val - 1, by omega⟩ (by dsimp only; omega) (by dsimp only; omega)
  have n1 := nrm_B m c ⟨t.val - 1 - 1, by omega⟩ (by dsimp only; omega) (by dsimp only; omega)
  have n0 := nrm_A m c ⟨t.val - 1 - 1 - 1, by omega⟩ (by dsimp only; omega) (by dsimp only; omega)
  dsimp only [acc] at e2 e1 e0
  rw [out_C m c t (by omega) ht, pay2_at, pay1_at, e2, pay1_at, e1, pay1_at, e0, pay1_at, pay4_at, zero_add, spec_parts,
    part_at m c t 3 x r (by rw [ht]; rfl) hx _ (fun e => (congrFun n3 _).symm),
    part_at m c ⟨t.val - 1, by omega⟩ 2 x r (by show _ = 2; dsimp only; omega) (by dsimp only; omega) _
      (fun e => (congrFun n2 _).symm),
    part_at m c ⟨t.val - 1 - 1, by omega⟩ 1 x r (by show _ = 1; dsimp only; omega) (by dsimp only; omega) _
      (fun e => (congrFun n1 _).symm),
    part_at m c ⟨t.val - 1 - 1 - 1, by omega⟩ 0 x r (by show _ = 0; dsimp only; omega) (by dsimp only; omega) _
      (fun e => (congrFun n0 _).symm), h_at]
  obtain ⟨x, hx'⟩ := x
  dsimp only at hx
  subst hx
  rfl

theorem final (c : Dev nD) : (dats m 0 c).arrAt 5 cfg0.N
    = spec (m ((c : Thread nD τ).loc main_arg0)) (m ((c : Thread nD τ).loc main_arg1))
          (m ((c : Thread nD τ).loc main_arg2)) (m ((c : Thread nD τ).loc main_arg3)) := by
  have hN : cfg0.N = 44 := N_0
  have hi : ∀ t : Fin cfg0.N, win0_5.index t 0 = t.val / 4 ∧ win0_5.index t 1 = 0 := by decide +kernel
  refine (dats m 0 c).arrAt_eq_of_cover 5 _ (fun t hf => ?_) (fun i => ?_)
  · have ht : t.val % 4 = 3 := (flush0_5 t).mp hf
    rw [Value.flushed5]
    funext y
    rw [View.read_apply]
    have hy : y = ix2 (y 0) (y 1) := by
      funext a
      match a with
      | ⟨0, _⟩ => rfl
      | ⟨1, _⟩ => rfl
    rw [hy]
    have htl : t.val < cfg0.N := t.isLt
    have hr : (y 0).val < 768 := (y 0).isLt
    refine Eq.trans (full m c t ht ⟨t.val / 4 * 768 + (y 0).val, by omega⟩ (y 0) rfl (y 1)) ?_
    refine congrArg (spec _ _ _ _) ?_
    funext a
    apply Fin.ext
    match a with
    | ⟨0, _⟩ => show t.val / 4 * 768 + (y 0).val = win0_5.index t 0 * 768 + 1 * (y 0).val; rw [(hi t).1]; omega
    | ⟨1, _⟩ => show (y 1).val = win0_5.index t 1 * 1024 + 1 * (y 1).val; rw [(hi t).2]; omega
  · have h0 : (i 0).val < 8448 := (i 0).isLt
    have h1 : (i 1).val < 1024 := (i 1).isLt
    have key := hi ⟨4 * ((i 0).val / 768) + 3, by omega⟩
    dsimp only at key
    refine ⟨⟨4 * ((i 0).val / 768) + 3, by omega⟩, (flush0_5 _).mpr (by dsimp only; omega), ?_⟩
    rw [Value.mem_blk5]
    intro a
    match a with
    | ⟨0, _⟩ => show win0_5.index _ 0 * 768 ≤ (i 0).val ∧ (i 0).val < win0_5.index _ 0 * 768 + 768; rw [key.1]; omega
    | ⟨1, _⟩ => show win0_5.index _ 1 * 1024 ≤ (i 1).val ∧ (i 1).val < win0_5.index _ 1 * 1024 + 1024; rw [key.2]; omega

end Cert.Kernel4Ideal.Math

namespace Cert.Reference4Ideal.Math

open Cert.Reference4Ideal Cert.Reference4Ideal.Read
open Cert.Kernel4Ideal.Math (rowNorm pre hid spec)

variable (h : Vec Ideal S8448x1024 .f32) (g : Vec Ideal S1x1024 .f32) (w : Vec Ideal S1024x5632 .f32)
  (o : Vec Ideal S2816x1024 .f32)

theorem norm_at (x : Fin 8448) (d : Fin 1024) : val_main_v11 (F := Ideal) h g (ix2 x d) = rowNorm h g x d := by
  unfold rowNorm
  pointwise [val_main_v11, val_main_v10, val_main_v9, val_main_v8, val_main_v7, val_main_v6, val_main_v5, val_main_v4,
    val_main_v3, val_main_v2, val_main_v1, val_main_v0, val_main_cst, val_main_cst_0, val_main_cst_1]

theorem hid_at (x : Fin 8448) (q : Fin 2816) : val_main_v16 (F := Ideal) h g w (ix2 x q) = hid h g w x q := by
  unfold hid pre Ideal.logistic
  simp only [← norm_at]
  pointwise [val_main_v16, val_main_v15, val_main_v14, val_main_v13, val_main_v12, val_main_call0_v0, val_main_call0_v1,
    val_main_call0_v2, val_main_call0_v3, val_main_call0_v4, val_main_call0_v5, val_main_call0_cst,
    val_main_call0_cst_0]

theorem spec_at (x : Fin 8448) (d : Fin 1024) : val_main_v20 (F := Ideal) h g w o (ix2 x d) = spec h g w o (ix2 x d) := by
  show _ = h (ix2 x d) + _ * ∑ q : Fin 2816, hid h g w x q * o (ix2 q d)
  simp only [← hid_at]
  pointwise [val_main_v20, val_main_v19, val_main_v18, val_main_v17, val_main_cst_2]

theorem spec_eq : val_main_v20 (F := Ideal) h g w o = spec h g w o := by
  funext i
  have hi : i = ix2 (i 0) (i 1) := by
    funext a
    match a with
    | ⟨0, _⟩ => rfl
    | ⟨1, _⟩ => rfl
  exact (congrArg (val_main_v20 (F := Ideal) h g w o) hi).trans
    ((spec_at h g w o _ _).trans (congrArg (spec h g w o) hi.symm))

end Cert.Reference4Ideal.Math

namespace Cert.Proof

theorem ffn_fwd :
    algebraic_Kernel4Ideal_Reference4Ideal := by
  intro m g m' g' _ heq
  refine ⟨fun c => Cert.Kernel4Ideal.Math.spec
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)), ?_, ?_⟩
  · refine (θ_run _ _ _).mono (fun r h c => ?_) (Cert.Kernel4Ideal.Value.run_blocks m g)
    obtain ⟨h0, _, _, _, h1⟩ := h c
    exact ⟨h0.trans (Cert.Kernel4Ideal.Math.final m c), h1⟩
  · refine (θ_run _ _ _).mono (fun r h c => ?_) (Cert.Reference4Ideal.Value.run m' g')
    obtain ⟨h0, h1⟩ := h c
    refine ⟨h0.trans ?_, h1⟩
    rw [(heq c).1, (heq c).2.1, (heq c).2.2.1, (heq c).2.2.2]
    exact Cert.Reference4Ideal.Math.spec_eq _ _ _ _

end Cert.Proof

end
-- ==== Proof.FfnBwdPoints.lean ====
/- The gradient of the gated feed-forward (`KernelIdeal`), one point's body: twelve row blocks, four blocks of hidden
   columns each. The first point of a row block normalises the rows, halves the cotangent and clears the accumulator;
   every point writes its block's two gradients and adds their products; the last one turns the sum into the rows' and
   the gain's gradients. -/
module

public import proofs.«01_k».proof.Defs
public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem

namespace Cert.KernelIdeal.Math

open Cert.KernelIdeal Cert.KernelIdeal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- Point `t`'s blocks of the operands. -/
abbrev hBlk (c : Dev nD) (t : Fin cfg0.N) : Vec Ideal S704x1024 .f32 := iblk m c 0 t
abbrev ctBlk (c : Dev nD) (t : Fin cfg0.N) : Vec Ideal S704x1024 .f32 := iblk m c 1 t
abbrev gainBlk (c : Dev nD) (t : Fin cfg0.N) : Vec Ideal S1x1024 .f32 := iblk m c 2 t
abbrev gateBlk (c : Dev nD) (t : Fin cfg0.N) : Vec Ideal S1x1024x704 .bf16 := iblk m c 3 t
abbrev upBlk (c : Dev nD) (t : Fin cfg0.N) : Vec Ideal S1x1024x704 .bf16 := iblk m c 4 t
abbrev outBlk (c : Dev nD) (t : Fin cfg0.N) : Vec Ideal S704x1024 .bf16 := iblk m c 5 t
abbrev dupBlk (c : Dev nD) (t : Fin cfg0.N) : Vec Ideal S1x704x704 .bf16 := iblk m c 6 t
abbrev dgateBlk (c : Dev nD) (t : Fin cfg0.N) : Vec Ideal S1x704x704 .bf16 := iblk m c 7 t

/-- The outputs' buffers and the two scratches after the body of point `n`. -/
abbrev dhBuf (c : Dev nD) (n : ℕ) (hn : n < cfg0.N) : Vec Ideal S704x1024 .f32 := (outsAt0 m c n hn).1
abbrev dgainBuf (c : Dev nD) (n : ℕ) (hn : n < cfg0.N) : Vec Ideal S1x1024 .f32 := (outsAt0 m c n hn).2.1
abbrev nrmBuf (c : Dev nD) (n : ℕ) (hn : n < cfg0.N) : Vec Ideal S704x1024 .bf16 := (outsAt0 m c n hn).2.2.1
abbrev dagBuf (c : Dev nD) (n : ℕ) (hn : n < cfg0.N) : Vec Ideal S1x704x704 .bf16 := (outsAt0 m c n hn).2.2.2.1
abbrev dauBuf (c : Dev nD) (n : ℕ) (hn : n < cfg0.N) : Vec Ideal S1x704x704 .bf16 := (outsAt0 m c n hn).2.2.2.2.1
abbrev accBuf (c : Dev nD) (n : ℕ) (hn : n < cfg0.N) : Vec Ideal S704x1024 .f32 := (outsAt0 m c n hn).2.2.2.2.2.1
abbrev halfBuf (c : Dev nD) (n : ℕ) (hn : n < cfg0.N) : Vec Ideal S704x1024 .bf16 := (outsAt0 m c n hn).2.2.2.2.2.2

/-! ### Case A -/

theorem half_A (c : Dev nD) (t : Fin cfg0.N) (h0 : t.val % 4 = 0) (h1 : ¬1 ≤ t.val % 4) (h2 : t.val % 48 = 0) (h3 : ¬t.val % 4 = 3) :
    halfBuf m c t.val t.isLt = k0_pay9 (ctBlk m c t) := by
  unfold halfBuf
  rw [outsAt0_A m c t h0 h1 h2 h3]
  dsimp only
  unfold sout0_A_1
  rw [View.read_writes_eq_canon _ _ _ (fun y => scover0_A_1 (y := y) ..)]
  unfold kernelRun0_A
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dag_A (c : Dev nD) (t : Fin cfg0.N) (h0 : t.val % 4 = 0) (h1 : ¬1 ≤ t.val % 4) (h2 : t.val % 48 = 0) (h3 : ¬t.val % 4 = 3) :
    dagBuf m c t.val t.isLt = k0_pay1 (k0_pay14 (k0_pay9 (ctBlk m c t)) (outBlk m c t) (dgateBlk m c t)) := by
  unfold dagBuf
  rw [outsAt0_A m c t h0 h1 h2 h3]
  dsimp only
  unfold out0_A_11
  rw [View.read_writes_eq_canon _ _ _ (fun y => cover0_A_11 (y := y) ..)]
  unfold kernelRun0_A
  dsimp only
  sl_unfold_words
  rw [View.canon_unit_zero hz3, View.readCov_unit_zero (S := S704x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dau_A (c : Dev nD) (t : Fin cfg0.N) (h0 : t.val % 4 = 0) (h1 : ¬1 ≤ t.val % 4) (h2 : t.val % 48 = 0) (h3 : ¬t.val % 4 = 3) :
    dauBuf m c t.val t.isLt = k0_pay15 (k0_pay9 (ctBlk m c t)) (outBlk m c t) (dupBlk m c t) := by
  unfold dauBuf
  rw [outsAt0_A m c t h0 h1 h2 h3]
  dsimp only
  unfold out0_A_12
  rw [View.read_writes_eq_canon _ _ _ (fun y => cover0_A_12 (y := y) ..)]
  unfold kernelRun0_A
  dsimp only
  sl_unfold_words
  rw [View.canon_unit_zero hz3, View.readCov_unit_zero (S := S704x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem acc_A (c : Dev nD) (t : Fin cfg0.N) (h0 : t.val % 4 = 0) (h1 : ¬1 ≤ t.val % 4) (h2 : t.val % 48 = 0) (h3 : ¬t.val % 4 = 3) :
    accBuf m c t.val t.isLt = k0_pay2 (k0_pay13 (k0_pay9 (ctBlk m c t)) (outBlk m c t) (dupBlk m c t)) (k0_pay14 (k0_pay9 (ctBlk m c t)) (outBlk m c t) (dgateBlk m c t))
      (k0_pay8 (F := Ideal)) (gateBlk m c t) (upBlk m c t) := by
  unfold accBuf
  rw [outsAt0_A m c t h0 h1 h2 h3]
  dsimp only
  unfold sout0_A_0
  rw [View.read_writes_eq_canon _ _ _ (fun y => scover0_A_0 (y := y) ..)]
  unfold kernelRun0_A
  dsimp only
  sl_unfold_words
  rw [View.canon_cons_unit_zero (S := S704x1024) hz2, View.readCov_unit_zero (S := S704x1024) _ hz2, View.readCov_unit_zero (S := S704x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem nrm_A (c : Dev nD) (t : Fin cfg0.N) (h0 : t.val % 4 = 0) (h1 : ¬1 ≤ t.val % 4) (h2 : t.val % 48 = 0) (h3 : ¬t.val % 4 = 3) :
    nrmBuf m c t.val t.isLt = k0_pay7 (hBlk m c t) (gainBlk m c t) := by
  unfold nrmBuf
  rw [outsAt0_A m c t h0 h1 h2 h3]
  dsimp only
  unfold out0_A_10
  rw [View.read_writes_eq_canon _ _ _ (fun y => cover0_A_10 (y := y) ..)]
  unfold kernelRun0_A
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dgain_A (c : Dev nD) (t : Fin cfg0.N) (h0 : t.val % 4 = 0) (h1 : ¬1 ≤ t.val % 4) (h2 : t.val % 48 = 0) (h3 : ¬t.val % 4 = 3) :
    dgainBuf m c t.val t.isLt = k0_pay11 (F := Ideal) := by
  unfold dgainBuf
  rw [outsAt0_A m c t h0 h1 h2 h3]
  dsimp only
  unfold out0_A_9
  rw [View.read_writes_eq_canon _ _ _ (fun y => cover0_A_9 (y := y) ..)]
  unfold kernelRun0_A
  dsimp only
  sl_unfold_words
  rw [View.canon_unit_zero hz2]

/-! ### Case B -/

theorem half_B (c : Dev nD) (t : Fin cfg0.N) (h0 : ¬t.val % 4 = 0) (h1 : 1 ≤ t.val % 4) (h2 : ¬t.val % 48 = 0) (h3 : ¬t.val % 4 = 3) :
    halfBuf m c t.val t.isLt = halfBuf m c (t.val - 1) (by omega) := by
  unfold halfBuf
  rw [outsAt0_B m c t h0 h1 h2 h3]
  dsimp only
  unfold sout0_B_1
  rfl

theorem dag_B (c : Dev nD) (t : Fin cfg0.N) (h0 : ¬t.val % 4 = 0) (h1 : 1 ≤ t.val % 4) (h2 : ¬t.val % 48 = 0) (h3 : ¬t.val % 4 = 3) :
    dagBuf m c t.val t.isLt = k0_pay1 (k0_pay14 (halfBuf m c (t.val - 1) (by omega)) (outBlk m c t) (dgateBlk m c t)) := by
  unfold dagBuf
  rw [outsAt0_B m c t h0 h1 h2 h3]
  dsimp only
  unfold out0_B_11
  rw [View.read_writes_eq_canon _ _ _ (fun y => cover0_B_11 (y := y) ..)]
  unfold kernelRun0_B
  dsimp only
  sl_unfold_words
  rw [View.canon_unit_zero hz3]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dau_B (c : Dev nD) (t : Fin cfg0.N) (h0 : ¬t.val % 4 = 0) (h1 : 1 ≤ t.val % 4) (h2 : ¬t.val % 48 = 0) (h3 : ¬t.val % 4 = 3) :
    dauBuf m c t.val t.isLt = k0_pay15 (halfBuf m c (t.val - 1) (by omega)) (outBlk m c t) (dupBlk m c t) := by
  unfold dauBuf
  rw [outsAt0_B m c t h0 h1 h2 h3]
  dsimp only
  unfold out0_B_12
  rw [View.read_writes_eq_canon _ _ _ (fun y => cover0_B_12 (y := y) ..)]
  unfold kernelRun0_B
  dsimp only
  sl_unfold_words
  rw [View.canon_unit_zero hz3]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem acc_B (c : Dev nD) (t : Fin cfg0.N) (h0 : ¬t.val % 4 = 0) (h1 : 1 ≤ t.val % 4) (h2 : ¬t.val % 48 = 0) (h3 : ¬t.val % 4 = 3) :
    accBuf m c t.val t.isLt = k0_pay2 (k0_pay13 (halfBuf m c (t.val - 1) (by omega)) (outBlk m c t) (dupBlk m c t)) (k0_pay14 (halfBuf m c (t.val - 1) (by omega)) (outBlk m c t) (dgateBlk m c t))
      (accBuf m c (t.val - 1) (by omega)) (gateBlk m c t) (upBlk m c t) := by
  unfold accBuf
  rw [outsAt0_B m c t h0 h1 h2 h3]
  dsimp only
  unfold sout0_B_0
  rw [View.read_writes_eq_canon _ _ _ (fun y => scover0_B_0 (y := y) ..)]
  unfold kernelRun0_B
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem nrm_B (c : Dev nD) (t : Fin cfg0.N) (h0 : ¬t.val % 4 = 0) (h1 : 1 ≤ t.val % 4) (h2 : ¬t.val % 48 = 0) (h3 : ¬t.val % 4 = 3) :
    nrmBuf m c t.val t.isLt = k0_pay10 (nrmBuf m c (t.val - 1) (by omega)) := by
  unfold nrmBuf
  rw [outsAt0_B m c t h0 h1 h2 h3]
  dsimp only
  unfold out0_B_10
  rw [View.read_writes_eq_canon _ _ _ (fun y => cover0_B_10 (y := y) ..)]
  unfold kernelRun0_B
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dgain_B (c : Dev nD) (t : Fin cfg0.N) (h0 : ¬t.val % 4 = 0) (h1 : 1 ≤ t.val % 4) (h2 : ¬t.val % 48 = 0) (h3 : ¬t.val % 4 = 3) :
    dgainBuf m c t.val t.isLt = dgainBuf m c (t.val - 1) (by omega) := by
  unfold dgainBuf
  rw [outsAt0_B m c t h0 h1 h2 h3]
  dsimp only
  unfold out0_B_9
  rfl

/-! ### Case C -/

theorem half_C (c : Dev nD) (t : Fin cfg0.N) (h0 : ¬t.val % 4 = 0) (h1 : 1 ≤ t.val % 4) (h2 : ¬t.val % 48 = 0) (h3 : t.val % 4 = 3) :
    halfBuf m c t.val t.isLt = halfBuf m c (t.val - 1) (by omega) := by
  unfold halfBuf
  rw [outsAt0_C m c t h0 h1 h2 h3]
  dsimp only
  unfold sout0_C_1
  rfl

theorem dag_C (c : Dev nD) (t : Fin cfg0.N) (h0 : ¬t.val % 4 = 0) (h1 : 1 ≤ t.val % 4) (h2 : ¬t.val % 48 = 0) (h3 : t.val % 4 = 3) :
    dagBuf m c t.val t.isLt = k0_pay1 (k0_pay14 (halfBuf m c (t.val - 1) (by omega)) (outBlk m c t) (dgateBlk m c t)) := by
  unfold dagBuf
  rw [outsAt0_C m c t h0 h1 h2 h3]
  dsimp only
  unfold out0_C_11
  rw [View.read_writes_eq_canon _ _ _ (fun y => cover0_C_11 (y := y) ..)]
  unfold kernelRun0_C
  dsimp only
  sl_unfold_words
  rw [View.canon_unit_zero hz3]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dau_C (c : Dev nD) (t : Fin cfg0.N) (h0 : ¬t.val % 4 = 0) (h1 : 1 ≤ t.val % 4) (h2 : ¬t.val % 48 = 0) (h3 : t.val % 4 = 3) :
    dauBuf m c t.val t.isLt = k0_pay15 (halfBuf m c (t.val - 1) (by omega)) (outBlk m c t) (dupBlk m c t) := by
  unfold dauBuf
  rw [outsAt0_C m c t h0 h1 h2 h3]
  dsimp only
  unfold out0_C_12
  rw [View.read_writes_eq_canon _ _ _ (fun y => cover0_C_12 (y := y) ..)]
  unfold kernelRun0_C
  dsimp only
  sl_unfold_words
  rw [View.canon_unit_zero hz3]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem acc_C (c : Dev nD) (t : Fin cfg0.N) (h0 : ¬t.val % 4 = 0) (h1 : 1 ≤ t.val % 4) (h2 : ¬t.val % 48 = 0) (h3 : t.val % 4 = 3) :
    accBuf m c t.val t.isLt = k0_pay2 (k0_pay13 (halfBuf m c (t.val - 1) (by omega)) (outBlk m c t) (dupBlk m c t)) (k0_pay14 (halfBuf m c (t.val - 1) (by omega)) (outBlk m c t) (dgateBlk m c t))
      (accBuf m c (t.val - 1) (by omega)) (gateBlk m c t) (upBlk m c t) := by
  unfold accBuf
  rw [outsAt0_C m c t h0 h1 h2 h3]
  dsimp only
  unfold sout0_C_0
  rw [View.read_writes_eq_canon _ _ _ (fun y => scover0_C_0 (y := y) ..)]
  unfold kernelRun0_C
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem nrm_C (c : Dev nD) (t : Fin cfg0.N) (h0 : ¬t.val % 4 = 0) (h1 : 1 ≤ t.val % 4) (h2 : ¬t.val % 48 = 0) (h3 : t.val % 4 = 3) :
    nrmBuf m c t.val t.isLt = k0_pay10 (nrmBuf m c (t.val - 1) (by omega)) := by
  unfold nrmBuf
  rw [outsAt0_C m c t h0 h1 h2 h3]
  dsimp only
  unfold out0_C_10
  rw [View.read_writes_eq_canon _ _ _ (fun y => cover0_C_10 (y := y) ..)]
  unfold kernelRun0_C
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dgain_C (c : Dev nD) (t : Fin cfg0.N) (h0 : ¬t.val % 4 = 0) (h1 : 1 ≤ t.val % 4) (h2 : ¬t.val % 48 = 0) (h3 : t.val % 4 = 3) :
    dgainBuf m c t.val t.isLt = k0_pay6 (hBlk m c t) (k0_pay2 (k0_pay13 (halfBuf m c (t.val - 1) (by omega)) (outBlk m c t) (dupBlk m c t)) (k0_pay14 (halfBuf m c (t.val - 1) (by omega)) (outBlk m c t) (dgateBlk m c t))
      (accBuf m c (t.val - 1) (by omega)) (gateBlk m c t) (upBlk m c t)) (dgainBuf m c (t.val - 1) (by omega)) := by
  unfold dgainBuf
  rw [outsAt0_C m c t h0 h1 h2 h3]
  dsimp only
  unfold out0_C_9
  rw [View.read_writes_eq_canon _ _ _ (fun y => cover0_C_9 (y := y) ..)]
  unfold kernelRun0_C
  dsimp only
  sl_unfold_words
  rw [View.canon_unit_zero hz2, View.readCov_unit_zero (S := S704x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dh_C (c : Dev nD) (t : Fin cfg0.N) (h0 : ¬t.val % 4 = 0) (h1 : 1 ≤ t.val % 4) (h2 : ¬t.val % 48 = 0) (h3 : t.val % 4 = 3) :
    dhBuf m c t.val t.isLt = k0_pay5 (hBlk m c t) (k0_pay2 (k0_pay13 (halfBuf m c (t.val - 1) (by omega)) (outBlk m c t) (dupBlk m c t)) (k0_pay14 (halfBuf m c (t.val - 1) (by omega)) (outBlk m c t) (dgateBlk m c t))
      (accBuf m c (t.val - 1) (by omega)) (gateBlk m c t) (upBlk m c t)) (gainBlk m c t) (ctBlk m c t) := by
  unfold dhBuf
  rw [outsAt0_C m c t h0 h1 h2 h3]
  dsimp only
  unfold out0_C_8
  rw [View.read_writes_eq_canon _ _ _ (fun y => cover0_C_8 (y := y) ..)]
  unfold kernelRun0_C
  dsimp only
  sl_unfold_words
  rw [View.canon_unit_zero hz2, View.readCov_unit_zero (S := S704x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

/-! ### Case D -/

theorem half_D (c : Dev nD) (t : Fin cfg0.N) (h0 : t.val % 4 = 0) (h1 : ¬1 ≤ t.val % 4) (h2 : ¬t.val % 48 = 0) (h3 : ¬t.val % 4 = 3) :
    halfBuf m c t.val t.isLt = k0_pay9 (ctBlk m c t) := by
  unfold halfBuf
  rw [outsAt0_D m c t h0 h1 h2 h3]
  dsimp only
  unfold sout0_D_1
  rw [View.read_writes_eq_canon _ _ _ (fun y => scover0_D_1 (y := y) ..)]
  unfold kernelRun0_D
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dag_D (c : Dev nD) (t : Fin cfg0.N) (h0 : t.val % 4 = 0) (h1 : ¬1 ≤ t.val % 4) (h2 : ¬t.val % 48 = 0) (h3 : ¬t.val % 4 = 3) :
    dagBuf m c t.val t.isLt = k0_pay1 (k0_pay14 (k0_pay9 (ctBlk m c t)) (outBlk m c t) (dgateBlk m c t)) := by
  unfold dagBuf
  rw [outsAt0_D m c t h0 h1 h2 h3]
  dsimp only
  unfold out0_D_11
  rw [View.read_writes_eq_canon _ _ _ (fun y => cover0_D_11 (y := y) ..)]
  unfold kernelRun0_D
  dsimp only
  sl_unfold_words
  rw [View.canon_unit_zero hz3, View.readCov_unit_zero (S := S704x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dau_D (c : Dev nD) (t : Fin cfg0.N) (h0 : t.val % 4 = 0) (h1 : ¬1 ≤ t.val % 4) (h2 : ¬t.val % 48 = 0) (h3 : ¬t.val % 4 = 3) :
    dauBuf m c t.val t.isLt = k0_pay15 (k0_pay9 (ctBlk m c t)) (outBlk m c t) (dupBlk m c t) := by
  unfold dauBuf
  rw [outsAt0_D m c t h0 h1 h2 h3]
  dsimp only
  unfold out0_D_12
  rw [View.read_writes_eq_canon _ _ _ (fun y => cover0_D_12 (y := y) ..)]
  unfold kernelRun0_D
  dsimp only
  sl_unfold_words
  rw [View.canon_unit_zero hz3, View.readCov_unit_zero (S := S704x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem acc_D (c : Dev nD) (t : Fin cfg0.N) (h0 : t.val % 4 = 0) (h1 : ¬1 ≤ t.val % 4) (h2 : ¬t.val % 48 = 0) (h3 : ¬t.val % 4 = 3) :
    accBuf m c t.val t.isLt = k0_pay2 (k0_pay13 (k0_pay9 (ctBlk m c t)) (outBlk m c t) (dupBlk m c t)) (k0_pay14 (k0_pay9 (ctBlk m c t)) (outBlk m c t) (dgateBlk m c t))
      (k0_pay8 (F := Ideal)) (gateBlk m c t) (upBlk m c t) := by
  unfold accBuf
  rw [outsAt0_D m c t h0 h1 h2 h3]
  dsimp only
  unfold sout0_D_0
  rw [View.read_writes_eq_canon _ _ _ (fun y => scover0_D_0 (y := y) ..)]
  unfold kernelRun0_D
  dsimp only
  sl_unfold_words
  rw [View.canon_cons_unit_zero (S := S704x1024) hz2, View.readCov_unit_zero (S := S704x1024) _ hz2, View.readCov_unit_zero (S := S704x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem nrm_D (c : Dev nD) (t : Fin cfg0.N) (h0 : t.val % 4 = 0) (h1 : ¬1 ≤ t.val % 4) (h2 : ¬t.val % 48 = 0) (h3 : ¬t.val % 4 = 3) :
    nrmBuf m c t.val t.isLt = k0_pay7 (hBlk m c t) (gainBlk m c t) := by
  unfold nrmBuf
  rw [outsAt0_D m c t h0 h1 h2 h3]
  dsimp only
  unfold out0_D_10
  rw [View.read_writes_eq_canon _ _ _ (fun y => cover0_D_10 (y := y) ..)]
  unfold kernelRun0_D
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread, (hs0_6 t).read_unread,
    (hs0_7 t).read_unread, (hs0_9 t).read_unread, (hs0_10 t).read_unread, View.ld_unit_zero (S := S704x1024) hz2,
    View.ld_unit_zero (S := S1x1024) hz2, View.ld_unit_zero (S := S1x1024x704) hz3, View.ld_unit_zero (S := S1x704x704) hz3]

theorem dgain_D (c : Dev nD) (t : Fin cfg0.N) (h0 : t.val % 4 = 0) (h1 : ¬1 ≤ t.val % 4) (h2 : ¬t.val % 48 = 0) (h3 : ¬t.val % 4 = 3) :
    dgainBuf m c t.val t.isLt = dgainBuf m c (t.val - 1) (by omega) := by
  unfold dgainBuf
  rw [outsAt0_D m c t h0 h1 h2 h3]
  dsimp only
  unfold out0_D_9
  rfl

end Cert.KernelIdeal.Math

end
-- ==== Proof.FfnBwdHost.lean ====
/- The gradient of the gated feed-forward (`KernelIdeal`): what the host lines before the call leave in its operands. -/
module

public import proofs.«01_k».proof.Defs
public import proofs.«01_k».proof.Proof.Gen.KernelIdeal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Math

open Cert.KernelIdeal Cert.KernelIdeal.Gen

variable (m : (ℓ : Loc nD τ sig) → Buf (Elt Ideal) ℓ) (c : Dev nD)

/-- The host's normalised rows times the first weight, as the host lines write them. -/
def rowPre (h : Vec Ideal S8448x1024 .f32) (g : Vec Ideal S1x1024 .f32) (w : Vec Ideal S1024x5632 .f32) (x : Fin 8448)
    (k : Fin 5632) : EReal :=
  ∑ e : Fin 1024, h (ix2 x e) * Ideal.rsqrt (Ideal.div (∑ d : Fin 1024, h (ix2 x d) * h (ix2 x d)) (Ideal.ofBits .f32 0x44800000#32)
    + Ideal.ofBits .f32 0x358637BD#32) * g (ix2 0 e) * w (ix2 e k)

abbrev hostPre (x : Fin 8448) (k : Fin 5632) : EReal :=
  rowPre (m ((c : Thread nD τ).loc main_arg0)) (m ((c : Thread nD τ).loc main_arg1)) (m ((c : Thread nD τ).loc main_arg2))
    x k

theorem cols_at (k : Fin 8) (d : Fin 1024) (q : Fin 704) :
    V m c main_v33 (ix3 k d q)
      = m ((c : Thread nD τ).loc main_arg2) (ix2 d ⟨k.val * 704 + q.val, by omega⟩) := by
  unfold V hostOps0 hostOps0_1 hostOps0_2
  simp only [List.flatten_cons, List.flatten_nil, List.append_nil, List.cons_append, List.nil_append]
  after_results_simp
  try simp -implicitDefEqProofs only [StableHlo.TRef.toBuf, StableHlo.TRef.ofBuf, cast_cast, cast_eq]
  pointwise []

theorem wo_at : V m c main_v34 = m ((c : Thread nD τ).loc main_arg3) := by
  unfold V hostOps0 hostOps0_1 hostOps0_2
  simp only [List.flatten_cons, List.flatten_nil, List.append_nil, List.cons_append, List.nil_append]
  after_results_simp
  rfl

theorem hostDup_at (k : Fin 4) (x : Fin 8448) (q : Fin 704) :
    V m c main_v35 (ix3 k x q) = hostPre m c x ⟨k.val * 704 + q.val, by omega⟩
      * Ideal.logistic (hostPre m c x ⟨k.val * 704 + q.val, by omega⟩) := by
  unfold V hostOps0 hostOps0_1 hostOps0_2 Ideal.logistic hostPre rowPre
  simp only [List.flatten_cons, List.flatten_nil, List.append_nil, List.cons_append, List.nil_append]
  after_results_simp
  try simp -implicitDefEqProofs only [StableHlo.TRef.toBuf, StableHlo.TRef.ofBuf, cast_cast, cast_eq]
  pointwise []

theorem hostDgate_at (k : Fin 4) (x : Fin 8448) (q : Fin 704) :
    V m c main_v36 (ix3 k x q) = hostPre m c x ⟨(4 + k.val) * 704 + q.val, by omega⟩
      * (Ideal.logistic (hostPre m c x ⟨k.val * 704 + q.val, by omega⟩)
        * (1 + hostPre m c x ⟨k.val * 704 + q.val, by omega⟩
          * (1 - Ideal.logistic (hostPre m c x ⟨k.val * 704 + q.val, by omega⟩)))) := by
  unfold V hostOps0 hostOps0_1 hostOps0_2 Ideal.logistic hostPre rowPre
  simp only [List.flatten_cons, List.flatten_nil, List.append_nil, List.cons_append, List.nil_append]
  after_results_simp
  try simp -implicitDefEqProofs only [StableHlo.TRef.toBuf, StableHlo.TRef.ofBuf, cast_cast, cast_eq]
  pointwise []

end Cert.KernelIdeal.Math

end
-- ==== Proof.FfnBwdSpec.lean ====
/- The gradient of the gated feed-forward over the reals: what the kernel and the reference both compute from finite
   arguments, and the finiteness that the precondition gives. -/
module

public import proofs.«01_k».proof.Defs
public import proofs.«01_k».proof.Proof.Reals
public import proofs.«01_k».proof.Proof.Gen.Pre_finite
public import Idealize.ShloMosaic.Lib.ReduceAll
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Reals

theorem coe_sum {ι : Type} [Fintype ι] (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

theorem top : Ideal.ofBits .f32 0x7F800000#32 = ⊤ := by
  simp [Ideal.ofBits, Ideal.ieee]

/-- The small positive number under the root. -/
def eps : ℝ := small.choose
theorem eps_pos : 0 < eps := small.choose_spec.1
theorem eps_eq : Ideal.ofBits .f32 0x358637BD#32 = (eps : EReal) := small.choose_spec.2

/-- A value whose size is below infinity is a real number. -/
theorem real_of_lt (x : EReal) (h : max x (-x) < ⊤) : ∃ r : ℝ, x = (r : EReal) := by
  induction x using EReal.rec with
  | bot => simp at h
  | top => simp at h
  | coe r => exact ⟨r, rfl⟩

end Cert.Reals

namespace Cert.FfnBwd

section Spec
variable (H : Fin 8448 → Fin 1024 → ℝ) (G : Fin 1024 → ℝ) (W : Fin 1024 → Fin 5632 → ℝ) (O : Fin 2816 → Fin 1024 → ℝ)
  (T : Fin 8448 → Fin 1024 → ℝ)

/-- The mean square of a row, its inverse root, the normalised rows, with the gain, and the first product. -/
def ms (x : Fin 8448) : ℝ := (∑ d, H x d * H x d) * (1 / 1024) + Reals.eps
def rs (x : Fin 8448) : ℝ := (Real.sqrt (ms H x))⁻¹
def xh (x : Fin 8448) (d : Fin 1024) : ℝ := H x d * rs H x
def nr (x : Fin 8448) (d : Fin 1024) : ℝ := xh H x d * G d
def pre (x : Fin 8448) (k : Fin 5632) : ℝ := ∑ d, nr H G x d * W d k
def gate (x : Fin 8448) (q : Fin 2816) : ℝ := pre H G W x ⟨q.val, by omega⟩
def up (x : Fin 8448) (q : Fin 2816) : ℝ := pre H G W x ⟨2816 + q.val, by omega⟩
def sg (x : Fin 8448) (q : Fin 2816) : ℝ := (1 + Real.exp (-gate H G W x q))⁻¹

/-- The derivatives of the gated product in its two factors. -/
def dup (x : Fin 8448) (q : Fin 2816) : ℝ := gate H G W x q * sg H G W x q
def dgate (x : Fin 8448) (q : Fin 2816) : ℝ :=
  up H G W x q * (sg H G W x q * (1 + gate H G W x q * (1 - sg H G W x q)))

/-- The gradients: of the hidden values, of the two halves of the first product, of the normalised rows, of the gain and
    of the rows. -/
def dhid (x : Fin 8448) (q : Fin 2816) : ℝ := ∑ d, 1 / 2 * T x d * O q d
def dau (x : Fin 8448) (q : Fin 2816) : ℝ := dhid O T x q * dup H G W x q
def dag (x : Fin 8448) (q : Fin 2816) : ℝ := dhid O T x q * dgate H G W x q
def dn (x : Fin 8448) (d : Fin 1024) : ℝ :=
  (∑ q : Fin 2816, dag H G W O T x q * W d ⟨q.val, by omega⟩)
    + ∑ q : Fin 2816, dau H G W O T x q * W d ⟨2816 + q.val, by omega⟩
def dgain (d : Fin 1024) : ℝ := ∑ x, dn H G W O T x d * xh H x d
def dh (x : Fin 8448) (d : Fin 1024) : ℝ :=
  T x d + rs H x * (dn H G W O T x d * G d
    - xh H x d * ((∑ e, dn H G W O T x e * G e * xh H x e) * (1 / 1024)))

theorem ms_pos (x : Fin 8448) : 0 < ms H x := by
  have h : 0 ≤ ∑ d, H x d * H x d := Finset.sum_nonneg fun d _ => mul_self_nonneg _
  have := Reals.eps_pos
  unfold ms
  positivity

theorem sqrt_pos (x : Fin 8448) : 0 < Real.sqrt (ms H x) := Real.sqrt_pos.2 (ms_pos H x)

theorem rsqrt_ms (x : Fin 8448) : Ideal.rsqrt ((ms H x : ℝ) : EReal) = ((rs H x : ℝ) : EReal) := by
  rw [Ideal.rsqrt_coe, if_neg (ms_pos H x).le.not_gt, if_neg (ms_pos H x).ne']
  rfl

theorem rs_sq (x : Fin 8448) : rs H x * (1 / ms H x) = rs H x * rs H x * rs H x := by
  have h := sqrt_pos H x
  have e : ms H x = Real.sqrt (ms H x) * Real.sqrt (ms H x) := (Real.mul_self_sqrt (ms_pos H x).le).symm
  unfold rs
  conv_lhs => rw [e, Real.sqrt_mul_self h.le]
  field_simp

end Spec

theorem lt_top_of_cmp (a b : Ideal .f32) (hb : b = (⊤ : EReal)) (h : FloatOps.cmpf .olt (FloatOps.absf a) b = 1#1) :
    ∃ r : ℝ, a = (r : EReal) := by
  refine Reals.real_of_lt a ?_
  subst hb
  by_contra hn
  have e : FloatOps.cmpf .olt (FloatOps.absf a) ((⊤ : EReal) : Ideal .f32) = 0#1 := by
    show BitVec.ofBool (decide (max a (-a) < (⊤ : EReal))) = _
    rw [decide_eq_false hn]
    rfl
  rw [e] at h
  exact absurd h (by decide)

/-- Under the precondition every entry of every argument is a real number. -/
theorem args_real [Pre_finite.Facts] (x0 : FVec Ideal Pre_finite.S8448x1024 .f32) (x1 : FVec Ideal Pre_finite.S1x1024 .f32)
    (x2 : FVec Ideal Pre_finite.S1024x5632 .f32) (x3 : FVec Ideal Pre_finite.S2816x1024 .f32)
    (x4 : FVec Ideal Pre_finite.S8448x1024 .f32) (h : Pre_finite.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  have h := congrFun h fun a => a.elim0
  unfold Pre_finite.fn Pre_finite.fn_part1 at h
  dsimp only at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Pre_finite.S_.Idx := ⟨fun a b => funext fun k => k.elim0⟩
  exact ⟨fun i => lt_top_of_cmp _ _ Reals.top (Host.reduce_andi_all _ _ _ _ _ h0 i),
    fun i => lt_top_of_cmp _ _ Reals.top (Host.reduce_andi_all _ _ _ _ _ h1 i),
    fun i => lt_top_of_cmp _ _ Reals.top (Host.reduce_andi_all _ _ _ _ _ h2 i),
    fun i => lt_top_of_cmp _ _ Reals.top (Host.reduce_andi_all _ _ _ _ _ h3 i),
    fun i => lt_top_of_cmp _ _ Reals.top (Host.reduce_andi_all _ _ _ _ _ h4 i)⟩

end Cert.FfnBwd

end
-- ==== Proof.FfnBwd.lean ====
/- The gradient of the gated feed-forward (`KernelIdeal`) on finite arguments: the blocks the windows bring in, the folds
   over the hidden blocks and over the row blocks, and the five results. -/
module

public import proofs.«01_k».proof.Defs
public import proofs.«01_k».proof.Proof.FfnBwdPoints
public import proofs.«01_k».proof.Proof.FfnBwdHost
public import proofs.«01_k».proof.Proof.FfnBwdSpec
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Math

open Cert.KernelIdeal Cert.KernelIdeal.Gen Cert.FfnBwd

/-! ### The payloads at an index -/

theorem pay9_at (x : Vec Ideal S704x1024 .f32) (r : Fin 704) (d : Fin 1024) :
    k0_pay9 x (ix2 r d) = Ideal.ofBits .f32 0x3F000000#32 * x (ix2 r d) := by
  pointwise [k0_pay9]

theorem pay13_at (u : Vec Ideal S704x1024 .bf16) (w : Vec Ideal S704x1024 .bf16) (v : Vec Ideal S1x704x704 .bf16)
    (r q : Fin 704) : k0_pay13 u w v (ix2 r q) = (∑ d, u (ix2 r d) * w (ix2 q d)) * v (ix3 0 r q) := by
  pointwise [k0_pay13, k0_pay12]

theorem pay14_at (u : Vec Ideal S704x1024 .bf16) (w : Vec Ideal S704x1024 .bf16) (v : Vec Ideal S1x704x704 .bf16)
    (r q : Fin 704) : k0_pay14 u w v (ix2 r q) = (∑ d, u (ix2 r d) * w (ix2 q d)) * v (ix3 0 r q) := by
  pointwise [k0_pay14, k0_pay12]

theorem pay15_at (u : Vec Ideal S704x1024 .bf16) (w : Vec Ideal S704x1024 .bf16) (v : Vec Ideal S1x704x704 .bf16)
    (r q : Fin 704) : k0_pay15 u w v (ix3 0 r q) = k0_pay13 u w v (ix2 r q) := by
  pointwise [k0_pay15]

theorem pay1_at (u : FVec Ideal S704x704 .bf16) (r q : Fin 704) : k0_pay1 u (ix3 0 r q) = u (ix2 r q) := by
  pointwise [k0_pay1]

theorem pay2_at (u v : FVec Ideal S704x704 .bf16) (a : Vec Ideal S704x1024 .f32) (g p : Vec Ideal S1x1024x704 .bf16)
    (r : Fin 704) (d : Fin 1024) : k0_pay2 u v a g p (ix2 r d)
      = a (ix2 r d) + ((∑ q, v (ix2 r q) * g (ix3 0 d q)) + ∑ q, u (ix2 r q) * p (ix3 0 d q)) := by
  pointwise [k0_pay2]

theorem pay8_at (r : Fin 704) (d : Fin 1024) : (k0_pay8 (F := Ideal)) (ix2 r d) = 0 := by
  pointwise [k0_pay8]

theorem pay11_at (d : Fin 1024) : (k0_pay11 (F := Ideal)) (ix2 0 d) = 0 := by
  pointwise [k0_pay11]

theorem pay10_eq (x : Vec Ideal S704x1024 .bf16) (r : Fin 704) (d : Fin 1024) : k0_pay10 x (ix2 r d) = x (ix2 r d) := by
  pointwise [k0_pay10]

theorem pay3_at (x : Vec Ideal S704x1024 .f32) (r : Fin 704) :
    k0_pay3 x (ix2 r 0) = Ideal.rsqrt (Ideal.div (∑ e, x (ix2 r e) * x (ix2 r e)) (Ideal.ofBits .f32 0x44800000#32)
      + Ideal.ofBits .f32 0x358637BD#32) := by
  pointwise [k0_pay3]

theorem pay4_at (x : Vec Ideal S704x1024 .f32) (r : Fin 704) (d : Fin 1024) :
    k0_pay4 x (ix2 r d) = x (ix2 r d) * k0_pay3 x (ix2 r 0) := by
  pointwise [k0_pay4]

theorem pay7_at (x : Vec Ideal S704x1024 .f32) (g : Vec Ideal S1x1024 .f32) (r : Fin 704) (d : Fin 1024) :
    k0_pay7 x g (ix2 r d) = x (ix2 r d) * Ideal.rsqrt (Ideal.div (∑ e, x (ix2 r e) * x (ix2 r e))
      (Ideal.ofBits .f32 0x44800000#32) + Ideal.ofBits .f32 0x358637BD#32) * g (ix2 0 d) := by
  pointwise [k0_pay7]

theorem pay6_at (x a : Vec Ideal S704x1024 .f32) (p : Vec Ideal S1x1024 .f32) (d : Fin 1024) :
    k0_pay6 x a p (ix2 0 d) = p (ix2 0 d) + ∑ r : Fin 704, a (ix2 r d) * k0_pay4 x (ix2 r d) := by
  pointwise [k0_pay6]

theorem pay5_at (x a : Vec Ideal S704x1024 .f32) (g : Vec Ideal S1x1024 .f32) (t : Vec Ideal S704x1024 .f32)
    (r : Fin 704) (d : Fin 1024) : k0_pay5 x a g t (ix2 r d)
      = t (ix2 r d) + k0_pay3 x (ix2 r 0) * (a (ix2 r d) * g (ix2 0 d)
        - k0_pay4 x (ix2 r d) * Ideal.div (∑ e, a (ix2 r e) * g (ix2 0 e) * k0_pay4 x (ix2 r e))
          (Ideal.ofBits .f32 0x44800000#32)) := by
  pointwise [k0_pay5]

/-! ### The blocks the windows bring in -/

variable (m : (ℓ : Loc nD τ sig) → Buf (Elt Ideal) ℓ) (c : Dev nD)

theorem h_at (t : Fin cfg0.N) (r : Fin 704) (d : Fin 1024) :
    hBlk m c t (ix2 r d) = m ((c : Thread nD τ).loc main_arg0) (ix2 ⟨t.val / 4 * 704 + r.val, by have := t.isLt; have : cfg0.N = 48 := N_0; omega⟩ d) := by
  have hi : ∀ t : Fin cfg0.N, win0_0.index t 0 = t.val / 4 ∧ win0_0.index t 1 = 0 := by
    decide +kernel
  rw [← V_main_arg0 m c]
  unfold hBlk iblk
  rw [View.read_apply]
  show V m c main_arg0 _ = V m c main_arg0 _
  congr 1
  funext a
  apply Fin.ext
  match a with
  | ⟨0, _⟩ => show win0_0.index t 0 * 704 + 1 * r.val = t.val / 4 * 704 + r.val; rw [(hi t).1]; omega
  | ⟨1, _⟩ => show win0_0.index t 1 * 1024 + 1 * d.val = d.val; rw [(hi t).2]; omega

theorem ct_at (t : Fin cfg0.N) (r : Fin 704) (d : Fin 1024) :
    ctBlk m c t (ix2 r d) = m ((c : Thread nD τ).loc main_arg4) (ix2 ⟨t.val / 4 * 704 + r.val, by have := t.isLt; have : cfg0.N = 48 := N_0; omega⟩ d) := by
  have hi : ∀ t : Fin cfg0.N, win0_1.index t 0 = t.val / 4 ∧ win0_1.index t 1 = 0 := by
    decide +kernel
  rw [← V_main_arg4 m c]
  unfold ctBlk iblk
  rw [View.read_apply]
  show V m c main_arg4 _ = V m c main_arg4 _
  congr 1
  funext a
  apply Fin.ext
  match a with
  | ⟨0, _⟩ => show win0_1.index t 0 * 704 + 1 * r.val = t.val / 4 * 704 + r.val; rw [(hi t).1]; omega
  | ⟨1, _⟩ => show win0_1.index t 1 * 1024 + 1 * d.val = d.val; rw [(hi t).2]; omega

theorem gain_at (t : Fin cfg0.N) (d : Fin 1024) :
    gainBlk m c t (ix2 0 d) = m ((c : Thread nD τ).loc main_arg1) (ix2 0 d) := by
  have hi : ∀ t : Fin cfg0.N, win0_2.index t 0 = 0 ∧ win0_2.index t 1 = 0 := by
    decide +kernel
  rw [← V_main_arg1 m c]
  unfold gainBlk iblk
  rw [View.read_apply]
  show V m c main_arg1 _ = V m c main_arg1 _
  congr 1
  funext a
  apply Fin.ext
  match a with
  | ⟨0, _⟩ => show win0_2.index t 0 * 1 + 1 * 0 = 0; rw [(hi t).1]
  | ⟨1, _⟩ => show win0_2.index t 1 * 1024 + 1 * d.val = d.val; rw [(hi t).2]; omega

theorem gateW_at (t : Fin cfg0.N) (d : Fin 1024) (q : Fin 704) :
    gateBlk m c t (ix3 0 d q) = m ((c : Thread nD τ).loc main_arg2) (ix2 d ⟨t.val % 4 * 704 + q.val, by omega⟩) := by
  have hi : ∀ t : Fin cfg0.N, win0_3.index t 0 = t.val % 4 ∧ win0_3.index t 1 = 0 ∧ win0_3.index t 2 = 0 := by
    decide +kernel
  refine Eq.trans ?_ (cols_at m c ⟨t.val % 4, by omega⟩ d q)
  unfold gateBlk iblk
  rw [View.read_apply]
  show V m c main_v33 _ = V m c main_v33 _
  congr 1
  funext a
  apply Fin.ext
  match a with
  | ⟨0, _⟩ => show win0_3.index t 0 * 1 + 1 * 0 = t.val % 4; rw [(hi t).1]; omega
  | ⟨1, _⟩ => show win0_3.index t 1 * 1024 + 1 * d.val = d.val; rw [(hi t).2.1]; omega
  | ⟨2, _⟩ => show win0_3.index t 2 * 704 + 1 * q.val = q.val; rw [(hi t).2.2]; omega

theorem upW_at (t : Fin cfg0.N) (d : Fin 1024) (q : Fin 704) :
    upBlk m c t (ix3 0 d q) = m ((c : Thread nD τ).loc main_arg2) (ix2 d ⟨(t.val % 4 + 4) * 704 + q.val, by omega⟩) := by
  have hi : ∀ t : Fin cfg0.N, win0_4.index t 0 = t.val % 4 + 4 ∧ win0_4.index t 1 = 0 ∧ win0_4.index t 2 = 0 := by
    decide +kernel
  refine Eq.trans ?_ (cols_at m c ⟨t.val % 4 + 4, by omega⟩ d q)
  unfold upBlk iblk
  rw [View.read_apply]
  show V m c main_v33 _ = V m c main_v33 _
  congr 1
  funext a
  apply Fin.ext
  match a with
  | ⟨0, _⟩ => show win0_4.index t 0 * 1 + 1 * 0 = t.val % 4 + 4; rw [(hi t).1]; omega
  | ⟨1, _⟩ => show win0_4.index t 1 * 1024 + 1 * d.val = d.val; rw [(hi t).2.1]; omega
  | ⟨2, _⟩ => show win0_4.index t 2 * 704 + 1 * q.val = q.val; rw [(hi t).2.2]; omega

theorem out_at (t : Fin cfg0.N) (q : Fin 704) (d : Fin 1024) :
    outBlk m c t (ix2 q d) = m ((c : Thread nD τ).loc main_arg3) (ix2 ⟨t.val % 4 * 704 + q.val, by omega⟩ d) := by
  have hi : ∀ t : Fin cfg0.N, win0_5.index t 0 = t.val % 4 ∧ win0_5.index t 1 = 0 := by
    decide +kernel
  rw [← wo_at m c]
  unfold outBlk iblk
  rw [View.read_apply]
  show V m c main_v34 _ = V m c main_v34 _
  congr 1
  funext a
  apply Fin.ext
  match a with
  | ⟨0, _⟩ => show win0_5.index t 0 * 704 + 1 * q.val = t.val % 4 * 704 + q.val; rw [(hi t).1]; omega
  | ⟨1, _⟩ => show win0_5.index t 1 * 1024 + 1 * d.val = d.val; rw [(hi t).2]; omega

theorem dup_at (t : Fin cfg0.N) (r : Fin 704) (q : Fin 704) :
    dupBlk m c t (ix3 0 r q) = V m c main_v35 (ix3 ⟨t.val % 4, by omega⟩ ⟨t.val / 4 * 704 + r.val, by have := t.isLt; have : cfg0.N = 48 := N_0; omega⟩ q) := by
  have hi : ∀ t : Fin cfg0.N, win0_6.index t 0 = t.val % 4 ∧ win0_6.index t 1 = t.val / 4 ∧ win0_6.index t 2 = 0 := by
    decide +kernel
  unfold dupBlk iblk
  rw [View.read_apply]
  show V m c main_v35 _ = V m c main_v35 _
  congr 1
  funext a
  apply Fin.ext
  match a with
  | ⟨0, _⟩ => show win0_6.index t 0 * 1 + 1 * 0 = t.val % 4; rw [(hi t).1]; omega
  | ⟨1, _⟩ => show win0_6.index t 1 * 704 + 1 * r.val = t.val / 4 * 704 + r.val; rw [(hi t).2.1]; omega
  | ⟨2, _⟩ => show win0_6.index t 2 * 704 + 1 * q.val = q.val; rw [(hi t).2.2]; omega

theorem dgate_at (t : Fin cfg0.N) (r : Fin 704) (q : Fin 704) :
    dgateBlk m c t (ix3 0 r q) = V m c main_v36 (ix3 ⟨t.val % 4, by omega⟩ ⟨t.val / 4 * 704 + r.val, by have := t.isLt; have : cfg0.N = 48 := N_0; omega⟩ q) := by
  have hi : ∀ t : Fin cfg0.N, win0_7.index t 0 = t.val % 4 ∧ win0_7.index t 1 = t.val / 4 ∧ win0_7.index t 2 = 0 := by
    decide +kernel
  unfold dgateBlk iblk
  rw [View.read_apply]
  show V m c main_v36 _ = V m c main_v36 _
  congr 1
  funext a
  apply Fin.ext
  match a with
  | ⟨0, _⟩ => show win0_7.index t 0 * 1 + 1 * 0 = t.val % 4; rw [(hi t).1]; omega
  | ⟨1, _⟩ => show win0_7.index t 1 * 704 + 1 * r.val = t.val / 4 * 704 + r.val; rw [(hi t).2.1]; omega
  | ⟨2, _⟩ => show win0_7.index t 2 * 704 + 1 * q.val = q.val; rw [(hi t).2.2]; omega

/-! ### On finite arguments -/

variable (H : Fin 8448 → Fin 1024 → ℝ) (G : Fin 1024 → ℝ) (W : Fin 1024 → Fin 5632 → ℝ) (O : Fin 2816 → Fin 1024 → ℝ)
  (T : Fin 8448 → Fin 1024 → ℝ)

/-- Device `c`'s arguments are the given real arrays. -/
structure Args : Prop where
  h : ∀ x d, m ((c : Thread nD τ).loc main_arg0) (ix2 x d) = ((H x d : ℝ) : EReal)
  g : ∀ d, m ((c : Thread nD τ).loc main_arg1) (ix2 0 d) = ((G d : ℝ) : EReal)
  w : ∀ d k, m ((c : Thread nD τ).loc main_arg2) (ix2 d k) = ((W d k : ℝ) : EReal)
  o : ∀ q d, m ((c : Thread nD τ).loc main_arg3) (ix2 q d) = ((O q d : ℝ) : EReal)
  t : ∀ x d, m ((c : Thread nD τ).loc main_arg4) (ix2 x d) = ((T x d : ℝ) : EReal)

variable {m c H G W O T} (A : Args m c H G W O T)
include A

theorem hostPre_at (x : Fin 8448) (k : Fin 5632) : hostPre m c x k = ((pre H G W x k : ℝ) : EReal) := by
  have real : ∀ (h : Vec Ideal S8448x1024 .f32) (g : Vec Ideal S1x1024 .f32) (w : Vec Ideal S1024x5632 .f32),
      (∀ x d, h (ix2 x d) = ((H x d : ℝ) : EReal)) → (∀ d, g (ix2 0 d) = ((G d : ℝ) : EReal)) →
      (∀ d k, w (ix2 d k) = ((W d k : ℝ) : EReal)) → rowPre h g w x k = ((pre H G W x k : ℝ) : EReal) := by
    intro h g w hh hg hw
    have hms : Ideal.div (∑ d : Fin 1024, h (ix2 x d) * h (ix2 x d)) (Ideal.ofBits .f32 0x44800000#32)
        + Ideal.ofBits .f32 0x358637BD#32 = ((ms H x : ℝ) : EReal) := by
      rw [Reals.width, Reals.eps_eq, Ideal.div_coe (by norm_num)]
      simp only [hh, ← EReal.coe_mul, ← Reals.coe_sum, ← EReal.coe_add]
      rfl
    unfold rowPre
    rw [hms, rsqrt_ms]
    simp only [hh, hg, hw, ← EReal.coe_mul, ← Reals.coe_sum]
    rfl
  exact real _ _ _ A.h A.g A.w

theorem rs_at (t : Fin cfg0.N) (r : Fin 704) (x : Fin 8448) (hx : t.val / 4 * 704 + r.val = x.val) :
    k0_pay3 (hBlk m c t) (ix2 r 0) = ((rs H x : ℝ) : EReal) := by
  obtain ⟨x, hx'⟩ := x
  dsimp only at hx
  subst hx
  rw [pay3_at, Reals.width, Reals.eps_eq, Ideal.div_coe (by norm_num)]
  simp only [h_at, A.h, ← EReal.coe_mul, ← Reals.coe_sum, ← EReal.coe_add]
  exact rsqrt_ms H _

theorem hRow_at (t : Fin cfg0.N) (r : Fin 704) (x : Fin 8448) (hx : t.val / 4 * 704 + r.val = x.val) (d : Fin 1024) :
    hBlk m c t (ix2 r d) = ((H x d : ℝ) : EReal) := by
  obtain ⟨x, hx'⟩ := x
  dsimp only at hx
  subst hx
  rw [h_at, A.h]

theorem ctRow_at (t : Fin cfg0.N) (r : Fin 704) (x : Fin 8448) (hx : t.val / 4 * 704 + r.val = x.val) (d : Fin 1024) :
    ctBlk m c t (ix2 r d) = ((T x d : ℝ) : EReal) := by
  obtain ⟨x, hx'⟩ := x
  dsimp only at hx
  subst hx
  rw [ct_at, A.t]

theorem xh_at (t : Fin cfg0.N) (r : Fin 704) (x : Fin 8448) (hx : t.val / 4 * 704 + r.val = x.val) (d : Fin 1024) :
    k0_pay4 (hBlk m c t) (ix2 r d) = ((xh H x d : ℝ) : EReal) := by
  rw [pay4_at, rs_at A t r x hx, hRow_at A t r x hx, ← EReal.coe_mul]
  rfl

theorem nrFresh_at (t : Fin cfg0.N) (r : Fin 704) (x : Fin 8448) (hx : t.val / 4 * 704 + r.val = x.val) (d : Fin 1024) :
    k0_pay7 (hBlk m c t) (gainBlk m c t) (ix2 r d) = ((nr H G x d : ℝ) : EReal) := by
  rw [pay7_at, ← pay3_at, rs_at A t r x hx, hRow_at A t r x hx, gain_at, A.g, ← EReal.coe_mul, ← EReal.coe_mul]
  rfl

theorem halfFresh_at (t : Fin cfg0.N) (r : Fin 704) (x : Fin 8448) (hx : t.val / 4 * 704 + r.val = x.val)
    (d : Fin 1024) : k0_pay9 (ctBlk m c t) (ix2 r d) = ((1 / 2 * T x d : ℝ) : EReal) := by
  rw [pay9_at, Reals.half, ctRow_at A t r x hx, ← EReal.coe_mul]

/-- The halved cotangent holds the row block's at every point of its run. -/
theorem half_at (n : ℕ) (hn : n < cfg0.N) (r : Fin 704) (x : Fin 8448) (hx : n / 4 * 704 + r.val = x.val)
    (d : Fin 1024) : halfBuf m c n hn (ix2 r d) = ((1 / 2 * T x d : ℝ) : EReal) := by
  have first : ∀ t : Fin cfg0.N, t.val % 4 = 0 → t.val / 4 * 704 + r.val = x.val →
      halfBuf m c t.val t.isLt (ix2 r d) = ((1 / 2 * T x d : ℝ) : EReal) := by
    intro t ht hx
    by_cases h2 : t.val % 48 = 0
    · rw [half_A m c t ht (by omega) h2 (by omega), halfFresh_at A t r x hx]
    · rw [half_D m c t ht (by omega) h2 (by omega), halfFresh_at A t r x hx]
  induction n with
  | zero => exact first ⟨0, hn⟩ rfl hx
  | succ n ih =>
    by_cases h0 : (n + 1) % 4 = 0
    · exact first ⟨n + 1, hn⟩ h0 hx
    · have e : halfBuf m c (n + 1) hn = halfBuf m c n (by omega) := by
        by_cases h3 : (n + 1) % 4 = 3
        · exact half_C m c ⟨n + 1, hn⟩ h0 (by dsimp only; omega) (by dsimp only; omega) h3
        · exact half_B m c ⟨n + 1, hn⟩ h0 (by dsimp only; omega) (by dsimp only; omega) h3
      rw [e, ih (by omega) (by omega)]

/-- So does the buffer of the normalised rows. -/
theorem nr_at (n : ℕ) (hn : n < cfg0.N) (r : Fin 704) (x : Fin 8448) (hx : n / 4 * 704 + r.val = x.val)
    (d : Fin 1024) : nrmBuf m c n hn (ix2 r d) = ((nr H G x d : ℝ) : EReal) := by
  have first : ∀ t : Fin cfg0.N, t.val % 4 = 0 → t.val / 4 * 704 + r.val = x.val →
      nrmBuf m c t.val t.isLt (ix2 r d) = ((nr H G x d : ℝ) : EReal) := by
    intro t ht hx
    by_cases h2 : t.val % 48 = 0
    · rw [nrm_A m c t ht (by omega) h2 (by omega), nrFresh_at A t r x hx]
    · rw [nrm_D m c t ht (by omega) h2 (by omega), nrFresh_at A t r x hx]
  induction n with
  | zero => exact first ⟨0, hn⟩ rfl hx
  | succ n ih =>
    by_cases h0 : (n + 1) % 4 = 0
    · exact first ⟨n + 1, hn⟩ h0 hx
    · have e : nrmBuf m c (n + 1) hn = k0_pay10 (nrmBuf m c n (by omega)) := by
        by_cases h3 : (n + 1) % 4 = 3
        · exact nrm_C m c ⟨n + 1, hn⟩ h0 (by dsimp only; omega) (by dsimp only; omega) h3
        · exact nrm_B m c ⟨n + 1, hn⟩ h0 (by dsimp only; omega) (by dsimp only; omega) h3
      rw [e, pay10_eq, ih (by omega) (by omega)]

/-- The two gradients of a point's hidden block. -/
theorem dauBlk_at (t : Fin cfg0.N) (k : Fin 4) (hk : t.val % 4 = k.val) (r : Fin 704) (x : Fin 8448)
    (hx : t.val / 4 * 704 + r.val = x.val) (u : Vec Ideal S704x1024 .bf16)
    (hu : ∀ d, u (ix2 r d) = ((1 / 2 * T x d : ℝ) : EReal)) (q : Fin 704) :
    k0_pay13 u (outBlk m c t) (dupBlk m c t) (ix2 r q)
      = ((dau H G W O T x ⟨k.val * 704 + q.val, by omega⟩ : ℝ) : EReal) := by
  obtain ⟨k, hk'⟩ := k
  obtain ⟨x, hx'⟩ := x
  dsimp only at hk hx
  subst hk hx
  rw [pay13_at, dup_at, hostDup_at, hostPre_at A, Ideal.logistic_coe]
  simp only [hu, out_at, A.o, ← EReal.coe_mul, ← Reals.coe_sum]
  rfl

theorem dagBlk_at (t : Fin cfg0.N) (k : Fin 4) (hk : t.val % 4 = k.val) (r : Fin 704) (x : Fin 8448)
    (hx : t.val / 4 * 704 + r.val = x.val) (u : Vec Ideal S704x1024 .bf16)
    (hu : ∀ d, u (ix2 r d) = ((1 / 2 * T x d : ℝ) : EReal)) (q : Fin 704) :
    k0_pay14 u (outBlk m c t) (dgateBlk m c t) (ix2 r q)
      = ((dag H G W O T x ⟨k.val * 704 + q.val, by omega⟩ : ℝ) : EReal) := by
  obtain ⟨k, hk'⟩ := k
  obtain ⟨x, hx'⟩ := x
  dsimp only at hk hx
  subst hk hx
  have hq : (⟨(4 + t.val % 4) * 704 + q.val, by omega⟩ : Fin 5632) = ⟨2816 + (t.val % 4 * 704 + q.val), by omega⟩ :=
    Fin.ext (by dsimp only; omega)
  rw [pay14_at, dgate_at, hostDgate_at]
  dsimp only
  rw [hq, hostPre_at A, hostPre_at A, Ideal.logistic_coe, ← EReal.coe_one]
  simp only [hu, out_at, A.o, ← EReal.coe_mul, ← EReal.coe_sub, ← EReal.coe_add, ← Reals.coe_sum]
  rfl

omit A in
variable (H G W O T) in
/-- The share of hidden block `k` in the gradient of the normalised rows. -/
def part (k : Fin 4) (x : Fin 8448) (d : Fin 1024) : ℝ :=
  (∑ q : Fin 704, dag H G W O T x ⟨k.val * 704 + q.val, by omega⟩ * W d ⟨k.val * 704 + q.val, by omega⟩)
    + ∑ q : Fin 704, dau H G W O T x ⟨k.val * 704 + q.val, by omega⟩ * W d ⟨2816 + (k.val * 704 + q.val), by omega⟩

omit A in
variable (H G W O T) in
theorem dn_parts (x : Fin 8448) (d : Fin 1024) : dn H G W O T x d
    = part H G W O T 0 x d + part H G W O T 1 x d + part H G W O T 2 x d + part H G W O T 3 x d := by
  unfold dn part
  rw [Fin.sum_univ_tiles 4 704 rfl, Fin.sum_univ_tiles 4 704 rfl (f := fun q : Fin 2816 =>
    dau H G W O T x q * W d ⟨2816 + q.val, by omega⟩), Fin.sum_univ_four, Fin.sum_univ_four]
  ring

theorem step_at (t : Fin cfg0.N) (k : Fin 4) (hk : t.val % 4 = k.val) (r : Fin 704) (x : Fin 8448)
    (hx : t.val / 4 * 704 + r.val = x.val) (u : Vec Ideal S704x1024 .bf16)
    (hu : ∀ d, u (ix2 r d) = ((1 / 2 * T x d : ℝ) : EReal)) (a : Vec Ideal S704x1024 .f32) (d : Fin 1024) (v : ℝ)
    (ha : a (ix2 r d) = ((v : ℝ) : EReal)) :
    k0_pay2 (k0_pay13 u (outBlk m c t) (dupBlk m c t)) (k0_pay14 u (outBlk m c t) (dgateBlk m c t)) a
        (gateBlk m c t) (upBlk m c t) (ix2 r d)
      = ((v + part H G W O T k x d : ℝ) : EReal) := by
  rw [pay2_at, ha]
  simp only [dauBlk_at A t k hk r x hx u hu, dagBlk_at A t k hk r x hx u hu]
  obtain ⟨k, hk'⟩ := k
  dsimp only at hk
  subst hk
  have hq : ∀ q : Fin 704, (⟨(t.val % 4 + 4) * 704 + q.val, by omega⟩ : Fin 5632)
      = ⟨2816 + (t.val % 4 * 704 + q.val), by omega⟩ := fun q => Fin.ext (by dsimp only; omega)
  simp only [gateW_at, upW_at, hq, A.w, ← EReal.coe_mul, ← Reals.coe_sum, ← EReal.coe_add]
  rfl

/-- The accumulator after the points of a run. -/
theorem acc0_at (t : Fin cfg0.N) (ht : t.val % 4 = 0) (r : Fin 704) (x : Fin 8448)
    (hx : t.val / 4 * 704 + r.val = x.val) (d : Fin 1024) :
    accBuf m c t.val t.isLt (ix2 r d) = ((0 + part H G W O T 0 x d : ℝ) : EReal) := by
  by_cases h2 : t.val % 48 = 0
  · rw [acc_A m c t ht (by omega) h2 (by omega), step_at A t 0 ht r x hx _ (halfFresh_at A t r x hx) _ d 0
      ((pay8_at r d).trans EReal.coe_zero.symm)]
  · rw [acc_D m c t ht (by omega) h2 (by omega), step_at A t 0 ht r x hx _ (halfFresh_at A t r x hx) _ d 0
      ((pay8_at r d).trans EReal.coe_zero.symm)]

theorem accB_at (t : Fin cfg0.N) (k : Fin 4) (hk : t.val % 4 = k.val) (h0 : ¬t.val % 4 = 0) (h3 : ¬t.val % 4 = 3)
    (r : Fin 704) (x : Fin 8448) (hx : t.val / 4 * 704 + r.val = x.val) (d : Fin 1024) (v : ℝ)
    (ha : accBuf m c (t.val - 1) (by omega) (ix2 r d) = ((v : ℝ) : EReal)) :
    accBuf m c t.val t.isLt (ix2 r d) = ((v + part H G W O T k x d : ℝ) : EReal) := by
  rw [acc_B m c t h0 (by omega) (by omega) h3,
    step_at A t k hk r x hx _ (half_at A (t.val - 1) (by omega) r x (by omega)) _ d v ha]

theorem accC_at (t : Fin cfg0.N) (ht : t.val % 4 = 3) (r : Fin 704) (x : Fin 8448)
    (hx : t.val / 4 * 704 + r.val = x.val) (d : Fin 1024) :
    k0_pay2 (k0_pay13 (halfBuf m c (t.val - 1) (by omega)) (outBlk m c t) (dupBlk m c t))
        (k0_pay14 (halfBuf m c (t.val - 1) (by omega)) (outBlk m c t) (dgateBlk m c t))
        (accBuf m c (t.val - 1) (by omega)) (gateBlk m c t) (upBlk m c t) (ix2 r d)
      = ((dn H G W O T x d : ℝ) : EReal) := by
  have a0 := acc0_at A ⟨t.val - 1 - 1 - 1, by omega⟩ (by dsimp only; omega) r x (by dsimp only; omega) d
  have a1 := accB_at A ⟨t.val - 1 - 1, by omega⟩ 1 (by show _ = 1; dsimp only; omega) (by dsimp only; omega)
    (by dsimp only; omega) r x (by dsimp only; omega) d _ a0
  have a2 := accB_at A ⟨t.val - 1, by omega⟩ 2 (by show _ = 2; dsimp only; omega) (by dsimp only; omega)
    (by dsimp only; omega) r x (by dsimp only; omega) d _ a1
  rw [step_at A t 3 ht r x hx _ (half_at A (t.val - 1) (by omega) r x (by omega)) _ d _ a2, dn_parts, zero_add]

omit A in
variable (H G W O T) in
/-- A row block's share in the gain's gradient. -/
def rowShare (d : Fin 1024) (i : ℕ) : ℝ :=
  ∑ r : Fin 704, if h : i * 704 + r.val < 8448 then
    dn H G W O T ⟨i * 704 + r.val, h⟩ d * xh H ⟨i * 704 + r.val, h⟩ d else 0

omit A in
variable (H G W O T) in
theorem dgain_shares (d : Fin 1024) :
    ∑ i ∈ Finset.range 12, rowShare H G W O T d i = dgain H G W O T d := by
  unfold dgain rowShare
  rw [Fin.sum_univ_tiles 12 704 rfl, Finset.sum_range]
  refine Finset.sum_congr rfl fun i _ => Finset.sum_congr rfl fun r _ => ?_
  rw [dif_pos (by omega)]

/-- The gain's gradient after point `n`: the row blocks finished so far. -/
theorem dgain_at (n : ℕ) (hn : n < cfg0.N) (d : Fin 1024) : dgainBuf m c n hn (ix2 0 d)
    = ((∑ i ∈ Finset.range ((n + 1) / 4), rowShare H G W O T d i : ℝ) : EReal) := by
  have hN : cfg0.N = 48 := N_0
  induction n with
  | zero =>
    refine (congrFun (dgain_A m c ⟨0, hn⟩ rfl (by dsimp only; omega) rfl (by dsimp only; omega)) _).trans ((pay11_at d).trans ?_)
    simp
  | succ n ih =>
    by_cases h3 : (n + 1) % 4 = 3
    · have hr : ∀ r : Fin 704, (n + 1) / 4 * 704 + r.val < 8448 := fun r => by omega
      have e : (n + 1 + 1) / 4 = (n + 1) / 4 + 1 := by omega
      refine (congrFun (dgain_C m c ⟨n + 1, hn⟩ (by dsimp only; omega) (by dsimp only; omega) (by dsimp only; omega) h3)
        _).trans ?_
      rw [pay6_at]
      simp only [fun r : Fin 704 => accC_at A ⟨n + 1, hn⟩ h3 r ⟨(n + 1) / 4 * 704 + r.val, hr r⟩ rfl d,
        fun r : Fin 704 => xh_at A ⟨n + 1, hn⟩ r ⟨(n + 1) / 4 * 704 + r.val, hr r⟩ rfl d]
      refine (congrArg (· + _) (ih (by omega))).trans ?_
      simp only [← EReal.coe_mul, ← Reals.coe_sum, ← EReal.coe_add]
      rw [e, Finset.sum_range_succ]
      refine congrArg _ (congrArg _ ?_)
      unfold rowShare
      refine Finset.sum_congr rfl fun r _ => ?_
      rw [dif_pos (hr r)]
    · have e : (n + 1 + 1) / 4 = (n + 1) / 4 := by omega
      have k : dgainBuf m c (n + 1) hn = dgainBuf m c n (by omega) := by
        by_cases h0 : (n + 1) % 4 = 0
        · exact dgain_D m c ⟨n + 1, hn⟩ h0 (by dsimp only; omega) (by dsimp only; omega) h3
        · exact dgain_B m c ⟨n + 1, hn⟩ h0 (by dsimp only; omega) (by dsimp only; omega) h3
      rw [k, ih (by omega), e]

theorem dh_at (t : Fin cfg0.N) (ht : t.val % 4 = 3) (r : Fin 704) (x : Fin 8448)
    (hx : t.val / 4 * 704 + r.val = x.val) (d : Fin 1024) :
    dhBuf m c t.val t.isLt (ix2 r d) = ((dh H G W O T x d : ℝ) : EReal) := by
  rw [dh_C m c t (by omega) (by omega) (by omega) ht, pay5_at, Reals.width, Ideal.div_coe (by norm_num)]
  simp only [accC_at A t ht r x hx, xh_at A t r x hx, rs_at A t r x hx, ctRow_at A t r x hx, gain_at, A.g,
    ← EReal.coe_mul, ← Reals.coe_sum, ← EReal.coe_sub, ← EReal.coe_add]
  rfl

theorem dag_at (t : Fin cfg0.N) (k : Fin 4) (hk : t.val % 4 = k.val) (r : Fin 704) (x : Fin 8448)
    (hx : t.val / 4 * 704 + r.val = x.val) (q : Fin 704) : dagBuf m c t.val t.isLt (ix3 0 r q)
      = ((dag H G W O T x ⟨k.val * 704 + q.val, by omega⟩ : ℝ) : EReal) := by
  by_cases h0 : t.val % 4 = 0
  · by_cases h2 : t.val % 48 = 0
    · rw [dag_A m c t h0 (by omega) h2 (by omega), pay1_at, dagBlk_at A t k hk r x hx _ (halfFresh_at A t r x hx)]
    · rw [dag_D m c t h0 (by omega) h2 (by omega), pay1_at, dagBlk_at A t k hk r x hx _ (halfFresh_at A t r x hx)]
  · by_cases h3 : t.val % 4 = 3
    · rw [dag_C m c t h0 (by omega) (by omega) h3, pay1_at,
        dagBlk_at A t k hk r x hx _ (half_at A (t.val - 1) (by omega) r x (by omega))]
    · rw [dag_B m c t h0 (by omega) (by omega) h3, pay1_at,
        dagBlk_at A t k hk r x hx _ (half_at A (t.val - 1) (by omega) r x (by omega))]

theorem dau_at (t : Fin cfg0.N) (k : Fin 4) (hk : t.val % 4 = k.val) (r : Fin 704) (x : Fin 8448)
    (hx : t.val / 4 * 704 + r.val = x.val) (q : Fin 704) : dauBuf m c t.val t.isLt (ix3 0 r q)
      = ((dau H G W O T x ⟨k.val * 704 + q.val, by omega⟩ : ℝ) : EReal) := by
  by_cases h0 : t.val % 4 = 0
  · by_cases h2 : t.val % 48 = 0
    · rw [dau_A m c t h0 (by omega) h2 (by omega), pay15_at, dauBlk_at A t k hk r x hx _ (halfFresh_at A t r x hx)]
    · rw [dau_D m c t h0 (by omega) h2 (by omega), pay15_at, dauBlk_at A t k hk r x hx _ (halfFresh_at A t r x hx)]
  · by_cases h3 : t.val % 4 = 3
    · rw [dau_C m c t h0 (by omega) (by omega) h3, pay15_at,
        dauBlk_at A t k hk r x hx _ (half_at A (t.val - 1) (by omega) r x (by omega))]
    · rw [dau_B m c t h0 (by omega) (by omega) h3, pay15_at,
        dauBlk_at A t k hk r x hx _ (half_at A (t.val - 1) (by omega) r x (by omega))]

end Cert.KernelIdeal.Math

end
-- ==== Proof.FfnBwdRef.lean ====
/- The reference's vector-Jacobian product of the gated feed-forward, stage by stage, on finite arguments. -/
module

public import proofs.«01_k».proof.Defs
public import proofs.«01_k».proof.Proof.FfnBwdSpec
public import proofs.«01_k».proof.Proof.Gen.ReferenceIdeal.Run
public import proofs.«01_k».proof.Proof.Gen.ReferenceIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Math

open Cert.ReferenceIdeal Cert.ReferenceIdeal.Read Cert.FfnBwd

variable (x0 : Vec Ideal S8448x1024 .f32) (x1 : Vec Ideal S1x1024 .f32) (x2 : Vec Ideal S1024x5632 .f32)
  (x3 : Vec Ideal S2816x1024 .f32) (x4 : Vec Ideal S8448x1024 .f32)
variable (H : Fin 8448 → Fin 1024 → ℝ) (G : Fin 1024 → ℝ) (W : Fin 1024 → Fin 5632 → ℝ) (O : Fin 2816 → Fin 1024 → ℝ)
  (T : Fin 8448 → Fin 1024 → ℝ)
variable (hH : ∀ x d, x0 (ix2 x d) = ((H x d : ℝ) : EReal)) (hG : ∀ d, x1 (ix2 0 d) = ((G d : ℝ) : EReal))
  (hW : ∀ d k, x2 (ix2 d k) = ((W d k : ℝ) : EReal)) (hO : ∀ q d, x3 (ix2 q d) = ((O q d : ℝ) : EReal))
  (hT : ∀ x d, x4 (ix2 x d) = ((T x d : ℝ) : EReal))

include hH in
theorem ms_at (x : Fin 8448) : val_main_v6 (F := Ideal) x0 (ix2 x 0) = ((ms H x : ℝ) : EReal) := by
  have e : val_main_v6 (F := Ideal) x0 (ix2 x 0)
      = Ideal.div (∑ d, x0 (ix2 x d) * x0 (ix2 x d)) (Ideal.ofBits .f32 0x44800000#32)
        + Ideal.ofBits .f32 0x358637BD#32 := by
    pointwise [val_main_v6, val_main_v5, val_main_v4, val_main_v3, val_main_v2, val_main_v1, val_main_v0, val_main_cst,
      val_main_cst_0, val_main_cst_1]
  rw [e, Reals.width, Reals.eps_eq, Ideal.div_coe (by norm_num)]
  simp only [hH, ← EReal.coe_mul, ← Reals.coe_sum, ← EReal.coe_add]
  rfl

include hH in
theorem rs_at (x : Fin 8448) : val_main_v7 (F := Ideal) x0 (ix2 x 0) = ((rs H x : ℝ) : EReal) := by
  have e : val_main_v7 (F := Ideal) x0 (ix2 x 0) = Ideal.rsqrt (val_main_v6 (F := Ideal) x0 (ix2 x 0)) := by
    pointwise [val_main_v7]
  rw [e, ms_at x0 H hH, rsqrt_ms]

include hH in
/-- Minus half the inverse root over the mean square. -/
theorem slope_at (x : Fin 8448) : val_main_v10 (F := Ideal) x0 (ix2 x 0)
    = ((-(1 / 2) * (rs H x * rs H x * rs H x) : ℝ) : EReal) := by
  have e : val_main_v10 (F := Ideal) x0 (ix2 x 0) = Ideal.ofBits .f32 0xBF000000#32
      * Ideal.div (val_main_v7 (F := Ideal) x0 (ix2 x 0)) (val_main_v6 (F := Ideal) x0 (ix2 x 0)) := by
    pointwise [val_main_v10, val_main_v9, val_main_v8, val_main_cst_2]
  rw [e, rs_at x0 H hH, ms_at x0 H hH, Ideal.div_coe (ms_pos H x).ne', Reals.neg_half]
  simp only [← EReal.coe_mul]
  rw [rs_sq]

include hH in
theorem xh_at (x : Fin 8448) (d : Fin 1024) : val_main_v12 (F := Ideal) x0 (ix2 x d) = ((xh H x d : ℝ) : EReal) := by
  have e : val_main_v12 (F := Ideal) x0 (ix2 x d) = x0 (ix2 x d) * val_main_v7 (F := Ideal) x0 (ix2 x 0) := by
    pointwise [val_main_v12, val_main_v11]
  rw [e, rs_at x0 H hH, hH, ← EReal.coe_mul]
  rfl

include hH hG in
theorem nr_at (x : Fin 8448) (d : Fin 1024) :
    val_main_v14 (F := Ideal) x0 x1 (ix2 x d) = ((nr H G x d : ℝ) : EReal) := by
  have e : val_main_v14 (F := Ideal) x0 x1 (ix2 x d) = val_main_v12 (F := Ideal) x0 (ix2 x d) * x1 (ix2 0 d) := by
    pointwise [val_main_v14, val_main_v13]
  rw [e, xh_at x0 H hH, hG, ← EReal.coe_mul]
  rfl

include hH hG hW in
theorem pre_at (x : Fin 8448) (k : Fin 5632) :
    val_main_v15 (F := Ideal) x0 x1 x2 (ix2 x k) = ((pre H G W x k : ℝ) : EReal) := by
  have e : val_main_v15 (F := Ideal) x0 x1 x2 (ix2 x k)
      = ∑ d, val_main_v14 (F := Ideal) x0 x1 (ix2 x d) * x2 (ix2 d k) := by
    pointwise [val_main_v15]
  rw [e]
  simp only [nr_at x0 x1 H G hH hG, hW, ← EReal.coe_mul, ← Reals.coe_sum]
  rfl

include hH hG hW in
theorem gate_at (x : Fin 8448) (q : Fin 2816) :
    val_main_v16 (F := Ideal) x0 x1 x2 (ix2 x q) = ((gate H G W x q : ℝ) : EReal) := by
  have e : val_main_v16 (F := Ideal) x0 x1 x2 (ix2 x q)
      = val_main_v15 (F := Ideal) x0 x1 x2 (ix2 x ⟨q.val, by omega⟩) := by
    pointwise [val_main_v16]
  rw [e, pre_at x0 x1 x2 H G W hH hG hW]
  rfl

include hH hG hW in
theorem up_at (x : Fin 8448) (q : Fin 2816) :
    val_main_v17 (F := Ideal) x0 x1 x2 (ix2 x q) = ((up H G W x q : ℝ) : EReal) := by
  have e : val_main_v17 (F := Ideal) x0 x1 x2 (ix2 x q)
      = val_main_v15 (F := Ideal) x0 x1 x2 (ix2 x ⟨2816 + q.val, by omega⟩) := by
    pointwise [val_main_v17]
  rw [e, pre_at x0 x1 x2 H G W hH hG hW]
  rfl

include hH hG hW in
theorem sg_at (x : Fin 8448) (q : Fin 2816) :
    val_main_v18_2 (F := Ideal) x0 x1 x2 (ix2 x q) = ((sg H G W x q : ℝ) : EReal) := by
  have e : val_main_v18_2 (F := Ideal) x0 x1 x2 (ix2 x q)
      = Ideal.logistic (val_main_v16 (F := Ideal) x0 x1 x2 (ix2 x q)) := by
    unfold Ideal.logistic
    pointwise [val_main_v18_2, val_main_call0_v4, val_main_call0_v3, val_main_call0_v2, val_main_call0_v1,
      val_main_call0_v0, val_main_call0_cst, val_main_call0_cst_0]
  rw [e, gate_at x0 x1 x2 H G W hH hG hW, Ideal.logistic_coe]
  rfl

include hH hG hW in
theorem dup_at (x : Fin 8448) (q : Fin 2816) :
    val_main_v18_0 (F := Ideal) x0 x1 x2 (ix2 x q) = ((dup H G W x q : ℝ) : EReal) := by
  have e : val_main_v18_0 (F := Ideal) x0 x1 x2 (ix2 x q)
      = val_main_v16 (F := Ideal) x0 x1 x2 (ix2 x q) * val_main_v18_2 (F := Ideal) x0 x1 x2 (ix2 x q) := by
    pointwise [val_main_v18_0]
  rw [e, gate_at x0 x1 x2 H G W hH hG hW, sg_at x0 x1 x2 H G W hH hG hW, ← EReal.coe_mul]
  rfl

include hH hG hW in
theorem slopeSg_at (x : Fin 8448) (q : Fin 2816) :
    val_main_v18_1 (F := Ideal) x0 x1 x2 (ix2 x q) = ((sg H G W x q * (1 - sg H G W x q) : ℝ) : EReal) := by
  have e : val_main_v18_1 (F := Ideal) x0 x1 x2 (ix2 x q)
      = val_main_v18_2 (F := Ideal) x0 x1 x2 (ix2 x q) * (1 - val_main_v18_2 (F := Ideal) x0 x1 x2 (ix2 x q)) := by
    pointwise [val_main_v18_1, val_main_call0_v7, val_main_call0_v6, val_main_call0_cst_1]
  rw [e, sg_at x0 x1 x2 H G W hH hG hW, ← EReal.coe_one, ← EReal.coe_sub, ← EReal.coe_mul]

include hO hT in
theorem dhid_at (x : Fin 8448) (q : Fin 2816) :
    val_main_v27 (F := Ideal) x3 x4 (ix2 x q) = ((dhid O T x q : ℝ) : EReal) := by
  have e : val_main_v27 (F := Ideal) x3 x4 (ix2 x q)
      = ∑ d, Ideal.ofBits .f32 0x3F000000#32 * x4 (ix2 x d) * x3 (ix2 q d) := by
    pointwise [val_main_v27, val_main_v26, val_main_v25, val_main_v24, val_main_cst_4]
  rw [e, Reals.half]
  simp only [hO, hT, ← EReal.coe_mul, ← Reals.coe_sum]
  rfl

include hO hT in
theorem dhid_at' (x : Fin 8448) (q : Fin 2816) :
    val_main_v75 (F := Ideal) x3 x4 (ix2 x q) = ((dhid O T x q : ℝ) : EReal) := by
  have e : val_main_v75 (F := Ideal) x3 x4 (ix2 x q)
      = ∑ d, Ideal.ofBits .f32 0x3F000000#32 * x4 (ix2 x d) * x3 (ix2 q d) := by
    pointwise [val_main_v75, val_main_v74, val_main_v73, val_main_cst_13]
  rw [e, Reals.half]
  simp only [hO, hT, ← EReal.coe_mul, ← Reals.coe_sum]
  rfl

include hH hG hW hO hT in
theorem dau_at (x : Fin 8448) (q : Fin 2816) :
    val_main_v28 (F := Ideal) x0 x1 x2 x3 x4 (ix2 x q) = ((dau H G W O T x q : ℝ) : EReal) := by
  have e : val_main_v28 (F := Ideal) x0 x1 x2 x3 x4 (ix2 x q)
      = val_main_v18_0 (F := Ideal) x0 x1 x2 (ix2 x q) * val_main_v27 (F := Ideal) x3 x4 (ix2 x q) := by
    pointwise [val_main_v28]
  rw [e, dup_at x0 x1 x2 H G W hH hG hW, dhid_at x3 x4 O T hO hT, ← EReal.coe_mul, mul_comm]
  rfl

include hH hG hW hO hT in
theorem dag_at (x : Fin 8448) (q : Fin 2816) :
    val_main_v30 (F := Ideal) x0 x1 x2 x3 x4 (ix2 x q) = ((dag H G W O T x q : ℝ) : EReal) := by
  have e : val_main_v30 (F := Ideal) x0 x1 x2 x3 x4 (ix2 x q)
      = val_main_v27 (F := Ideal) x3 x4 (ix2 x q) * val_main_v17 (F := Ideal) x0 x1 x2 (ix2 x q)
          * val_main_v18_2 (F := Ideal) x0 x1 x2 (ix2 x q)
        + val_main_v16 (F := Ideal) x0 x1 x2 (ix2 x q)
          * (val_main_v27 (F := Ideal) x3 x4 (ix2 x q) * val_main_v17 (F := Ideal) x0 x1 x2 (ix2 x q))
          * val_main_v18_1 (F := Ideal) x0 x1 x2 (ix2 x q) := by
    pointwise [val_main_v30, val_main_v29, val_main_call1_v0, val_main_call1_v1, val_main_call1_v2]
  rw [e, gate_at x0 x1 x2 H G W hH hG hW, up_at x0 x1 x2 H G W hH hG hW, sg_at x0 x1 x2 H G W hH hG hW,
    slopeSg_at x0 x1 x2 H G W hH hG hW, dhid_at x3 x4 O T hO hT]
  simp only [← EReal.coe_mul, ← EReal.coe_add]
  refine congrArg _ ?_
  unfold dag dgate
  ring

/-- The second copy of the forward lines is the first. -/
theorem nrm_copy : val_main_v64 (F := Ideal) x0 x1 = val_main_v14 (F := Ideal) x0 x1 := rfl
theorem gate_copy : val_main_v66 (F := Ideal) x0 x1 x2 = val_main_v16 (F := Ideal) x0 x1 x2 := rfl
theorem up_copy : val_main_v67 (F := Ideal) x0 x1 x2 = val_main_v17 (F := Ideal) x0 x1 x2 := rfl
theorem sg_copy : val_main_v68_2 (F := Ideal) x0 x1 x2 = val_main_v18_2 (F := Ideal) x0 x1 x2 := rfl
theorem slopeSg_copy : val_main_v68_1 (F := Ideal) x0 x1 x2 = val_main_v18_1 (F := Ideal) x0 x1 x2 := rfl
theorem dup_copy : val_main_v68_0 (F := Ideal) x0 x1 x2 = val_main_v18_0 (F := Ideal) x0 x1 x2 := rfl

include hH hG hW hO hT in
theorem dau_at' (x : Fin 8448) (q : Fin 2816) :
    val_main_v76 (F := Ideal) x0 x1 x2 x3 x4 (ix2 x q) = ((dau H G W O T x q : ℝ) : EReal) := by
  have e : val_main_v76 (F := Ideal) x0 x1 x2 x3 x4 (ix2 x q)
      = val_main_v68_0 (F := Ideal) x0 x1 x2 (ix2 x q) * val_main_v75 (F := Ideal) x3 x4 (ix2 x q) := by
    pointwise [val_main_v76]
  rw [e, dup_copy, dup_at x0 x1 x2 H G W hH hG hW, dhid_at' x3 x4 O T hO hT, ← EReal.coe_mul, mul_comm]
  rfl

include hH hG hW hO hT in
theorem dag_at' (x : Fin 8448) (q : Fin 2816) :
    val_main_v78 (F := Ideal) x0 x1 x2 x3 x4 (ix2 x q) = ((dag H G W O T x q : ℝ) : EReal) := by
  have e : val_main_v78 (F := Ideal) x0 x1 x2 x3 x4 (ix2 x q)
      = val_main_v75 (F := Ideal) x3 x4 (ix2 x q) * val_main_v67 (F := Ideal) x0 x1 x2 (ix2 x q)
          * val_main_v68_2 (F := Ideal) x0 x1 x2 (ix2 x q)
        + val_main_v66 (F := Ideal) x0 x1 x2 (ix2 x q)
          * (val_main_v75 (F := Ideal) x3 x4 (ix2 x q) * val_main_v67 (F := Ideal) x0 x1 x2 (ix2 x q))
          * val_main_v68_1 (F := Ideal) x0 x1 x2 (ix2 x q) := by
    pointwise [val_main_v78, val_main_v77, val_main_call3_v0, val_main_call3_v1, val_main_call3_v2]
  rw [e, gate_copy, up_copy, sg_copy, slopeSg_copy, gate_at x0 x1 x2 H G W hH hG hW, up_at x0 x1 x2 H G W hH hG hW,
    sg_at x0 x1 x2 H G W hH hG hW, slopeSg_at x0 x1 x2 H G W hH hG hW, dhid_at' x3 x4 O T hO hT]
  simp only [← EReal.coe_mul, ← EReal.coe_add]
  refine congrArg _ ?_
  unfold dag dgate
  ring

include hH hG hW hO hT in
theorem dn_at (x : Fin 8448) (d : Fin 1024) :
    val_main_v32 (F := Ideal) x0 x1 x2 x3 x4 (ix2 x d) = ((dn H G W O T x d : ℝ) : EReal) := by
  have e : val_main_v32 (F := Ideal) x0 x1 x2 x3 x4 (ix2 x d)
      = ∑ k, val_main_v31 (F := Ideal) x0 x1 x2 x3 x4 (ix2 x k) * x2 (ix2 d k) := by
    pointwise [val_main_v32]
  have l : ∀ q : Fin 2816, val_main_v31 (F := Ideal) x0 x1 x2 x3 x4 (ix2 x ⟨q.val, by omega⟩)
      = val_main_v30 (F := Ideal) x0 x1 x2 x3 x4 (ix2 x q) := by
    intro q
    pointwise [val_main_v31]
  have r : ∀ q : Fin 2816, val_main_v31 (F := Ideal) x0 x1 x2 x3 x4 (ix2 x ⟨2816 + q.val, by omega⟩)
      = val_main_v28 (F := Ideal) x0 x1 x2 x3 x4 (ix2 x q) := by
    intro q
    pointwise [val_main_v31]
  have l' : ∀ (q : Fin 2816) (h : (0 : Fin 2).val * 2816 + q.val < 5632),
      val_main_v31 (F := Ideal) x0 x1 x2 x3 x4 (ix2 x ⟨(0 : Fin 2).val * 2816 + q.val, h⟩)
        * x2 (ix2 d ⟨(0 : Fin 2).val * 2816 + q.val, h⟩)
      = ((dag H G W O T x q * W d ⟨q.val, by omega⟩ : ℝ) : EReal) := by
    intro q h
    have hk : (⟨(0 : Fin 2).val * 2816 + q.val, h⟩ : Fin 5632) = ⟨q.val, by omega⟩ :=
      Fin.ext (by show 0 * 2816 + q.val = q.val; omega)
    rw [hk, l, dag_at x0 x1 x2 x3 x4 H G W O T hH hG hW hO hT, hW, ← EReal.coe_mul]
  have r' : ∀ (q : Fin 2816) (h : (1 : Fin 2).val * 2816 + q.val < 5632),
      val_main_v31 (F := Ideal) x0 x1 x2 x3 x4 (ix2 x ⟨(1 : Fin 2).val * 2816 + q.val, h⟩)
        * x2 (ix2 d ⟨(1 : Fin 2).val * 2816 + q.val, h⟩)
      = ((dau H G W O T x q * W d ⟨2816 + q.val, by omega⟩ : ℝ) : EReal) := by
    intro q h
    have hk : (⟨(1 : Fin 2).val * 2816 + q.val, h⟩ : Fin 5632) = ⟨2816 + q.val, by omega⟩ :=
      Fin.ext (by show 1 * 2816 + q.val = 2816 + q.val; omega)
    rw [hk, r, dau_at x0 x1 x2 x3 x4 H G W O T hH hG hW hO hT, hW, ← EReal.coe_mul]
  rw [e, Fin.sum_univ_tiles 2 2816 rfl, Fin.sum_univ_two, Finset.sum_congr rfl fun q _ => l' q _,
    Finset.sum_congr rfl fun q _ => r' q _, ← Reals.coe_sum, ← Reals.coe_sum, ← EReal.coe_add]
  rfl

include hH hG hW hO hT in
theorem dgain_at (d : Fin 1024) :
    val_main_v35 (F := Ideal) x0 x1 x2 x3 x4 (ix2 0 d) = ((dgain H G W O T d : ℝ) : EReal) := by
  have e : val_main_v35 (F := Ideal) x0 x1 x2 x3 x4 (ix2 0 d)
      = ∑ x, val_main_v12 (F := Ideal) x0 (ix2 x d) * val_main_v32 (F := Ideal) x0 x1 x2 x3 x4 (ix2 x d) := by
    pointwise [val_main_v35, val_main_v34, val_main_v33, val_main_cst_5]
  rw [e]
  simp only [xh_at x0 H hH, dn_at x0 x1 x2 x3 x4 H G W O T hH hG hW hO hT, ← EReal.coe_mul, ← Reals.coe_sum]
  refine congrArg _ (Finset.sum_congr rfl fun x _ => mul_comm _ _)

include hH hG hW hO hT in
theorem dh_at (x : Fin 8448) (d : Fin 1024) :
    val_main_v52 (F := Ideal) x0 x1 x2 x3 x4 (ix2 x d) = ((dh H G W O T x d : ℝ) : EReal) := by
  have e37 : ∀ d, val_main_v37 (F := Ideal) x0 x1 x2 x3 x4 (ix2 x d)
      = val_main_v32 (F := Ideal) x0 x1 x2 x3 x4 (ix2 x d) * x1 (ix2 0 d) := by
    intro d
    pointwise [val_main_v37, val_main_v36]
  have e46 : val_main_v46 (F := Ideal) x0 x1 x2 x3 x4 (ix2 x 0)
      = Ideal.div ((∑ d, x0 (ix2 x d) * val_main_v37 (F := Ideal) x0 x1 x2 x3 x4 (ix2 x d))
        * val_main_v10 (F := Ideal) x0 (ix2 x 0)) (Ideal.ofBits .f32 0x44800000#32) := by
    pointwise [val_main_v46, val_main_v45, val_main_v44, val_main_v40, val_main_v39, val_main_v38, val_main_cst_6,
      val_main_cst_7]
  have e48 : val_main_v48 (F := Ideal) x0 x1 x2 x3 x4 (ix2 x d)
      = val_main_v46 (F := Ideal) x0 x1 x2 x3 x4 (ix2 x 0) := by
    have e : val_main_v48 (F := Ideal) x0 x1 x2 x3 x4 (ix2 x d)
        = ∑ k : Fin 1, val_main_v46 (F := Ideal) x0 x1 x2 x3 x4 (ix2 x k) := by
      pointwise [val_main_v48, val_main_v47, val_main_cst_8]
    rw [e, Fin.sum_univ_one]
  have e : val_main_v52 (F := Ideal) x0 x1 x2 x3 x4 (ix2 x d)
      = x4 (ix2 x d) + val_main_v37 (F := Ideal) x0 x1 x2 x3 x4 (ix2 x d) * val_main_v7 (F := Ideal) x0 (ix2 x 0)
        + x0 (ix2 x d) * val_main_v48 (F := Ideal) x0 x1 x2 x3 x4 (ix2 x d)
        + val_main_v48 (F := Ideal) x0 x1 x2 x3 x4 (ix2 x d) * x0 (ix2 x d) := by
    pointwise [val_main_v52, val_main_v51, val_main_v50, val_main_v49, val_main_v43, val_main_v42, val_main_v41]
  rw [e, e48, e46, Reals.width, Ideal.div_coe (by norm_num)]
  simp only [e37, dn_at x0 x1 x2 x3 x4 H G W O T hH hG hW hO hT, hG, hH, hT, rs_at x0 H hH, slope_at x0 H hH,
    ← EReal.coe_mul, ← Reals.coe_sum, ← EReal.coe_add]
  refine congrArg _ ?_
  unfold dh
  have hs : (∑ e, dn H G W O T x e * G e * xh H x e) = (∑ e, H x e * (dn H G W O T x e * G e)) * rs H x := by
    rw [Finset.sum_mul]
    refine Finset.sum_congr rfl fun e _ => ?_
    unfold xh
    ring
  rw [hs]
  unfold xh
  ring

include hH hG in
theorem nr_at' (x : Fin 8448) (d : Fin 1024) :
    val_main_v82 (F := Ideal) x0 x1 (ix2 x d) = ((nr H G x d : ℝ) : EReal) := by
  have e : val_main_v82 (F := Ideal) x0 x1 (ix2 x d) = val_main_v64 (F := Ideal) x0 x1 (ix2 x d) := by
    pointwise [val_main_v82]
  rw [e, nrm_copy, nr_at x0 x1 H G hH hG]

include hH hG hW hO hT in
theorem dagCols_at (k : Fin 4) (x : Fin 8448) (q : Fin 704) : val_main_v84 (F := Ideal) x0 x1 x2 x3 x4 (ix3 k x q)
    = ((dag H G W O T x ⟨k.val * 704 + q.val, by omega⟩ : ℝ) : EReal) := by
  have e : val_main_v84 (F := Ideal) x0 x1 x2 x3 x4 (ix3 k x q)
      = val_main_v78 (F := Ideal) x0 x1 x2 x3 x4 (ix2 x ⟨k.val * 704 + q.val, by omega⟩) := by
    pointwise [val_main_v84, val_main_v83, val_main_v81, val_main_v80, val_main_v79]
    rw [dif_pos (by omega)]
  rw [e, dag_at' x0 x1 x2 x3 x4 H G W O T hH hG hW hO hT]

include hH hG hW hO hT in
theorem dauCols_at (k : Fin 4) (x : Fin 8448) (q : Fin 704) : val_main_v86 (F := Ideal) x0 x1 x2 x3 x4 (ix3 k x q)
    = ((dau H G W O T x ⟨k.val * 704 + q.val, by omega⟩ : ℝ) : EReal) := by
  have e : val_main_v86 (F := Ideal) x0 x1 x2 x3 x4 (ix3 k x q)
      = val_main_v76 (F := Ideal) x0 x1 x2 x3 x4 (ix2 x ⟨k.val * 704 + q.val, by omega⟩) := by
    have hk : (⟨(4 + k.val) * 704 + q.val - 2816, by omega⟩ : Fin 2816) = ⟨k.val * 704 + q.val, by omega⟩ :=
      Fin.ext (by dsimp only; omega)
    pointwise [val_main_v86, val_main_v85, val_main_v81, val_main_v80, val_main_v79]
    rw [dif_neg (by omega), hk]
  rw [e, dau_at' x0 x1 x2 x3 x4 H G W O T hH hG hW hO hT]

end Cert.ReferenceIdeal.Math

end
-- ==== Proof.FfnBwdClaim.lean ====
/- The gradient of the gated feed-forward: the kernel's five result arrays, the reference's, and the value claim. -/
module

public import proofs.«01_k».proof.Defs
public import proofs.«01_k».proof.Proof.FfnBwd
public import proofs.«01_k».proof.Proof.FfnBwdRef
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnBwd

variable (H : Fin 8448 → Fin 1024 → ℝ) (G : Fin 1024 → ℝ) (W : Fin 1024 → Fin 5632 → ℝ) (O : Fin 2816 → Fin 1024 → ℝ)
  (T : Fin 8448 → Fin 1024 → ℝ)

/-- The five results as arrays. -/
def dhVec : Vec Ideal KernelIdeal.S8448x1024 .f32 := fun i => ((dh H G W O T (i 0) (i 1) : ℝ) : EReal)
def dgainVec : Vec Ideal KernelIdeal.S1x1024 .f32 := fun i => ((dgain H G W O T (i 1) : ℝ) : EReal)
def nrVec : Vec Ideal KernelIdeal.S8448x1024 .bf16 := fun i => ((nr H G (i 0) (i 1) : ℝ) : EReal)
def column (i : KernelIdeal.S4x8448x704.Idx) : Fin 2816 :=
  ⟨(i 0).val * 704 + (i 2).val, by
    have h0 : (i 0).val < 4 := (i 0).isLt
    have h2 : (i 2).val < 704 := (i 2).isLt
    omega⟩
def dagVec : Vec Ideal KernelIdeal.S4x8448x704 .bf16 := fun i => ((dag H G W O T (i 1) (column i) : ℝ) : EReal)
def dauVec : Vec Ideal KernelIdeal.S4x8448x704 .bf16 := fun i => ((dau H G W O T (i 1) (column i) : ℝ) : EReal)

end Cert.FfnBwd

namespace Cert.KernelIdeal.Math

open Cert.KernelIdeal Cert.KernelIdeal.Gen Cert.FfnBwd

variable {m : (ℓ : Loc nD τ sig) → Buf (Elt Ideal) ℓ} {c : Dev nD}
variable {H : Fin 8448 → Fin 1024 → ℝ} {G : Fin 1024 → ℝ} {W : Fin 1024 → Fin 5632 → ℝ} {O : Fin 2816 → Fin 1024 → ℝ}
  {T : Fin 8448 → Fin 1024 → ℝ} (A : Args m c H G W O T)
include A

theorem dh_final : (dats m 0 c).arrAt 8 cfg0.N = dhVec H G W O T := by
  have hN : cfg0.N = 48 := N_0
  have hi : ∀ t : Fin cfg0.N, win0_8.index t 0 = t.val / 4 ∧ win0_8.index t 1 = 0 := by
    decide +kernel
  refine (dats m 0 c).arrAt_eq_of_cover 8 _ (fun t hf => ?_) (fun i => ?_)
  · have ht : t.val % 4 = 3 := (flush0_8 t).mp hf
    rw [Value.flushed8]
    funext y
    rw [View.read_apply]
    have hy : y = ix2 (y 0) (y 1) := by
      funext a
      match a with
      | ⟨0, _⟩ => rfl
      | ⟨1, _⟩ => rfl
    rw [hy]
    have htl : t.val < cfg0.N := t.isLt
    have hy0 : (y 0).val < 704 := (y 0).isLt
    have hy1 : (y 1).val < 1024 := (y 1).isLt
    refine Eq.trans (dh_at A t ht (y 0) ⟨t.val / 4 * 704 + (y 0).val, by omega⟩ rfl (y 1)) ?_
    refine Eq.trans (b := dhVec H G W O T (ix2 ⟨t.val / 4 * 704 + (y 0).val, by omega⟩ (y 1))) rfl ?_
    refine congrArg (dhVec H G W O T) ?_
    funext a
    apply Fin.ext
    match a with
    | ⟨0, _⟩ => show t.val / 4 * 704 + (y 0).val = win0_8.index t 0 * 704 + 1 * (y 0).val; rw [(hi t).1]; omega
    | ⟨1, _⟩ => show (y 1).val = win0_8.index t 1 * 1024 + 1 * (y 1).val; rw [(hi t).2]; omega
  · have h0 : (i 0).val < 8448 := (i 0).isLt
    have h1 : (i 1).val < 1024 := (i 1).isLt
    have key := hi ⟨4 * ((i 0).val / 704) + 3, by omega⟩
    dsimp only at key
    refine ⟨⟨4 * ((i 0).val / 704) + 3, by omega⟩, (flush0_8 _).mpr (by dsimp only; omega), ?_⟩
    rw [Value.mem_blk8]
    intro a
    match a with
    | ⟨0, _⟩ => show win0_8.index _ 0 * 704 ≤ (i 0).val ∧ (i 0).val < win0_8.index _ 0 * 704 + 704; rw [key.1]; omega
    | ⟨1, _⟩ => show win0_8.index _ 1 * 1024 ≤ (i 1).val ∧ (i 1).val < win0_8.index _ 1 * 1024 + 1024; rw [key.2]; omega

theorem dgain_final : (dats m 0 c).arrAt 9 cfg0.N = dgainVec H G W O T := by
  have hN : cfg0.N = 48 := N_0
  have hi : ∀ t : Fin cfg0.N, win0_9.index t 0 = 0 ∧ win0_9.index t 1 = 0 := by
    decide +kernel
  refine (dats m 0 c).arrAt_eq_of_cover 9 _ (fun t hf => ?_) (fun i => ?_)
  · have ht : t.val % 48 = 47 := (flush0_9 t).mp hf
    rw [Value.flushed9]
    funext y
    rw [View.read_apply]
    have hy : y = ix2 (y 0) (y 1) := by
      funext a
      match a with
      | ⟨0, _⟩ => rfl
      | ⟨1, _⟩ => rfl
    have htl : t.val < cfg0.N := t.isLt
    have hy0 : (y 0).val < 1 := (y 0).isLt
    have hy1 : (y 1).val < 1024 := (y 1).isLt
    have h47 : t.val = 47 := by omega
    have hy' : y = ix2 0 (y 1) := by
      rw [hy]
      refine congrArg (fun a => ix2 a (y 1)) (Fin.ext ?_)
      show (y 0).val = 0
      omega
    have e : ∑ i ∈ Finset.range ((t.val + 1) / 4), rowShare H G W O T (y 1) i = dgain H G W O T (y 1) := by
      rw [h47]
      exact dgain_shares H G W O T (y 1)
    refine Eq.trans (congrArg (dgainBuf m c t.val t.isLt) hy') ((dgain_at A t.val t.isLt (y 1)).trans ?_)
    rw [e]
    refine Eq.trans (b := dgainVec H G W O T (ix2 0 (y 1))) rfl ?_
    refine congrArg (dgainVec H G W O T) ?_
    funext a
    apply Fin.ext
    match a with
    | ⟨0, _⟩ => show 0 = win0_9.index t 0 * 1 + 1 * (y 0).val; rw [(hi t).1]; omega
    | ⟨1, _⟩ => show (y 1).val = win0_9.index t 1 * 1024 + 1 * (y 1).val; rw [(hi t).2]; omega
  · have h0 : (i 0).val < 1 := (i 0).isLt
    have h1 : (i 1).val < 1024 := (i 1).isLt
    have key := hi ⟨47, by omega⟩
    refine ⟨⟨47, by omega⟩, (flush0_9 _).mpr (by dsimp only), ?_⟩
    rw [Value.mem_blk9]
    intro a
    match a with
    | ⟨0, _⟩ => show win0_9.index _ 0 * 1 ≤ (i 0).val ∧ (i 0).val < win0_9.index _ 0 * 1 + 1; rw [key.1]; omega
    | ⟨1, _⟩ => show win0_9.index _ 1 * 1024 ≤ (i 1).val ∧ (i 1).val < win0_9.index _ 1 * 1024 + 1024; rw [key.2]; omega

theorem nr_final : (dats m 0 c).arrAt 10 cfg0.N = nrVec H G := by
  have hN : cfg0.N = 48 := N_0
  have hi : ∀ t : Fin cfg0.N, win0_10.index t 0 = t.val / 4 ∧ win0_10.index t 1 = 0 := by
    decide +kernel
  refine (dats m 0 c).arrAt_eq_of_cover 10 _ (fun t hf => ?_) (fun i => ?_)
  · have ht : t.val % 4 = 3 := (flush0_10 t).mp hf
    rw [Value.flushed10]
    funext y
    rw [View.read_apply]
    have hy : y = ix2 (y 0) (y 1) := by
      funext a
      match a with
      | ⟨0, _⟩ => rfl
      | ⟨1, _⟩ => rfl
    rw [hy]
    have htl : t.val < cfg0.N := t.isLt
    have hy0 : (y 0).val < 704 := (y 0).isLt
    have hy1 : (y 1).val < 1024 := (y 1).isLt
    refine Eq.trans (nr_at A t.val t.isLt (y 0) ⟨t.val / 4 * 704 + (y 0).val, by omega⟩ rfl (y 1)) ?_
    refine Eq.trans (b := nrVec H G (ix2 ⟨t.val / 4 * 704 + (y 0).val, by omega⟩ (y 1))) rfl ?_
    refine congrArg (nrVec H G) ?_
    funext a
    apply Fin.ext
    match a with
    | ⟨0, _⟩ => show t.val / 4 * 704 + (y 0).val = win0_10.index t 0 * 704 + 1 * (y 0).val; rw [(hi t).1]; omega
    | ⟨1, _⟩ => show (y 1).val = win0_10.index t 1 * 1024 + 1 * (y 1).val; rw [(hi t).2]; omega
  · have h0 : (i 0).val < 8448 := (i 0).isLt
    have h1 : (i 1).val < 1024 := (i 1).isLt
    have key := hi ⟨4 * ((i 0).val / 704) + 3, by omega⟩
    dsimp only at key
    refine ⟨⟨4 * ((i 0).val / 704) + 3, by omega⟩, (flush0_10 _).mpr (by dsimp only; omega), ?_⟩
    rw [Value.mem_blk10]
    intro a
    match a with
    | ⟨0, _⟩ => show win0_10.index _ 0 * 704 ≤ (i 0).val ∧ (i 0).val < win0_10.index _ 0 * 704 + 704; rw [key.1]; omega
    | ⟨1, _⟩ => show win0_10.index _ 1 * 1024 ≤ (i 1).val ∧ (i 1).val < win0_10.index _ 1 * 1024 + 1024; rw [key.2]; omega

theorem dag_final : (dats m 0 c).arrAt 11 cfg0.N = dagVec H G W O T := by
  have hN : cfg0.N = 48 := N_0
  have hi : ∀ t : Fin cfg0.N, win0_11.index t 0 = t.val % 4 ∧ win0_11.index t 1 = t.val / 4 ∧ win0_11.index t 2 = 0 := by
    decide +kernel
  refine (dats m 0 c).arrAt_eq_of_cover 11 _ (fun t hf => ?_) (fun i => ?_)
  · rw [Value.flushed11]
    funext y
    rw [View.read_apply]
    have hy : y = ix3 (y 0) (y 1) (y 2) := by
      funext a
      match a with
      | ⟨0, _⟩ => rfl
      | ⟨1, _⟩ => rfl
      | ⟨2, _⟩ => rfl
    have htl : t.val < cfg0.N := t.isLt
    have hy0 : (y 0).val < 1 := (y 0).isLt
    have hy1 : (y 1).val < 704 := (y 1).isLt
    have hy2 : (y 2).val < 704 := (y 2).isLt
    have hy' : y = ix3 0 (y 1) (y 2) := by
      rw [hy]
      refine congrArg (fun a => ix3 a (y 1) (y 2)) (Fin.ext ?_)
      show (y 0).val = 0
      omega
    refine Eq.trans (congrArg (dagBuf m c t.val t.isLt) hy')
      ((dag_at A t ⟨t.val % 4, by omega⟩ rfl (y 1) ⟨t.val / 4 * 704 + (y 1).val, by omega⟩ rfl (y 2)).trans ?_)
    refine Eq.trans (b := dagVec H G W O T (ix3 ⟨t.val % 4, by omega⟩ ⟨t.val / 4 * 704 + (y 1).val, by omega⟩ (y 2)))
      rfl ?_
    refine congrArg (dagVec H G W O T) ?_
    funext a
    apply Fin.ext
    match a with
    | ⟨0, _⟩ => show t.val % 4 = win0_11.index t 0 * 1 + 1 * (y 0).val; rw [(hi t).1]; omega
    | ⟨1, _⟩ => show t.val / 4 * 704 + (y 1).val = win0_11.index t 1 * 704 + 1 * (y 1).val; rw [(hi t).2.1]; omega
    | ⟨2, _⟩ => show (y 2).val = win0_11.index t 2 * 704 + 1 * (y 2).val; rw [(hi t).2.2]; omega
  · have h0 : (i 0).val < 4 := (i 0).isLt
    have h1 : (i 1).val < 8448 := (i 1).isLt
    have h2 : (i 2).val < 704 := (i 2).isLt
    have key := hi ⟨4 * ((i 1).val / 704) + (i 0).val, by omega⟩
    dsimp only at key
    refine ⟨⟨4 * ((i 1).val / 704) + (i 0).val, by omega⟩, flush0_11 _, ?_⟩
    rw [Value.mem_blk11]
    intro a
    match a with
    | ⟨0, _⟩ => show win0_11.index _ 0 * 1 ≤ (i 0).val ∧ (i 0).val < win0_11.index _ 0 * 1 + 1; rw [key.1]; omega
    | ⟨1, _⟩ => show win0_11.index _ 1 * 704 ≤ (i 1).val ∧ (i 1).val < win0_11.index _ 1 * 704 + 704; rw [key.2.1]; omega
    | ⟨2, _⟩ => show win0_11.index _ 2 * 704 ≤ (i 2).val ∧ (i 2).val < win0_11.index _ 2 * 704 + 704; rw [key.2.2]; omega

theorem dau_final : (dats m 0 c).arrAt 12 cfg0.N = dauVec H G W O T := by
  have hN : cfg0.N = 48 := N_0
  have hi : ∀ t : Fin cfg0.N, win0_12.index t 0 = t.val % 4 ∧ win0_12.index t 1 = t.val / 4 ∧ win0_12.index t 2 = 0 := by
    decide +kernel
  refine (dats m 0 c).arrAt_eq_of_cover 12 _ (fun t hf => ?_) (fun i => ?_)
  · rw [Value.flushed12]
    funext y
    rw [View.read_apply]
    have hy : y = ix3 (y 0) (y 1) (y 2) := by
      funext a
      match a with
      | ⟨0, _⟩ => rfl
      | ⟨1, _⟩ => rfl
      | ⟨2, _⟩ => rfl
    have htl : t.val < cfg0.N := t.isLt
    have hy0 : (y 0).val < 1 := (y 0).isLt
    have hy1 : (y 1).val < 704 := (y 1).isLt
    have hy2 : (y 2).val < 704 := (y 2).isLt
    have hy' : y = ix3 0 (y 1) (y 2) := by
      rw [hy]
      refine congrArg (fun a => ix3 a (y 1) (y 2)) (Fin.ext ?_)
      show (y 0).val = 0
      omega
    refine Eq.trans (congrArg (dauBuf m c t.val t.isLt) hy')
      ((dau_at A t ⟨t.val % 4, by omega⟩ rfl (y 1) ⟨t.val / 4 * 704 + (y 1).val, by omega⟩ rfl (y 2)).trans ?_)
    refine Eq.trans (b := dauVec H G W O T (ix3 ⟨t.val % 4, by omega⟩ ⟨t.val / 4 * 704 + (y 1).val, by omega⟩ (y 2)))
      rfl ?_
    refine congrArg (dauVec H G W O T) ?_
    funext a
    apply Fin.ext
    match a with
    | ⟨0, _⟩ => show t.val % 4 = win0_12.index t 0 * 1 + 1 * (y 0).val; rw [(hi t).1]; omega
    | ⟨1, _⟩ => show t.val / 4 * 704 + (y 1).val = win0_12.index t 1 * 704 + 1 * (y 1).val; rw [(hi t).2.1]; omega
    | ⟨2, _⟩ => show (y 2).val = win0_12.index t 2 * 704 + 1 * (y 2).val; rw [(hi t).2.2]; omega
  · have h0 : (i 0).val < 4 := (i 0).isLt
    have h1 : (i 1).val < 8448 := (i 1).isLt
    have h2 : (i 2).val < 704 := (i 2).isLt
    have key := hi ⟨4 * ((i 1).val / 704) + (i 0).val, by omega⟩
    dsimp only at key
    refine ⟨⟨4 * ((i 1).val / 704) + (i 0).val, by omega⟩, flush0_12 _, ?_⟩
    rw [Value.mem_blk12]
    intro a
    match a with
    | ⟨0, _⟩ => show win0_12.index _ 0 * 1 ≤ (i 0).val ∧ (i 0).val < win0_12.index _ 0 * 1 + 1; rw [key.1]; omega
    | ⟨1, _⟩ => show win0_12.index _ 1 * 704 ≤ (i 1).val ∧ (i 1).val < win0_12.index _ 1 * 704 + 704; rw [key.2.1]; omega
    | ⟨2, _⟩ => show win0_12.index _ 2 * 704 ≤ (i 2).val ∧ (i 2).val < win0_12.index _ 2 * 704 + 704; rw [key.2.2]; omega

end Cert.KernelIdeal.Math

namespace Cert.ReferenceIdeal.Math

open Cert.ReferenceIdeal Cert.ReferenceIdeal.Read Cert.FfnBwd

variable (x0 : Vec Ideal S8448x1024 .f32) (x1 : Vec Ideal S1x1024 .f32) (x2 : Vec Ideal S1024x5632 .f32)
  (x3 : Vec Ideal S2816x1024 .f32) (x4 : Vec Ideal S8448x1024 .f32)
variable (H : Fin 8448 → Fin 1024 → ℝ) (G : Fin 1024 → ℝ) (W : Fin 1024 → Fin 5632 → ℝ) (O : Fin 2816 → Fin 1024 → ℝ)
  (T : Fin 8448 → Fin 1024 → ℝ)
variable (hH : ∀ x d, x0 (ix2 x d) = ((H x d : ℝ) : EReal)) (hG : ∀ d, x1 (ix2 0 d) = ((G d : ℝ) : EReal))
  (hW : ∀ d k, x2 (ix2 d k) = ((W d k : ℝ) : EReal)) (hO : ∀ q d, x3 (ix2 q d) = ((O q d : ℝ) : EReal))
  (hT : ∀ x d, x4 (ix2 x d) = ((T x d : ℝ) : EReal))

theorem idx2 {n k : ℕ} (i : Shape.Idx ⟨2, ![n, k]⟩) : i = ix2 (i 0) (i 1) := by
  funext a
  match a with
  | ⟨0, _⟩ => rfl
  | ⟨1, _⟩ => rfl

theorem idx3 {n k l : ℕ} (i : Shape.Idx ⟨3, ![n, k, l]⟩) : i = ix3 (i 0) (i 1) (i 2) := by
  funext a
  match a with
  | ⟨0, _⟩ => rfl
  | ⟨1, _⟩ => rfl
  | ⟨2, _⟩ => rfl

include hH hG in
theorem nr_eq : val_main_v82 (F := Ideal) x0 x1 = nrVec H G := funext fun i =>
  (congrArg (val_main_v82 (F := Ideal) x0 x1) (idx2 i)).trans (nr_at' x0 x1 H G hH hG (i 0) (i 1))

include hH hG hW hO hT
theorem dh_eq : val_main_v52 (F := Ideal) x0 x1 x2 x3 x4 = dhVec H G W O T := funext fun i =>
  (congrArg (val_main_v52 (F := Ideal) x0 x1 x2 x3 x4) (idx2 i)).trans
    (dh_at x0 x1 x2 x3 x4 H G W O T hH hG hW hO hT (i 0) (i 1))

theorem dgain_eq : val_main_v35 (F := Ideal) x0 x1 x2 x3 x4 = dgainVec H G W O T := funext fun i => by
  have h0 : i = ix2 0 (i 1) := (idx2 i).trans (congrArg (fun a => ix2 a (i 1)) (Subsingleton.elim (α := Fin 1) _ _))
  exact (congrArg (val_main_v35 (F := Ideal) x0 x1 x2 x3 x4) h0).trans
    (dgain_at x0 x1 x2 x3 x4 H G W O T hH hG hW hO hT (i 1))

theorem dag_eq : val_main_v84 (F := Ideal) x0 x1 x2 x3 x4 = dagVec H G W O T := funext fun i =>
  (congrArg (val_main_v84 (F := Ideal) x0 x1 x2 x3 x4) (idx3 i)).trans
    (dagCols_at x0 x1 x2 x3 x4 H G W O T hH hG hW hO hT (i 0) (i 1) (i 2))

theorem dau_eq : val_main_v86 (F := Ideal) x0 x1 x2 x3 x4 = dauVec H G W O T := funext fun i =>
  (congrArg (val_main_v86 (F := Ideal) x0 x1 x2 x3 x4) (idx3 i)).trans
    (dauCols_at x0 x1 x2 x3 x4 H G W O T hH hG hW hO hT (i 0) (i 1) (i 2))

end Cert.ReferenceIdeal.Math

namespace Cert.Proof

open Cert.FfnBwd

theorem ffn_bwd : algebraic_KernelIdeal_ReferenceIdeal_pre_finite := by
  intro m g m' g' hpre heq
  have real : ∀ c, ∃ H G W O T, Cert.KernelIdeal.Math.Args m c H G W O T := by
    intro c
    obtain ⟨h0, h1, h2, h3, h4⟩ := args_real _ _ _ _ _ (hpre c)
    choose r0 e0 using h0
    choose r1 e1 using h1
    choose r2 e2 using h2
    choose r3 e3 using h3
    choose r4 e4 using h4
    exact ⟨fun x d => r0 (ix2 x d), fun d => r1 (ix2 0 d), fun d k => r2 (ix2 d k), fun q d => r3 (ix2 q d),
      fun x d => r4 (ix2 x d), ⟨fun x d => e0 _, fun d => e1 _, fun d k => e2 _, fun q d => e3 _, fun x d => e4 _⟩⟩
  choose H G W O T A using real
  refine ⟨fun c => dhVec (H c) (G c) (W c) (O c) (T c), fun c => dgainVec (H c) (G c) (W c) (O c) (T c),
    fun c => nrVec (H c) (G c), fun c => dagVec (H c) (G c) (W c) (O c) (T c),
    fun c => dauVec (H c) (G c) (W c) (O c) (T c), ?_, ?_⟩
  · refine (θ_run _ _ _).mono (fun r h c => ?_) (Cert.KernelIdeal.Value.run_blocks m g)
    obtain ⟨h0, h1, h2, h3, h4, k⟩ := h c
    exact ⟨h0.trans (Cert.KernelIdeal.Math.dh_final (A c)), h1.trans (Cert.KernelIdeal.Math.dgain_final (A c)),
      h2.trans (Cert.KernelIdeal.Math.nr_final (A c)), h3.trans (Cert.KernelIdeal.Math.dag_final (A c)),
      h4.trans (Cert.KernelIdeal.Math.dau_final (A c)), k⟩
  · refine (θ_run _ _ _).mono (fun r h c => ?_) (Cert.ReferenceIdeal.Value.run m' g')
    obtain ⟨h0, h1, h2, h3, h4, k⟩ := h c
    obtain ⟨e0, e1, e2, e3, e4⟩ := heq c
    have B := A c
    refine ⟨h0.trans ((Cert.ReferenceIdeal.Read.val_main_v52_eq m' c).trans ?_),
      h1.trans ((Cert.ReferenceIdeal.Read.val_main_v35_eq m' c).trans ?_),
      h2.trans ((Cert.ReferenceIdeal.Read.val_main_v82_eq _ _).trans ?_),
      h3.trans ((Cert.ReferenceIdeal.Read.val_main_v84_eq m' c).trans ?_),
      h4.trans ((Cert.ReferenceIdeal.Read.val_main_v86_eq m' c).trans ?_), k⟩
    · rw [e0, e1, e2, e3, e4]
      exact Cert.ReferenceIdeal.Math.dh_eq _ _ _ _ _ _ _ _ _ _ B.h B.g B.w B.o B.t
    · rw [e0, e1, e2, e3, e4]
      exact Cert.ReferenceIdeal.Math.dgain_eq _ _ _ _ _ _ _ _ _ _ B.h B.g B.w B.o B.t
    · rw [e0, e1]
      exact Cert.ReferenceIdeal.Math.nr_eq _ _ _ _ B.h B.g
    · rw [e0, e1, e2, e3, e4]
      exact Cert.ReferenceIdeal.Math.dag_eq _ _ _ _ _ _ _ _ _ _ B.h B.g B.w B.o B.t
    · rw [e0, e1, e2, e3, e4]
      exact Cert.ReferenceIdeal.Math.dau_eq _ _ _ _ _ _ _ _ _ _ B.h B.g B.w B.o B.t

end Cert.Proof

end
-- ==== Proof.DwIn.lean ====
/- A weight gradient of the projections (`Kernel5Ideal`): three row blocks; the first point clears the output's
   buffer, every point adds the product of its blocks. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Reals
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel5Ideal.Math

open Cert.Kernel5Ideal Cert.Kernel5Ideal.Gen

variable (m : (ℓ : Loc nD τ sig) → Buf (Elt Ideal) ℓ)

theorem hz2 : (![0, 0] : Fin 2 → Nat) = fun _ => 0 := funext fun a => by fin_cases a <;> rfl

/-- Point `t`'s blocks of the two operands, and what the output's buffer holds after it. -/
abbrev leftBlk (c : Dev nD) (t : Fin cfg0.N) : Vec Ideal S2816x1024 .bf16 := iblk m c 0 t
abbrev rightBlk (c : Dev nD) (t : Fin cfg0.N) : Vec Ideal S2816x1024 .bf16 := iblk m c 1 t
abbrev sums (c : Dev nD) (t : Fin cfg0.N) : Vec Ideal S1024x1024 .f32 := outsAt0 m c t.val t.isLt

theorem sums_A (c : Dev nD) (t : Fin cfg0.N) (h0 : t.val % 3 = 0) :
    sums m c t = k0_pay2 (k0_pay1 (F := Ideal)) (leftBlk m c t) (rightBlk m c t) := by
  unfold sums
  rw [outsAt0_A m c t h0]
  unfold out0_A_2
  rw [View.read_writes_eq_canon _ _ _ (fun y => cover0_A_2 (y := y) ..)]
  unfold kernelRun0_A
  dsimp only
  sl_unfold_words
  rw [View.canon_cons_unit_zero (S := S1024x1024) hz2, View.readCov_unit_zero (S := S1024x1024) _ hz2]
  simp only [View.readAt_eq_ld, (hs0_0 t).read_unread, (hs0_1 t).read_unread, View.ld_unit_zero (S := S2816x1024) hz2, View.ld_unit_zero (S := S1024x1024) hz2]

theorem sums_B (c : Dev nD) (t : Fin cfg0.N) (h0 : ¬t.val % 3 = 0) :
    sums m c t = k0_pay2 (outsAt0 m c (t.val - 1) (by omega) : Vec Ideal S1024x1024 .f32) (leftBlk m c t) (rightBlk m c t) := by
  unfold sums
  rw [outsAt0_B m c t h0]
  unfold out0_B_2
  rw [View.read_writes_eq_canon _ _ _ (fun y => cover0_B_2 (y := y) ..)]
  unfold kernelRun0_B
  dsimp only
  rw [View.canon_unit_zero hz2]
  simp only [View.readAt_eq_ld, (hs0_0 t).read_unread, (hs0_1 t).read_unread, (hs0_2 t).read_unread, View.ld_unit_zero (S := S2816x1024) hz2, View.ld_unit_zero (S := S1024x1024) hz2]

theorem pay1_at (f d : Fin 1024) : (k0_pay1 (F := Ideal)) (ix2 f d) = 0 := by
  pointwise [k0_pay1]

theorem pay2_at (o : Vec Ideal S1024x1024 .f32) (x y : Vec Ideal S2816x1024 .bf16) (f d : Fin 1024) :
    k0_pay2 o x y (ix2 f d) = o (ix2 f d) + ∑ q, x (ix2 q f) * y (ix2 q d) := by
  pointwise [k0_pay2]

theorem left_eq (c : Dev nD) : V m c main_v0 = m ((c : Thread nD τ).loc main_arg0) := by
  unfold V hostOps0
  after_results
  rfl

theorem right_eq (c : Dev nD) : V m c main_v1 = m ((c : Thread nD τ).loc main_arg1) := by
  unfold V hostOps0
  after_results
  rfl

theorem left_at (c : Dev nD) (t : Fin cfg0.N) (q : Fin 2816) (f : Fin 1024) :
    leftBlk m c t (ix2 q f) = m ((c : Thread nD τ).loc main_arg0) (ix2 ⟨t.val % 3 * 2816 + q.val, by have := t.isLt; have : cfg0.N = 3 := N_0; omega⟩ f) := by
  have hi : ∀ t : Fin cfg0.N, win0_0.index t 0 = t.val % 3 ∧ win0_0.index t 1 = 0 := by decide +kernel
  rw [← left_eq m c]
  unfold leftBlk iblk
  rw [View.read_apply]
  show V m c main_v0 _ = V m c main_v0 _
  congr 1
  funext a
  apply Fin.ext
  match a with
  | ⟨0, _⟩ => show win0_0.index t 0 * 2816 + 1 * q.val = t.val % 3 * 2816 + q.val; rw [(hi t).1]; omega
  | ⟨1, _⟩ => show win0_0.index t 1 * 1024 + 1 * f.val = f.val; rw [(hi t).2]; omega

theorem right_at (c : Dev nD) (t : Fin cfg0.N) (q : Fin 2816) (f : Fin 1024) :
    rightBlk m c t (ix2 q f) = m ((c : Thread nD τ).loc main_arg1) (ix2 ⟨t.val % 3 * 2816 + q.val, by have := t.isLt; have : cfg0.N = 3 := N_0; omega⟩ f) := by
  have hi : ∀ t : Fin cfg0.N, win0_1.index t 0 = t.val % 3 ∧ win0_1.index t 1 = 0 := by decide +kernel
  rw [← right_eq m c]
  unfold rightBlk iblk
  rw [View.read_apply]
  show V m c main_v1 _ = V m c main_v1 _
  congr 1
  funext a
  apply Fin.ext
  match a with
  | ⟨0, _⟩ => show win0_1.index t 0 * 2816 + 1 * q.val = t.val % 3 * 2816 + q.val; rw [(hi t).1]; omega
  | ⟨1, _⟩ => show win0_1.index t 1 * 1024 + 1 * f.val = f.val; rw [(hi t).2]; omega

/-- The product over the rows. -/
def spec (x y : Vec Ideal S8448x1024 .f32) : Vec Ideal S1024x1024 .f32 :=
  fun i => ∑ r : Fin 8448, x (ix2 r (i 0)) * y (ix2 r (i 1))

/-- The share of row block `k` in the sum. -/
def part (x y : Vec Ideal S8448x1024 .f32) (k : Fin 3) (f d : Fin 1024) : EReal :=
  ∑ q : Fin 2816, x (ix2 ⟨k.val * 2816 + q.val, by omega⟩ f) * y (ix2 ⟨k.val * 2816 + q.val, by omega⟩ d)

theorem spec_parts (x y : Vec Ideal S8448x1024 .f32) (f d : Fin 1024) :
    spec x y (ix2 f d) = part x y 0 f d + part x y 1 f d + part x y 2 f d := by
  show (∑ r : Fin 8448, x (ix2 r f) * y (ix2 r d)) = _
  rw [Fin.sum_univ_tiles 3 2816 rfl, Fin.sum_univ_three]
  rfl

theorem part_at (c : Dev nD) (t : Fin cfg0.N) (k : Fin 3) (hk : t.val % 3 = k.val) (f d : Fin 1024) :
    (∑ q : Fin 2816, leftBlk m c t (ix2 q f) * rightBlk m c t (ix2 q d))
      = part (m ((c : Thread nD τ).loc main_arg0)) (m ((c : Thread nD τ).loc main_arg1)) k f d := by
  obtain ⟨k, hk'⟩ := k
  dsimp only at hk
  subst hk
  unfold part
  refine Finset.sum_congr rfl fun q _ => ?_
  rw [left_at, right_at]

theorem full (c : Dev nD) (t : Fin cfg0.N) (ht : t.val % 3 = 2) (f d : Fin 1024) :
    sums m c t (ix2 f d)
      = spec (m ((c : Thread nD τ).loc main_arg0)) (m ((c : Thread nD τ).loc main_arg1)) (ix2 f d) := by
  have hN : cfg0.N = 3 := N_0
  have hlt := t.isLt
  have e1 := sums_B m c ⟨t.val - 1, by omega⟩ (by dsimp only; omega)
  have e0 := sums_A m c ⟨t.val - 1 - 1, by omega⟩ (by dsimp only; omega)
  dsimp only [sums] at e0 e1
  rw [sums_B m c t (by omega), pay2_at, e1, pay2_at, e0, pay2_at, pay1_at, zero_add, spec_parts,
    part_at m c t 2 ht, part_at m c ⟨t.val - 1, by omega⟩ 1 (by show _ = 1; dsimp only; omega),
    part_at m c ⟨t.val - 1 - 1, by omega⟩ 0 (by show _ = 0; dsimp only; omega)]

/-- An index of the array is in point `t`'s block iff each coordinate is in the block's range on its axis. -/
theorem mem_out2 (t : Fin cfg0.N) (i : S1024x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

theorem final (c : Dev nD) : (dats m 0 c).arrAt 2 cfg0.N = (spec (m ((c : Thread nD τ).loc main_arg0)) (m ((c : Thread nD τ).loc main_arg1))) := by
  have hN : cfg0.N = 3 := N_0
  have hi : ∀ t : Fin cfg0.N, win0_2.index t 0 = 0 ∧ win0_2.index t 1 = 0 := by decide +kernel
  refine (dats m 0 c).arrAt_eq_of_cover 2 _ (fun t hf => ?_) (fun i => ?_)
  · have ht : t.val % 3 = 2 := (flush0_2 t).mp hf
    have htl : t.val < cfg0.N := t.isLt
    rw [Value.flushed2]
    funext y
    rw [View.read_apply]
    have hy : y = ix2 (y 0) (y 1) := by
      funext a
      match a with
      | ⟨0, _⟩ => rfl
      | ⟨1, _⟩ => rfl
    rw [hy]
    have hy0 : (y 0).val < 1024 := (y 0).isLt
    have hy1 : (y 1).val < 1024 := (y 1).isLt
    refine Eq.trans (full m c t ht (y 0) (y 1)) ?_
    refine congrArg ((spec (m ((c : Thread nD τ).loc main_arg0)) (m ((c : Thread nD τ).loc main_arg1)))) ?_
    funext a
    apply Fin.ext
    match a with
    | ⟨0, _⟩ => show (y 0).val = win0_2.index t 0 * 1024 + 1 * (y 0).val; rw [(hi t).1]; omega
    | ⟨1, _⟩ => show (y 1).val = win0_2.index t 1 * 1024 + 1 * (y 1).val; rw [(hi t).2]; omega
  · have h0 : (i 0).val < 1024 := (i 0).isLt
    have h1 : (i 1).val < 1024 := (i 1).isLt
    have key := hi ⟨2, by omega⟩
    refine ⟨⟨2, by omega⟩, (flush0_2 _).mpr rfl, ?_⟩
    rw [mem_out2]
    intro a
    match a with
    | ⟨0, _⟩ => show win0_2.index _ 0 * 1024 ≤ (i 0).val ∧ (i 0).val < win0_2.index _ 0 * 1024 + 1024; rw [key.1]; omega
    | ⟨1, _⟩ => show win0_2.index _ 1 * 1024 ≤ (i 1).val ∧ (i 1).val < win0_2.index _ 1 * 1024 + 1024; rw [key.2]; omega

end Cert.Kernel5Ideal.Math

namespace Cert.Reference5Ideal.Math

open Cert.Reference5Ideal Cert.Reference5Ideal.Read
open Cert.Kernel5Ideal.Math (spec)

variable (x y : Vec Ideal S8448x1024 .f32)

theorem spec_at (f d : Fin 1024) : val_main_v3 (F := Ideal) x y (ix2 f d) = spec x y (ix2 f d) := by
  refine Eq.trans (b := ∑ r : Fin 8448, y (ix2 r d) * x (ix2 r f)) ?_ (Finset.sum_congr rfl fun r _ => mul_comm _ _)
  pointwise [val_main_v3, val_main_v2]

theorem spec_eq : val_main_v3 (F := Ideal) x y = spec x y := by
  funext i
  have hi : i = ix2 (i 0) (i 1) := by
    funext a
    match a with
    | ⟨0, _⟩ => rfl
    | ⟨1, _⟩ => rfl
  exact (congrArg (val_main_v3 (F := Ideal) x y) hi).trans ((spec_at x y _ _).trans (congrArg (spec x y) hi.symm))

end Cert.Reference5Ideal.Math

namespace Cert.Proof

theorem dw_in : algebraic_Kernel5Ideal_Reference5Ideal := by
  intro m g m' g' _ heq
  refine ⟨fun c => Cert.Kernel5Ideal.Math.spec (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run _ _ _).mono (fun r h c => ?_) (Cert.Kernel5Ideal.Value.run_blocks m g)
    obtain ⟨h0, h1⟩ := h c
    exact ⟨h0.trans (Cert.Kernel5Ideal.Math.final m c), h1⟩
  · refine (θ_run _ _ _).mono (fun r h c => ?_) (Cert.Reference5Ideal.Value.run m' g')
    obtain ⟨h0, h1⟩ := h c
    refine ⟨h0.trans ?_, h1⟩
    rw [(heq c).1, (heq c).2]
    exact Cert.Reference5Ideal.Math.spec_eq _ _

end Cert.Proof

end
-- ==== Proof.DnWide.lean ====
/- The gradient of the projections' input (`Kernel6Ideal`): eight row blocks; the ten points of a row block take the ten
   blocks of columns of the seven gradients one after another, and each adds its product to the output's buffer. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel6Ideal.Math

open Cert.Kernel6Ideal Cert.Kernel6Ideal.Gen

variable (m : (ℓ : Loc nD τ sig) → Buf (Elt Ideal) ℓ)

theorem hz2 : (![0, 0] : Fin 2 → Nat) = fun _ => 0 := funext fun a => by fin_cases a <;> rfl

/-- Point `t`'s blocks of the seven gradients and of the weight, and what the output's buffer holds after it. -/
abbrev blk0 (c : Dev nD) (t : Fin cfg0.N) : Vec Ideal S1056x1024 .bf16 := iblk m c 0 t
abbrev blk1 (c : Dev nD) (t : Fin cfg0.N) : Vec Ideal S1056x1024 .bf16 := iblk m c 1 t
abbrev blk2 (c : Dev nD) (t : Fin cfg0.N) : Vec Ideal S1056x1024 .bf16 := iblk m c 2 t
abbrev blk3 (c : Dev nD) (t : Fin cfg0.N) : Vec Ideal S1056x1024 .bf16 := iblk m c 3 t
abbrev blk4 (c : Dev nD) (t : Fin cfg0.N) : Vec Ideal S1056x1024 .bf16 := iblk m c 4 t
abbrev blk5 (c : Dev nD) (t : Fin cfg0.N) : Vec Ideal S1056x1024 .bf16 := iblk m c 5 t
abbrev blk6 (c : Dev nD) (t : Fin cfg0.N) : Vec Ideal S1056x1024 .bf16 := iblk m c 6 t
abbrev wBlk (c : Dev nD) (t : Fin cfg0.N) : Vec Ideal S1024x1024 .bf16 := iblk m c 7 t
abbrev sums (c : Dev nD) (t : Fin cfg0.N) : Vec Ideal S1056x1024 .f32 := outsAt0 m c t.val t.isLt

/-! ### One point's body -/

theorem sums_A (c : Dev nD) (t : Fin cfg0.N) (h0 : t.val % 10 = 0) (h1 : t.val % 10 = 0) (h2 : ¬t.val % 10 = 1) (h3 : ¬t.val % 10 = 2) (h4 : ¬t.val % 10 = 3) (h5 : ¬t.val % 10 = 4) (h6 : ¬t.val % 10 = 5) (h7 : ¬6 ≤ t.val % 10) :
    sums m c t = k0_pay4 (k0_pay3 (F := Ideal)) (blk0 m c t) (wBlk m c t) := by
  unfold sums
  rw [outsAt0_A m c t h0 h1 h2 h3 h4 h5 h6 h7]
  unfold out0_A_8
  rw [View.read_writes_eq_canon _ _ _ (fun y => cover0_A_8 (y := y) ..)]
  unfold kernelRun0_A
  dsimp only
  sl_unfold_words
  rw [View.canon_cons_unit_zero (S := S1056x1024) hz2, View.readCov_unit_zero (S := S1056x1024) _ hz2]
  simp only [View.readAt_eq_ld, (hs0_0 t).read_unread, (hs0_7 t).read_unread, View.ld_unit_zero (S := S1056x1024) hz2, View.ld_unit_zero (S := S1024x1024) hz2]

theorem sums_B (c : Dev nD) (t : Fin cfg0.N) (h0 : ¬t.val % 10 = 0) (h1 : ¬t.val % 10 = 0) (h2 : t.val % 10 = 1) (h3 : ¬t.val % 10 = 2) (h4 : ¬t.val % 10 = 3) (h5 : ¬t.val % 10 = 4) (h6 : ¬t.val % 10 = 5) (h7 : ¬6 ≤ t.val % 10) :
    sums m c t = k0_pay5 (outsAt0 m c (t.val - 1) (by omega) : Vec Ideal S1056x1024 .f32) (blk1 m c t) (wBlk m c t) := by
  unfold sums
  rw [outsAt0_B m c t h0 h1 h2 h3 h4 h5 h6 h7]
  unfold out0_B_8
  rw [View.read_writes_eq_canon _ _ _ (fun y => cover0_B_8 (y := y) ..)]
  unfold kernelRun0_B
  dsimp only
  rw [View.canon_unit_zero hz2]
  simp only [View.readAt_eq_ld, (hs0_1 t).read_unread, (hs0_7 t).read_unread, (hs0_8 t).read_unread, View.ld_unit_zero (S := S1056x1024) hz2, View.ld_unit_zero (S := S1024x1024) hz2]

theorem sums_C (c : Dev nD) (t : Fin cfg0.N) (h0 : ¬t.val % 10 = 0) (h1 : ¬t.val % 10 = 0) (h2 : ¬t.val % 10 = 1) (h3 : t.val % 10 = 2) (h4 : ¬t.val % 10 = 3) (h5 : ¬t.val % 10 = 4) (h6 : ¬t.val % 10 = 5) (h7 : ¬6 ≤ t.val % 10) :
    sums m c t = k0_pay6 (outsAt0 m c (t.val - 1) (by omega) : Vec Ideal S1056x1024 .f32) (blk2 m c t) (wBlk m c t) := by
  unfold sums
  rw [outsAt0_C m c t h0 h1 h2 h3 h4 h5 h6 h7]
  unfold out0_C_8
  rw [View.read_writes_eq_canon _ _ _ (fun y => cover0_C_8 (y := y) ..)]
  unfold kernelRun0_C
  dsimp only
  rw [View.canon_unit_zero hz2]
  simp only [View.readAt_eq_ld, (hs0_2 t).read_unread, (hs0_7 t).read_unread, (hs0_8 t).read_unread, View.ld_unit_zero (S := S1056x1024) hz2, View.ld_unit_zero (S := S1024x1024) hz2]

theorem sums_D (c : Dev nD) (t : Fin cfg0.N) (h0 : ¬t.val % 10 = 0) (h1 : ¬t.val % 10 = 0) (h2 : ¬t.val % 10 = 1) (h3 : ¬t.val % 10 = 2) (h4 : t.val % 10 = 3) (h5 : ¬t.val % 10 = 4) (h6 : ¬t.val % 10 = 5) (h7 : ¬6 ≤ t.val % 10) :
    sums m c t = k0_pay7 (outsAt0 m c (t.val - 1) (by omega) : Vec Ideal S1056x1024 .f32) (blk3 m c t) (wBlk m c t) := by
  unfold sums
  rw [outsAt0_D m c t h0 h1 h2 h3 h4 h5 h6 h7]
  unfold out0_D_8
  rw [View.read_writes_eq_canon _ _ _ (fun y => cover0_D_8 (y := y) ..)]
  unfold kernelRun0_D
  dsimp only
  rw [View.canon_unit_zero hz2]
  simp only [View.readAt_eq_ld, (hs0_3 t).read_unread, (hs0_7 t).read_unread, (hs0_8 t).read_unread, View.ld_unit_zero (S := S1056x1024) hz2, View.ld_unit_zero (S := S1024x1024) hz2]

theorem sums_E (c : Dev nD) (t : Fin cfg0.N) (h0 : ¬t.val % 10 = 0) (h1 : ¬t.val % 10 = 0) (h2 : ¬t.val % 10 = 1) (h3 : ¬t.val % 10 = 2) (h4 : ¬t.val % 10 = 3) (h5 : t.val % 10 = 4) (h6 : ¬t.val % 10 = 5) (h7 : ¬6 ≤ t.val % 10) :
    sums m c t = k0_pay8 (outsAt0 m c (t.val - 1) (by omega) : Vec Ideal S1056x1024 .f32) (blk4 m c t) (wBlk m c t) := by
  unfold sums
  rw [outsAt0_E m c t h0 h1 h2 h3 h4 h5 h6 h7]
  unfold out0_E_8
  rw [View.read_writes_eq_canon _ _ _ (fun y => cover0_E_8 (y := y) ..)]
  unfold kernelRun0_E
  dsimp only
  rw [View.canon_unit_zero hz2]
  simp only [View.readAt_eq_ld, (hs0_4 t).read_unread, (hs0_7 t).read_unread, (hs0_8 t).read_unread, View.ld_unit_zero (S := S1056x1024) hz2, View.ld_unit_zero (S := S1024x1024) hz2]

theorem sums_F (c : Dev nD) (t : Fin cfg0.N) (h0 : ¬t.val % 10 = 0) (h1 : ¬t.val % 10 = 0) (h2 : ¬t.val % 10 = 1) (h3 : ¬t.val % 10 = 2) (h4 : ¬t.val % 10 = 3) (h5 : ¬t.val % 10 = 4) (h6 : t.val % 10 = 5) (h7 : ¬6 ≤ t.val % 10) :
    sums m c t = k0_pay1 (outsAt0 m c (t.val - 1) (by omega) : Vec Ideal S1056x1024 .f32) (blk5 m c t) (wBlk m c t) := by
  unfold sums
  rw [outsAt0_F m c t h0 h1 h2 h3 h4 h5 h6 h7]
  unfold out0_F_8
  rw [View.read_writes_eq_canon _ _ _ (fun y => cover0_F_8 (y := y) ..)]
  unfold kernelRun0_F
  dsimp only
  rw [View.canon_unit_zero hz2]
  simp only [View.readAt_eq_ld, (hs0_5 t).read_unread, (hs0_7 t).read_unread, (hs0_8 t).read_unread, View.ld_unit_zero (S := S1056x1024) hz2, View.ld_unit_zero (S := S1024x1024) hz2]

theorem sums_G (c : Dev nD) (t : Fin cfg0.N) (h0 : ¬t.val % 10 = 0) (h1 : ¬t.val % 10 = 0) (h2 : ¬t.val % 10 = 1) (h3 : ¬t.val % 10 = 2) (h4 : ¬t.val % 10 = 3) (h5 : ¬t.val % 10 = 4) (h6 : ¬t.val % 10 = 5) (h7 : 6 ≤ t.val % 10) :
    sums m c t = k0_pay2 (outsAt0 m c (t.val - 1) (by omega) : Vec Ideal S1056x1024 .f32) (blk6 m c t) (wBlk m c t) := by
  unfold sums
  rw [outsAt0_G m c t h0 h1 h2 h3 h4 h5 h6 h7]
  unfold out0_G_8
  rw [View.read_writes_eq_canon _ _ _ (fun y => cover0_G_8 (y := y) ..)]
  unfold kernelRun0_G
  dsimp only
  rw [View.canon_unit_zero hz2]
  simp only [View.readAt_eq_ld, (hs0_6 t).read_unread, (hs0_7 t).read_unread, (hs0_8 t).read_unread, View.ld_unit_zero (S := S1056x1024) hz2, View.ld_unit_zero (S := S1024x1024) hz2]

/-! ### The payloads at an index -/

theorem pay3_at (r : Fin 1056) (d : Fin 1024) : (k0_pay3 (F := Ideal)) (ix2 r d) = 0 := by
  pointwise [k0_pay3]

theorem pay1_at (o : Vec Ideal S1056x1024 .f32) (x : Vec Ideal S1056x1024 .bf16) (w : Vec Ideal S1024x1024 .bf16)
    (r : Fin 1056) (d : Fin 1024) : k0_pay1 o x w (ix2 r d) = o (ix2 r d) + ∑ q, x (ix2 r q) * w (ix2 d q) := by
  pointwise [k0_pay1]

theorem pay2_at (o : Vec Ideal S1056x1024 .f32) (x : Vec Ideal S1056x1024 .bf16) (w : Vec Ideal S1024x1024 .bf16)
    (r : Fin 1056) (d : Fin 1024) : k0_pay2 o x w (ix2 r d) = o (ix2 r d) + ∑ q, x (ix2 r q) * w (ix2 d q) := by
  pointwise [k0_pay2]

theorem pay4_at (o : Vec Ideal S1056x1024 .f32) (x : Vec Ideal S1056x1024 .bf16) (w : Vec Ideal S1024x1024 .bf16)
    (r : Fin 1056) (d : Fin 1024) : k0_pay4 o x w (ix2 r d) = o (ix2 r d) + ∑ q, x (ix2 r q) * w (ix2 d q) := by
  pointwise [k0_pay4]

theorem pay5_at (o : Vec Ideal S1056x1024 .f32) (x : Vec Ideal S1056x1024 .bf16) (w : Vec Ideal S1024x1024 .bf16)
    (r : Fin 1056) (d : Fin 1024) : k0_pay5 o x w (ix2 r d) = o (ix2 r d) + ∑ q, x (ix2 r q) * w (ix2 d q) := by
  pointwise [k0_pay5]

theorem pay6_at (o : Vec Ideal S1056x1024 .f32) (x : Vec Ideal S1056x1024 .bf16) (w : Vec Ideal S1024x1024 .bf16)
    (r : Fin 1056) (d : Fin 1024) : k0_pay6 o x w (ix2 r d) = o (ix2 r d) + ∑ q, x (ix2 r q) * w (ix2 d q) := by
  pointwise [k0_pay6]

theorem pay7_at (o : Vec Ideal S1056x1024 .f32) (x : Vec Ideal S1056x1024 .bf16) (w : Vec Ideal S1024x1024 .bf16)
    (r : Fin 1056) (d : Fin 1024) : k0_pay7 o x w (ix2 r d) = o (ix2 r d) + ∑ q, x (ix2 r q) * w (ix2 d q) := by
  pointwise [k0_pay7]

theorem pay8_at (o : Vec Ideal S1056x1024 .f32) (x : Vec Ideal S1056x1024 .bf16) (w : Vec Ideal S1024x1024 .bf16)
    (r : Fin 1056) (d : Fin 1024) : k0_pay8 o x w (ix2 r d) = o (ix2 r d) + ∑ q, x (ix2 r q) * w (ix2 d q) := by
  pointwise [k0_pay8]

/-! ### The blocks the windows bring in, read off the arguments -/

theorem arg0_eq (c : Dev nD) : V m c main_v0 = m ((c : Thread nD τ).loc main_arg0) := by
  unfold V hostOps0
  after_results
  rfl

theorem arg1_eq (c : Dev nD) : V m c main_v1 = m ((c : Thread nD τ).loc main_arg1) := by
  unfold V hostOps0
  after_results
  rfl

theorem arg2_eq (c : Dev nD) : V m c main_v2 = m ((c : Thread nD τ).loc main_arg2) := by
  unfold V hostOps0
  after_results
  rfl

theorem arg3_eq (c : Dev nD) : V m c main_v3 = m ((c : Thread nD τ).loc main_arg3) := by
  unfold V hostOps0
  after_results
  rfl

theorem arg4_eq (c : Dev nD) : V m c main_v4 = m ((c : Thread nD τ).loc main_arg4) := by
  unfold V hostOps0
  after_results
  rfl

theorem arg5_eq (c : Dev nD) : V m c main_v5 = m ((c : Thread nD τ).loc main_arg5) := by
  unfold V hostOps0
  after_results
  rfl

theorem arg6_eq (c : Dev nD) : V m c main_v6 = m ((c : Thread nD τ).loc main_arg6) := by
  unfold V hostOps0
  after_results
  rfl

theorem arg7_eq (c : Dev nD) : V m c main_v7 = m ((c : Thread nD τ).loc main_arg7) := by
  unfold V hostOps0
  after_results
  rfl

theorem blk0_at (c : Dev nD) (t : Fin cfg0.N) (r : Fin 1056) (q : Fin 1024) :
    blk0 m c t (ix2 r q) = m ((c : Thread nD τ).loc main_arg0) (ix2 ⟨t.val / 10 * 1056 + r.val, by have := t.isLt; have : cfg0.N = 80 := N_0; omega⟩ q) := by
  have hi : ∀ t : Fin cfg0.N, win0_0.index t 0 = t.val / 10 ∧ win0_0.index t 1 = 0 := by decide +kernel
  rw [← arg0_eq m c]
  unfold blk0 iblk
  rw [View.read_apply]
  show V m c main_v0 _ = V m c main_v0 _
  congr 1
  funext a
  apply Fin.ext
  match a with
  | ⟨0, _⟩ => show win0_0.index t 0 * 1056 + 1 * r.val = t.val / 10 * 1056 + r.val; rw [(hi t).1]; omega
  | ⟨1, _⟩ => show win0_0.index t 1 * 1024 + 1 * q.val = q.val; rw [(hi t).2]; omega

theorem blk1_at (c : Dev nD) (t : Fin cfg0.N) (r : Fin 1056) (q : Fin 1024) :
    blk1 m c t (ix2 r q) = m ((c : Thread nD τ).loc main_arg1) (ix2 ⟨t.val / 10 * 1056 + r.val, by have := t.isLt; have : cfg0.N = 80 := N_0; omega⟩ q) := by
  have hi : ∀ t : Fin cfg0.N, win0_1.index t 0 = t.val / 10 ∧ win0_1.index t 1 = 0 := by decide +kernel
  rw [← arg1_eq m c]
  unfold blk1 iblk
  rw [View.read_apply]
  show V m c main_v1 _ = V m c main_v1 _
  congr 1
  funext a
  apply Fin.ext
  match a with
  | ⟨0, _⟩ => show win0_1.index t 0 * 1056 + 1 * r.val = t.val / 10 * 1056 + r.val; rw [(hi t).1]; omega
  | ⟨1, _⟩ => show win0_1.index t 1 * 1024 + 1 * q.val = q.val; rw [(hi t).2]; omega

theorem blk2_at (c : Dev nD) (t : Fin cfg0.N) (r : Fin 1056) (q : Fin 1024) :
    blk2 m c t (ix2 r q) = m ((c : Thread nD τ).loc main_arg2) (ix2 ⟨t.val / 10 * 1056 + r.val, by have := t.isLt; have : cfg0.N = 80 := N_0; omega⟩ q) := by
  have hi : ∀ t : Fin cfg0.N, win0_2.index t 0 = t.val / 10 ∧ win0_2.index t 1 = 0 := by decide +kernel
  rw [← arg2_eq m c]
  unfold blk2 iblk
  rw [View.read_apply]
  show V m c main_v2 _ = V m c main_v2 _
  congr 1
  funext a
  apply Fin.ext
  match a with
  | ⟨0, _⟩ => show win0_2.index t 0 * 1056 + 1 * r.val = t.val / 10 * 1056 + r.val; rw [(hi t).1]; omega
  | ⟨1, _⟩ => show win0_2.index t 1 * 1024 + 1 * q.val = q.val; rw [(hi t).2]; omega

theorem blk3_at (c : Dev nD) (t : Fin cfg0.N) (r : Fin 1056) (q : Fin 1024) :
    blk3 m c t (ix2 r q) = m ((c : Thread nD τ).loc main_arg3) (ix2 ⟨t.val / 10 * 1056 + r.val, by have := t.isLt; have : cfg0.N = 80 := N_0; omega⟩ q) := by
  have hi : ∀ t : Fin cfg0.N, win0_3.index t 0 = t.val / 10 ∧ win0_3.index t 1 = 0 := by decide +kernel
  rw [← arg3_eq m c]
  unfold blk3 iblk
  rw [View.read_apply]
  show V m c main_v3 _ = V m c main_v3 _
  congr 1
  funext a
  apply Fin.ext
  match a with
  | ⟨0, _⟩ => show win0_3.index t 0 * 1056 + 1 * r.val = t.val / 10 * 1056 + r.val; rw [(hi t).1]; omega
  | ⟨1, _⟩ => show win0_3.index t 1 * 1024 + 1 * q.val = q.val; rw [(hi t).2]; omega

theorem blk4_at (c : Dev nD) (t : Fin cfg0.N) (r : Fin 1056) (q : Fin 1024) :
    blk4 m c t (ix2 r q) = m ((c : Thread nD τ).loc main_arg4) (ix2 ⟨t.val / 10 * 1056 + r.val, by have := t.isLt; have : cfg0.N = 80 := N_0; omega⟩ q) := by
  have hi : ∀ t : Fin cfg0.N, win0_4.index t 0 = t.val / 10 ∧ win0_4.index t 1 = 0 := by decide +kernel
  rw [← arg4_eq m c]
  unfold blk4 iblk
  rw [View.read_apply]
  show V m c main_v4 _ = V m c main_v4 _
  congr 1
  funext a
  apply Fin.ext
  match a with
  | ⟨0, _⟩ => show win0_4.index t 0 * 1056 + 1 * r.val = t.val / 10 * 1056 + r.val; rw [(hi t).1]; omega
  | ⟨1, _⟩ => show win0_4.index t 1 * 1024 + 1 * q.val = q.val; rw [(hi t).2]; omega

theorem blk5_at (c : Dev nD) (t : Fin cfg0.N) (r : Fin 1056) (q : Fin 1024) :
    blk5 m c t (ix2 r q) = m ((c : Thread nD τ).loc main_arg5) (ix2 ⟨t.val / 10 * 1056 + r.val, by have := t.isLt; have : cfg0.N = 80 := N_0; omega⟩ q) := by
  have hi : ∀ t : Fin cfg0.N, win0_5.index t 0 = t.val / 10 ∧ win0_5.index t 1 = 0 := by decide +kernel
  rw [← arg5_eq m c]
  unfold blk5 iblk
  rw [View.read_apply]
  show V m c main_v5 _ = V m c main_v5 _
  congr 1
  funext a
  apply Fin.ext
  match a with
  | ⟨0, _⟩ => show win0_5.index t 0 * 1056 + 1 * r.val = t.val / 10 * 1056 + r.val; rw [(hi t).1]; omega
  | ⟨1, _⟩ => show win0_5.index t 1 * 1024 + 1 * q.val = q.val; rw [(hi t).2]; omega

theorem blk6_at (c : Dev nD) (t : Fin cfg0.N) (r : Fin 1056) (q : Fin 1024) :
    blk6 m c t (ix2 r q) = m ((c : Thread nD τ).loc main_arg6) (ix2 ⟨t.val / 10 * 1056 + r.val, by have := t.isLt; have : cfg0.N = 80 := N_0; omega⟩ ⟨(t.val % 10 - 6) * 1024 + q.val, by have := t.isLt; have : cfg0.N = 80 := N_0; omega⟩) := by
  have hi : ∀ t : Fin cfg0.N, win0_6.index t 0 = t.val / 10 ∧ win0_6.index t 1 = (t.val % 10 - 6) := by decide +kernel
  rw [← arg6_eq m c]
  unfold blk6 iblk
  rw [View.read_apply]
  show V m c main_v6 _ = V m c main_v6 _
  congr 1
  funext a
  apply Fin.ext
  match a with
  | ⟨0, _⟩ => show win0_6.index t 0 * 1056 + 1 * r.val = t.val / 10 * 1056 + r.val; rw [(hi t).1]; omega
  | ⟨1, _⟩ => show win0_6.index t 1 * 1024 + 1 * q.val = (t.val % 10 - 6) * 1024 + q.val; rw [(hi t).2]; omega

theorem w_at (c : Dev nD) (t : Fin cfg0.N) (d : Fin 1024) (q : Fin 1024) :
    wBlk m c t (ix2 d q) = m ((c : Thread nD τ).loc main_arg7) (ix2 d ⟨t.val % 10 * 1024 + q.val, by have := t.isLt; have : cfg0.N = 80 := N_0; omega⟩) := by
  have hi : ∀ t : Fin cfg0.N, win0_7.index t 0 = 0 ∧ win0_7.index t 1 = t.val % 10 := by decide +kernel
  rw [← arg7_eq m c]
  unfold wBlk iblk
  rw [View.read_apply]
  show V m c main_v7 _ = V m c main_v7 _
  congr 1
  funext a
  apply Fin.ext
  match a with
  | ⟨0, _⟩ => show win0_7.index t 0 * 1024 + 1 * d.val = d.val; rw [(hi t).1]; omega
  | ⟨1, _⟩ => show win0_7.index t 1 * 1024 + 1 * q.val = t.val % 10 * 1024 + q.val; rw [(hi t).2]; omega

/-! ### The result -/

/-- The seven gradients side by side. -/
def cat (g0 g1 g2 g3 g4 g5 : Vec Ideal S8448x1024 .f32) (g6 : Vec Ideal S8448x4096 .f32) (x : Fin 8448) (j : Fin 10240) :
    EReal :=
  if h0 : j.val < 1024 then g0 (ix2 x ⟨j.val, h0⟩)
  else if h1 : j.val - 1024 < 1024 then g1 (ix2 x ⟨j.val - 1024, h1⟩)
  else if h2 : j.val - 1024 - 1024 < 1024 then g2 (ix2 x ⟨j.val - 1024 - 1024, h2⟩)
  else if h3 : j.val - 1024 - 1024 - 1024 < 1024 then g3 (ix2 x ⟨j.val - 1024 - 1024 - 1024, h3⟩)
  else if h4 : j.val - 1024 - 1024 - 1024 - 1024 < 1024 then g4 (ix2 x ⟨j.val - 1024 - 1024 - 1024 - 1024, h4⟩)
  else if h5 : j.val - 1024 - 1024 - 1024 - 1024 - 1024 < 1024 then g5 (ix2 x ⟨j.val - 1024 - 1024 - 1024 - 1024 - 1024, h5⟩)
  else g6 (ix2 x ⟨j.val - 1024 - 1024 - 1024 - 1024 - 1024 - 1024, by omega⟩)

/-- The sum over the columns of the gradients. -/
def spec (g0 g1 g2 g3 g4 g5 : Vec Ideal S8448x1024 .f32) (g6 : Vec Ideal S8448x4096 .f32) (w : Vec Ideal S1024x10240 .f32) :
    Vec Ideal S8448x1024 .f32 :=
  fun i => ∑ j : Fin 10240, cat g0 g1 g2 g3 g4 g5 g6 (i 0) j * w (ix2 (i 1) j)

/-- The share of block `k` of columns in it. -/
def part (g0 g1 g2 g3 g4 g5 : Vec Ideal S8448x1024 .f32) (g6 : Vec Ideal S8448x4096 .f32) (w : Vec Ideal S1024x10240 .f32)
    (k : Fin 10) (x : Fin 8448) (d : Fin 1024) : EReal :=
  ∑ q : Fin 1024, cat g0 g1 g2 g3 g4 g5 g6 x ⟨k.val * 1024 + q.val, by omega⟩ * w (ix2 d ⟨k.val * 1024 + q.val, by omega⟩)

theorem spec_parts (g0 g1 g2 g3 g4 g5 : Vec Ideal S8448x1024 .f32) (g6 : Vec Ideal S8448x4096 .f32)
    (w : Vec Ideal S1024x10240 .f32) (x : Fin 8448) (d : Fin 1024) :
    spec g0 g1 g2 g3 g4 g5 g6 w (ix2 x d) = ∑ k : Fin 10, part g0 g1 g2 g3 g4 g5 g6 w k x d := by
  show (∑ j : Fin 10240, cat g0 g1 g2 g3 g4 g5 g6 x j * w (ix2 d j)) = _
  rw [Fin.sum_univ_tiles 10 1024 rfl]
  rfl

/-- The share of a block of columns in a row block, of the program's arguments. -/
abbrev share (c : Dev nD) (k : Fin 10) (x : Fin 8448) (d : Fin 1024) : EReal :=
  part (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) k x d

theorem share0 (c : Dev nD) (t : Fin cfg0.N) (ht : t.val % 10 = 0) (x : Fin 8448) (r : Fin 1056)
    (hx : t.val / 10 * 1056 + r.val = x.val) (d : Fin 1024) :
    (∑ q : Fin 1024, blk0 m c t (ix2 r q) * wBlk m c t (ix2 d q)) = share m c ⟨t.val % 10, by omega⟩ x d := by
  obtain ⟨x, hx'⟩ := x
  dsimp only at hx
  subst hx
  unfold share part
  refine Finset.sum_congr rfl fun q _ => ?_
  have e : (q : Fin 1024) = ⟨t.val % 10 * 1024 + q.val, by omega⟩ := Fin.ext (by dsimp only; omega)
  rw [blk0_at, w_at]
  refine congrArg (· * _) ?_
  unfold cat
  rw [dif_pos (by dsimp only; omega)]
  exact congrArg (fun z => m ((c : Thread nD τ).loc main_arg0) (ix2 _ z)) e

theorem share1 (c : Dev nD) (t : Fin cfg0.N) (ht : t.val % 10 = 1) (x : Fin 8448) (r : Fin 1056)
    (hx : t.val / 10 * 1056 + r.val = x.val) (d : Fin 1024) :
    (∑ q : Fin 1024, blk1 m c t (ix2 r q) * wBlk m c t (ix2 d q)) = share m c ⟨t.val % 10, by omega⟩ x d := by
  obtain ⟨x, hx'⟩ := x
  dsimp only at hx
  subst hx
  unfold share part
  refine Finset.sum_congr rfl fun q _ => ?_
  have e : (q : Fin 1024) = ⟨t.val % 10 * 1024 + q.val - 1024, by omega⟩ := Fin.ext (by dsimp only; omega)
  rw [blk1_at, w_at]
  refine congrArg (· * _) ?_
  unfold cat
  rw [dif_neg (by dsimp only; omega), dif_pos (by dsimp only; omega)]
  exact congrArg (fun z => m ((c : Thread nD τ).loc main_arg1) (ix2 _ z)) e

theorem share2 (c : Dev nD) (t : Fin cfg0.N) (ht : t.val % 10 = 2) (x : Fin 8448) (r : Fin 1056)
    (hx : t.val / 10 * 1056 + r.val = x.val) (d : Fin 1024) :
    (∑ q : Fin 1024, blk2 m c t (ix2 r q) * wBlk m c t (ix2 d q)) = share m c ⟨t.val % 10, by omega⟩ x d := by
  obtain ⟨x, hx'⟩ := x
  dsimp only at hx
  subst hx
  unfold share part
  refine Finset.sum_congr rfl fun q _ => ?_
  have e : (q : Fin 1024) = ⟨t.val % 10 * 1024 + q.val - 1024 - 1024, by omega⟩ := Fin.ext (by dsimp only; omega)
  rw [blk2_at, w_at]
  refine congrArg (· * _) ?_
  unfold cat
  rw [dif_neg (by dsimp only; omega), dif_neg (by dsimp only; omega), dif_pos (by dsimp only; omega)]
  exact congrArg (fun z => m ((c : Thread nD τ).loc main_arg2) (ix2 _ z)) e

theorem share3 (c : Dev nD) (t : Fin cfg0.N) (ht : t.val % 10 = 3) (x : Fin 8448) (r : Fin 1056)
    (hx : t.val / 10 * 1056 + r.val = x.val) (d : Fin 1024) :
    (∑ q : Fin 1024, blk3 m c t (ix2 r q) * wBlk m c t (ix2 d q)) = share m c ⟨t.val % 10, by omega⟩ x d := by
  obtain ⟨x, hx'⟩ := x
  dsimp only at hx
  subst hx
  unfold share part
  refine Finset.sum_congr rfl fun q _ => ?_
  have e : (q : Fin 1024) = ⟨t.val % 10 * 1024 + q.val - 1024 - 1024 - 1024, by omega⟩ := Fin.ext (by dsimp only; omega)
  rw [blk3_at, w_at]
  refine congrArg (· * _) ?_
  unfold cat
  rw [dif_neg (by dsimp only; omega), dif_neg (by dsimp only; omega), dif_neg (by dsimp only; omega), dif_pos (by dsimp only; omega)]
  exact congrArg (fun z => m ((c : Thread nD τ).loc main_arg3) (ix2 _ z)) e

theorem share4 (c : Dev nD) (t : Fin cfg0.N) (ht : t.val % 10 = 4) (x : Fin 8448) (r : Fin 1056)
    (hx : t.val / 10 * 1056 + r.val = x.val) (d : Fin 1024) :
    (∑ q : Fin 1024, blk4 m c t (ix2 r q) * wBlk m c t (ix2 d q)) = share m c ⟨t.val % 10, by omega⟩ x d := by
  obtain ⟨x, hx'⟩ := x
  dsimp only at hx
  subst hx
  unfold share part
  refine Finset.sum_congr rfl fun q _ => ?_
  have e : (q : Fin 1024) = ⟨t.val % 10 * 1024 + q.val - 1024 - 1024 - 1024 - 1024, by omega⟩ := Fin.ext (by dsimp only; omega)
  rw [blk4_at, w_at]
  refine congrArg (· * _) ?_
  unfold cat
  rw [dif_neg (by dsimp only; omega), dif_neg (by dsimp only; omega), dif_neg (by dsimp only; omega), dif_neg (by dsimp only; omega), dif_pos (by dsimp only; omega)]
  exact congrArg (fun z => m ((c : Thread nD τ).loc main_arg4) (ix2 _ z)) e

theorem share5 (c : Dev nD) (t : Fin cfg0.N) (ht : t.val % 10 = 5) (x : Fin 8448) (r : Fin 1056)
    (hx : t.val / 10 * 1056 + r.val = x.val) (d : Fin 1024) :
    (∑ q : Fin 1024, blk5 m c t (ix2 r q) * wBlk m c t (ix2 d q)) = share m c ⟨t.val % 10, by omega⟩ x d := by
  obtain ⟨x, hx'⟩ := x
  dsimp only at hx
  subst hx
  unfold share part
  refine Finset.sum_congr rfl fun q _ => ?_
  have e : (q : Fin 1024) = ⟨t.val % 10 * 1024 + q.val - 1024 - 1024 - 1024 - 1024 - 1024, by omega⟩ := Fin.ext (by dsimp only; omega)
  rw [blk5_at, w_at]
  refine congrArg (· * _) ?_
  unfold cat
  rw [dif_neg (by dsimp only; omega), dif_neg (by dsimp only; omega), dif_neg (by dsimp only; omega), dif_neg (by dsimp only; omega), dif_neg (by dsimp only; omega), dif_pos (by dsimp only; omega)]
  exact congrArg (fun z => m ((c : Thread nD τ).loc main_arg5) (ix2 _ z)) e

theorem share6 (c : Dev nD) (t : Fin cfg0.N) (ht : 6 ≤ t.val % 10) (x : Fin 8448) (r : Fin 1056)
    (hx : t.val / 10 * 1056 + r.val = x.val) (d : Fin 1024) :
    (∑ q : Fin 1024, blk6 m c t (ix2 r q) * wBlk m c t (ix2 d q)) = share m c ⟨t.val % 10, by omega⟩ x d := by
  obtain ⟨x, hx'⟩ := x
  dsimp only at hx
  subst hx
  unfold share part
  refine Finset.sum_congr rfl fun q _ => ?_
  have e : (⟨(t.val % 10 - 6) * 1024 + q.val, by omega⟩ : Fin 4096) = ⟨t.val % 10 * 1024 + q.val - 1024 - 1024 - 1024 - 1024 - 1024 - 1024, by omega⟩ := Fin.ext (by dsimp only; omega)
  rw [blk6_at, w_at]
  refine congrArg (· * _) ?_
  unfold cat
  rw [dif_neg (by dsimp only; omega), dif_neg (by dsimp only; omega), dif_neg (by dsimp only; omega), dif_neg (by dsimp only; omega), dif_neg (by dsimp only; omega), dif_neg (by dsimp only; omega)]
  exact congrArg (fun z => m ((c : Thread nD τ).loc main_arg6) (ix2 _ z)) e

/-- The first point of a row block starts the sum. -/
theorem sums_first (c : Dev nD) (t : Fin cfg0.N) (ht : t.val % 10 = 0) (x : Fin 8448) (r : Fin 1056)
    (hx : t.val / 10 * 1056 + r.val = x.val) (d : Fin 1024) :
    sums m c t (ix2 r d) = share m c ⟨t.val % 10, by omega⟩ x d := by
  rw [sums_A m c t ht ht (by omega) (by omega) (by omega) (by omega) (by omega) (by omega), pay4_at, pay3_at, zero_add,
    share0 m c t ht x r hx]

/-- Every other point adds its block's share. -/
theorem sums_next (c : Dev nD) (t : Fin cfg0.N) (ht : ¬t.val % 10 = 0) (x : Fin 8448) (r : Fin 1056)
    (hx : t.val / 10 * 1056 + r.val = x.val) (d : Fin 1024) :
    sums m c t (ix2 r d) = (outsAt0 m c (t.val - 1) (by omega) : Vec Ideal S1056x1024 .f32) (ix2 r d)
      + share m c ⟨t.val % 10, by omega⟩ x d := by
  have hc : t.val % 10 = 1 ∨ t.val % 10 = 2 ∨ t.val % 10 = 3 ∨ t.val % 10 = 4 ∨ t.val % 10 = 5 ∨ 6 ≤ t.val % 10 := by omega
  rcases hc with h | h | h | h | h | h
  · rw [sums_B m c t (by omega) (by omega) (by omega) (by omega) (by omega) (by omega) (by omega) (by omega), pay5_at,
      share1 m c t h x r hx]
  · rw [sums_C m c t (by omega) (by omega) (by omega) (by omega) (by omega) (by omega) (by omega) (by omega), pay6_at,
      share2 m c t h x r hx]
  · rw [sums_D m c t (by omega) (by omega) (by omega) (by omega) (by omega) (by omega) (by omega) (by omega), pay7_at,
      share3 m c t h x r hx]
  · rw [sums_E m c t (by omega) (by omega) (by omega) (by omega) (by omega) (by omega) (by omega) (by omega), pay8_at,
      share4 m c t h x r hx]
  · rw [sums_F m c t (by omega) (by omega) (by omega) (by omega) (by omega) (by omega) (by omega) (by omega), pay1_at,
      share5 m c t h x r hx]
  · rw [sums_G m c t (by omega) (by omega) (by omega) (by omega) (by omega) (by omega) (by omega) (by omega), pay2_at,
      share6 m c t h x r hx]

/-- A share of a block of columns, zero past the last block. -/
def shareN (c : Dev nD) (k : ℕ) (x : Fin 8448) (d : Fin 1024) : EReal := if h : k < 10 then share m c ⟨k, h⟩ x d else 0

theorem sums_at (c : Dev nD) (n : ℕ) (hn : n < cfg0.N) (x : Fin 8448) (r : Fin 1056)
    (hx : n / 10 * 1056 + r.val = x.val) (d : Fin 1024) :
    sums m c ⟨n, hn⟩ (ix2 r d) = ∑ k ∈ Finset.range (n % 10 + 1), shareN m c k x d := by
  have e : ∀ t : Fin cfg0.N, share m c ⟨t.val % 10, by omega⟩ x d = shareN m c (t.val % 10) x d := by
    intro t
    unfold shareN
    rw [dif_pos (by omega)]
  have first : ∀ t : Fin cfg0.N, t.val % 10 = 0 → t.val / 10 * 1056 + r.val = x.val →
      sums m c t (ix2 r d) = ∑ k ∈ Finset.range (t.val % 10 + 1), shareN m c k x d := by
    intro t ht hx
    rw [sums_first m c t ht x r hx, e t, ht, Finset.sum_range_one]
  induction n with
  | zero => exact first ⟨0, hn⟩ rfl hx
  | succ n ih =>
    by_cases h0 : (n + 1) % 10 = 0
    · exact first ⟨n + 1, hn⟩ h0 hx
    · have e' : (n + 1) % 10 = n % 10 + 1 := by omega
      have step := sums_next m c ⟨n + 1, hn⟩ h0 x r hx d
      rw [e ⟨n + 1, hn⟩] at step
      dsimp only at step
      have before := ih (by omega) (by omega) e
      rw [step, e', Finset.sum_range_succ]
      exact congrArg (· + _) before

theorem full (c : Dev nD) (t : Fin cfg0.N) (ht : t.val % 10 = 9) (x : Fin 8448) (r : Fin 1056)
    (hx : t.val / 10 * 1056 + r.val = x.val) (d : Fin 1024) :
    sums m c t (ix2 r d) = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 x d) := by
  rw [sums_at m c t.val t.isLt x r hx, ht, spec_parts, Finset.sum_range]
  refine Finset.sum_congr rfl fun k _ => ?_
  unfold shareN
  rw [dif_pos k.isLt]

/-- An index of the array is in point `t`'s block iff each coordinate is in the block's range on its axis. -/
theorem mem_out8 (t : Fin cfg0.N) (i : S8448x1024.Idx) :
    i ∈ ((cfg0.win 8).blk t).view.set ↔ ∀ a : Fin 2, win0_8.index t a * S1056x1024.size a ≤ (i a).val
      ∧ (i a).val < win0_8.index t a * S1056x1024.size a + S1056x1024.size a := by
  show i ∈ ((View.whole main_v8).slice (win0_8.rect t)).set ↔ _
  rw [View.set_slice_whole, Rect.mem_set_unit]
  exact Iff.rfl

theorem final (c : Dev nD) : (dats m 0 c).arrAt 8 cfg0.N = (spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have hN : cfg0.N = 80 := N_0
  have hi : ∀ t : Fin cfg0.N, win0_8.index t 0 = t.val / 10 ∧ win0_8.index t 1 = 0 := by decide +kernel
  refine (dats m 0 c).arrAt_eq_of_cover 8 _ (fun t hf => ?_) (fun i => ?_)
  · have ht : t.val % 10 = 9 := (flush0_8 t).mp hf
    have htl : t.val < cfg0.N := t.isLt
    rw [Value.flushed8]
    funext y
    rw [View.read_apply]
    have hy : y = ix2 (y 0) (y 1) := by
      funext a
      match a with
      | ⟨0, _⟩ => rfl
      | ⟨1, _⟩ => rfl
    rw [hy]
    have hy0 : (y 0).val < 1056 := (y 0).isLt
    have hy1 : (y 1).val < 1024 := (y 1).isLt
    refine Eq.trans (full m c t ht ⟨t.val / 10 * 1056 + (y 0).val, by omega⟩ (y 0) rfl (y 1)) ?_
    refine congrArg ((spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) ?_
    funext a
    apply Fin.ext
    match a with
    | ⟨0, _⟩ => show t.val / 10 * 1056 + (y 0).val = win0_8.index t 0 * 1056 + 1 * (y 0).val; rw [(hi t).1]; omega
    | ⟨1, _⟩ => show (y 1).val = win0_8.index t 1 * 1024 + 1 * (y 1).val; rw [(hi t).2]; omega
  · have h0 : (i 0).val < 8448 := (i 0).isLt
    have h1 : (i 1).val < 1024 := (i 1).isLt
    have key := hi ⟨10 * ((i 0).val / 1056) + 9, by omega⟩
    dsimp only at key
    refine ⟨⟨10 * ((i 0).val / 1056) + 9, by omega⟩, (flush0_8 _).mpr (by dsimp only; omega), ?_⟩
    rw [mem_out8]
    intro a
    match a with
    | ⟨0, _⟩ => show win0_8.index _ 0 * 1056 ≤ (i 0).val ∧ (i 0).val < win0_8.index _ 0 * 1056 + 1056; rw [key.1]; omega
    | ⟨1, _⟩ => show win0_8.index _ 1 * 1024 ≤ (i 1).val ∧ (i 1).val < win0_8.index _ 1 * 1024 + 1024; rw [key.2]; omega

end Cert.Kernel6Ideal.Math

namespace Cert.Reference6Ideal.Math

open Cert.Reference6Ideal Cert.Reference6Ideal.Read
open Cert.Kernel6Ideal.Math (cat spec)

variable (g0 g1 g2 g3 g4 g5 : Vec Ideal S8448x1024 .f32) (g6 : Vec Ideal S8448x4096 .f32) (w : Vec Ideal S1024x10240 .f32)

theorem cat_at (x : Fin 8448) (j : Fin 10240) :
    val_main_v9 (F := Ideal) g0 g1 g2 g3 g4 g5 g6 (ix2 x j) = cat g0 g1 g2 g3 g4 g5 g6 x j := by
  unfold cat
  pointwise [val_main_v9]

theorem spec_at (x : Fin 8448) (d : Fin 1024) :
    val_main_v10 (F := Ideal) g0 g1 g2 g3 g4 g5 g6 w (ix2 x d) = spec g0 g1 g2 g3 g4 g5 g6 w (ix2 x d) := by
  show _ = ∑ j : Fin 10240, cat g0 g1 g2 g3 g4 g5 g6 x j * w (ix2 d j)
  simp only [← cat_at]
  pointwise [val_main_v10]

theorem spec_eq : val_main_v10 (F := Ideal) g0 g1 g2 g3 g4 g5 g6 w = spec g0 g1 g2 g3 g4 g5 g6 w := by
  funext i
  have hi : i = ix2 (i 0) (i 1) := by
    funext a
    match a with
    | ⟨0, _⟩ => rfl
    | ⟨1, _⟩ => rfl
  exact (congrArg (val_main_v10 (F := Ideal) g0 g1 g2 g3 g4 g5 g6 w) hi).trans
    ((spec_at g0 g1 g2 g3 g4 g5 g6 w _ _).trans (congrArg (spec g0 g1 g2 g3 g4 g5 g6 w) hi.symm))

end Cert.Reference6Ideal.Math

namespace Cert.Proof

theorem dn_wide : algebraic_Kernel6Ideal_Reference6Ideal := by
  intro m g m' g' _ heq
  refine ⟨fun c => Cert.Kernel6Ideal.Math.spec (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)), ?_, ?_⟩
  · refine (θ_run _ _ _).mono (fun r h c => ?_) (Cert.Kernel6Ideal.Value.run_blocks m g)
    obtain ⟨h0, h1⟩ := h c
    exact ⟨h0.trans (Cert.Kernel6Ideal.Math.final m c), h1⟩
  · refine (θ_run _ _ _).mono (fun r h c => ?_) (Cert.Reference6Ideal.Value.run m' g')
    obtain ⟨h0, h1⟩ := h c
    refine ⟨h0.trans ?_, h1⟩
    rw [(heq c).1, (heq c).2.1, (heq c).2.2.1, (heq c).2.2.2.1, (heq c).2.2.2.2.1, (heq c).2.2.2.2.2.1, (heq c).2.2.2.2.2.2.1, (heq c).2.2.2.2.2.2.2]
    exact Cert.Reference6Ideal.Math.spec_eq _ _ _ _ _ _ _ _

end Cert.Proof

end
-- ==== Proof.ProjFwd.lean ====
/- The projections' forward call (`Kernel7Ideal`): eleven row blocks, three blocks of columns each. The first point of a
   row block normalises the rows, and every point multiplies them with its block of columns. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel7Ideal.Math

open Cert.Kernel7Ideal Cert.Kernel7Ideal.Gen

variable (m : (ℓ : Loc nD τ sig) → Buf (Elt Ideal) ℓ)

theorem hz2 : (![0, 0] : Fin 2 → Nat) = fun _ => 0 := funext fun a => by fin_cases a <;> rfl

/-- Point `t`'s blocks of the operands, and what the two outputs' buffers hold after it. -/
abbrev hBlk (c : Dev nD) (t : Fin cfg0.N) : Vec Ideal S768x1024 .f32 := iblk m c 0 t
abbrev gainBlk (c : Dev nD) (t : Fin cfg0.N) : Vec Ideal S1x1024 .f32 := iblk m c 1 t
abbrev wBlk (c : Dev nD) (t : Fin cfg0.N) : Vec Ideal S1024x3456 .bf16 := iblk m c 2 t
abbrev prod (c : Dev nD) (t : Fin cfg0.N) : Vec Ideal S768x3456 .f32 := (outsAt0 m c t.val t.isLt).1
abbrev nrm (c : Dev nD) (t : Fin cfg0.N) : Vec Ideal S768x1024 .bf16 := (outsAt0 m c t.val t.isLt).2

theorem nrm_A (c : Dev nD) (t : Fin cfg0.N) (h0 : t.val % 3 = 0) (h1 : ¬1 ≤ t.val % 3) :
    nrm m c t = k0_pay1 (hBlk m c t) (gainBlk m c t) := by
  unfold nrm
  rw [outsAt0_A m c t h0 h1]
  dsimp only
  unfold out0_A_4
  rw [View.read_writes_eq_canon _ _ _ (fun y => cover0_A_4 (y := y) ..)]
  unfold kernelRun0_A
  dsimp only
  sl_unfold_words
  rw [View.canon_unit_zero hz2]
  simp only [View.readAt_eq_ld, (hs0_0 t).read_unread, (hs0_1 t).read_unread, View.ld_unit_zero (S := S768x1024) hz2, View.ld_unit_zero (S := S1x1024) hz2]

theorem prod_A (c : Dev nD) (t : Fin cfg0.N) (h0 : t.val % 3 = 0) (h1 : ¬1 ≤ t.val % 3) :
    prod m c t = k0_pay3 (k0_pay1 (hBlk m c t) (gainBlk m c t)) (wBlk m c t) := by
  unfold prod
  rw [outsAt0_A m c t h0 h1]
  dsimp only
  unfold out0_A_3
  rw [View.read_writes_eq_canon _ _ _ (fun y => cover0_A_3 (y := y) ..)]
  unfold kernelRun0_A
  dsimp only
  sl_unfold_words
  rw [View.canon_unit_zero hz2, View.readCov_unit_zero (S := S768x1024) _ hz2]
  simp only [View.readAt_eq_ld, (hs0_0 t).read_unread, (hs0_1 t).read_unread, (hs0_2 t).read_unread, View.ld_unit_zero (S := S768x1024) hz2, View.ld_unit_zero (S := S1x1024) hz2, View.ld_unit_zero (S := S1024x3456) hz2]

theorem pay2_eq (n : Vec Ideal S768x1024 .bf16) : k0_pay2 n = n := by
  funext i
  have hi : i = ix2 (i 0) (i 1) := by
    funext a
    match a with
    | ⟨0, _⟩ => rfl
    | ⟨1, _⟩ => rfl
  rw [hi]
  pointwise [k0_pay2]

theorem nrm_B (c : Dev nD) (t : Fin cfg0.N) (h0 : ¬t.val % 3 = 0) (h1 : 1 ≤ t.val % 3) :
    nrm m c t = (outsAt0 m c (t.val - 1) (by omega)).2 := by
  unfold nrm
  rw [outsAt0_B m c t h0 h1]
  dsimp only
  unfold out0_B_4
  rw [View.read_writes_eq_canon _ _ _ (fun y => cover0_B_4 (y := y) ..)]
  unfold kernelRun0_B
  dsimp only
  sl_unfold_words
  rw [View.canon_unit_zero hz2]
  simp only [View.readAt_eq_ld, (hs0_4 t).read_unread, View.ld_unit_zero (S := S768x1024) hz2]
  rw [pay2_eq]

theorem prod_B (c : Dev nD) (t : Fin cfg0.N) (h0 : ¬t.val % 3 = 0) (h1 : 1 ≤ t.val % 3) :
    prod m c t = k0_pay3 (outsAt0 m c (t.val - 1) (by omega)).2 (wBlk m c t) := by
  unfold prod
  rw [outsAt0_B m c t h0 h1]
  dsimp only
  unfold out0_B_3
  rw [View.read_writes_eq_canon _ _ _ (fun y => cover0_B_3 (y := y) ..)]
  unfold kernelRun0_B
  dsimp only
  sl_unfold_words
  rw [View.canon_unit_zero hz2, View.readCov_unit_zero (S := S768x1024) _ hz2]
  simp only [View.readAt_eq_ld, (hs0_2 t).read_unread, (hs0_4 t).read_unread, View.ld_unit_zero (S := S768x1024) hz2, View.ld_unit_zero (S := S1024x3456) hz2]
  rw [pay2_eq]

theorem pay1_at (x : Vec Ideal S768x1024 .f32) (g : Vec Ideal S1x1024 .f32) (r : Fin 768) (d : Fin 1024) :
    k0_pay1 x g (ix2 r d)
      = x (ix2 r d) * Ideal.rsqrt (Ideal.div (∑ e, x (ix2 r e) * x (ix2 r e)) (Ideal.ofBits .f32 0x44800000#32)
          + Ideal.ofBits .f32 0x358637BD#32) * g (ix2 0 d) := by
  pointwise [k0_pay1]

theorem pay3_at (n : Vec Ideal S768x1024 .bf16) (w : Vec Ideal S1024x3456 .bf16) (r : Fin 768) (q : Fin 3456) :
    k0_pay3 n w (ix2 r q) = ∑ e, n (ix2 r e) * w (ix2 e q) := by
  pointwise [k0_pay3]

theorem w_eq (c : Dev nD) : V m c main_v0 = m ((c : Thread nD τ).loc main_arg2) := by
  unfold V hostOps0
  after_results
  rfl

theorem h_at (c : Dev nD) (t : Fin cfg0.N) (r : Fin 768) (d : Fin 1024) :
    hBlk m c t (ix2 r d) = m ((c : Thread nD τ).loc main_arg0) (ix2 ⟨t.val / 3 * 768 + r.val, by have := t.isLt; have : cfg0.N = 33 := N_0; omega⟩ d) := by
  have hi : ∀ t : Fin cfg0.N, win0_0.index t 0 = t.val / 3 ∧ win0_0.index t 1 = 0 := by decide +kernel
  rw [← V_main_arg0 m c]
  unfold hBlk iblk
  rw [View.read_apply]
  show V m c main_arg0 _ = V m c main_arg0 _
  congr 1
  funext a
  apply Fin.ext
  match a with
  | ⟨0, _⟩ => show win0_0.index t 0 * 768 + 1 * r.val = t.val / 3 * 768 + r.val; rw [(hi t).1]; omega
  | ⟨1, _⟩ => show win0_0.index t 1 * 1024 + 1 * d.val = d.val; rw [(hi t).2]; omega

theorem gain_at (c : Dev nD) (t : Fin cfg0.N) (d : Fin 1024) :
    gainBlk m c t (ix2 0 d) = m ((c : Thread nD τ).loc main_arg1) (ix2 0 d) := by
  have hi : ∀ t : Fin cfg0.N, win0_1.index t 0 = 0 ∧ win0_1.index t 1 = 0 := by decide +kernel
  rw [← V_main_arg1 m c]
  unfold gainBlk iblk
  rw [View.read_apply]
  show V m c main_arg1 _ = V m c main_arg1 _
  congr 1
  funext a
  apply Fin.ext
  match a with
  | ⟨0, _⟩ => show win0_1.index t 0 * 1 + 1 * 0 = 0; rw [(hi t).1]
  | ⟨1, _⟩ => show win0_1.index t 1 * 1024 + 1 * d.val = d.val; rw [(hi t).2]; omega

theorem w_at (c : Dev nD) (t : Fin cfg0.N) (d : Fin 1024) (q : Fin 3456) :
    wBlk m c t (ix2 d q) = m ((c : Thread nD τ).loc main_arg2) (ix2 d ⟨t.val % 3 * 3456 + q.val, by have := t.isLt; have : cfg0.N = 33 := N_0; omega⟩) := by
  have hi : ∀ t : Fin cfg0.N, win0_2.index t 0 = 0 ∧ win0_2.index t 1 = t.val % 3 := by decide +kernel
  rw [← w_eq m c]
  unfold wBlk iblk
  rw [View.read_apply]
  show V m c main_v0 _ = V m c main_v0 _
  congr 1
  funext a
  apply Fin.ext
  match a with
  | ⟨0, _⟩ => show win0_2.index t 0 * 1024 + 1 * d.val = d.val; rw [(hi t).1]; omega
  | ⟨1, _⟩ => show win0_2.index t 1 * 3456 + 1 * q.val = t.val % 3 * 3456 + q.val; rw [(hi t).2]; omega

/-! ### The results -/

/-- The rows normalised by their root mean square. -/
def rowNorm (h : Vec Ideal S8448x1024 .f32) (g : Vec Ideal S1x1024 .f32) (x : Fin 8448) (d : Fin 1024) : EReal :=
  h (ix2 x d) * Ideal.rsqrt (Ideal.div (∑ e, h (ix2 x e) * h (ix2 x e)) (Ideal.ofBits .f32 0x44800000#32)
    + Ideal.ofBits .f32 0x358637BD#32) * g (ix2 0 d)

def nVec (h : Vec Ideal S8448x1024 .f32) (g : Vec Ideal S1x1024 .f32) : Vec Ideal S8448x1024 .bf16 :=
  fun i => rowNorm h g (i 0) (i 1)

def spec (h : Vec Ideal S8448x1024 .f32) (g : Vec Ideal S1x1024 .f32) (w : Vec Ideal S1024x10368 .f32) :
    Vec Ideal S8448x10368 .f32 :=
  fun i => ∑ e : Fin 1024, rowNorm h g (i 0) e * w (ix2 e (i 1))

/-- The buffer of the normalised rows holds the row block's at every point of its run. -/
theorem nrm_at (c : Dev nD) (n : ℕ) (hn : n < cfg0.N) (r : Fin 768) (d : Fin 1024) :
    nrm m c ⟨n, hn⟩ (ix2 r d) = rowNorm (m ((c : Thread nD τ).loc main_arg0)) (m ((c : Thread nD τ).loc main_arg1)) ⟨n / 3 * 768 + r.val, by have : cfg0.N = 33 := N_0; omega⟩ d := by
  have first : ∀ t : Fin cfg0.N, t.val % 3 = 0 → nrm m c t (ix2 r d)
      = rowNorm (m ((c : Thread nD τ).loc main_arg0)) (m ((c : Thread nD τ).loc main_arg1)) ⟨t.val / 3 * 768 + r.val, by have := t.isLt; have : cfg0.N = 33 := N_0; omega⟩ d := by
    intro t ht
    rw [nrm_A m c t ht (by omega), pay1_at]
    simp only [h_at, gain_at]
    rfl
  induction n with
  | zero => exact first ⟨0, hn⟩ rfl
  | succ n ih =>
    by_cases h0 : (n + 1) % 3 = 0
    · exact first ⟨n + 1, hn⟩ h0
    · have e : nrm m c ⟨n + 1, hn⟩ = nrm m c ⟨n, by omega⟩ := nrm_B m c ⟨n + 1, hn⟩ h0 (by dsimp only; omega)
      have e' : (n + 1) / 3 = n / 3 := by omega
      rw [e, ih (by omega) first]
      simp only [e']

/-- Every point's product is of the rows its buffer holds. -/
theorem prod_eq (c : Dev nD) (t : Fin cfg0.N) : prod m c t = k0_pay3 (nrm m c t) (wBlk m c t) := by
  by_cases h0 : t.val % 3 = 0
  · rw [prod_A m c t h0 (by omega), nrm_A m c t h0 (by omega)]
  · rw [prod_B m c t h0 (by omega), nrm_B m c t h0 (by omega)]

theorem prod_at (c : Dev nD) (t : Fin cfg0.N) (r : Fin 768) (q : Fin 3456) :
    prod m c t (ix2 r q) = spec (m ((c : Thread nD τ).loc main_arg0)) (m ((c : Thread nD τ).loc main_arg1)) (m ((c : Thread nD τ).loc main_arg2))
      (ix2 ⟨t.val / 3 * 768 + r.val, by have := t.isLt; have : cfg0.N = 33 := N_0; omega⟩
        ⟨t.val % 3 * 3456 + q.val, by omega⟩) := by
  rw [prod_eq, pay3_at]
  refine Finset.sum_congr rfl fun e _ => ?_
  rw [nrm_at m c t.val t.isLt, w_at]
  rfl

/-- An index of the array is in point `t`'s block iff each coordinate is in the block's range on its axis. -/
theorem mem_out3 (t : Fin cfg0.N) (i : S8448x10368.Idx) :
    i ∈ ((cfg0.win 3).blk t).view.set ↔ ∀ a : Fin 2, win0_3.index t a * S768x3456.size a ≤ (i a).val
      ∧ (i a).val < win0_3.index t a * S768x3456.size a + S768x3456.size a := by
  show i ∈ ((View.whole main_v1_0).slice (win0_3.rect t)).set ↔ _
  rw [View.set_slice_whole, Rect.mem_set_unit]
  exact Iff.rfl

/-- An index of the array is in point `t`'s block iff each coordinate is in the block's range on its axis. -/
theorem mem_out4 (t : Fin cfg0.N) (i : S8448x1024.Idx) :
    i ∈ ((cfg0.win 4).blk t).view.set ↔ ∀ a : Fin 2, win0_4.index t a * S768x1024.size a ≤ (i a).val
      ∧ (i a).val < win0_4.index t a * S768x1024.size a + S768x1024.size a := by
  show i ∈ ((View.whole main_v1_1).slice (win0_4.rect t)).set ↔ _
  rw [View.set_slice_whole, Rect.mem_set_unit]
  exact Iff.rfl

theorem final_prod (c : Dev nD) : (dats m 0 c).arrAt 3 cfg0.N = (spec (m ((c : Thread nD τ).loc main_arg0)) (m ((c : Thread nD τ).loc main_arg1)) (m ((c : Thread nD τ).loc main_arg2))) := by
  have hN : cfg0.N = 33 := N_0
  have hi : ∀ t : Fin cfg0.N, win0_3.index t 0 = t.val / 3 ∧ win0_3.index t 1 = t.val % 3 := by decide +kernel
  refine (dats m 0 c).arrAt_eq_of_cover 3 _ (fun t hf => ?_) (fun i => ?_)
  · have htl : t.val < cfg0.N := t.isLt
    have htl : t.val < cfg0.N := t.isLt
    rw [Value.flushed3]
    funext y
    rw [View.read_apply]
    have hy : y = ix2 (y 0) (y 1) := by
      funext a
      match a with
      | ⟨0, _⟩ => rfl
      | ⟨1, _⟩ => rfl
    rw [hy]
    have hy0 : (y 0).val < 768 := (y 0).isLt
    have hy1 : (y 1).val < 3456 := (y 1).isLt
    refine Eq.trans (prod_at m c t (y 0) (y 1)) ?_
    refine congrArg ((spec (m ((c : Thread nD τ).loc main_arg0)) (m ((c : Thread nD τ).loc main_arg1)) (m ((c : Thread nD τ).loc main_arg2)))) ?_
    funext a
    apply Fin.ext
    match a with
    | ⟨0, _⟩ => show t.val / 3 * 768 + (y 0).val = win0_3.index t 0 * 768 + 1 * (y 0).val; rw [(hi t).1]; omega
    | ⟨1, _⟩ => show t.val % 3 * 3456 + (y 1).val = win0_3.index t 1 * 3456 + 1 * (y 1).val; rw [(hi t).2]; omega
  · have h0 : (i 0).val < 8448 := (i 0).isLt
    have h1 : (i 1).val < 10368 := (i 1).isLt
    have key := hi ⟨3 * ((i 0).val / 768) + (i 1).val / 3456, by omega⟩
    dsimp only at key
    refine ⟨⟨3 * ((i 0).val / 768) + (i 1).val / 3456, by omega⟩, flush0_3 _, ?_⟩
    rw [mem_out3]
    intro a
    match a with
    | ⟨0, _⟩ => show win0_3.index _ 0 * 768 ≤ (i 0).val ∧ (i 0).val < win0_3.index _ 0 * 768 + 768; rw [key.1]; omega
    | ⟨1, _⟩ => show win0_3.index _ 1 * 3456 ≤ (i 1).val ∧ (i 1).val < win0_3.index _ 1 * 3456 + 3456; rw [key.2]; omega

theorem final_nrm (c : Dev nD) : (dats m 0 c).arrAt 4 cfg0.N = (nVec (m ((c : Thread nD τ).loc main_arg0)) (m ((c : Thread nD τ).loc main_arg1))) := by
  have hN : cfg0.N = 33 := N_0
  have hi : ∀ t : Fin cfg0.N, win0_4.index t 0 = t.val / 3 ∧ win0_4.index t 1 = 0 := by decide +kernel
  refine (dats m 0 c).arrAt_eq_of_cover 4 _ (fun t hf => ?_) (fun i => ?_)
  · have ht : t.val % 3 = 2 := (flush0_4 t).mp hf
    have htl : t.val < cfg0.N := t.isLt
    rw [Value.flushed4]
    funext y
    rw [View.read_apply]
    have hy : y = ix2 (y 0) (y 1) := by
      funext a
      match a with
      | ⟨0, _⟩ => rfl
      | ⟨1, _⟩ => rfl
    rw [hy]
    have hy0 : (y 0).val < 768 := (y 0).isLt
    have hy1 : (y 1).val < 1024 := (y 1).isLt
    refine Eq.trans (nrm_at m c t.val t.isLt (y 0) (y 1)) ?_
    refine Eq.trans (b := nVec (m ((c : Thread nD τ).loc main_arg0)) (m ((c : Thread nD τ).loc main_arg1)) (ix2 ⟨t.val / 3 * 768 + (y 0).val, by omega⟩ (y 1))) rfl ?_
    refine congrArg ((nVec (m ((c : Thread nD τ).loc main_arg0)) (m ((c : Thread nD τ).loc main_arg1)))) ?_
    funext a
    apply Fin.ext
    match a with
    | ⟨0, _⟩ => show t.val / 3 * 768 + (y 0).val = win0_4.index t 0 * 768 + 1 * (y 0).val; rw [(hi t).1]; omega
    | ⟨1, _⟩ => show (y 1).val = win0_4.index t 1 * 1024 + 1 * (y 1).val; rw [(hi t).2]; omega
  · have h0 : (i 0).val < 8448 := (i 0).isLt
    have h1 : (i 1).val < 1024 := (i 1).isLt
    have key := hi ⟨3 * ((i 0).val / 768) + 2, by omega⟩
    dsimp only at key
    refine ⟨⟨3 * ((i 0).val / 768) + 2, by omega⟩, (flush0_4 _).mpr (by dsimp only; omega), ?_⟩
    rw [mem_out4]
    intro a
    match a with
    | ⟨0, _⟩ => show win0_4.index _ 0 * 768 ≤ (i 0).val ∧ (i 0).val < win0_4.index _ 0 * 768 + 768; rw [key.1]; omega
    | ⟨1, _⟩ => show win0_4.index _ 1 * 1024 ≤ (i 1).val ∧ (i 1).val < win0_4.index _ 1 * 1024 + 1024; rw [key.2]; omega

end Cert.Kernel7Ideal.Math

namespace Cert.Reference7Ideal.Math

open Cert.Reference7Ideal Cert.Reference7Ideal.Read
open Cert.Kernel7Ideal.Math (rowNorm nVec spec)

variable (h : Vec Ideal S8448x1024 .f32) (g : Vec Ideal S1x1024 .f32) (w : Vec Ideal S1024x10368 .f32)

theorem norm_at (x : Fin 8448) (d : Fin 1024) : val_main_v11 (F := Ideal) h g (ix2 x d) = rowNorm h g x d := by
  unfold rowNorm
  pointwise [val_main_v11, val_main_v10, val_main_v9, val_main_v8, val_main_v7, val_main_v6, val_main_v5, val_main_v4,
    val_main_v3, val_main_v2, val_main_v1, val_main_v0, val_main_cst, val_main_cst_0, val_main_cst_1]

theorem n_at (x : Fin 8448) (d : Fin 1024) : val_main_v13 (F := Ideal) h g (ix2 x d) = nVec h g (ix2 x d) := by
  show _ = rowNorm h g x d
  rw [← norm_at]
  pointwise [val_main_v13]

theorem spec_at (x : Fin 8448) (q : Fin 10368) : val_main_v12 (F := Ideal) h g w (ix2 x q) = spec h g w (ix2 x q) := by
  show _ = ∑ e : Fin 1024, rowNorm h g x e * w (ix2 e q)
  simp only [← norm_at]
  pointwise [val_main_v12]

theorem n_eq : val_main_v13 (F := Ideal) h g = nVec h g := by
  funext i
  have hi : i = ix2 (i 0) (i 1) := by
    funext a
    match a with
    | ⟨0, _⟩ => rfl
    | ⟨1, _⟩ => rfl
  exact (congrArg (val_main_v13 (F := Ideal) h g) hi).trans ((n_at h g _ _).trans (congrArg (nVec h g) hi.symm))

theorem spec_eq : val_main_v12 (F := Ideal) h g w = spec h g w := by
  funext i
  have hi : i = ix2 (i 0) (i 1) := by
    funext a
    match a with
    | ⟨0, _⟩ => rfl
    | ⟨1, _⟩ => rfl
  exact (congrArg (val_main_v12 (F := Ideal) h g w) hi).trans
    ((spec_at h g w _ _).trans (congrArg (spec h g w) hi.symm))

end Cert.Reference7Ideal.Math

namespace Cert.Proof

theorem proj_fwd : algebraic_Kernel7Ideal_Reference7Ideal := by
  intro m g m' g' _ heq
  refine ⟨fun c => Cert.Kernel7Ideal.Math.spec (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), fun c => Cert.Kernel7Ideal.Math.nVec (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · refine (θ_run _ _ _).mono (fun r h c => ?_) (Cert.Kernel7Ideal.Value.run_blocks m g)
    obtain ⟨h0, h1, h2⟩ := h c
    exact ⟨h0.trans (Cert.Kernel7Ideal.Math.final_prod m c), h1.trans (Cert.Kernel7Ideal.Math.final_nrm m c), h2⟩
  · refine (θ_run _ _ _).mono (fun r h c => ?_) (Cert.Reference7Ideal.Value.run m' g')
    obtain ⟨h0, h1, h2⟩ := h c
    refine ⟨h0.trans ?_, h1.trans ?_, h2⟩
    · rw [(heq c).1, (heq c).2.1, (heq c).2.2]
      exact Cert.Reference7Ideal.Math.spec_eq _ _ _
    · rw [(heq c).1, (heq c).2.1]
      exact Cert.Reference7Ideal.Math.n_eq _ _

end Cert.Proof

end
-- ==== Proof.FfnHeadOuts.lean ====
/- The feed-forward with the loss: what each case of a point's body leaves in the outputs' buffers and in the two
   scratches, each read back from the pieces that the case's run stores; the pieces cover what they must. -/
module

public import proofs.«01_k».proof.Proof.Gen.Kernel8Ideal.Frame.RunD
public import Idealize.ShloMosaic.Lib.Claim

@[expose] public section

set_option maxRecDepth 16384

noncomputable section

namespace Cert.Kernel8Ideal.Head

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section CaseA
variable (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : cond0_0 i) (hc1 : cond0_1 i) (hc2 : ¬cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32)

def out0_A_9 : Vec F S768x1024 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).1)
theorem cover0_A_10 (y : S1x768x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.1 S1x768x704.size (by sl_kernel_rfl) y
def out0_A_10 : Vec F S1x768x704 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.1)
theorem cover0_A_11 (y : S1x768x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.1 S1x768x704.size (by sl_kernel_rfl) y
def out0_A_11 : Vec F S1x768x704 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.1)
theorem cover0_A_12 (y : S1x768x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.1 S1x768x704.size (by sl_kernel_rfl) y
def out0_A_12 : Vec F S1x768x704 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.1)
theorem cover0_A_13 (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.1 S1x128.size (by sl_kernel_rfl) y
def out0_A_13 : Vec F S1x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.1)
theorem cover0_A_14 (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.1 S1x1024.size (by sl_kernel_rfl) y
def out0_A_14 : Vec F S1x1024 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.1)
theorem scover0_A_0 (y : S768x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.1 S768x1024.size (by sl_kernel_rfl) y
def sout0_A_0 : Vec F S768x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.1)
theorem scover0_A_1 (y : S768x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.2.1 S768x1024.size (by sl_kernel_rfl) y
def sout0_A_1 : Vec F S768x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.2.1)

end CaseA

section CaseB
variable (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : ¬cond0_0 i) (hc1 : ¬cond0_1 i) (hc2 : ¬cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32) (xs0 : Vec F S768x1024 .bf16) (xs1 : Vec F S768x1024 .f32)

def out0_B_9 : Vec F S768x1024 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).1)
theorem cover0_B_10 (y : S1x768x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.1 S1x768x704.size (by sl_kernel_rfl) y
def out0_B_10 : Vec F S1x768x704 .bf16 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.1)
theorem cover0_B_11 (y : S1x768x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.2.1 S1x768x704.size (by sl_kernel_rfl) y
def out0_B_11 : Vec F S1x768x704 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.2.1)
theorem cover0_B_12 (y : S1x768x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.2.2.1 S1x768x704.size (by sl_kernel_rfl) y
def out0_B_12 : Vec F S1x768x704 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.2.2.1)
theorem scover0_B_1 (y : S768x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.2.2.2.2.2.2.1 S768x1024.size (by sl_kernel_rfl) y
def sout0_B_1 : Vec F S768x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xs0 xs1).2.2.2.2.2.2.2.1)

end CaseB

def out0_B_13 (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : ¬cond0_0 i) (hc1 : ¬cond0_1 i) (hc2 : ¬cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32) (xs0 : Vec F S768x1024 .bf16) (xs1 : Vec F S768x1024 .f32) (xo13 : Vec F S1x128 .f32) : Vec F S1x128 .f32 := xo13
def out0_B_14 (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : ¬cond0_0 i) (hc1 : ¬cond0_1 i) (hc2 : ¬cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32) (xs0 : Vec F S768x1024 .bf16) (xs1 : Vec F S768x1024 .f32) (xo14 : Vec F S1x1024 .f32) : Vec F S1x1024 .f32 := xo14
def sout0_B_0 (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : ¬cond0_0 i) (hc1 : ¬cond0_1 i) (hc2 : ¬cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32) (xs0 : Vec F S768x1024 .bf16) (xs1 : Vec F S768x1024 .f32) : Vec F S768x1024 .bf16 := xs0

section CaseC
variable (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : ¬cond0_0 i) (hc1 : ¬cond0_1 i) (hc2 : cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32) (xo13 : Vec F S1x128 .f32) (xo14 : Vec F S1x1024 .f32) (xs0 : Vec F S768x1024 .bf16) (xs1 : Vec F S768x1024 .f32)

theorem cover0_C_9 (y : S768x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).1 S256x1024.size (by sl_kernel_rfl) y
def out0_C_9 : Vec F S768x1024 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).1)
theorem cover0_C_10 (y : S1x768x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.1 S1x768x704.size (by sl_kernel_rfl) y
def out0_C_10 : Vec F S1x768x704 .bf16 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.1)
theorem cover0_C_11 (y : S1x768x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.1 S1x768x704.size (by sl_kernel_rfl) y
def out0_C_11 : Vec F S1x768x704 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.1)
theorem cover0_C_12 (y : S1x768x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.1 S1x768x704.size (by sl_kernel_rfl) y
def out0_C_12 : Vec F S1x768x704 .bf16 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.1)
theorem cover0_C_13 (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.2.1 S1x128.size (by sl_kernel_rfl) y
def out0_C_13 : Vec F S1x128 .f32 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.2.1)
theorem cover0_C_14 (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.2.2.1 S1x1024.size (by sl_kernel_rfl) y
def out0_C_14 : Vec F S1x1024 .f32 :=
  VO0_14.read (Elt F) (VO0_14.writes (Elt F) VO0_14.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.2.2.1)
theorem scover0_C_1 (y : S768x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.2.2.2.2.1 S768x1024.size (by sl_kernel_rfl) y
def sout0_C_1 : Vec F S768x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 xo13 xo14 xs0 xs1).2.2.2.2.2.2.2.1)

end CaseC

def sout0_C_0 (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : ¬cond0_0 i) (hc1 : ¬cond0_1 i) (hc2 : cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32) (xo13 : Vec F S1x128 .f32) (xo14 : Vec F S1x1024 .f32) (xs0 : Vec F S768x1024 .bf16) (xs1 : Vec F S768x1024 .f32) : Vec F S768x1024 .bf16 := xs0

section CaseD
variable (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : cond0_0 i) (hc1 : ¬cond0_1 i) (hc2 : ¬cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32)

def out0_D_9 : Vec F S768x1024 .f32 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).1)
theorem cover0_D_10 (y : S1x768x704.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.1 S1x768x704.size (by sl_kernel_rfl) y
def out0_D_10 : Vec F S1x768x704 .bf16 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.1)
theorem cover0_D_11 (y : S1x768x704.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.1 S1x768x704.size (by sl_kernel_rfl) y
def out0_D_11 : Vec F S1x768x704 .bf16 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.1)
theorem cover0_D_12 (y : S1x768x704.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.1 S1x768x704.size (by sl_kernel_rfl) y
def out0_D_12 : Vec F S1x768x704 .bf16 :=
  VO0_12.read (Elt F) (VO0_12.writes (Elt F) VO0_12.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.1)
theorem scover0_D_0 (y : S768x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.1 S768x1024.size (by sl_kernel_rfl) y
def sout0_D_0 : Vec F S768x1024 .bf16 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.1)
theorem scover0_D_1 (y : S768x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.2.1 S768x1024.size (by sl_kernel_rfl) y
def sout0_D_1 : Vec F S768x1024 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8).2.2.2.2.2.2.2.1)

end CaseD

def out0_D_13 (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : cond0_0 i) (hc1 : ¬cond0_1 i) (hc2 : ¬cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32) (xo13 : Vec F S1x128 .f32) : Vec F S1x128 .f32 := xo13
def out0_D_14 (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S704x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S768x1024 .f32) (harg11 : arg11.IsWhole) (arg12 : Memref sig .tc .vmem S1x768x704 .bf16) (harg12 : arg12.IsWhole) (arg13 : Memref sig .tc .vmem S1x768x704 .bf16) (harg13 : arg13.IsWhole) (arg14 : Memref sig .tc .vmem S1x768x704 .bf16) (harg14 : arg14.IsWhole) (arg15 : Memref sig .tc .vmem S1x128 .f32) (harg15 : arg15.IsWhole) (arg16 : Memref sig .tc .vmem S1x1024 .f32) (harg16 : arg16.IsWhole) (arg17 : Memref sig .tc .vmem S768x1024 .bf16) (harg17 : arg17.IsWhole) (arg18 : Memref sig .tc .vmem S768x1024 .f32) (harg18 : arg18.IsWhole) (hc0 : cond0_0 i) (hc1 : ¬cond0_1 i) (hc2 : ¬cond0_2 i)
    (x0 : Vec F S768x1024 .f32) (x1 : Vec F S1x1024 .f32) (x2 : Vec F S1x1024x704 .bf16) (x3 : Vec F S1x1024x704 .bf16) (x4 : Vec F S704x1024 .bf16) (x5 : Vec F S1x1024 .f32) (x6 : Vec F S256x1024 .f32) (x7 : Vec F S256x1024 .f32) (x8 : Vec F S256x1024 .f32) (xo14 : Vec F S1x1024 .f32) : Vec F S1x1024 .f32 := xo14

end Cert.Kernel8Ideal.Head

end
-- ==== Proof.FfnHeadFrame.lean ====
/- The feed-forward with the loss: what the buffers hold after each point, the body's obligation at every point, and the
   run. -/
module

public import proofs.«01_k».proof.Proof.FfnHeadOuts

@[expose] public section

set_option maxRecDepth 16384

noncomputable section

namespace Cert.Kernel8Ideal.Head

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' buffers, in the windows' order, and the two scratches. -/
abbrev Held (F : FTy → Type) [FloatOps F] : Type := Vec F S768x1024 .f32 × Vec F S1x768x704 .bf16 × Vec F S1x768x704 .bf16 × Vec F S1x768x704 .bf16 × Vec F S1x128 .f32 × Vec F S1x1024 .f32 × Vec F S768x1024 .bf16 × Vec F S768x1024 .f32

/-- What a point of case A leaves. -/
def stepA (c : Dev nD) (t : Fin cfg0.N) (h0 : t.val % 4 = 0) (h1 : t.val % 44 = 0) (h2 : ¬t.val % 4 = 3) : Held F :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t))

/-- What a point of case B leaves, over what the point before left. -/
def stepB (c : Dev nD) (t : Fin cfg0.N) (h0 : ¬t.val % 4 = 0) (h1 : ¬t.val % 44 = 0) (h2 : ¬t.val % 4 = 3) (p : Held F) : Held F :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.2.2.1 p.2.2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.2.2.1 p.2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.2.2.1 p.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.2.2.1 p.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.2.2.1 p.2.2.2.2.2.2.2 p.2.2.2.2.1, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.2.2.1 p.2.2.2.2.2.2.2 p.2.2.2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.2.2.1 p.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.2.2.1 p.2.2.2.2.2.2.2)

/-- What a point of case C leaves, over what the point before left. -/
def stepC (c : Dev nD) (t : Fin cfg0.N) (h0 : ¬t.val % 4 = 0) (h1 : ¬t.val % 44 = 0) (h2 : t.val % 4 = 3) (p : Held F) : Held F :=
  (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) p.2.2.2.2.1 p.2.2.2.2.2.1 p.2.2.2.2.2.2.1 p.2.2.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) p.2.2.2.2.1 p.2.2.2.2.2.1 p.2.2.2.2.2.2.1 p.2.2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) p.2.2.2.2.1 p.2.2.2.2.2.1 p.2.2.2.2.2.2.1 p.2.2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) p.2.2.2.2.1 p.2.2.2.2.2.1 p.2.2.2.2.2.2.1 p.2.2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) p.2.2.2.2.1 p.2.2.2.2.2.1 p.2.2.2.2.2.2.1 p.2.2.2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) p.2.2.2.2.1 p.2.2.2.2.2.1 p.2.2.2.2.2.2.1 p.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) p.2.2.2.2.1 p.2.2.2.2.2.1 p.2.2.2.2.2.2.1 p.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) p.2.2.2.2.1 p.2.2.2.2.2.1 p.2.2.2.2.2.2.1 p.2.2.2.2.2.2.2)

/-- What a point of case D leaves, over what the point before left. -/
def stepD (c : Dev nD) (t : Fin cfg0.N) (h0 : t.val % 4 = 0) (h1 : ¬t.val % 44 = 0) (h2 : ¬t.val % 4 = 3) (p : Held F) : Held F :=
  (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t), out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.1, out0_D_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) p.2.2.2.2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t), sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t))

/-- What the buffers hold after the body of point `n`. -/
def outsAt0 (c : Dev nD) : (n : ℕ) → n < cfg0.N → Held F
  | 0, hn => stepA m c ⟨0, hn⟩ (Nat.zero_mod 4) (Nat.zero_mod 44) (fun h => absurd (show (0 : Nat) % 4 = 3 from h) (by decide))
  | n + 1, hn =>
    if h0 : (n + 1) % 4 = 0 then
      if h1 : (n + 1) % 44 = 0 then
        if h2 : (n + 1) % 4 = 3 then
          False.elim (by have hN : n + 1 < 44 := lt_of_lt_of_eq hn (show cfg0.N = 44 from N_0); omega)
        else
          stepA m c ⟨n + 1, hn⟩ h0 h1 h2
      else
        if h2 : (n + 1) % 4 = 3 then
          False.elim (by have hN : n + 1 < 44 := lt_of_lt_of_eq hn (show cfg0.N = 44 from N_0); omega)
        else
          stepD m c ⟨n + 1, hn⟩ h0 h1 h2 (outsAt0 c n (Nat.lt_of_succ_lt hn))
    else
      if h1 : (n + 1) % 44 = 0 then
        False.elim (by have hN : n + 1 < 44 := lt_of_lt_of_eq hn (show cfg0.N = 44 from N_0); omega)
      else
        if h2 : (n + 1) % 4 = 3 then
          stepC m c ⟨n + 1, hn⟩ h0 h1 h2 (outsAt0 c n (Nat.lt_of_succ_lt hn))
        else
          stepB m c ⟨n + 1, hn⟩ h0 h1 h2 (outsAt0 c n (Nat.lt_of_succ_lt hn))

theorem outsAt0_A (c : Dev nD) (t : Fin cfg0.N) (h0 : t.val % 4 = 0) (h1 : t.val % 44 = 0) (h2 : ¬t.val % 4 = 3) :
    outsAt0 m c t.val t.isLt = stepA m c t h0 h1 h2 := by
  obtain ⟨n, hn⟩ := t
  cases n with
  | zero => exact rfl
  | succ n => exact (dif_pos h0).trans ((dif_pos h1).trans ((dif_neg h2).trans rfl))

theorem outsAt0_B (c : Dev nD) (t : Fin cfg0.N) (h0 : ¬t.val % 4 = 0) (h1 : ¬t.val % 44 = 0) (h2 : ¬t.val % 4 = 3) :
    outsAt0 m c t.val t.isLt = stepB m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans rfl))

theorem outsAt0_C (c : Dev nD) (t : Fin cfg0.N) (h0 : ¬t.val % 4 = 0) (h1 : ¬t.val % 44 = 0) (h2 : t.val % 4 = 3) :
    outsAt0 m c t.val t.isLt = stepC m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

theorem outsAt0_D (c : Dev nD) (t : Fin cfg0.N) (h0 : t.val % 4 = 0) (h1 : ¬t.val % 44 = 0) (h2 : ¬t.val % 4 = 3) :
    outsAt0 m c t.val t.isLt = stepD m c t h0 h1 h2 (outsAt0 m c (t.val - 1) (Nat.lt_of_le_of_lt (Nat.sub_le _ _) t.isLt)) := by
  obtain ⟨n, hn⟩ := t
  cases n with
  | zero => exact (by exfalso; (try dsimp only at h1); exact absurd (Nat.zero_mod _) h1)
  | succ n => exact (dif_pos h0).trans ((dif_neg h1).trans ((dif_neg h2).trans rfl))

/-- The state between points: the two scratches at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r)) := by
  cases n with
  | zero => exact absurd rfl hz
  | succ n => rfl

/-- The pipeline: the arrays as the run finds them, the inputs' buffers at their blocks, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
    | ⟨14, _⟩ => (outsAt0 m c t.val t.isLt).2.2.2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]
theorem after0_14 (c : Dev nD) (t : Fin cfg0.N) : (dats m 0 c).after 14 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 44 := lt_of_lt_of_eq t.isLt (show cfg0.N = 44 from N_0)
  rw [after0_13, after0_13]
  by_cases h0 : t.val % 4 = 0
  · by_cases h1 : t.val % 44 = 0
    · by_cases h2 : t.val % 4 = 3
      · exfalso; omega
      · rw [liveAt0_13_A t ((hcond0_0 t).mpr h0) ((hcond0_1 t).mpr h1) (fun h => h2 ((hcond0_2 t).mp h))] at hi
        exact absurd hi Bool.false_ne_true
    · by_cases h2 : t.val % 4 = 3
      · exfalso; omega
      · rw [outsAt0_D m c t h0 h1 h2, stepD]
        dsimp only
        unfold out0_D_13
        rfl
  · by_cases h1 : t.val % 44 = 0
    · exfalso; omega
    · by_cases h2 : t.val % 4 = 3
      · rw [liveAt0_13_C t (fun h => h0 ((hcond0_0 t).mp h)) (fun h => h1 ((hcond0_1 t).mp h)) ((hcond0_2 t).mpr h2)] at hi
        exact absurd hi Bool.false_ne_true
      · rw [outsAt0_B m c t h0 h1 h2, stepB]
        dsimp only
        unfold out0_B_13
        rfl

theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 44 := lt_of_lt_of_eq t.isLt (show cfg0.N = 44 from N_0)
  rw [after0_14, after0_14]
  by_cases h0 : t.val % 4 = 0
  · by_cases h1 : t.val % 44 = 0
    · by_cases h2 : t.val % 4 = 3
      · exfalso; omega
      · rw [liveAt0_14_A t ((hcond0_0 t).mpr h0) ((hcond0_1 t).mpr h1) (fun h => h2 ((hcond0_2 t).mp h))] at hi
        exact absurd hi Bool.false_ne_true
    · by_cases h2 : t.val % 4 = 3
      · exfalso; omega
      · rw [outsAt0_D m c t h0 h1 h2, stepD]
        dsimp only
        unfold out0_D_14
        rfl
  · by_cases h1 : t.val % 44 = 0
    · exfalso; omega
    · by_cases h2 : t.val % 4 = 3
      · rw [liveAt0_14_C t (fun h => h0 ((hcond0_0 t).mp h)) (fun h => h1 ((hcond0_1 t).mp h)) ((hcond0_2 t).mpr h2)] at hi
        exact absurd hi Bool.false_ne_true
      · rw [outsAt0_B m c t h0 h1 h2, stepB]
        dsimp only
        unfold out0_B_14
        rfl
theorem before0_13_C (c : Dev nD) (t : Fin cfg0.N) (h0 : ¬t.val % 4 = 0) (h1 : ¬t.val % 44 = 0) (h2 : t.val % 4 = 3) (d) :
    (dats m 0 c).before 13 t d = (outsAt0 m c (t.val - 1) (Nat.lt_of_le_of_lt (Nat.sub_le _ _) t.isLt)).2.2.2.2.1 := by
  rw [Dat.before_out_traj _ 13 rfl (fun _ _ => rfl) (hcarry0_13 m c) t.val t rfl d,
    if_neg (by rw [notFresh0_13_C t (fun h => h0 ((hcond0_0 t).mp h)) (fun h => h1 ((hcond0_1 t).mp h)) ((hcond0_2 t).mpr h2)]; exact Bool.false_ne_true)]
  dsimp only [dats]
theorem before0_14_C (c : Dev nD) (t : Fin cfg0.N) (h0 : ¬t.val % 4 = 0) (h1 : ¬t.val % 44 = 0) (h2 : t.val % 4 = 3) (d) :
    (dats m 0 c).before 14 t d = (outsAt0 m c (t.val - 1) (Nat.lt_of_le_of_lt (Nat.sub_le _ _) t.isLt)).2.2.2.2.2.1 := by
  rw [Dat.before_out_traj _ 14 rfl (fun _ _ => rfl) (hcarry0_14 m c) t.val t rfl d,
    if_neg (by rw [notFresh0_14_C t (fun h => h0 ((hcond0_0 t).mp h)) (fun h => h1 ((hcond0_1 t).mp h)) ((hcond0_2 t).mpr h2)]; exact Bool.false_ne_true)]
  dsimp only [dats]

/-  A window that is live at every point is left at what the proof data says. -/
theorem leaves0_0 (c : Dev nD) (t : Fin cfg0.N) : (dats m 0 c).leavesExact 0 t
    = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t
    = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t
    = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t
    = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t
    = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t
    = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t
    = owns (c : Thread nD τ) (ms0_6 t) fullShare ((dats m 0 c).after 6 t) := by
  unfold Dat.leavesExact; rw [liveAt0_6 t]
theorem leaves0_7 (c : Dev nD) (t : Fin cfg0.N) : (dats m 0 c).leavesExact 7 t
    = owns (c : Thread nD τ) (ms0_7 t) fullShare ((dats m 0 c).after 7 t) := by
  unfold Dat.leavesExact; rw [liveAt0_7 t]
theorem leaves0_8 (c : Dev nD) (t : Fin cfg0.N) : (dats m 0 c).leavesExact 8 t
    = owns (c : Thread nD τ) (ms0_8 t) fullShare ((dats m 0 c).after 8 t) := by
  unfold Dat.leavesExact; rw [liveAt0_8 t]
theorem leaves0_10 (c : Dev nD) (t : Fin cfg0.N) : (dats m 0 c).leavesExact 10 t
    = owns (c : Thread nD τ) (ms0_10 t) fullShare ((dats m 0 c).after 10 t) := by
  unfold Dat.leavesExact; rw [liveAt0_10 t]
theorem leaves0_11 (c : Dev nD) (t : Fin cfg0.N) : (dats m 0 c).leavesExact 11 t
    = owns (c : Thread nD τ) (ms0_11 t) fullShare ((dats m 0 c).after 11 t) := by
  unfold Dat.leavesExact; rw [liveAt0_11 t]
theorem leaves0_12 (c : Dev nD) (t : Fin cfg0.N) : (dats m 0 c).leavesExact 12 t
    = owns (c : Thread nD τ) (ms0_12 t) fullShare ((dats m 0 c).after 12 t) := by
  unfold Dat.leavesExact; rw [liveAt0_12 t]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 25600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 44 := lt_of_lt_of_eq t.isLt (show cfg0.N = 44 from N_0)
  by_cases h0 : t.val % 4 = 0
  · by_cases h1 : t.val % 44 = 0
    · by_cases h2 : t.val % 4 = 3
      · exfalso; omega
      · rw [leaves0_0, after0_0]
        rw [leaves0_1, after0_1, leaves0_2, after0_2, leaves0_3, after0_3, leaves0_4, after0_4, leaves0_5, after0_5, leaves0_6, after0_6, leaves0_7, after0_7, leaves0_8, after0_8]
        rw [Dat.leavesExact_idle (dats m 0 c) 9 t (idleAt0_9_A t ((hcond0_0 t).mpr h0) ((hcond0_1 t).mpr h1) (fun h => h2 ((hcond0_2 t).mp h))) (noFlush0_9_A t ((hcond0_0 t).mpr h0) ((hcond0_1 t).mpr h1) (fun h => h2 ((hcond0_2 t).mp h)))]
        rw [leaves0_10, after0_10, leaves0_11, after0_11, leaves0_12, after0_12]
        rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_A t ((hcond0_0 t).mpr h0) ((hcond0_1 t).mpr h1) (fun h => h2 ((hcond0_2 t).mp h))], after0_14]
        by_cases hz : t.val = 0
        · rw [PhiS_castSucc m c t, PhiS_zero m c _ _ hz, PhiA0_eq]
          rw [outsAt0_A m c t h0 h1 h2, stepA]
          unfold out0_A_10 out0_A_11 out0_A_12 out0_A_13 out0_A_14 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t)).2.2.2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _)
        · exfalso; have hN : t.val < 44 := lt_of_lt_of_eq t.isLt (show cfg0.N = 44 from N_0); omega
    · by_cases h2 : t.val % 4 = 3
      · exfalso; omega
      · rw [leaves0_0, after0_0]
        rw [leaves0_1, after0_1, leaves0_2, after0_2, leaves0_3, after0_3, leaves0_4, after0_4, leaves0_5, after0_5, leaves0_6, after0_6, leaves0_7, after0_7, leaves0_8, after0_8]
        rw [Dat.leavesExact_idle (dats m 0 c) 9 t (idleAt0_9_D t ((hcond0_0 t).mpr h0) (fun h => h1 ((hcond0_1 t).mp h)) (fun h => h2 ((hcond0_2 t).mp h))) (noFlush0_9_D t ((hcond0_0 t).mpr h0) (fun h => h1 ((hcond0_1 t).mp h)) (fun h => h2 ((hcond0_2 t).mp h)))]
        rw [leaves0_10, after0_10, leaves0_11, after0_11, leaves0_12, after0_12]
        rw [Dat.leavesExact_idle (dats m 0 c) 13 t (idleAt0_13_D t ((hcond0_0 t).mpr h0) (fun h => h1 ((hcond0_1 t).mp h)) (fun h => h2 ((hcond0_2 t).mp h))) (noFlush0_13_D t ((hcond0_0 t).mpr h0) (fun h => h1 ((hcond0_1 t).mp h)) (fun h => h2 ((hcond0_2 t).mp h)))]
        rw [Dat.leavesExact_idle (dats m 0 c) 14 t (idleAt0_14_D t ((hcond0_0 t).mpr h0) (fun h => h1 ((hcond0_1 t).mp h)) (fun h => h2 ((hcond0_2 t).mp h))) (noFlush0_14_D t ((hcond0_0 t).mpr h0) (fun h => h1 ((hcond0_1 t).mp h)) (fun h => h2 ((hcond0_2 t).mp h)))]
        by_cases hz : t.val = 0
        · exfalso; have hN : t.val < 44 := lt_of_lt_of_eq t.isLt (show cfg0.N = 44 from N_0); omega
        · rw [PhiS_castSucc m c t, PhiS_pos m c _ _ hz]
          rw [outsAt0_D m c t h0 h1 h2, stepD]
          unfold out0_D_10 out0_D_11 out0_D_12 sout0_D_0 sout0_D_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_D c (grid0.coords t) _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t)).2.2.2.2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexact H13
          isplitl [H14]; · iexact H14
          isplitl [HS0]; · iexists _; iexact HS0
          isplitl [HS1]; · iexists _; iexact HS1
          iintro ⟨H0, H1, H2, H3, H4, H5, H6, H7, H8, H9, ⟨%e10, H10⟩, ⟨%e11, H11⟩, ⟨%e12, H12⟩, H13, H14, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_D_1 c _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]
          · unfold owns; iexists _; isplitr
            swap; · iexact H10
            ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _ _ _ _)
          isplitl [H13]; · iexists _; iexact H13
          iexists _; iexact H14
  · by_cases h1 : t.val % 44 = 0
    · exfalso; omega
    · by_cases h2 : t.val % 4 = 3
      · rw [leaves0_0, after0_0]
        rw [leaves0_1, after0_1, leaves0_2, after0_2, leaves0_3, after0_3, leaves0_4, after0_4, leaves0_5, after0_5, leaves0_6, after0_6, leaves0_7, after0_7, leaves0_8, after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2)], after0_9]
        rw [leaves0_10, after0_10, leaves0_11, after0_11, leaves0_12, after0_12]
        rw [show (dats m 0 c).leavesExact 13 t = owns (c : Thread nD τ) (ms0_13 t) fullShare ((dats m 0 c).after 13 t) from by
      unfold Dat.leavesExact; rw [liveAt0_13_C t (fun h => h0 ((hcond0_0 t).mp h)) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) ((hcond0_2 t).mpr h2)], after0_14]
        by_cases hz : t.val = 0
        · exfalso; have hN : t.val < 44 := lt_of_lt_of_eq t.isLt (show cfg0.N = 44 from N_0); omega
        · rw [PhiS_castSucc m c t, PhiS_pos m c _ _ hz]
          rw [outsAt0_C m c t h0 h1 h2, stepC]
          simp only [before0_13_C m c t h0 h1 h2, before0_14_C m c t h0 h1 h2]
          unfold out0_C_9 out0_C_10 out0_C_11 out0_C_12 out0_C_13 out0_C_14 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) _ _ _ _).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexact H13
          isplitl [H14]; · iexact H14
          isplitl [HS0]; · iexact HS0
          isplitl [HS1]; · iexact HS1
          iintro ⟨H0, H1, H2, H3, H4, H5, H6, H7, H8, ⟨%e9, H9⟩, ⟨%e10, H10⟩, ⟨%e11, H11⟩, ⟨%e12, H12⟩, ⟨%e13, H13⟩, ⟨%e14, H14⟩, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _)
      · rw [leaves0_0, after0_0]
        rw [leaves0_1, after0_1, leaves0_2, after0_2, leaves0_3, after0_3, leaves0_4, after0_4, leaves0_5, after0_5, leaves0_6, after0_6, leaves0_7, after0_7, leaves0_8, after0_8]
        rw [Dat.leavesExact_idle (dats m 0 c) 9 t (idleAt0_9_B t (fun h => h0 ((hcond0_0 t).mp h)) (fun h => h1 ((hcond0_1 t).mp h)) (fun h => h2 ((hcond0_2 t).mp h))) (noFlush0_9_B t (fun h => h0 ((hcond0_0 t).mp h)) (fun h => h1 ((hcond0_1 t).mp h)) (fun h => h2 ((hcond0_2 t).mp h)))]
        rw [leaves0_10, after0_10, leaves0_11, after0_11, leaves0_12, after0_12]
        rw [Dat.leavesExact_idle (dats m 0 c) 13 t (idleAt0_13_B t (fun h => h0 ((hcond0_0 t).mp h)) (fun h => h1 ((hcond0_1 t).mp h)) (fun h => h2 ((hcond0_2 t).mp h))) (noFlush0_13_B t (fun h => h0 ((hcond0_0 t).mp h)) (fun h => h1 ((hcond0_1 t).mp h)) (fun h => h2 ((hcond0_2 t).mp h)))]
        rw [Dat.leavesExact_idle (dats m 0 c) 14 t (idleAt0_14_B t (fun h => h0 ((hcond0_0 t).mp h)) (fun h => h1 ((hcond0_1 t).mp h)) (fun h => h2 ((hcond0_2 t).mp h))) (noFlush0_14_B t (fun h => h0 ((hcond0_0 t).mp h)) (fun h => h1 ((hcond0_1 t).mp h)) (fun h => h2 ((hcond0_2 t).mp h)))]
        by_cases hz : t.val = 0
        · exfalso; have hN : t.val < 44 := lt_of_lt_of_eq t.isLt (show cfg0.N = 44 from N_0); omega
        · rw [PhiS_castSucc m c t, PhiS_pos m c _ _ hz]
          rw [outsAt0_B m c t h0 h1 h2, stepB]
          unfold out0_B_10 out0_B_11 out0_B_12 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _ _).2.2.2.2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexact H13
          isplitl [H14]; · iexact H14
          isplitl [HS0]; · iexact HS0
          isplitl [HS1]; · iexact HS1
          iintro ⟨H0, H1, H2, H3, H4, H5, H6, H7, H8, H9, ⟨%e10, H10⟩, ⟨%e11, H11⟩, ⟨%e12, H12⟩, H13, H14, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _)
          isplitl [H13]; · iexists _; iexact H13
          iexists _; iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 44 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends, with the arrays at what the pipeline leaves. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel8Ideal.Head

end
-- ==== Proof.FfnHeadRun.lean ====
/- The feed-forward with the loss: what its results' arrays hold after the run, block by block. -/
module

public import proofs.«01_k».proof.Proof.FfnHeadFrame
public import Idealize.ShloMosaic.Lib.Pipeline.Value

@[expose] public section

noncomputable section

namespace Cert.Kernel8Ideal.Head

open Cert.Kernel8Ideal Cert.Kernel8Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed9 (c : Dev nD) (t : Fin cfg0.N) :
    (dats m 0 c).flushed 9 t = (cfg0.win 9).cut (grid0.coords t) ((outsAt0 m c t.val t.isLt).1) := by
  show (cfg0.win 9).cut (grid0.coords t) ((dats m 0 c).after 9 t) = _
  rw [after0_9]

theorem flushed13 (c : Dev nD) (t : Fin cfg0.N) :
    (dats m 0 c).flushed 13 t = (cfg0.win 13).cut (grid0.coords t) ((outsAt0 m c t.val t.isLt).2.2.2.2.1) := by
  show (cfg0.win 13).cut (grid0.coords t) ((dats m 0 c).after 13 t) = _
  rw [after0_13]

theorem flushed14 (c : Dev nD) (t : Fin cfg0.N) :
    (dats m 0 c).flushed 14 t = (cfg0.win 14).cut (grid0.coords t) ((outsAt0 m c t.val t.isLt).2.2.2.2.2.1) := by
  show (cfg0.win 14).cut (grid0.coords t) ((dats m 0 c).after 14 t) = _
  rw [after0_14]

theorem mem_blk9 (t : Fin cfg0.N) (i : S8448x1024.Idx) :
    i ∈ ((cfg0.win 9).blk t).view.set ↔ ∀ a : Fin 2, win0_9.index t a * S768x1024.size a ≤ (i a).val ∧ (i a).val < win0_9.index t a * S768x1024.size a + S768x1024.size a := by
  show i ∈ ((View.whole main_v4_0).slice (win0_9.rect t)).set ↔ _
  rw [View.set_slice_whole, Rect.mem_set_unit]
  exact Iff.rfl

theorem mem_blk13 (t : Fin cfg0.N) (i : S1x128.Idx) :
    i ∈ ((cfg0.win 13).blk t).view.set ↔ ∀ a : Fin 2, win0_13.index t a * S1x128.size a ≤ (i a).val ∧ (i a).val < win0_13.index t a * S1x128.size a + S1x128.size a := by
  show i ∈ ((View.whole main_v4_4).slice (win0_13.rect t)).set ↔ _
  rw [View.set_slice_whole, Rect.mem_set_unit]
  exact Iff.rfl

theorem mem_blk14 (t : Fin cfg0.N) (i : S1x1024.Idx) :
    i ∈ ((cfg0.win 14).blk t).view.set ↔ ∀ a : Fin 2, win0_14.index t a * S1x1024.size a ≤ (i a).val ∧ (i a).val < win0_14.index t a * S1x1024.size a + S1x1024.size a := by
  show i ∈ ((View.whole main_v4_5).slice (win0_14.rect t)).set ↔ _
  rw [View.set_slice_whole, Rect.mem_set_unit]
  exact Iff.rfl

theorem post9 (r : PUnit × MemSt nD τ sig (Elt F)) (h : Pipeline.FramePost cfgs (dats m) 0 (V m) r) (c : Dev nD) :
    r.2.mem ((c : Thread nD τ).loc main_v4_0) = (dats m 0 c).arrAt 9 cfg0.N :=
  (h c).1 9

theorem post13 (r : PUnit × MemSt nD τ sig (Elt F)) (h : Pipeline.FramePost cfgs (dats m) 0 (V m) r) (c : Dev nD) :
    r.2.mem ((c : Thread nD τ).loc main_v4_4) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v4_5) = (dats m 0 c).arrAt 14 cfg0.N :=
  (h c).1 14

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 8).trans (((dats m 0 c).arrAt_in 8 rfl _).trans ((A_eq m c 8).trans (V_main_arg5 m c)))

theorem run_blocks : θ_run defs (onTc (τ := τ) (main (F := F))) ⟨m, fun _ => 0, ρ⟩ fun r => ∀ c : Dev nD,
      r.2.mem ((c : Thread nD τ).loc main_v4_0) = (dats m 0 c).arrAt 9 cfg0.N
      ∧ r.2.mem ((c : Thread nD τ).loc main_v4_4) = (dats m 0 c).arrAt 13 cfg0.N
      ∧ r.2.mem ((c : Thread nD τ).loc main_v4_5) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post9 m r h c,
      post13 m r h c,
      post14 m r h c,
      kept_main_arg0 m r h c,
      kept_main_arg1 m r h c,
      kept_main_arg2 m r h c,
      kept_main_arg3 m r h c,
      kept_main_arg4 m r h c,
      kept_main_arg5 m r h c⟩)
    (run_main m ρ)

end Cert.Kernel8Ideal.Head

end
-- ==== Proof.FfnHeadSpec.lean ====
/- The second feed-forward with the loss over the reals: the rows it returns to the loss, the normalised rows' errors
   against the targets, the loss and its gradients. -/
module

public import proofs.«01_k».proof.Defs
public import proofs.«01_k».proof.Proof.FfnBwdSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.FfnHead

open Cert.FfnBwd

/-- The rows after the feed-forward. -/
def h3 (H : Fin 8448 → Fin 1024 → ℝ) (G : Fin 1024 → ℝ) (W : Fin 1024 → Fin 5632 → ℝ) (O : Fin 2816 → Fin 1024 → ℝ)
    (x : Fin 8448) (d : Fin 1024) : ℝ := H x d + 1 / 2 * ∑ q, dup H G W x q * up H G W x q * O q d

variable (X : Fin 8448 → Fin 1024 → ℝ) (F : Fin 1024 → ℝ) (T : Fin 8192 → Fin 1024 → ℝ)

/-- The error of a row: none on the first 256 rows, which have no target. -/
def err (x : Fin 8448) (d : Fin 1024) : ℝ :=
  if h : 256 ≤ x.val then xh X x d * F d - T ⟨x.val - 256, by omega⟩ d else 0

/-- The loss's gradient in the normalised rows, in the gain, in the rows; and the loss. -/
def de (x : Fin 8448) (d : Fin 1024) : ℝ := err X F T x d * (1 / 1024)
def dgain (d : Fin 1024) : ℝ := ∑ x, de X F T x d * xh X x d
def dx (x : Fin 8448) (d : Fin 1024) : ℝ :=
  rs X x * (de X F T x d * F d - xh X x d * ((∑ e, de X F T x e * F e * xh X x e) * (1 / 1024)))
def rowLoss (x : Fin 8448) : ℝ := (∑ d, err X F T x d * err X F T x d) * (1 / 1024)
def loss : ℝ := 1 / 2 * ∑ x, rowLoss X F T x

theorem err_low (x : Fin 8448) (h : x.val < 256) (d : Fin 1024) : err X F T x d = 0 := by
  unfold err
  rw [dif_neg (by omega)]

theorem err_high (y : Fin 8192) (d : Fin 1024) :
    err X F T ⟨256 + y.val, by omega⟩ d = xh X ⟨256 + y.val, by omega⟩ d * F d - T y d := by
  unfold err
  rw [dif_pos (by dsimp only; omega)]
  have e : (⟨256 + y.val - 256, by omega⟩ : Fin 8192) = y := Fin.ext (by dsimp only; omega)
  dsimp only
  rw [e]

/-- Only the rows that have a target add to the loss. -/
theorem sum_high (f : Fin (256 + 8192) → ℝ) (z : ∀ i : Fin 256, f (Fin.castAdd 8192 i) = 0) :
    ∑ x, f x = ∑ y : Fin 8192, f ⟨256 + y.val, by omega⟩ := by
  rw [Fin.sum_univ_add, Finset.sum_eq_zero fun i _ => z i, zero_add]
  rfl

theorem loss_high : loss X F T = 1 / 2 * ∑ y : Fin 8192, rowLoss X F T ⟨256 + y.val, by omega⟩ := by
  unfold loss
  refine congrArg _ (sum_high (rowLoss X F T) fun i => ?_)
  unfold rowLoss
  rw [Finset.sum_eq_zero fun d _ => ?_, zero_mul]
  rw [err_low X F T _ i.isLt, zero_mul]

theorem dx_slope (x : Fin 8448) (d : Fin 1024) : de X F T x d * F d * rs X x
      + X x d * ((∑ e, X x e * (de X F T x e * F e)) * (-(1 / 2) * (rs X x * rs X x * rs X x)) * (1 / 1024))
      + (∑ e, X x e * (de X F T x e * F e)) * (-(1 / 2) * (rs X x * rs X x * rs X x)) * (1 / 1024) * X x d
    = dx X F T x d := by
  have e : ∑ e, de X F T x e * F e * xh X x e = rs X x * ∑ e, X x e * (de X F T x e * F e) := by
    rw [Finset.mul_sum]
    refine Finset.sum_congr rfl fun e _ => ?_
    unfold xh
    ring
  unfold dx
  rw [e]
  unfold xh
  ring

end Cert.FfnHead

end
-- ==== Proof.FfnHeadPay.lean ====
/- The feed-forward with the loss (`Kernel8Ideal`), the body's operations at an index: the products of a hidden block,
   and the error, the gradients and the loss of 256 rows. -/
module

public import proofs.«01_k».proof.Defs
public import proofs.«01_k».proof.Proof.FfnHeadSpec
public import proofs.«01_k».proof.Proof.Gen.Kernel8Ideal.Skeleton
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel8Ideal.Math

open Cert.Kernel8Ideal Cert.Kernel8Ideal.Gen Cert.FfnBwd Cert.FfnHead

theorem tenth_eq : Ideal.ofBits .f32 0x3A800000#32 = ((1 / 1024 : ℝ) : EReal) := by
  simp [Ideal.ofBits, Ideal.ieee, -EReal.coe_mul]; norm_num

/-! ### The feed-forward -/

theorem pay33_at (x : Vec Ideal S768x1024 .f32) (g : Vec Ideal S1x1024 .f32) (r : Fin 768) (d : Fin 1024) :
    k0_pay33 x g (ix2 r d)
      = x (ix2 r d) * Ideal.rsqrt (Ideal.div (∑ e, x (ix2 r e) * x (ix2 r e)) (Ideal.ofBits .f32 0x44800000#32)
          + Ideal.ofBits .f32 0x358637BD#32) * g (ix2 0 d) := by
  pointwise [k0_pay33]

theorem pay39_at (n : Vec Ideal S768x1024 .bf16) (u v : Vec Ideal S1x1024x704 .bf16) (r : Fin 768) (q : Fin 704) :
    k0_pay39 n u v (ix2 r q)
      = (∑ e, n (ix2 r e) * u (ix3 0 e q)) * Ideal.logistic (∑ e, n (ix2 r e) * u (ix3 0 e q))
        * ∑ e, n (ix2 r e) * v (ix3 0 e q) := by
  pointwise [k0_pay39, k0_pay38, k0_pay37, k0_pay36, k0_pay35]

theorem pay1_at (u : FVec Ideal S768x704 .bf16) (a : Vec Ideal S768x1024 .f32) (w : Vec Ideal S704x1024 .bf16)
    (r : Fin 768) (d : Fin 1024) :
    k0_pay1 u a w (ix2 r d) = a (ix2 r d) + ∑ q, u (ix2 r q) * w (ix2 q d) := by
  pointwise [k0_pay1]

theorem pay34_at (r : Fin 768) (d : Fin 1024) : (k0_pay34 (F := Ideal)) (ix2 r d) = 0 := by
  pointwise [k0_pay34]
theorem pay2_at (l : Fin 128) : (k0_pay2 (F := Ideal)) (ix2 0 l) = 0 := by
  pointwise [k0_pay2]
theorem pay3_at (d : Fin 1024) : (k0_pay3 (F := Ideal)) (ix2 0 d) = 0 := by
  pointwise [k0_pay3]

/-! ### The loss of 256 rows -/

/-- The rows' gradient, the gain's and the loss's new values, from the inverse roots, the normalised rows and the
    errors. -/
def eDx (R : FVec Ideal S256x1 .f32) (Y E : FVec Ideal S256x1024 .f32) (f : Vec Ideal S1x1024 .f32) (r : Fin 256)
    (d : Fin 1024) : EReal :=
  R (ix2 r 0) * (E (ix2 r d) * Ideal.ofBits .f32 0x3A800000#32 * f (ix2 0 d)
    - Y (ix2 r d) * Ideal.div (∑ e, E (ix2 r e) * Ideal.ofBits .f32 0x3A800000#32 * f (ix2 0 e) * Y (ix2 r e))
      (Ideal.ofBits .f32 0x44800000#32))
def eGain (Y E : FVec Ideal S256x1024 .f32) (p : Vec Ideal S1x1024 .f32) (d : Fin 1024) : EReal :=
  p (ix2 0 d) + ∑ r : Fin 256, E (ix2 r d) * Ideal.ofBits .f32 0x3A800000#32 * Y (ix2 r d)
def eLoss (E : FVec Ideal S256x1024 .f32) (p : Vec Ideal S1x128 .f32) (l : Fin 128) : EReal :=
  p (ix2 0 l) + Ideal.ofBits .f32 0x3F000000#32
    * ∑ r : Fin 256, Ideal.div (∑ d, E (ix2 r d) * E (ix2 r d)) (Ideal.ofBits .f32 0x44800000#32)

variable (a : BitVec 32) (u v : Vec Ideal S256x1024 .f32) (f f' : Vec Ideal S1x1024 .f32) (t : Vec Ideal S256x1024 .f32)

theorem pay8_at (r : Fin 256) : k0_pay8 u v (ix2 r 0)
    = Ideal.rsqrt (Ideal.div (∑ e, k0_pay7 u v (ix2 r e) * k0_pay7 u v (ix2 r e)) (Ideal.ofBits .f32 0x44800000#32)
      + Ideal.ofBits .f32 0x358637BD#32) := by
  pointwise [k0_pay8]
theorem pay7_at (r : Fin 256) (d : Fin 1024) : k0_pay7 u v (ix2 r d)
    = u (ix2 r d) + Ideal.ofBits .f32 0x3F000000#32 * v (ix2 r d) := by
  pointwise [k0_pay7]
theorem pay9_at (r : Fin 256) (d : Fin 1024) : k0_pay9 u v (ix2 r d) = k0_pay7 u v (ix2 r d) * k0_pay8 u v (ix2 r 0) := by
  pointwise [k0_pay9]
theorem pay17_eq : k0_pay17 u v = k0_pay8 u v := rfl
theorem pay18_eq : k0_pay18 u v = k0_pay9 u v := rfl
theorem pay27_eq : k0_pay27 u v = k0_pay8 u v := rfl
theorem pay28_eq : k0_pay28 u v = k0_pay9 u v := rfl

theorem pay19_at (Y : FVec Ideal S256x1024 .f32) (r : Fin 256) (d : Fin 1024) :
    k0_pay19 Y f t (ix2 r d) = Y (ix2 r d) * f (ix2 0 d) - t (ix2 r d) := by
  pointwise [k0_pay19]
theorem pay10_zero (r : Fin 256) (d : Fin 1024) : k0_pay10 0#32 u v f t (ix2 r d) = 0 := by
  show Ideal.ofBits .f32 0x00000000#32 = 0
  exact Ideal.ofBits_zero _
theorem pay10_ne (h : a ≠ 0#32) : k0_pay10 a u v f t = k0_pay19 (k0_pay9 u v) f t := by
  have e : (Scalar.cmpi .eq a 0#32 : BitVec 1) = 0#1 := by
    show BitVec.ofBool (a == 0#32) = 0#1
    rw [beq_eq_false_iff_ne.2 h]
    rfl
  unfold k0_pay10
  dsimp only
  rw [e]
  rfl
theorem pay29_eq : k0_pay29 u v f t = k0_pay19 (k0_pay9 u v) f t := rfl

theorem pay12_at (r : Fin 256) (d : Fin 1024) :
    k0_pay12 a u v f t f (ix2 r d) = eDx (k0_pay8 u v) (k0_pay9 u v) (k0_pay10 a u v f t) f r d := by
  unfold eDx
  pointwise [k0_pay12, k0_pay11]
theorem pay21_at (R : FVec Ideal S256x1 .f32) (Y : FVec Ideal S256x1024 .f32) (r : Fin 256) (d : Fin 1024) :
    k0_pay21 R Y f t f (ix2 r d) = eDx R Y (k0_pay19 Y f t) f r d := by
  unfold eDx
  pointwise [k0_pay21, k0_pay20]
theorem pay4_eq : k0_pay4 (k0_pay31 u v f t f) (k0_pay32 u v) = k0_pay21 (k0_pay8 u v) (k0_pay9 u v) f t f := rfl

theorem pay14_at (p : Vec Ideal S1x1024 .f32) (d : Fin 1024) :
    k0_pay14 (k0_pay13 a u v f t) p (ix2 0 d) = eGain (k0_pay9 u v) (k0_pay10 a u v f t) p d := by
  unfold eGain
  pointwise [k0_pay14, k0_pay13, k0_pay11]
theorem pay22_at (Y : FVec Ideal S256x1024 .f32) (p : Vec Ideal S1x1024 .f32) (d : Fin 1024) :
    k0_pay22 Y f t p (ix2 0 d) = eGain Y (k0_pay19 Y f t) p d := by
  unfold eGain
  pointwise [k0_pay22, k0_pay20]
theorem pay5_eq (p : Vec Ideal S1x1024 .f32) :
    k0_pay5 (k0_pay28 u v) (k0_pay30 u v f t) p = k0_pay22 (k0_pay9 u v) f t p := rfl

theorem pay15_at (E : FVec Ideal S256x1024 .f32) (p : Vec Ideal S1x128 .f32) (l : Fin 128) :
    k0_pay15 E p (ix2 0 l) = eLoss E p l := by
  unfold eLoss
  pointwise [k0_pay15]
theorem pay25_at (Y : FVec Ideal S256x1024 .f32) (p : Vec Ideal S1x128 .f32) (l : Fin 128) :
    k0_pay25 (k0_pay23 p) (k0_pay24 Y f t) (ix2 0 l) = eLoss (k0_pay19 Y f t) p l := by
  unfold eLoss
  pointwise [k0_pay25, k0_pay24, k0_pay23]
theorem pay6_at (E : FVec Ideal S256x1024 .f32) (p : Vec Ideal S1x128 .f32) (l : Fin 128) :
    k0_pay6 E p (ix2 0 l) = eLoss E p l := by
  unfold eLoss
  pointwise [k0_pay6]

/-! ### On real rows -/

variable (X : Fin 8448 → Fin 1024 → ℝ) (F : Fin 1024 → ℝ) (T : Fin 8192 → Fin 1024 → ℝ) (x : Fin 256 → Fin 8448)

section Rows
variable (hX : ∀ r d, u (ix2 r d) + Ideal.ofBits .f32 0x3F000000#32 * v (ix2 r d) = ((X (x r) d : ℝ) : EReal))
include hX
theorem rs_blk (r : Fin 256) : k0_pay8 u v (ix2 r 0) = ((rs X (x r) : ℝ) : EReal) := by
  rw [pay8_at, Reals.width, Reals.eps_eq, Ideal.div_coe (by norm_num)]
  simp only [pay7_at, hX, ← EReal.coe_mul, ← Reals.coe_sum, ← EReal.coe_add]
  exact rsqrt_ms X _
theorem xh_blk (r : Fin 256) (d : Fin 1024) : k0_pay9 u v (ix2 r d) = ((xh X (x r) d : ℝ) : EReal) := by
  rw [pay9_at, rs_blk u v X x hX, pay7_at, hX, ← EReal.coe_mul]
  rfl
end Rows

variable (R : FVec Ideal S256x1 .f32) (Y E : FVec Ideal S256x1024 .f32)
variable (hR : ∀ r, R (ix2 r 0) = ((rs X (x r) : ℝ) : EReal)) (hY : ∀ r d, Y (ix2 r d) = ((xh X (x r) d : ℝ) : EReal))
  (hE : ∀ r d, E (ix2 r d) = ((err X F T (x r) d : ℝ) : EReal)) (hF : ∀ d, f (ix2 0 d) = ((F d : ℝ) : EReal))
  (hT : ∀ r d (y : Fin 8192), y.val + 256 = (x r).val → t (ix2 r d) = ((T y d : ℝ) : EReal))
  (hx : ∀ r, 256 ≤ (x r).val)

include hY hF hT hx in
theorem err_blk (r : Fin 256) (d : Fin 1024) : k0_pay19 Y f t (ix2 r d) = ((err X F T (x r) d : ℝ) : EReal) := by
  have h := hx r
  rw [pay19_at, hY, hF, hT r d ⟨(x r).val - 256, by omega⟩ (by dsimp only; omega), ← EReal.coe_mul, ← EReal.coe_sub]
  unfold err
  rw [dif_pos h]

include hR hY hE hF in
theorem dx_blk (r : Fin 256) (d : Fin 1024) : eDx R Y E f r d = ((dx X F T (x r) d : ℝ) : EReal) := by
  unfold eDx
  rw [tenth_eq, Reals.width, Ideal.div_coe (by norm_num)]
  simp only [hR, hY, hE, hF, ← EReal.coe_mul, ← Reals.coe_sum, ← EReal.coe_sub]
  rfl

include hY hE in
theorem gain_blk (p : Vec Ideal S1x1024 .f32) (d : Fin 1024) (s : ℝ) (hs : p (ix2 0 d) = (s : EReal)) :
    eGain Y E p d = ((s + ∑ r, de X F T (x r) d * xh X (x r) d : ℝ) : EReal) := by
  unfold eGain
  rw [tenth_eq, hs]
  simp only [hY, hE, ← EReal.coe_mul, ← Reals.coe_sum, ← EReal.coe_add]
  rfl

include hE in
theorem loss_blk (p : Vec Ideal S1x128 .f32) (l : Fin 128) (s : ℝ) (hs : p (ix2 0 l) = (s : EReal)) :
    eLoss E p l = ((s + 1 / 2 * ∑ r, rowLoss X F T (x r) : ℝ) : EReal) := by
  unfold eLoss
  rw [Reals.half, Reals.width, hs]
  simp only [hE, Ideal.div_coe (show (1024 : ℝ) ≠ 0 by norm_num), ← EReal.coe_mul, ← Reals.coe_sum, ← EReal.coe_add]
  rfl

end Cert.Kernel8Ideal.Math

end
-- ==== Proof.FfnHeadPoints.lean ====
/- The feed-forward with the loss (`Kernel8Ideal`), one point's body: eleven row blocks, four blocks of hidden columns
   each. The first point of a row block normalises the rows and clears the accumulator; every point adds its block's
   product; the last one takes the rows 256 at a time through the loss and its gradients. -/
module

public import proofs.«01_k».proof.Defs
public import proofs.«01_k».proof.Proof.FfnHeadRun
public import Idealize.ShloMosaic.Lib.Pointwise
public import Idealize.ShloMosaic.Lib.Tactic
public import Idealize.ShloMosaic.Lib.Pipeline.ValueKit.Tiles

@[expose] public section

set_option maxRecDepth 16384

noncomputable section

open Idealize.ShloMosaic Idealize.ShloMosaic.TcCoe Idealize.SL.Sem

namespace Cert.Kernel8Ideal.Math

open Cert.Kernel8Ideal Cert.Kernel8Ideal.Gen Cert.Kernel8Ideal.Head

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- Point `t`'s blocks of the operands. -/
abbrev hBlk (c : Dev nD) (t : Fin cfg0.N) : Vec Ideal S768x1024 .f32 := iblk m c 0 t
abbrev gainBlk (c : Dev nD) (t : Fin cfg0.N) : Vec Ideal S1x1024 .f32 := iblk m c 1 t
abbrev gateBlk (c : Dev nD) (t : Fin cfg0.N) : Vec Ideal S1x1024x704 .bf16 := iblk m c 2 t
abbrev upBlk (c : Dev nD) (t : Fin cfg0.N) : Vec Ideal S1x1024x704 .bf16 := iblk m c 3 t
abbrev outBlk (c : Dev nD) (t : Fin cfg0.N) : Vec Ideal S704x1024 .bf16 := iblk m c 4 t
abbrev lastBlk (c : Dev nD) (t : Fin cfg0.N) : Vec Ideal S1x1024 .f32 := iblk m c 5 t
abbrev targetBlk0 (c : Dev nD) (t : Fin cfg0.N) : Vec Ideal S256x1024 .f32 := iblk m c 6 t
abbrev targetBlk1 (c : Dev nD) (t : Fin cfg0.N) : Vec Ideal S256x1024 .f32 := iblk m c 7 t
abbrev targetBlk2 (c : Dev nD) (t : Fin cfg0.N) : Vec Ideal S256x1024 .f32 := iblk m c 8 t

/-- The outputs' buffers and the two scratches after the body of point `n`. -/
abbrev dxBuf (c : Dev nD) (n : ℕ) (hn : n < cfg0.N) : Vec Ideal S768x1024 .f32 := (outsAt0 m c n hn).1
abbrev lossBuf (c : Dev nD) (n : ℕ) (hn : n < cfg0.N) : Vec Ideal S1x128 .f32 := (outsAt0 m c n hn).2.2.2.2.1
abbrev dgainBuf (c : Dev nD) (n : ℕ) (hn : n < cfg0.N) : Vec Ideal S1x1024 .f32 := (outsAt0 m c n hn).2.2.2.2.2.1
abbrev nrmBuf (c : Dev nD) (n : ℕ) (hn : n < cfg0.N) : Vec Ideal S768x1024 .bf16 := (outsAt0 m c n hn).2.2.2.2.2.2.1
abbrev accBuf (c : Dev nD) (n : ℕ) (hn : n < cfg0.N) : Vec Ideal S768x1024 .f32 := (outsAt0 m c n hn).2.2.2.2.2.2.2

/-- Rows `256 k` to `256 k + 255` of a row block. -/
abbrev third (k : Fin 3) (x : Vec Ideal S768x1024 .f32) : Vec Ideal S256x1024 .f32 :=
  fun i => x (ix2 ⟨k.val * 256 + (i 0).val, by have : (i 0).val < 256 := (i 0).isLt; omega⟩ (i 1))

theorem ld_third (k : Fin 3) (x : Vec Ideal S768x1024 .f32) (off : Fin 2 → Nat) (h0 : off 0 = k.val * 256) (h1 : off
  1 = 0)
    (inb : ∀ a, off a + S256x1024.size a ≤ S768x1024.size a) :
    View.ld (S := S768x1024) x (Rect.unit off S256x1024.size inb) = third k x := by
  funext i
  refine View.ld_unit_apply_of (S := S768x1024) x off S256x1024.size inb i _ fun a => ?_
  match a with
  | ⟨0, _⟩ => show k.val * 256 + (i 0).val = off 0 + (i 0).val; rw [h0]
  | ⟨1, _⟩ => show (i 1).val = off 1 + (i 1).val; rw [h1, Nat.zero_add]

/-- Rows read back from a scratch that was stored whole. -/
theorem cov_third (k : Fin 3) (x : Vec Ideal S768x1024 .f32) {off : Fin 2 → Nat} (h0 : off 0 = k.val * 256)
    (h1 : off 1 = 0) (inb : ∀ a, off a + S256x1024.size a ≤ S768x1024.size a)
    (inb' : ∀ a, (![0, 0] : Fin 2 → Nat) a + S768x1024.size a ≤ S768x1024.size a) :
    (View.whole cc0_scratch1).readCov (Val := Elt Ideal)
      [(⟨Rect.unit ![0, 0] S768x1024.size inb', x⟩ : View.Piece (Elt Ideal) S768x1024 .f32)]
      (Rect.unit (s := S768x1024) off S256x1024.size inb).toLoadRect = third k x := by
  refine (View.readCov_eq_canon_ld _ _ _ fun y => ⟨_, List.mem_singleton_self _, ?_⟩).trans ?_
  · refine (Rect.mem_set_unit (s := S768x1024) (off := ![0,
    0]) (size := S768x1024.size) (inb := inb')).mpr fun a => ?_
    match a with
    | ⟨0, _⟩ => exact ⟨Nat.zero_le _, by show _ < 0 + _; rw [Nat.zero_add]; exact (y 0).isLt⟩
    | ⟨1, _⟩ => exact ⟨Nat.zero_le _, by show _ < 0 + _; rw [Nat.zero_add]; exact (y 1).isLt⟩
  · rw [View.canon_unit_zero (S := S768x1024) hz2]
    exact ld_third k x off h0 h1 inb

theorem row_block (t : Fin cfg0.N) : (grid0.coords t 0).val = t.val / 4 := by
  have h : ∀ t : Fin cfg0.N, (grid0.coords t 0).val = t.val / 4 := by decide +kernel
  exact h t

/-- The accumulator with a point's product added. -/
abbrev accNew (c : Dev nD) (t : Fin cfg0.N) (n : Vec Ideal S768x1024 .bf16) (a : Vec Ideal S768x1024 .f32) :
    Vec Ideal S768x1024 .f32 := k0_pay1 (k0_pay39 n (gateBlk m c t) (upBlk m c t)) a (outBlk m c t)

theorem nrm_A (c : Dev nD) (t : Fin cfg0.N) (h0 : t.val % 4 = 0) (h1 : t.val % 44 = 0) (h2 : ¬t.val % 4 = 3) :
    nrmBuf m c t.val t.isLt = k0_pay33 (hBlk m c t) (gainBlk m c t) := by
  unfold nrmBuf
  rw [outsAt0_A m c t h0 h1 h2, stepA]
  dsimp only
  unfold sout0_A_0
  rw [View.read_writes_eq_canon _ _ _ (fun y => scover0_A_0 (y := y) ..)]
  unfold kernelRun0_A
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread,
    (hs0_6 t).read_unread, (hs0_7 t).read_unread, (hs0_8 t).read_unread, (hs0_13 t).read_unread,
    (hs0_14 t).read_unread,
    View.ld_unit_zero (S := S768x1024) hz2, View.ld_unit_zero (S := S1x1024) hz2,
      View.ld_unit_zero (S := S704x1024) hz2,
    View.ld_unit_zero (S := S1x1024x704) hz3, View.ld_unit_zero (S := S256x1024) hz2,
      View.ld_unit_zero (S := S1x128) hz2]

theorem acc_A (c : Dev nD) (t : Fin cfg0.N) (h0 : t.val % 4 = 0) (h1 : t.val % 44 = 0) (h2 : ¬t.val % 4 = 3) :
    accBuf m c t.val t.isLt = accNew m c t (k0_pay33 (hBlk m c t) (gainBlk m c t)) (k0_pay34 (F := Ideal)) := by
  unfold accBuf
  rw [outsAt0_A m c t h0 h1 h2, stepA]
  dsimp only
  unfold sout0_A_1
  rw [View.read_writes_eq_canon _ _ _ (fun y => scover0_A_1 (y := y) ..)]
  unfold kernelRun0_A
  dsimp only
  sl_unfold_words
  rw [View.canon_cons_unit_zero (S := S768x1024) hz2, View.readCov_unit_zero (S := S768x1024) _ hz2,
    View.readCov_unit_zero (S := S768x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread,
    (hs0_6 t).read_unread, (hs0_7 t).read_unread, (hs0_8 t).read_unread, (hs0_13 t).read_unread,
    (hs0_14 t).read_unread,
    View.ld_unit_zero (S := S768x1024) hz2, View.ld_unit_zero (S := S1x1024) hz2,
      View.ld_unit_zero (S := S704x1024) hz2,
    View.ld_unit_zero (S := S1x1024x704) hz3, View.ld_unit_zero (S := S256x1024) hz2,
      View.ld_unit_zero (S := S1x128) hz2]

theorem nrm_D (c : Dev nD) (t : Fin cfg0.N) (h0 : t.val % 4 = 0) (h1 : ¬t.val % 44 = 0) (h2 : ¬t.val % 4 = 3) :
    nrmBuf m c t.val t.isLt = k0_pay33 (hBlk m c t) (gainBlk m c t) := by
  unfold nrmBuf
  rw [outsAt0_D m c t h0 h1 h2, stepD]
  dsimp only
  unfold sout0_D_0
  rw [View.read_writes_eq_canon _ _ _ (fun y => scover0_D_0 (y := y) ..)]
  unfold kernelRun0_D
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread,
    (hs0_6 t).read_unread, (hs0_7 t).read_unread, (hs0_8 t).read_unread, (hs0_13 t).read_unread,
    (hs0_14 t).read_unread,
    View.ld_unit_zero (S := S768x1024) hz2, View.ld_unit_zero (S := S1x1024) hz2,
      View.ld_unit_zero (S := S704x1024) hz2,
    View.ld_unit_zero (S := S1x1024x704) hz3, View.ld_unit_zero (S := S256x1024) hz2,
      View.ld_unit_zero (S := S1x128) hz2]

theorem acc_D (c : Dev nD) (t : Fin cfg0.N) (h0 : t.val % 4 = 0) (h1 : ¬t.val % 44 = 0) (h2 : ¬t.val % 4 = 3) :
    accBuf m c t.val t.isLt = accNew m c t (k0_pay33 (hBlk m c t) (gainBlk m c t)) (k0_pay34 (F := Ideal)) := by
  unfold accBuf
  rw [outsAt0_D m c t h0 h1 h2, stepD]
  dsimp only
  unfold sout0_D_1
  rw [View.read_writes_eq_canon _ _ _ (fun y => scover0_D_1 (y := y) ..)]
  unfold kernelRun0_D
  dsimp only
  sl_unfold_words
  rw [View.canon_cons_unit_zero (S := S768x1024) hz2, View.readCov_unit_zero (S := S768x1024) _ hz2,
    View.readCov_unit_zero (S := S768x1024) _ hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread,
    (hs0_6 t).read_unread, (hs0_7 t).read_unread, (hs0_8 t).read_unread, (hs0_13 t).read_unread,
    (hs0_14 t).read_unread,
    View.ld_unit_zero (S := S768x1024) hz2, View.ld_unit_zero (S := S1x1024) hz2,
      View.ld_unit_zero (S := S704x1024) hz2,
    View.ld_unit_zero (S := S1x1024x704) hz3, View.ld_unit_zero (S := S256x1024) hz2,
      View.ld_unit_zero (S := S1x128) hz2]

theorem nrm_B (c : Dev nD) (t : Fin cfg0.N) (h0 : ¬t.val % 4 = 0) (h1 : ¬t.val % 44 = 0) (h2 : ¬t.val % 4 = 3) :
    nrmBuf m c t.val t.isLt = (nrmBuf m c (t.val - 1) (by omega)) := by
  unfold nrmBuf
  rw [outsAt0_B m c t h0 h1 h2, stepB]
  dsimp only
  unfold sout0_B_0
  rfl

theorem nrm_C (c : Dev nD) (t : Fin cfg0.N) (h0 : ¬t.val % 4 = 0) (h1 : ¬t.val % 44 = 0) (h2 : t.val % 4 = 3) :
    nrmBuf m c t.val t.isLt = (nrmBuf m c (t.val - 1) (by omega)) := by
  unfold nrmBuf
  rw [outsAt0_C m c t h0 h1 h2, stepC]
  dsimp only
  unfold sout0_C_0
  rfl

theorem acc_B (c : Dev nD) (t : Fin cfg0.N) (h0 : ¬t.val % 4 = 0) (h1 : ¬t.val % 44 = 0) (h2 : ¬t.val % 4 = 3) :
    accBuf m c t.val t.isLt = accNew m c t (nrmBuf m c (t.val - 1) (by omega)) (accBuf m c (t.val - 1) (by omega)) :=
      by
  unfold accBuf
  rw [outsAt0_B m c t h0 h1 h2, stepB]
  dsimp only
  unfold sout0_B_1
  rw [View.read_writes_eq_canon _ _ _ (fun y => scover0_B_1 (y := y) ..)]
  unfold kernelRun0_B
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread,
    (hs0_6 t).read_unread, (hs0_7 t).read_unread, (hs0_8 t).read_unread, (hs0_13 t).read_unread,
    (hs0_14 t).read_unread,
    View.ld_unit_zero (S := S768x1024) hz2, View.ld_unit_zero (S := S1x1024) hz2,
      View.ld_unit_zero (S := S704x1024) hz2,
    View.ld_unit_zero (S := S1x1024x704) hz3, View.ld_unit_zero (S := S256x1024) hz2,
      View.ld_unit_zero (S := S1x128) hz2]

theorem acc_C (c : Dev nD) (t : Fin cfg0.N) (h0 : ¬t.val % 4 = 0) (h1 : ¬t.val % 44 = 0) (h2 : t.val % 4 = 3) :
    accBuf m c t.val t.isLt = accNew m c t (nrmBuf m c (t.val - 1) (by omega)) (accBuf m c (t.val - 1) (by omega)) :=
      by
  unfold accBuf
  rw [outsAt0_C m c t h0 h1 h2, stepC]
  dsimp only
  unfold sout0_C_1
  rw [View.read_writes_eq_canon _ _ _ (fun y => scover0_C_1 (y := y) ..)]
  unfold kernelRun0_C
  dsimp only
  sl_unfold_words
  rw [View.canon_unit_zero hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread,
    (hs0_6 t).read_unread, (hs0_7 t).read_unread, (hs0_8 t).read_unread, (hs0_13 t).read_unread,
    (hs0_14 t).read_unread,
    View.ld_unit_zero (S := S768x1024) hz2, View.ld_unit_zero (S := S1x1024) hz2,
      View.ld_unit_zero (S := S704x1024) hz2,
    View.ld_unit_zero (S := S1x1024x704) hz3, View.ld_unit_zero (S := S256x1024) hz2,
      View.ld_unit_zero (S := S1x128) hz2]

theorem loss_A (c : Dev nD) (t : Fin cfg0.N) (h0 : t.val % 4 = 0) (h1 : t.val % 44 = 0) (h2 : ¬t.val % 4 = 3) :
    lossBuf m c t.val t.isLt = k0_pay2 (F := Ideal) := by
  unfold lossBuf
  rw [outsAt0_A m c t h0 h1 h2, stepA]
  dsimp only
  unfold out0_A_13
  rw [View.read_writes_eq_canon _ _ _ (fun y => cover0_A_13 (y := y) ..)]
  unfold kernelRun0_A
  dsimp only
  sl_unfold_words
  rw [View.canon_unit_zero hz2]

theorem dgain_A (c : Dev nD) (t : Fin cfg0.N) (h0 : t.val % 4 = 0) (h1 : t.val % 44 = 0) (h2 : ¬t.val % 4 = 3) :
    dgainBuf m c t.val t.isLt = k0_pay3 (F := Ideal) := by
  unfold dgainBuf
  rw [outsAt0_A m c t h0 h1 h2, stepA]
  dsimp only
  unfold out0_A_14
  rw [View.read_writes_eq_canon _ _ _ (fun y => cover0_A_14 (y := y) ..)]
  unfold kernelRun0_A
  dsimp only
  sl_unfold_words
  rw [View.canon_unit_zero hz2]

theorem loss_B (c : Dev nD) (t : Fin cfg0.N) (h0 : ¬t.val % 4 = 0) (h1 : ¬t.val % 44 = 0) (h2 : ¬t.val % 4 = 3) :
    lossBuf m c t.val t.isLt = (lossBuf m c (t.val - 1) (by omega)) := by
  unfold lossBuf
  rw [outsAt0_B m c t h0 h1 h2, stepB]
  dsimp only
  unfold out0_B_13
  rfl

theorem dgain_B (c : Dev nD) (t : Fin cfg0.N) (h0 : ¬t.val % 4 = 0) (h1 : ¬t.val % 44 = 0) (h2 : ¬t.val % 4 = 3) :
    dgainBuf m c t.val t.isLt = (dgainBuf m c (t.val - 1) (by omega)) := by
  unfold dgainBuf
  rw [outsAt0_B m c t h0 h1 h2, stepB]
  dsimp only
  unfold out0_B_14
  rfl

theorem loss_D (c : Dev nD) (t : Fin cfg0.N) (h0 : t.val % 4 = 0) (h1 : ¬t.val % 44 = 0) (h2 : ¬t.val % 4 = 3) :
    lossBuf m c t.val t.isLt = (lossBuf m c (t.val - 1) (by omega)) := by
  unfold lossBuf
  rw [outsAt0_D m c t h0 h1 h2, stepD]
  dsimp only
  unfold out0_D_13
  rfl

theorem dgain_D (c : Dev nD) (t : Fin cfg0.N) (h0 : t.val % 4 = 0) (h1 : ¬t.val % 44 = 0) (h2 : ¬t.val % 4 = 3) :
    dgainBuf m c t.val t.isLt = (dgainBuf m c (t.val - 1) (by omega)) := by
  unfold dgainBuf
  rw [outsAt0_D m c t h0 h1 h2, stepD]
  dsimp only
  unfold out0_D_14
  rfl

theorem loss_C (c : Dev nD) (t : Fin cfg0.N) (h0 : ¬t.val % 4 = 0) (h1 : ¬t.val % 44 = 0) (h2 : t.val % 4 = 3) (a :
  Vec Ideal S768x1024 .f32)
    (ha : a = accNew m c t (nrmBuf m c (t.val - 1) (by omega)) (accBuf m c (t.val - 1) (by omega))) :
    lossBuf m c t.val t.isLt = k0_pay6 (k0_pay29 (third 2 (hBlk m c t)) (third 2 a) (lastBlk m c t) (targetBlk2 m c
      t)) (k0_pay25 (k0_pay23 (k0_pay15 (k0_pay10 (BitVec.ofNat 32 (t.val / 4)) (third 0 (hBlk m c t)) (third 0 a)
      (lastBlk m c t) (targetBlk0 m c t)) (lossBuf m c (t.val - 1) (by omega)))) (k0_pay24 (k0_pay18 (third 1 (hBlk m
      c t)) (third 1 a)) (lastBlk m c t) (targetBlk1 m c t))) := by
  unfold lossBuf
  rw [outsAt0_C m c t h0 h1 h2, stepC]
  dsimp only
  unfold out0_C_13
  rw [View.read_writes_eq_canon _ _ _ (fun y => cover0_C_13 (y := y) ..)]
  unfold kernelRun0_C
  dsimp only
  sl_unfold_words
  rw [View.canon_cons_unit_zero (S := S1x128) hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread,
    (hs0_6 t).read_unread, (hs0_7 t).read_unread, (hs0_8 t).read_unread, (hs0_13 t).read_unread,
    (hs0_14 t).read_unread,
    View.ld_unit_zero (S := S768x1024) hz2, View.ld_unit_zero (S := S1x1024) hz2,
      View.ld_unit_zero (S := S704x1024) hz2,
    View.ld_unit_zero (S := S1x1024x704) hz3, View.ld_unit_zero (S := S256x1024) hz2,
      View.ld_unit_zero (S := S1x128) hz2]
  rw [View.readCov_cons_unit_lit' (S := S1x128) _ _ _ _ _ (congrFun hz2) (congrFun hz2),
    View.readCov_unit_zero (S := S1x128) _ hz2, ha]
  simp only [cov_third 0 _ (off := ![0, 0]) rfl rfl, cov_third 1 _ (off := ![256, 0]) rfl rfl,
    cov_third 2 _ (off := ![512, 0]) rfl rfl, ld_third 0 _ ![0, 0] rfl rfl, ld_third 1 _ ![256, 0] rfl rfl,
    ld_third 2 _ ![512, 0] rfl rfl, row_block]

theorem dgain_C (c : Dev nD) (t : Fin cfg0.N) (h0 : ¬t.val % 4 = 0) (h1 : ¬t.val % 44 = 0) (h2 : t.val % 4 = 3) (a :
  Vec Ideal S768x1024 .f32)
    (ha : a = accNew m c t (nrmBuf m c (t.val - 1) (by omega)) (accBuf m c (t.val - 1) (by omega))) :
    dgainBuf m c t.val t.isLt = k0_pay5 (k0_pay28 (third 2 (hBlk m c t)) (third 2 a)) (k0_pay30 (third 2 (hBlk m c
      t)) (third 2 a) (lastBlk m c t) (targetBlk2 m c t)) (k0_pay22 (k0_pay18 (third 1 (hBlk m c t)) (third 1 a))
      (lastBlk m c t) (targetBlk1 m c t) (k0_pay14 (k0_pay13 (BitVec.ofNat 32 (t.val / 4)) (third 0 (hBlk m c t))
      (third 0 a) (lastBlk m c t) (targetBlk0 m c t)) (dgainBuf m c (t.val - 1) (by omega)))) := by
  unfold dgainBuf
  rw [outsAt0_C m c t h0 h1 h2, stepC]
  dsimp only
  unfold out0_C_14
  rw [View.read_writes_eq_canon _ _ _ (fun y => cover0_C_14 (y := y) ..)]
  unfold kernelRun0_C
  dsimp only
  sl_unfold_words
  rw [View.canon_cons_unit_zero (S := S1x1024) hz2]
  simp only [View.readAt_eq_ld, (Memref.isWhole_whole _).read_unread, (hs0_0 t).read_unread, (hs0_1 t).read_unread,
    (hs0_2 t).read_unread, (hs0_3 t).read_unread, (hs0_4 t).read_unread, (hs0_5 t).read_unread,
    (hs0_6 t).read_unread, (hs0_7 t).read_unread, (hs0_8 t).read_unread, (hs0_13 t).read_unread,
    (hs0_14 t).read_unread,
    View.ld_unit_zero (S := S768x1024) hz2, View.ld_unit_zero (S := S1x1024) hz2,
      View.ld_unit_zero (S := S704x1024) hz2,
    View.ld_unit_zero (S := S1x1024x704) hz3, View.ld_unit_zero (S := S256x1024) hz2,
      View.ld_unit_zero (S := S1x128) hz2]
  rw [View.readCov_cons_unit_lit' (S := S1x1024) _ _ _ _ _ (congrFun hz2) (congrFun hz2),
    View.readCov_unit_zero (S := S1x1024) _ hz2, ha]
  simp only [cov_third 0 _ (off := ![0, 0]) rfl rfl, cov_third 1 _ (off := ![256, 0]) rfl rfl,
    cov_third 2 _ (off := ![512, 0]) rfl rfl, ld_third 0 _ ![0, 0] rfl rfl, ld_third 1 _ ![256, 0] rfl rfl,
    ld_third 2 _ ![512, 0] rfl rfl, row_block]

/-- The rows' gradient, a third of the row block at a time. -/
def dxTile (c : Dev nD) (t : Fin cfg0.N) (a : Vec Ideal S768x1024 .f32) : Fin 3 → Vec Ideal S256x1024 .f32
  | ⟨0,
    _⟩ => k0_pay12 (BitVec.ofNat 32 (t.val / 4)) (third 0 (hBlk m c t)) (third 0 a) (lastBlk m c t) (targetBlk0 m c
    t) (lastBlk m c t)
  | ⟨1,
    _⟩ => k0_pay21 (k0_pay17 (third 1 (hBlk m c t)) (third 1 a)) (k0_pay18 (third 1 (hBlk m c t)) (third 1 a))
    (lastBlk m c t)
      (targetBlk1 m c t) (lastBlk m c t)
  | ⟨2, _⟩ => k0_pay4 (k0_pay31 (third 2 (hBlk m c t)) (third 2 a) (lastBlk m c t) (targetBlk2 m c t) (lastBlk m c t))
      (k0_pay32 (third 2 (hBlk m c t)) (third 2 a))

theorem tile_hit (P : Fin 3 → Vec Ideal S256x1024 .f32) (k j : Fin 3) (r : Fin 256) (d : Fin 1024) (off : Fin 2 → Nat)
    (h0 : off 0 = j.val * 256) (h1 : off 1 = 0) : View.TileAt (S := S768x1024) (Val := Elt Ideal) (e := .f32)
      (ix2 ⟨k.val * 256 + r.val, by omega⟩ d) off S256x1024.size (P j) (P k (ix2 r d)) := by
  intro x hx
  have e0 : k.val * 256 + r.val = off 0 + (x 0).val := hx 0
  have e1 : d.val = off 1 + (x 1).val := hx 1
  have l0 : (x 0).val < 256 := (x 0).isLt
  have e : j = k := Fin.ext (by omega)
  subst e
  refine congrArg (P j) ?_
  funext a
  match a with
  | ⟨0, _⟩ => exact Fin.ext (show (x 0).val = r.val by omega)
  | ⟨1, _⟩ => exact Fin.ext (show (x 1).val = d.val by omega)

theorem dx_C (c : Dev nD) (t : Fin cfg0.N) (h0 : ¬t.val % 4 = 0) (h1 : ¬t.val % 44 = 0) (h2 : t.val % 4 = 3) (a : Vec
  Ideal S768x1024 .f32)
    (ha : a = accNew m c t (nrmBuf m c (t.val - 1) (by omega)) (accBuf m c (t.val - 1) (by omega)))
    (k : Fin 3) (r : Fin 256) (d : Fin 1024) :
    dxBuf m c t.val t.isLt (ix2 ⟨k.val * 256 + r.val, by omega⟩ d) = dxTile m c t a k (ix2 r d) := by
  subst ha
  unfold dxBuf
  rw [outsAt0_C m c t h0 h1 h2, stepC]
  dsimp only
  unfold out0_C_9
  rw [View.read_writes_eq_canon _ _ _ (fun y => cover0_C_9 (y := y) ..)]
  refine View.canon_eq_of_allAt _ _ _ (cover0_C_9 ..) ?_
  unfold kernelRun0_C
  dsimp only
  sl_unfold_words
  simp only [View.readAt_eq_ld, (Memref.isWhole_whole _).read_unread, (hs0_0 t).read_unread, (hs0_1 t).read_unread,
    (hs0_2 t).read_unread, (hs0_3 t).read_unread, (hs0_4 t).read_unread, (hs0_5 t).read_unread,
    (hs0_6 t).read_unread, (hs0_7 t).read_unread, (hs0_8 t).read_unread, (hs0_13 t).read_unread,
    (hs0_14 t).read_unread,
    View.ld_unit_zero (S := S768x1024) hz2, View.ld_unit_zero (S := S1x1024) hz2,
      View.ld_unit_zero (S := S704x1024) hz2,
    View.ld_unit_zero (S := S1x1024x704) hz3, View.ld_unit_zero (S := S256x1024) hz2,
      View.ld_unit_zero (S := S1x128) hz2]
  simp only [cov_third 0 _ (off := ![0, 0]) rfl rfl, cov_third 1 _ (off := ![256, 0]) rfl rfl,
    cov_third 2 _ (off := ![512, 0]) rfl rfl, ld_third 0 _ ![0, 0] rfl rfl, ld_third 1 _ ![256, 0] rfl rfl,
    ld_third 2 _ ![512, 0] rfl rfl, row_block]
  exact View.allAt_cons_unit _ _ _ _ _ (tile_hit (dxTile m c t _) k 2 r d _ rfl rfl)
    (View.allAt_cons_unit _ _ _ _ _ (tile_hit (dxTile m c t _) k 1 r d _ rfl rfl)
      (View.allAt_cons_unit _ _ _ _ _ (tile_hit (dxTile m c t _) k 0 r d _ rfl rfl) (View.allAt_nil _ _)))

end Cert.Kernel8Ideal.Math

end
-- ==== Proof.FfnHeadValue.lean ====
/- The feed-forward with the loss (`Kernel8Ideal`): the blocks the windows bring in, the rows at the last hidden block, the
   errors of their thirds, and what the loss's buffer, the gain's and the rows' hold after each point. -/
module

public import proofs.«01_k».proof.Defs
public import proofs.«01_k».proof.Proof.FfnHeadSpec
public import proofs.«01_k».proof.Proof.FfnHeadPay
public import proofs.«01_k».proof.Proof.FfnHeadPoints
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel8Ideal.Math

open Cert.Kernel8Ideal Cert.Kernel8Ideal.Gen Cert.Kernel8Ideal.Head Cert.FfnBwd Cert.FfnHead

variable (m : (ℓ : Loc nD τ sig) → Buf (Elt Ideal) ℓ)

/-! ### The blocks the windows bring in, read off the arguments -/

/-- The host's re-layout of the first weight: eight blocks of columns. -/
theorem cols_at (c : Dev nD) (k : Fin 8) (d : Fin 1024) (q : Fin 704) :
    V m c main_v2 (ix3 k d q)
      = m ((c : Thread nD τ).loc main_arg2) (ix2 d ⟨k.val * 704 + q.val, by omega⟩) := by
  unfold V hostOps0
  after_results
  pointwise []

theorem wo_at (c : Dev nD) : V m c main_v3 = m ((c : Thread nD τ).loc main_arg3) := by
  unfold V hostOps0
  after_results
  rfl

theorem h_at (c : Dev nD) (t : Fin cfg0.N) (r : Fin 768) (d : Fin 1024) :
    hBlk m c t (ix2 r d) = m ((c : Thread nD τ).loc main_arg0) (ix2 ⟨t.val / 4 * 768 + r.val, by have := t.isLt; have : cfg0.N = 44 := N_0; omega⟩ d) := by
  have hi : ∀ t : Fin cfg0.N, win0_0.index t 0 = t.val / 4 ∧ win0_0.index t 1 = 0 := by decide +kernel
  rw [← V_main_arg0 m c]
  unfold hBlk iblk
  rw [View.read_apply]
  show V m c main_arg0 _ = V m c main_arg0 _
  congr 1
  funext a
  apply Fin.ext
  match a with
  | ⟨0, _⟩ => show win0_0.index t 0 * 768 + 1 * r.val = t.val / 4 * 768 + r.val; rw [(hi t).1]; omega
  | ⟨1, _⟩ => show win0_0.index t 1 * 1024 + 1 * d.val = d.val; rw [(hi t).2]; omega

theorem gain_at (c : Dev nD) (t : Fin cfg0.N) (d : Fin 1024) :
    gainBlk m c t (ix2 0 d) = m ((c : Thread nD τ).loc main_arg1) (ix2 0 d) := by
  have hi : ∀ t : Fin cfg0.N, win0_1.index t 0 = 0 ∧ win0_1.index t 1 = 0 := by decide +kernel
  rw [← V_main_arg1 m c]
  unfold gainBlk iblk
  rw [View.read_apply]
  show V m c main_arg1 _ = V m c main_arg1 _
  congr 1
  funext a
  apply Fin.ext
  match a with
  | ⟨0, _⟩ => show win0_1.index t 0 * 1 + 1 * 0 = 0; rw [(hi t).1]
  | ⟨1, _⟩ => show win0_1.index t 1 * 1024 + 1 * d.val = d.val; rw [(hi t).2]; omega

theorem gate_at (c : Dev nD) (t : Fin cfg0.N) (d : Fin 1024) (q : Fin 704) :
    gateBlk m c t (ix3 0 d q) = m ((c : Thread nD τ).loc main_arg2) (ix2 d ⟨t.val % 4 * 704 + q.val, by omega⟩) := by
  have hi : ∀ t : Fin cfg0.N, win0_2.index t 0 = t.val % 4 ∧ win0_2.index t 1 = 0 ∧ win0_2.index t 2 = 0 := by
    decide +kernel
  refine Eq.trans ?_ (cols_at m c ⟨t.val % 4, by omega⟩ d q)
  unfold gateBlk iblk
  rw [View.read_apply]
  show V m c main_v2 _ = V m c main_v2 _
  congr 1
  funext a
  apply Fin.ext
  match a with
  | ⟨0, _⟩ => show win0_2.index t 0 * 1 + 1 * 0 = t.val % 4; rw [(hi t).1]; omega
  | ⟨1, _⟩ => show win0_2.index t 1 * 1024 + 1 * d.val = d.val; rw [(hi t).2.1]; omega
  | ⟨2, _⟩ => show win0_2.index t 2 * 704 + 1 * q.val = q.val; rw [(hi t).2.2]; omega

theorem up_at (c : Dev nD) (t : Fin cfg0.N) (d : Fin 1024) (q : Fin 704) :
    upBlk m c t (ix3 0 d q)
      = m ((c : Thread nD τ).loc main_arg2) (ix2 d ⟨(t.val % 4 + 4) * 704 + q.val, by omega⟩) := by
  have hi : ∀ t : Fin cfg0.N, win0_3.index t 0 = t.val % 4 + 4 ∧ win0_3.index t 1 = 0 ∧ win0_3.index t 2 = 0 := by
    decide +kernel
  refine Eq.trans ?_ (cols_at m c ⟨t.val % 4 + 4, by omega⟩ d q)
  unfold upBlk iblk
  rw [View.read_apply]
  show V m c main_v2 _ = V m c main_v2 _
  congr 1
  funext a
  apply Fin.ext
  match a with
  | ⟨0, _⟩ => show win0_3.index t 0 * 1 + 1 * 0 = t.val % 4 + 4; rw [(hi t).1]; omega
  | ⟨1, _⟩ => show win0_3.index t 1 * 1024 + 1 * d.val = d.val; rw [(hi t).2.1]; omega
  | ⟨2, _⟩ => show win0_3.index t 2 * 704 + 1 * q.val = q.val; rw [(hi t).2.2]; omega

theorem out_at (c : Dev nD) (t : Fin cfg0.N) (q : Fin 704) (d : Fin 1024) :
    outBlk m c t (ix2 q d) = m ((c : Thread nD τ).loc main_arg3) (ix2 ⟨t.val % 4 * 704 + q.val, by have := t.isLt; have : cfg0.N = 44 := N_0; omega⟩ d) := by
  have hi : ∀ t : Fin cfg0.N, win0_4.index t 0 = t.val % 4 ∧ win0_4.index t 1 = 0 := by decide +kernel
  rw [← wo_at m c]
  unfold outBlk iblk
  rw [View.read_apply]
  show V m c main_v3 _ = V m c main_v3 _
  congr 1
  funext a
  apply Fin.ext
  match a with
  | ⟨0, _⟩ => show win0_4.index t 0 * 704 + 1 * q.val = t.val % 4 * 704 + q.val; rw [(hi t).1]; omega
  | ⟨1, _⟩ => show win0_4.index t 1 * 1024 + 1 * d.val = d.val; rw [(hi t).2]; omega

theorem last_at (c : Dev nD) (t : Fin cfg0.N) (d : Fin 1024) :
    lastBlk m c t (ix2 0 d) = m ((c : Thread nD τ).loc main_arg4) (ix2 0 d) := by
  have hi : ∀ t : Fin cfg0.N, win0_5.index t 0 = 0 ∧ win0_5.index t 1 = 0 := by decide +kernel
  rw [← V_main_arg4 m c]
  unfold lastBlk iblk
  rw [View.read_apply]
  show V m c main_arg4 _ = V m c main_arg4 _
  congr 1
  funext a
  apply Fin.ext
  match a with
  | ⟨0, _⟩ => show win0_5.index t 0 * 1 + 1 * 0 = 0; rw [(hi t).1]
  | ⟨1, _⟩ => show win0_5.index t 1 * 1024 + 1 * d.val = d.val; rw [(hi t).2]; omega

theorem target0_at (c : Dev nD) (t : Fin cfg0.N) (r : Fin 256) (d : Fin 1024) :
    targetBlk0 m c t (ix2 r d) = m ((c : Thread nD τ).loc main_arg5) (ix2 ⟨(t.val / 4 * 3 - 1) * 256 + r.val, by have := t.isLt; have : cfg0.N = 44 := N_0; omega⟩ d) := by
  have hi : ∀ t : Fin cfg0.N, win0_6.index t 0 = (t.val / 4 * 3 - 1) ∧ win0_6.index t 1 = 0 := by decide +kernel
  rw [← V_main_arg5 m c]
  unfold targetBlk0 iblk
  rw [View.read_apply]
  show V m c main_arg5 _ = V m c main_arg5 _
  congr 1
  funext a
  apply Fin.ext
  match a with
  | ⟨0, _⟩ => show win0_6.index t 0 * 256 + 1 * r.val = (t.val / 4 * 3 - 1) * 256 + r.val; rw [(hi t).1]; omega
  | ⟨1, _⟩ => show win0_6.index t 1 * 1024 + 1 * d.val = d.val; rw [(hi t).2]; omega

theorem target1_at (c : Dev nD) (t : Fin cfg0.N) (r : Fin 256) (d : Fin 1024) :
    targetBlk1 m c t (ix2 r d) = m ((c : Thread nD τ).loc main_arg5) (ix2 ⟨(t.val / 4 * 3) * 256 + r.val, by have := t.isLt; have : cfg0.N = 44 := N_0; omega⟩ d) := by
  have hi : ∀ t : Fin cfg0.N, win0_7.index t 0 = (t.val / 4 * 3) ∧ win0_7.index t 1 = 0 := by decide +kernel
  rw [← V_main_arg5 m c]
  unfold targetBlk1 iblk
  rw [View.read_apply]
  show V m c main_arg5 _ = V m c main_arg5 _
  congr 1
  funext a
  apply Fin.ext
  match a with
  | ⟨0, _⟩ => show win0_7.index t 0 * 256 + 1 * r.val = (t.val / 4 * 3) * 256 + r.val; rw [(hi t).1]; omega
  | ⟨1, _⟩ => show win0_7.index t 1 * 1024 + 1 * d.val = d.val; rw [(hi t).2]; omega

theorem target2_at (c : Dev nD) (t : Fin cfg0.N) (r : Fin 256) (d : Fin 1024) :
    targetBlk2 m c t (ix2 r d) = m ((c : Thread nD τ).loc main_arg5) (ix2 ⟨(t.val / 4 * 3 + 1) * 256 + r.val, by have := t.isLt; have : cfg0.N = 44 := N_0; omega⟩ d) := by
  have hi : ∀ t : Fin cfg0.N, win0_8.index t 0 = (t.val / 4 * 3 + 1) ∧ win0_8.index t 1 = 0 := by decide +kernel
  rw [← V_main_arg5 m c]
  unfold targetBlk2 iblk
  rw [View.read_apply]
  show V m c main_arg5 _ = V m c main_arg5 _
  congr 1
  funext a
  apply Fin.ext
  match a with
  | ⟨0, _⟩ => show win0_8.index t 0 * 256 + 1 * r.val = (t.val / 4 * 3 + 1) * 256 + r.val; rw [(hi t).1]; omega
  | ⟨1, _⟩ => show win0_8.index t 1 * 1024 + 1 * d.val = d.val; rw [(hi t).2]; omega

/-! ### On finite arguments -/

variable (H : Fin 8448 → Fin 1024 → ℝ) (G : Fin 1024 → ℝ) (W : Fin 1024 → Fin 5632 → ℝ) (O : Fin 2816 → Fin 1024 → ℝ)
  (F : Fin 1024 → ℝ) (T : Fin 8192 → Fin 1024 → ℝ)

/-- Device `c`'s arguments are the given real arrays. -/
structure Args (c : Dev nD) : Prop where
  h : ∀ x d, m ((c : Thread nD τ).loc main_arg0) (ix2 x d) = ((H x d : ℝ) : EReal)
  g : ∀ d, m ((c : Thread nD τ).loc main_arg1) (ix2 0 d) = ((G d : ℝ) : EReal)
  w : ∀ d k, m ((c : Thread nD τ).loc main_arg2) (ix2 d k) = ((W d k : ℝ) : EReal)
  o : ∀ q d, m ((c : Thread nD τ).loc main_arg3) (ix2 q d) = ((O q d : ℝ) : EReal)
  f : ∀ d, m ((c : Thread nD τ).loc main_arg4) (ix2 0 d) = ((F d : ℝ) : EReal)
  t : ∀ y d, m ((c : Thread nD τ).loc main_arg5) (ix2 y d) = ((T y d : ℝ) : EReal)

/-- The share of hidden block `k` in the second product. -/
def part (k : Fin 4) (x : Fin 8448) (d : Fin 1024) : ℝ :=
  ∑ q : Fin 704, dup H G W x ⟨k.val * 704 + q.val, by omega⟩ * up H G W x ⟨k.val * 704 + q.val, by omega⟩
    * O ⟨k.val * 704 + q.val, by omega⟩ d

theorem h3_parts (x : Fin 8448) (d : Fin 1024) : h3 H G W O x d
    = H x d + 1 / 2 * (part H G W O 0 x d + part H G W O 1 x d + part H G W O 2 x d + part H G W O 3 x d) := by
  unfold h3
  rw [Fin.sum_univ_tiles 4 704 rfl, Fin.sum_univ_four]
  rfl

/-- A sum over 256 rows at a time. -/
def tile (f : Fin 8448 → ℝ) (i : ℕ) : ℝ := ∑ r : Fin 256, if h : i * 256 + r.val < 8448 then f ⟨i * 256 + r.val, h⟩ else 0

theorem tile_sum (f : Fin 8448 → ℝ) : ∑ i ∈ Finset.range 33, tile f i = ∑ x, f x := by
  unfold tile
  rw [Fin.sum_univ_tiles 33 256 rfl, Finset.sum_range]
  refine Finset.sum_congr rfl fun i _ => Finset.sum_congr rfl fun r _ => ?_
  rw [dif_pos (by omega)]

/-- Row `r` of third `k` of point `t`'s row block. -/
def row (t : Fin cfg0.N) (k : Fin 3) (r : Fin 256) : Fin 8448 :=
  ⟨(t.val / 4 * 3 + k.val) * 256 + r.val, by have := t.isLt; have : cfg0.N = 44 := N_0; omega⟩

theorem tile_row (f : Fin 8448 → ℝ) (t : Fin cfg0.N) (k : Fin 3) :
    ∑ r, f (row t k r) = tile f (t.val / 4 * 3 + k.val) := by
  unfold tile
  refine Finset.sum_congr rfl fun r _ => ?_
  have h : (t.val / 4 * 3 + k.val) * 256 + r.val < 8448 := (row t k r).isLt
  rw [dif_pos h]
  rfl

variable {m H G W O F T} {c : Dev nD} (A : Args m H G W O F T c)
include A

theorem hRow_at (t : Fin cfg0.N) (r : Fin 768) (x : Fin 8448) (hx : t.val / 4 * 768 + r.val = x.val) (d : Fin 1024) :
    hBlk m c t (ix2 r d) = ((H x d : ℝ) : EReal) := by
  obtain ⟨x, hx'⟩ := x
  dsimp only at hx
  subst hx
  rw [h_at, A.h]

theorem nrFresh_at (t : Fin cfg0.N) (r : Fin 768) (x : Fin 8448) (hx : t.val / 4 * 768 + r.val = x.val) (d : Fin 1024) :
    k0_pay33 (hBlk m c t) (gainBlk m c t) (ix2 r d) = ((nr H G x d : ℝ) : EReal) := by
  have hms : Ideal.div (∑ e, hBlk m c t (ix2 r e) * hBlk m c t (ix2 r e)) (Ideal.ofBits .f32 0x44800000#32)
      + Ideal.ofBits .f32 0x358637BD#32 = ((ms H x : ℝ) : EReal) := by
    rw [Reals.width, Reals.eps_eq, Ideal.div_coe (by norm_num)]
    simp only [hRow_at A t r x hx, ← EReal.coe_mul, ← Reals.coe_sum, ← EReal.coe_add]
    rfl
  rw [pay33_at, hms, rsqrt_ms, hRow_at A t r x hx, gain_at, A.g, ← EReal.coe_mul, ← EReal.coe_mul]
  rfl

/-- The scratch that keeps the normalised rows holds the row block's at every point of its run. -/
theorem nr_at (n : ℕ) (hn : n < cfg0.N) (r : Fin 768) (x : Fin 8448) (hx : n / 4 * 768 + r.val = x.val)
    (d : Fin 1024) : nrmBuf m c n hn (ix2 r d) = ((nr H G x d : ℝ) : EReal) := by
  have first : ∀ t : Fin cfg0.N, t.val % 4 = 0 → t.val / 4 * 768 + r.val = x.val →
      nrmBuf m c t.val t.isLt (ix2 r d) = ((nr H G x d : ℝ) : EReal) := by
    intro t ht hx
    by_cases h1 : t.val % 44 = 0
    · rw [nrm_A m c t ht h1 (by omega), nrFresh_at A t r x hx]
    · rw [nrm_D m c t ht h1 (by omega), nrFresh_at A t r x hx]
  induction n with
  | zero => exact first ⟨0, hn⟩ rfl hx
  | succ n ih =>
    by_cases h0 : (n + 1) % 4 = 0
    · exact first ⟨n + 1, hn⟩ h0 hx
    · have e : nrmBuf m c (n + 1) hn = nrmBuf m c n (by omega) := by
        by_cases h3 : (n + 1) % 4 = 3
        · exact nrm_C m c ⟨n + 1, hn⟩ h0 (by dsimp only; omega) h3
        · exact nrm_B m c ⟨n + 1, hn⟩ h0 (by dsimp only; omega) h3
      rw [e]
      exact ih (by omega) (by omega)

/-- What a point of hidden block `k` adds to the accumulator. -/
theorem step_at (t : Fin cfg0.N) (k : Fin 4) (hk : t.val % 4 = k.val) (r : Fin 768) (x : Fin 8448)
    (n : Vec Ideal S768x1024 .bf16) (hn : ∀ e, n (ix2 r e) = ((nr H G x e : ℝ) : EReal)) (a : Vec Ideal S768x1024 .f32)
    (d : Fin 1024) (v : ℝ) (ha : a (ix2 r d) = (v : EReal)) :
    accNew m c t n a (ix2 r d) = ((v + part H G W O k x d : ℝ) : EReal) := by
  obtain ⟨k, hk'⟩ := k
  dsimp only at hk
  subst hk
  have hg : ∀ q : Fin 704, (∑ e, n (ix2 r e) * gateBlk m c t (ix3 0 e q))
      = ((pre H G W x ⟨t.val % 4 * 704 + q.val, by omega⟩ : ℝ) : EReal) := by
    intro q
    simp only [hn, gate_at, A.w, ← EReal.coe_mul, ← Reals.coe_sum]
    rfl
  have hu : ∀ q : Fin 704, (∑ e, n (ix2 r e) * upBlk m c t (ix3 0 e q))
      = ((pre H G W x ⟨2816 + (t.val % 4 * 704 + q.val), by omega⟩ : ℝ) : EReal) := by
    intro q
    have e : (⟨(t.val % 4 + 4) * 704 + q.val, by omega⟩ : Fin 5632) = ⟨2816 + (t.val % 4 * 704 + q.val), by omega⟩ :=
      Fin.ext (by dsimp only; omega)
    simp only [hn, up_at, A.w, e, ← EReal.coe_mul, ← Reals.coe_sum]
    rfl
  unfold accNew
  rw [pay1_at]
  simp only [pay39_at, hg, hu, Ideal.logistic_coe, out_at, A.o, ha, ← EReal.coe_mul, ← Reals.coe_sum, ← EReal.coe_add]
  rfl

theorem acc0_at (t : Fin cfg0.N) (ht : t.val % 4 = 0) (r : Fin 768) (x : Fin 8448)
    (hx : t.val / 4 * 768 + r.val = x.val) (d : Fin 1024) :
    accBuf m c t.val t.isLt (ix2 r d) = ((0 + part H G W O 0 x d : ℝ) : EReal) := by
  have z : (k0_pay34 (F := Ideal)) (ix2 r d) = ((0 : ℝ) : EReal) := (pay34_at r d).trans EReal.coe_zero.symm
  by_cases h1 : t.val % 44 = 0
  · rw [acc_A m c t ht h1 (by omega)]
    exact step_at A t 0 ht r x _ (nrFresh_at A t r x hx) _ d 0 z
  · rw [acc_D m c t ht h1 (by omega)]
    exact step_at A t 0 ht r x _ (nrFresh_at A t r x hx) _ d 0 z

theorem accB_at (t : Fin cfg0.N) (k : Fin 4) (hk : t.val % 4 = k.val) (h0 : ¬t.val % 4 = 0) (h3 : ¬t.val % 4 = 3)
    (r : Fin 768) (x : Fin 8448) (hx : t.val / 4 * 768 + r.val = x.val) (d : Fin 1024) (v : ℝ)
    (ha : accBuf m c (t.val - 1) (by omega) (ix2 r d) = (v : EReal)) :
    accBuf m c t.val t.isLt (ix2 r d) = ((v + part H G W O k x d : ℝ) : EReal) := by
  rw [acc_B m c t h0 (by omega) h3]
  exact step_at A t k hk r x _ (nr_at A (t.val - 1) (by omega) r x (by omega)) _ d v ha

omit A in
variable (m c) in
/-- The accumulator at a row block's last point. -/
abbrev accLast (t : Fin cfg0.N) : Vec Ideal S768x1024 .f32 :=
  accNew m c t (nrmBuf m c (t.val - 1) (by omega)) (accBuf m c (t.val - 1) (by omega))

theorem accLast_at (t : Fin cfg0.N) (ht : t.val % 4 = 3) (r : Fin 768) (x : Fin 8448)
    (hx : t.val / 4 * 768 + r.val = x.val) (d : Fin 1024) : accLast m c t (ix2 r d)
      = ((0 + part H G W O 0 x d + part H G W O 1 x d + part H G W O 2 x d + part H G W O 3 x d : ℝ) : EReal) := by
  have a0 := acc0_at A ⟨t.val - 1 - 1 - 1, by omega⟩ (by dsimp only; omega) r x (by dsimp only; omega) d
  have a1 := accB_at A ⟨t.val - 1 - 1, by omega⟩ 1 (by show _ = 1; dsimp only; omega) (by dsimp only; omega)
    (by dsimp only; omega) r x (by dsimp only; omega) d _ a0
  have a2 := accB_at A ⟨t.val - 1, by omega⟩ 2 (by show _ = 2; dsimp only; omega) (by dsimp only; omega)
    (by dsimp only; omega) r x (by dsimp only; omega) d _ a1
  exact step_at A t 3 ht r x _ (nr_at A (t.val - 1) (by omega) r x (by omega)) _ d _ a2

/-- The rows after the feed-forward, a third of the row block at a time. -/
theorem rows_at (t : Fin cfg0.N) (ht : t.val % 4 = 3) (k : Fin 3) (r : Fin 256) (d : Fin 1024) :
    third k (hBlk m c t) (ix2 r d) + Ideal.ofBits .f32 0x3F000000#32 * third k (accLast m c t) (ix2 r d)
      = ((h3 H G W O (row t k r) d : ℝ) : EReal) := by
  have hx : t.val / 4 * 768 + (k.val * 256 + r.val) = (row t k r).val := by
    show _ = (t.val / 4 * 3 + k.val) * 256 + r.val
    omega
  have e1 : third k (hBlk m c t) (ix2 r d) = ((H (row t k r) d : ℝ) : EReal) :=
    hRow_at A t ⟨k.val * 256 + r.val, by omega⟩ _ hx d
  have e2 := accLast_at A t ht ⟨k.val * 256 + r.val, by omega⟩ _ hx d
  have e3 : third k (accLast m c t) (ix2 r d) = _ := e2
  rw [e1, e3, Reals.half, ← EReal.coe_mul, ← EReal.coe_add, h3_parts, zero_add]

omit A in
variable (m c) in
/-- The errors, a third of the row block at a time. -/
def errTile (t : Fin cfg0.N) : Fin 3 → FVec Ideal S256x1024 .f32
  | ⟨0, _⟩ => k0_pay10 (BitVec.ofNat 32 (t.val / 4)) (third 0 (hBlk m c t)) (third 0 (accLast m c t)) (lastBlk m c t)
      (targetBlk0 m c t)
  | ⟨1, _⟩ => k0_pay19 (k0_pay9 (third 1 (hBlk m c t)) (third 1 (accLast m c t))) (lastBlk m c t) (targetBlk1 m c t)
  | ⟨2, _⟩ => k0_pay19 (k0_pay9 (third 2 (hBlk m c t)) (third 2 (accLast m c t))) (lastBlk m c t) (targetBlk2 m c t)

theorem rsTile_at (t : Fin cfg0.N) (ht : t.val % 4 = 3) (k : Fin 3) (r : Fin 256) :
    k0_pay8 (third k (hBlk m c t)) (third k (accLast m c t)) (ix2 r 0) = ((rs (h3 H G W O) (row t k r) : ℝ) : EReal) :=
  rs_blk _ _ _ (row t k) (rows_at A t ht k) r

theorem xhTile_at (t : Fin cfg0.N) (ht : t.val % 4 = 3) (k : Fin 3) (r : Fin 256) (d : Fin 1024) :
    k0_pay9 (third k (hBlk m c t)) (third k (accLast m c t)) (ix2 r d)
      = ((xh (h3 H G W O) (row t k r) d : ℝ) : EReal) :=
  xh_blk _ _ _ (row t k) (rows_at A t ht k) r d

theorem lastRow_at (t : Fin cfg0.N) (d : Fin 1024) : lastBlk m c t (ix2 0 d) = ((F d : ℝ) : EReal) := by
  rw [last_at, A.f]

theorem errTile_at (t : Fin cfg0.N) (ht : t.val % 4 = 3) (k : Fin 3) (r : Fin 256) (d : Fin 1024) :
    errTile m c t k (ix2 r d) = ((err (h3 H G W O) F T (row t k r) d : ℝ) : EReal) := by
  have hN : cfg0.N = 44 := N_0
  have hlt := t.isLt
  match k with
  | ⟨0, _⟩ =>
    by_cases hz : t.val / 4 = 0
    · show k0_pay10 (BitVec.ofNat 32 (t.val / 4)) _ _ _ _ (ix2 r d) = _
      rw [hz]
      refine (pay10_zero _ _ _ _ r d).trans ?_
      rw [err_low _ _ _ _ (show (t.val / 4 * 3 + 0) * 256 + r.val < 256 by omega)]
      exact EReal.coe_zero.symm
    · have hne : BitVec.ofNat 32 (t.val / 4) ≠ 0#32 := by
        intro h
        have e := congrArg BitVec.toNat h
        rw [BitVec.toNat_ofNat, BitVec.toNat_ofNat] at e
        omega
      show k0_pay10 (BitVec.ofNat 32 (t.val / 4)) _ _ _ _ (ix2 r d) = _
      rw [pay10_ne _ _ _ _ _ hne]
      refine err_blk _ _ _ _ _ (row t 0) _ (xhTile_at A t ht 0) (lastRow_at A t) (fun r d y h => ?_) (fun r => ?_) r d
      · rw [target0_at, A.t]
        refine congrArg (fun y => ((T y d : ℝ) : EReal)) (Fin.ext ?_)
        have h : y.val + 256 = (t.val / 4 * 3 + 0) * 256 + r.val := h
        show (t.val / 4 * 3 - 1) * 256 + r.val = y.val
        omega
      · show 256 ≤ (t.val / 4 * 3 + 0) * 256 + r.val
        omega
  | ⟨1, _⟩ =>
    refine err_blk _ _ _ _ _ (row t 1) _ (xhTile_at A t ht 1) (lastRow_at A t) (fun r d y h => ?_) (fun r => ?_) r d
    · rw [target1_at, A.t]
      refine congrArg (fun y => ((T y d : ℝ) : EReal)) (Fin.ext ?_)
      have h : y.val + 256 = (t.val / 4 * 3 + 1) * 256 + r.val := h
      show t.val / 4 * 3 * 256 + r.val = y.val
      omega
    · show 256 ≤ (t.val / 4 * 3 + 1) * 256 + r.val
      omega
  | ⟨2, _⟩ =>
    refine err_blk _ _ _ _ _ (row t 2) _ (xhTile_at A t ht 2) (lastRow_at A t) (fun r d y h => ?_) (fun r => ?_) r d
    · rw [target2_at, A.t]
      refine congrArg (fun y => ((T y d : ℝ) : EReal)) (Fin.ext ?_)
      have h : y.val + 256 = (t.val / 4 * 3 + 2) * 256 + r.val := h
      show (t.val / 4 * 3 + 1) * 256 + r.val = y.val
      omega
    · show 256 ≤ (t.val / 4 * 3 + 2) * 256 + r.val
      omega

/-! ### The results' buffers -/

theorem lossC_at (t : Fin cfg0.N) (ht : t.val % 4 = 3) (l : Fin 128) (s : ℝ)
    (hs : lossBuf m c (t.val - 1) (by omega) (ix2 0 l) = (s : EReal)) : lossBuf m c t.val t.isLt (ix2 0 l)
      = ((s + 1 / 2 * tile (rowLoss (h3 H G W O) F T) (t.val / 4 * 3)
          + 1 / 2 * tile (rowLoss (h3 H G W O) F T) (t.val / 4 * 3 + 1)
          + 1 / 2 * tile (rowLoss (h3 H G W O) F T) (t.val / 4 * 3 + 2) : ℝ) : EReal) := by
  have s0 := loss_blk (h3 H G W O) F T (row t 0) (errTile m c t 0) (errTile_at A t ht 0) _ l s hs
  have s1 := loss_blk (h3 H G W O) F T (row t 1) (errTile m c t 1) (errTile_at A t ht 1)
    (k0_pay15 (errTile m c t 0) (lossBuf m c (t.val - 1) (by omega))) l _ ((pay15_at _ _ l).trans s0)
  have s2 := loss_blk (h3 H G W O) F T (row t 2) (errTile m c t 2) (errTile_at A t ht 2)
    (k0_pay25 (k0_pay23 (k0_pay15 (errTile m c t 0) (lossBuf m c (t.val - 1) (by omega))))
      (k0_pay24 (k0_pay18 (third 1 (hBlk m c t)) (third 1 (accLast m c t))) (lastBlk m c t) (targetBlk1 m c t)))
    l _ ((pay25_at _ _ _ _ l).trans s1)
  rw [tile_row, tile_row, tile_row] at s2
  rw [loss_C m c t (by omega) (by omega) ht _ rfl]
  exact (pay6_at _ _ l).trans s2

/-- The loss after point `n`: the row blocks finished so far. -/
theorem loss_at (n : ℕ) (hn : n < cfg0.N) (l : Fin 128) : lossBuf m c n hn (ix2 0 l)
    = ((∑ i ∈ Finset.range ((n + 1) / 4 * 3), 1 / 2 * tile (rowLoss (h3 H G W O) F T) i : ℝ) : EReal) := by
  have hN : cfg0.N = 44 := N_0
  induction n with
  | zero =>
    refine (congrFun (loss_A m c ⟨0, hn⟩ rfl rfl (by dsimp only; omega)) _).trans ((pay2_at l).trans ?_)
    simp
  | succ n ih =>
    by_cases h3 : (n + 1) % 4 = 3
    · have e : (n + 1 + 1) / 4 * 3 = (n + 1) / 4 * 3 + 1 + 1 + 1 := by omega
      rw [e, Finset.sum_range_succ, Finset.sum_range_succ, Finset.sum_range_succ]
      exact lossC_at A ⟨n + 1, hn⟩ h3 l _ (ih (by omega))
    · have e : (n + 1 + 1) / 4 = (n + 1) / 4 := by omega
      have k : lossBuf m c (n + 1) hn = lossBuf m c n (by omega) := by
        by_cases h0 : (n + 1) % 4 = 0
        · exact loss_D m c ⟨n + 1, hn⟩ h0 (by dsimp only; omega) h3
        · exact loss_B m c ⟨n + 1, hn⟩ h0 (by dsimp only; omega) h3
      rw [k, ih (by omega), e]

theorem dgainC_at (t : Fin cfg0.N) (ht : t.val % 4 = 3) (d : Fin 1024) (s : ℝ)
    (hs : dgainBuf m c (t.val - 1) (by omega) (ix2 0 d) = (s : EReal)) : dgainBuf m c t.val t.isLt (ix2 0 d)
      = ((s + tile (fun x => de (h3 H G W O) F T x d * xh (h3 H G W O) x d) (t.val / 4 * 3)
          + tile (fun x => de (h3 H G W O) F T x d * xh (h3 H G W O) x d) (t.val / 4 * 3 + 1)
          + tile (fun x => de (h3 H G W O) F T x d * xh (h3 H G W O) x d) (t.val / 4 * 3 + 2) : ℝ) : EReal) := by
  have s0 := gain_blk (h3 H G W O) F T (row t 0) _ (errTile m c t 0) (xhTile_at A t ht 0) (errTile_at A t ht 0) _ d s hs
  have s1 := gain_blk (h3 H G W O) F T (row t 1) _ (errTile m c t 1) (xhTile_at A t ht 1) (errTile_at A t ht 1)
    (k0_pay14 (k0_pay13 (BitVec.ofNat 32 (t.val / 4)) (third 0 (hBlk m c t)) (third 0 (accLast m c t)) (lastBlk m c t)
      (targetBlk0 m c t)) (dgainBuf m c (t.val - 1) (by omega))) d _ ((pay14_at _ _ _ _ _ _ d).trans s0)
  have s2 := gain_blk (h3 H G W O) F T (row t 2) _ (errTile m c t 2) (xhTile_at A t ht 2) (errTile_at A t ht 2)
    (k0_pay22 (k0_pay18 (third 1 (hBlk m c t)) (third 1 (accLast m c t))) (lastBlk m c t) (targetBlk1 m c t)
      (k0_pay14 (k0_pay13 (BitVec.ofNat 32 (t.val / 4)) (third 0 (hBlk m c t)) (third 0 (accLast m c t)) (lastBlk m c t)
        (targetBlk0 m c t)) (dgainBuf m c (t.val - 1) (by omega)))) d _ ((pay22_at _ _ _ _ d).trans s1)
  rw [tile_row (fun x => de (h3 H G W O) F T x d * xh (h3 H G W O) x d),
    tile_row (fun x => de (h3 H G W O) F T x d * xh (h3 H G W O) x d),
    tile_row (fun x => de (h3 H G W O) F T x d * xh (h3 H G W O) x d)] at s2
  rw [dgain_C m c t (by omega) (by omega) ht _ rfl, pay5_eq]
  exact (pay22_at _ _ _ _ d).trans s2

/-- The gain's gradient after point `n`: the row blocks finished so far. -/
theorem dgain_at (n : ℕ) (hn : n < cfg0.N) (d : Fin 1024) : dgainBuf m c n hn (ix2 0 d)
    = ((∑ i ∈ Finset.range ((n + 1) / 4 * 3),
        tile (fun x => de (h3 H G W O) F T x d * xh (h3 H G W O) x d) i : ℝ) : EReal) := by
  have hN : cfg0.N = 44 := N_0
  induction n with
  | zero =>
    refine (congrFun (dgain_A m c ⟨0, hn⟩ rfl rfl (by dsimp only; omega)) _).trans ((pay3_at d).trans ?_)
    simp
  | succ n ih =>
    by_cases h3 : (n + 1) % 4 = 3
    · have e : (n + 1 + 1) / 4 * 3 = (n + 1) / 4 * 3 + 1 + 1 + 1 := by omega
      rw [e, Finset.sum_range_succ, Finset.sum_range_succ, Finset.sum_range_succ]
      exact dgainC_at A ⟨n + 1, hn⟩ h3 d _ (ih (by omega))
    · have e : (n + 1 + 1) / 4 = (n + 1) / 4 := by omega
      have k : dgainBuf m c (n + 1) hn = dgainBuf m c n (by omega) := by
        by_cases h0 : (n + 1) % 4 = 0
        · exact dgain_D m c ⟨n + 1, hn⟩ h0 (by dsimp only; omega) h3
        · exact dgain_B m c ⟨n + 1, hn⟩ h0 (by dsimp only; omega) h3
      rw [k, ih (by omega), e]

omit A in
theorem dxTile_eq (t : Fin cfg0.N) (k : Fin 3) (r : Fin 256) (d : Fin 1024) :
    dxTile m c t (accLast m c t) k (ix2 r d)
      = eDx (k0_pay8 (third k (hBlk m c t)) (third k (accLast m c t)))
          (k0_pay9 (third k (hBlk m c t)) (third k (accLast m c t))) (errTile m c t k) (lastBlk m c t) r d := by
  match k with
  | ⟨0, _⟩ =>
    exact pay12_at (BitVec.ofNat 32 (t.val / 4)) (third 0 (hBlk m c t)) (third 0 (accLast m c t)) (lastBlk m c t) (targetBlk0 m c t) r d
  | ⟨1, _⟩ =>
    exact pay21_at (lastBlk m c t) (targetBlk1 m c t) (k0_pay8 (third 1 (hBlk m c t)) (third 1 (accLast m c t)))
      (k0_pay9 (third 1 (hBlk m c t)) (third 1 (accLast m c t))) r d
  | ⟨2, _⟩ =>
    exact (congrFun (pay4_eq (third 2 (hBlk m c t)) (third 2 (accLast m c t)) (lastBlk m c t) (targetBlk2 m c t)) (ix2 r d)).trans
      (pay21_at (lastBlk m c t) (targetBlk2 m c t) (k0_pay8 (third 2 (hBlk m c t)) (third 2 (accLast m c t)))
        (k0_pay9 (third 2 (hBlk m c t)) (third 2 (accLast m c t))) r d)

theorem dxTile_at (t : Fin cfg0.N) (ht : t.val % 4 = 3) (k : Fin 3) (r : Fin 256) (d : Fin 1024) :
    dxTile m c t (accLast m c t) k (ix2 r d) = ((dx (h3 H G W O) F T (row t k r) d : ℝ) : EReal) :=
  (dxTile_eq t k r d).trans (dx_blk (lastBlk m c t) (h3 H G W O) F T (row t k) _ _ (errTile m c t k)
    (rsTile_at A t ht k) (xhTile_at A t ht k) (errTile_at A t ht k) (lastRow_at A t) r d)

theorem dx_at (t : Fin cfg0.N) (ht : t.val % 4 = 3) (r : Fin 768) (x : Fin 8448)
    (hx : t.val / 4 * 768 + r.val = x.val) (d : Fin 1024) :
    dxBuf m c t.val t.isLt (ix2 r d) = ((dx (h3 H G W O) F T x d : ℝ) : EReal) := by
  have hr : r = ⟨(r.val / 256) * 256 + r.val % 256, by omega⟩ := Fin.ext (by dsimp only; omega)
  have e : x = row t ⟨r.val / 256, by omega⟩ ⟨r.val % 256, by omega⟩ := Fin.ext (by
    show x.val = (t.val / 4 * 3 + r.val / 256) * 256 + r.val % 256
    omega)
  rw [e, ← dxTile_at A t ht, ← dx_C m c t (by omega) (by omega) ht _ rfl]
  exact congrArg (fun a => dxBuf m c t.val t.isLt (ix2 a d)) hr

end Cert.Kernel8Ideal.Math

end
-- ==== Proof.FfnHeadRef.lean ====
/- The reference of the feed-forward with the loss, stage by stage, on finite arguments. -/
module

public import proofs.«01_k».proof.Defs
public import proofs.«01_k».proof.Proof.FfnHeadSpec
public import proofs.«01_k».proof.Proof.Gen.Reference8Ideal.Run
public import proofs.«01_k».proof.Proof.Gen.Reference8Ideal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Reference8Ideal.Math

open Cert.Reference8Ideal Cert.Reference8Ideal.Read Cert.FfnBwd Cert.FfnHead

theorem one_eq : Ideal.ofBits .f32 0x3F800000#32 = ((1 : ℝ) : EReal) := by
  simp [Ideal.ofBits, Ideal.ieee, -EReal.coe_mul, -EReal.coe_one]; norm_num
theorem two_eq : Ideal.ofBits .f32 0x40000000#32 = ((2 : ℝ) : EReal) := by
  simp [Ideal.ofBits, Ideal.ieee, -EReal.coe_mul]; norm_num

variable (x0 : Vec Ideal S8448x1024 .f32) (x1 : Vec Ideal S1x1024 .f32) (x2 : Vec Ideal S1024x5632 .f32)
  (x3 : Vec Ideal S2816x1024 .f32) (x4 : Vec Ideal S1x1024 .f32) (x5 : Vec Ideal S8192x1024 .f32)

section Rows
variable (H : Fin 8448 → Fin 1024 → ℝ) (G : Fin 1024 → ℝ) (W : Fin 1024 → Fin 5632 → ℝ) (O : Fin 2816 → Fin 1024 → ℝ)
variable (hH : ∀ x d, x0 (ix2 x d) = ((H x d : ℝ) : EReal)) (hG : ∀ d, x1 (ix2 0 d) = ((G d : ℝ) : EReal))
  (hW : ∀ d k, x2 (ix2 d k) = ((W d k : ℝ) : EReal)) (hO : ∀ q d, x3 (ix2 q d) = ((O q d : ℝ) : EReal))

include hH in
theorem inv_at (x : Fin 8448) : val_main_v7 (F := Ideal) x0 (ix2 x 0) = ((rs H x : ℝ) : EReal) := by
  have e : val_main_v7 (F := Ideal) x0 (ix2 x 0)
      = Ideal.rsqrt (Ideal.div (∑ d, x0 (ix2 x d) * x0 (ix2 x d)) (Ideal.ofBits .f32 0x44800000#32)
        + Ideal.ofBits .f32 0x358637BD#32) := by
    pointwise [val_main_v7, val_main_v6, val_main_v5, val_main_v4, val_main_v3, val_main_v2, val_main_v1, val_main_v0,
      val_main_cst, val_main_cst_0, val_main_cst_1]
  rw [e, Reals.width, Reals.eps_eq, Ideal.div_coe (by norm_num)]
  simp only [hH, ← EReal.coe_mul, ← Reals.coe_sum, ← EReal.coe_add]
  exact rsqrt_ms H x

include hH hG in
theorem norm_at (x : Fin 8448) (d : Fin 1024) :
    val_main_v11 (F := Ideal) x0 x1 (ix2 x d) = ((nr H G x d : ℝ) : EReal) := by
  have e : val_main_v11 (F := Ideal) x0 x1 (ix2 x d)
      = x0 (ix2 x d) * val_main_v7 (F := Ideal) x0 (ix2 x 0) * x1 (ix2 0 d) := by
    pointwise [val_main_v11, val_main_v10, val_main_v9, val_main_v8]
  rw [e, inv_at x0 H hH, hG, hH, ← EReal.coe_mul, ← EReal.coe_mul]
  rfl

include hH hG hW in
theorem pre_at (x : Fin 8448) (k : Fin 5632) :
    val_main_v12 (F := Ideal) x0 x1 x2 (ix2 x k) = ((pre H G W x k : ℝ) : EReal) := by
  have e : val_main_v12 (F := Ideal) x0 x1 x2 (ix2 x k)
      = ∑ d, val_main_v11 (F := Ideal) x0 x1 (ix2 x d) * x2 (ix2 d k) := by
    pointwise [val_main_v12]
  rw [e]
  simp only [norm_at x0 x1 H G hH hG, hW, ← EReal.coe_mul, ← Reals.coe_sum]
  rfl

include hH hG hW in
theorem hid_at (x : Fin 8448) (q : Fin 2816) :
    val_main_v16 (F := Ideal) x0 x1 x2 (ix2 x q) = ((dup H G W x q * up H G W x q : ℝ) : EReal) := by
  have e : val_main_v16 (F := Ideal) x0 x1 x2 (ix2 x q)
      = val_main_v12 (F := Ideal) x0 x1 x2 (ix2 x ⟨q.val, by omega⟩)
        * Ideal.logistic (val_main_v12 (F := Ideal) x0 x1 x2 (ix2 x ⟨q.val, by omega⟩))
        * val_main_v12 (F := Ideal) x0 x1 x2 (ix2 x ⟨2816 + q.val, by omega⟩) := by
    unfold Ideal.logistic
    pointwise [val_main_v16, val_main_v15, val_main_v14, val_main_v13, val_main_call0_v0, val_main_call0_v1,
      val_main_call0_v2, val_main_call0_v3, val_main_call0_v4, val_main_call0_v5, val_main_call0_cst,
      val_main_call0_cst_0]
  rw [e, pre_at x0 x1 x2 H G W hH hG hW, pre_at x0 x1 x2 H G W hH hG hW, Ideal.logistic_coe, ← EReal.coe_mul,
    ← EReal.coe_mul]
  rfl

include hH hG hW hO in
theorem rows_at (x : Fin 8448) (d : Fin 1024) :
    val_main_v20 (F := Ideal) x0 x1 x2 x3 (ix2 x d) = ((h3 H G W O x d : ℝ) : EReal) := by
  have e : val_main_v20 (F := Ideal) x0 x1 x2 x3 (ix2 x d) = x0 (ix2 x d) + Ideal.ofBits .f32 0x3F000000#32
      * ∑ q, val_main_v16 (F := Ideal) x0 x1 x2 (ix2 x q) * x3 (ix2 q d) := by
    pointwise [val_main_v20, val_main_v19, val_main_v18, val_main_v17, val_main_cst_2]
  rw [e, Reals.half]
  simp only [hid_at x0 x1 x2 H G W hH hG hW, hH, hO, ← EReal.coe_mul, ← Reals.coe_sum, ← EReal.coe_add]
  rfl

end Rows

section Loss
variable (X : Fin 8448 → Fin 1024 → ℝ) (F : Fin 1024 → ℝ) (T : Fin 8192 → Fin 1024 → ℝ)
variable (hX : ∀ x d, val_main_v20 (F := Ideal) x0 x1 x2 x3 (ix2 x d) = ((X x d : ℝ) : EReal))
  (hF : ∀ d, x4 (ix2 0 d) = ((F d : ℝ) : EReal)) (hT : ∀ y d, x5 (ix2 y d) = ((T y d : ℝ) : EReal))

include hX in
theorem ms_at (x : Fin 8448) : val_main_v27 (F := Ideal) x0 x1 x2 x3 (ix2 x 0) = ((ms X x : ℝ) : EReal) := by
  have e : val_main_v27 (F := Ideal) x0 x1 x2 x3 (ix2 x 0)
      = Ideal.div (∑ d, val_main_v20 (F := Ideal) x0 x1 x2 x3 (ix2 x d) * val_main_v20 (F := Ideal) x0 x1 x2 x3 (ix2 x d))
          (Ideal.ofBits .f32 0x44800000#32) + Ideal.ofBits .f32 0x358637BD#32 := by
    pointwise [val_main_v27, val_main_v26, val_main_v25, val_main_v24, val_main_v23, val_main_v22, val_main_v21,
      val_main_cst_3, val_main_cst_4, val_main_cst_5]
  rw [e, Reals.width, Reals.eps_eq, Ideal.div_coe (by norm_num)]
  simp only [hX, ← EReal.coe_mul, ← Reals.coe_sum, ← EReal.coe_add]
  rfl

include hX in
theorem rs_at (x : Fin 8448) : val_main_v28 (F := Ideal) x0 x1 x2 x3 (ix2 x 0) = ((rs X x : ℝ) : EReal) := by
  have e : val_main_v28 (F := Ideal) x0 x1 x2 x3 (ix2 x 0)
      = Ideal.rsqrt (val_main_v27 (F := Ideal) x0 x1 x2 x3 (ix2 x 0)) := by
    pointwise [val_main_v28]
  rw [e, ms_at x0 x1 x2 x3 X hX, rsqrt_ms]

include hX in
theorem slope_at (x : Fin 8448) : val_main_v31 (F := Ideal) x0 x1 x2 x3 (ix2 x 0)
    = ((-(1 / 2) * (rs X x * rs X x * rs X x) : ℝ) : EReal) := by
  have e : val_main_v31 (F := Ideal) x0 x1 x2 x3 (ix2 x 0) = Ideal.ofBits .f32 0xBF000000#32
      * Ideal.div (val_main_v28 (F := Ideal) x0 x1 x2 x3 (ix2 x 0)) (val_main_v27 (F := Ideal) x0 x1 x2 x3 (ix2 x 0)) := by
    pointwise [val_main_v31, val_main_v30, val_main_v29, val_main_cst_6]
  rw [e, rs_at x0 x1 x2 x3 X hX, ms_at x0 x1 x2 x3 X hX, Ideal.div_coe (ms_pos X x).ne', Reals.neg_half]
  simp only [← EReal.coe_mul]
  rw [rs_sq]

include hX in
theorem xh_at (x : Fin 8448) (d : Fin 1024) :
    val_main_v33 (F := Ideal) x0 x1 x2 x3 (ix2 x d) = ((xh X x d : ℝ) : EReal) := by
  have e : val_main_v33 (F := Ideal) x0 x1 x2 x3 (ix2 x d)
      = val_main_v20 (F := Ideal) x0 x1 x2 x3 (ix2 x d) * val_main_v28 (F := Ideal) x0 x1 x2 x3 (ix2 x 0) := by
    pointwise [val_main_v33, val_main_v32]
  rw [e, rs_at x0 x1 x2 x3 X hX, hX, ← EReal.coe_mul]
  rfl

include hX hF hT in
theorem err_at (y : Fin 8192) (d : Fin 1024) : val_main_v37 (F := Ideal) x0 x1 x2 x3 x4 x5 (ix2 y d)
    = ((err X F T ⟨256 + y.val, by omega⟩ d : ℝ) : EReal) := by
  have e : val_main_v37 (F := Ideal) x0 x1 x2 x3 x4 x5 (ix2 y d)
      = val_main_v33 (F := Ideal) x0 x1 x2 x3 (ix2 ⟨256 + y.val, by omega⟩ d) * x4 (ix2 0 d) - x5 (ix2 y d) := by
    pointwise [val_main_v37, val_main_v36, val_main_v35, val_main_v34]
  rw [e, xh_at x0 x1 x2 x3 X hX, hF, hT, ← EReal.coe_mul, ← EReal.coe_sub, err_high]

include hX hF hT in
theorem deHigh_at (y : Fin 8192) (d : Fin 1024) : val_main_v51 (F := Ideal) x0 x1 x2 x3 x4 x5 (ix2 y d)
    = ((de X F T ⟨256 + y.val, by omega⟩ d : ℝ) : EReal) := by
  have e : val_main_v51 (F := Ideal) x0 x1 x2 x3 x4 x5 (ix2 y d)
      = Ideal.div (Ideal.ofBits .f32 0x3F000000#32 * Ideal.ofBits .f32 0x3F800000#32) (Ideal.ofBits .f32 0x44800000#32)
        * (Ideal.ofBits .f32 0x40000000#32 * val_main_v37 (F := Ideal) x0 x1 x2 x3 x4 x5 (ix2 y d)) := by
    pointwise [val_main_v51, val_main_v50, val_main_v49, val_main_v48, val_main_v47, val_main_v46, val_main_v40,
      val_main_v39, val_main_cst_7, val_main_cst_12, val_main_cst_13, val_main_cst_14]
  rw [e, err_at x0 x1 x2 x3 x4 x5 X F T hX hF hT, Reals.half, one_eq, Reals.width, two_eq, Ideal.div_coe (by norm_num)]
  simp only [← EReal.coe_mul]
  unfold de
  congr 1
  ring

include hX hF hT in
theorem de_at (x : Fin 8448) (d : Fin 1024) : val_main_v52 (F := Ideal) x0 x1 x2 x3 x4 x5 (ix2 x d)
    = ((de X F T x d : ℝ) : EReal) := by
  have e : val_main_v52 (F := Ideal) x0 x1 x2 x3 x4 x5 (ix2 x d)
      = if h : 256 ≤ x.val ∧ x.val - 256 < 8192
          then val_main_v51 (F := Ideal) x0 x1 x2 x3 x4 x5 (ix2 ⟨x.val - 256, by omega⟩ d) else 0 := by
    pointwise [val_main_v52, val_main_cst_15]
  rw [e]
  by_cases h : 256 ≤ x.val
  · have ex : (⟨256 + (x.val - 256), by omega⟩ : Fin 8448) = x := Fin.ext (by dsimp only; omega)
    rw [dif_pos ⟨h, by omega⟩, deHigh_at x0 x1 x2 x3 x4 x5 X F T hX hF hT]
    dsimp only
    rw [ex]
  · rw [dif_neg (by omega)]
    unfold de
    rw [err_low X F T x (by omega), zero_mul]
    rfl

include hX hF hT in
theorem dgain_at (d : Fin 1024) : val_main_v55 (F := Ideal) x0 x1 x2 x3 x4 x5 (ix2 0 d)
    = ((FfnHead.dgain X F T d : ℝ) : EReal) := by
  have e : val_main_v55 (F := Ideal) x0 x1 x2 x3 x4 x5 (ix2 0 d)
      = ∑ x, val_main_v33 (F := Ideal) x0 x1 x2 x3 (ix2 x d) * val_main_v52 (F := Ideal) x0 x1 x2 x3 x4 x5 (ix2 x d) := by
    pointwise [val_main_v55, val_main_v54, val_main_v53, val_main_cst_16]
  rw [e]
  simp only [xh_at x0 x1 x2 x3 X hX, de_at x0 x1 x2 x3 x4 x5 X F T hX hF hT, ← EReal.coe_mul, ← Reals.coe_sum]
  unfold FfnHead.dgain
  congr 1
  exact Finset.sum_congr rfl fun x _ => mul_comm _ _

include hX hF hT in
theorem loss_at (l : Fin 128) : val_main_v72 (F := Ideal) x0 x1 x2 x3 x4 x5 (ix2 0 l)
    = ((loss X F T : ℝ) : EReal) := by
  have e : val_main_v72 (F := Ideal) x0 x1 x2 x3 x4 x5 (ix2 0 l) = Ideal.ofBits .f32 0x3F000000#32
      * ∑ y : Fin 8192, Ideal.div (∑ d, val_main_v37 (F := Ideal) x0 x1 x2 x3 x4 x5 (ix2 y d)
        * val_main_v37 (F := Ideal) x0 x1 x2 x3 x4 x5 (ix2 y d)) (Ideal.ofBits .f32 0x44800000#32) := by
    pointwise [val_main_v72, val_main_v45, val_main_v44, val_main_v43, val_main_v42, val_main_v41, val_main_v38,
      val_main_cst_8, val_main_cst_9, val_main_cst_10, val_main_cst_11]
  rw [e, Reals.width, Reals.half]
  simp only [err_at x0 x1 x2 x3 x4 x5 X F T hX hF hT, Ideal.div_coe (show (1024 : ℝ) ≠ 0 by norm_num), ← EReal.coe_mul,
    ← Reals.coe_sum]
  rw [loss_high]
  rfl

include hX hF hT in
theorem dx_at (x : Fin 8448) (d : Fin 1024) : val_main_v71 (F := Ideal) x0 x1 x2 x3 x4 x5 (ix2 x d)
    = ((dx X F T x d : ℝ) : EReal) := by
  have ec : val_main_v67 (F := Ideal) x0 x1 x2 x3 x4 x5 (ix2 x d)
      = Ideal.div ((∑ e, val_main_v20 (F := Ideal) x0 x1 x2 x3 (ix2 x e)
          * (val_main_v52 (F := Ideal) x0 x1 x2 x3 x4 x5 (ix2 x e) * x4 (ix2 0 e)))
          * val_main_v31 (F := Ideal) x0 x1 x2 x3 (ix2 x 0)) (Ideal.ofBits .f32 0x44800000#32) := by
    pointwise [val_main_v67, val_main_v66, val_main_v65, val_main_v64, val_main_v63, val_main_v60, val_main_v59,
      val_main_v58, val_main_v57, val_main_v56, val_main_cst_17, val_main_cst_18, val_main_cst_19]
    exact Fin.sum_univ_one _
  have hc : val_main_v67 (F := Ideal) x0 x1 x2 x3 x4 x5 (ix2 x d)
      = (((∑ e, X x e * (de X F T x e * F e)) * (-(1 / 2) * (rs X x * rs X x * rs X x)) * (1 / 1024) : ℝ) : EReal) := by
    rw [ec, slope_at x0 x1 x2 x3 X hX, Reals.width, Ideal.div_coe (by norm_num)]
    simp only [hX, hF, de_at x0 x1 x2 x3 x4 x5 X F T hX hF hT, ← EReal.coe_mul, ← Reals.coe_sum]
  have e : val_main_v71 (F := Ideal) x0 x1 x2 x3 x4 x5 (ix2 x d)
      = val_main_v52 (F := Ideal) x0 x1 x2 x3 x4 x5 (ix2 x d) * x4 (ix2 0 d)
          * val_main_v28 (F := Ideal) x0 x1 x2 x3 (ix2 x 0)
        + val_main_v20 (F := Ideal) x0 x1 x2 x3 (ix2 x d) * val_main_v67 (F := Ideal) x0 x1 x2 x3 x4 x5 (ix2 x d)
        + val_main_v67 (F := Ideal) x0 x1 x2 x3 x4 x5 (ix2 x d) * val_main_v20 (F := Ideal) x0 x1 x2 x3 (ix2 x d) := by
    pointwise [val_main_v71, val_main_v70, val_main_v69, val_main_v68, val_main_v62, val_main_v61, val_main_v57,
      val_main_v56]
  rw [e, hc, hX, hF, rs_at x0 x1 x2 x3 X hX, de_at x0 x1 x2 x3 x4 x5 X F T hX hF hT]
  simp only [← EReal.coe_mul, ← EReal.coe_add]
  rw [dx_slope]

end Loss

end Cert.Reference8Ideal.Math

end
-- ==== Proof.FfnHead.lean ====
/- The feed-forward with the loss: the kernel's three result arrays, the reference's, and the value claim. -/
module

public import proofs.«01_k».proof.Defs
public import proofs.«01_k».proof.Proof.FfnHeadRun
public import proofs.«01_k».proof.Proof.FfnHeadValue
public import proofs.«01_k».proof.Proof.FfnHeadRef
public import proofs.«01_k».proof.Proof.Gen.Pre_finite8
public import Idealize.ShloMosaic.Lib.ReduceAll
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnHead

/-- Under the precondition every entry of every argument is a real number. -/
theorem args_real [Pre_finite8.Facts] (x0 : FVec Ideal Pre_finite8.S8448x1024 .f32)
    (x1 : FVec Ideal Pre_finite8.S1x1024 .f32) (x2 : FVec Ideal Pre_finite8.S1024x5632 .f32)
    (x3 : FVec Ideal Pre_finite8.S2816x1024 .f32) (x4 : FVec Ideal Pre_finite8.S1x1024 .f32)
    (x5 : FVec Ideal Pre_finite8.S8192x1024 .f32) (h : Pre_finite8.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ ∀ i, ∃ r : ℝ, x5 i = (r : EReal) := by
  have h := congrFun h fun a => a.elim0
  unfold Pre_finite8.fn Pre_finite8.fn_part1 at h
  dsimp only at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  have h0 := (IntOp.andi_eq_one.1 h).2
  haveI : Subsingleton Pre_finite8.S_.Idx := ⟨fun a b => funext fun k => k.elim0⟩
  exact ⟨fun i => FfnBwd.lt_top_of_cmp _ _ Reals.top (Host.reduce_andi_all _ _ _ _ _ h0 i),
    fun i => FfnBwd.lt_top_of_cmp _ _ Reals.top (Host.reduce_andi_all _ _ _ _ _ h1 i),
    fun i => FfnBwd.lt_top_of_cmp _ _ Reals.top (Host.reduce_andi_all _ _ _ _ _ h2 i),
    fun i => FfnBwd.lt_top_of_cmp _ _ Reals.top (Host.reduce_andi_all _ _ _ _ _ h3 i),
    fun i => FfnBwd.lt_top_of_cmp _ _ Reals.top (Host.reduce_andi_all _ _ _ _ _ h4 i),
    fun i => FfnBwd.lt_top_of_cmp _ _ Reals.top (Host.reduce_andi_all _ _ _ _ _ h5 i)⟩

theorem ix2_self {n k : ℕ} (i : Shape.Idx ⟨2, ![n, k]⟩) : i = ix2 (i 0) (i 1) := by
  funext a
  match a with
  | ⟨0, _⟩ => rfl
  | ⟨1, _⟩ => rfl

theorem ix2_row {k : ℕ} (i : Shape.Idx ⟨2, ![1, k]⟩) : i = ix2 0 (i 1) :=
  (ix2_self i).trans (congrArg (fun a => ix2 a (i 1)) (Subsingleton.elim (α := Fin 1) _ _))

variable (X : Fin 8448 → Fin 1024 → ℝ) (F : Fin 1024 → ℝ) (T : Fin 8192 → Fin 1024 → ℝ)

/-- The three results as arrays. -/
def dxVec : Vec Ideal Kernel8Ideal.S8448x1024 .f32 := fun i => ((dx X F T (i 0) (i 1) : ℝ) : EReal)
def lossVec : Vec Ideal Kernel8Ideal.S1x128 .f32 := fun _ => ((loss X F T : ℝ) : EReal)
def dgainVec : Vec Ideal Kernel8Ideal.S1x1024 .f32 := fun i => ((dgain X F T (i 1) : ℝ) : EReal)

end Cert.FfnHead

namespace Cert.Kernel8Ideal.Math

open Cert.Kernel8Ideal Cert.Kernel8Ideal.Gen Cert.Kernel8Ideal.Head Cert.FfnHead

variable {m : (ℓ : Loc nD τ sig) → Buf (Elt Ideal) ℓ} {c : Dev nD}
variable {H : Fin 8448 → Fin 1024 → ℝ} {G : Fin 1024 → ℝ} {W : Fin 1024 → Fin 5632 → ℝ} {O : Fin 2816 → Fin 1024 → ℝ}
  {F : Fin 1024 → ℝ} {T : Fin 8192 → Fin 1024 → ℝ} (A : Args m H G W O F T c)
include A

theorem dx_final : (dats m 0 c).arrAt 9 cfg0.N = dxVec (h3 H G W O) F T := by
  have hN : cfg0.N = 44 := N_0
  have hi : ∀ t : Fin cfg0.N, win0_9.index t 0 = t.val / 4 ∧ win0_9.index t 1 = 0 := by
    decide +kernel
  refine (dats m 0 c).arrAt_eq_of_cover 9 _ (fun t hf => ?_) (fun i => ?_)
  · have ht : t.val % 4 = 3 := (flush0_9 t).mp hf
    rw [flushed9]
    funext y
    rw [View.read_apply]
    have htl : t.val < cfg0.N := t.isLt
    have hy0 : (y 0).val < 768 := (y 0).isLt
    have hy1 : (y 1).val < 1024 := (y 1).isLt
    rw [show y = ix2 (y 0) (y 1) from ix2_self y]
    refine Eq.trans (dx_at A t ht (y 0) ⟨t.val / 4 * 768 + (y 0).val, by omega⟩ rfl (y 1)) ?_
    refine Eq.trans (b := dxVec (h3 H G W O) F T (ix2 ⟨t.val / 4 * 768 + (y 0).val, by omega⟩ (y 1))) rfl ?_
    refine congrArg (dxVec (h3 H G W O) F T) ?_
    funext a
    apply Fin.ext
    match a with
    | ⟨0, _⟩ => show t.val / 4 * 768 + (y 0).val = win0_9.index t 0 * 768 + 1 * (y 0).val; rw [(hi t).1]; omega
    | ⟨1, _⟩ => show (y 1).val = win0_9.index t 1 * 1024 + 1 * (y 1).val; rw [(hi t).2]; omega
  · have h0 : (i 0).val < 8448 := (i 0).isLt
    have h1 : (i 1).val < 1024 := (i 1).isLt
    have key := hi ⟨4 * ((i 0).val / 768) + 3, by omega⟩
    dsimp only at key
    refine ⟨⟨4 * ((i 0).val / 768) + 3, by omega⟩, (flush0_9 _).mpr (by dsimp only; omega), ?_⟩
    rw [mem_blk9]
    intro a
    match a with
    | ⟨0, _⟩ => show win0_9.index _ 0 * 768 ≤ (i 0).val ∧ (i 0).val < win0_9.index _ 0 * 768 + 768; rw [key.1]; omega
    | ⟨1, _⟩ => show win0_9.index _ 1 * 1024 ≤ (i 1).val ∧ (i 1).val < win0_9.index _ 1 * 1024 + 1024; rw [key.2]; omega

theorem loss_final : (dats m 0 c).arrAt 13 cfg0.N = lossVec (h3 H G W O) F T := by
  have hN : cfg0.N = 44 := N_0
  have hi : ∀ t : Fin cfg0.N, win0_13.index t 0 = 0 ∧ win0_13.index t 1 = 0 := by
    decide +kernel
  refine (dats m 0 c).arrAt_eq_of_cover 13 _ (fun t hf => ?_) (fun i => ?_)
  · have ht : t.val % 44 = 43 := (flush0_13 t).mp hf
    rw [flushed13]
    funext y
    rw [View.read_apply]
    have htl : t.val < cfg0.N := t.isLt
    have hy0 : (y 0).val < 1 := (y 0).isLt
    have hy1 : (y 1).val < 128 := (y 1).isLt
    have h43 : t.val = 43 := by omega
    have e : ∑ i ∈ Finset.range ((t.val + 1) / 4 * 3), 1 / 2 * tile (rowLoss (h3 H G W O) F T) i
        = loss (h3 H G W O) F T := by
      rw [h43, ← Finset.mul_sum]
      exact congrArg (fun s : ℝ => 1 / 2 * s) (tile_sum _)
    refine Eq.trans (congrArg (lossBuf m c t.val t.isLt) (ix2_row y)) ((loss_at A t.val t.isLt (y 1)).trans ?_)
    rw [e]
    rfl
  · have h0 : (i 0).val < 1 := (i 0).isLt
    have h1 : (i 1).val < 128 := (i 1).isLt
    have key := hi ⟨43, by omega⟩
    refine ⟨⟨43, by omega⟩, (flush0_13 _).mpr (by dsimp only), ?_⟩
    rw [mem_blk13]
    intro a
    match a with
    | ⟨0, _⟩ => show win0_13.index _ 0 * 1 ≤ (i 0).val ∧ (i 0).val < win0_13.index _ 0 * 1 + 1; rw [key.1]; omega
    | ⟨1, _⟩ => show win0_13.index _ 1 * 128 ≤ (i 1).val ∧ (i 1).val < win0_13.index _ 1 * 128 + 128; rw [key.2]; omega

theorem dgain_final : (dats m 0 c).arrAt 14 cfg0.N = dgainVec (h3 H G W O) F T := by
  have hN : cfg0.N = 44 := N_0
  have hi : ∀ t : Fin cfg0.N, win0_14.index t 0 = 0 ∧ win0_14.index t 1 = 0 := by
    decide +kernel
  refine (dats m 0 c).arrAt_eq_of_cover 14 _ (fun t hf => ?_) (fun i => ?_)
  · have ht : t.val % 44 = 43 := (flush0_14 t).mp hf
    rw [flushed14]
    funext y
    rw [View.read_apply]
    have htl : t.val < cfg0.N := t.isLt
    have hy0 : (y 0).val < 1 := (y 0).isLt
    have hy1 : (y 1).val < 1024 := (y 1).isLt
    have h43 : t.val = 43 := by omega
    have e : ∑ i ∈ Finset.range ((t.val + 1) / 4 * 3),
        tile (fun x => de (h3 H G W O) F T x (y 1) * FfnBwd.xh (h3 H G W O) x (y 1)) i = dgain (h3 H G W O) F T (y 1) := by
      rw [h43]
      exact tile_sum _
    refine Eq.trans (congrArg (dgainBuf m c t.val t.isLt) (ix2_row y)) ((dgain_at A t.val t.isLt (y 1)).trans ?_)
    rw [e]
    refine Eq.trans (b := dgainVec (h3 H G W O) F T (ix2 0 (y 1))) rfl ?_
    refine congrArg (dgainVec (h3 H G W O) F T) ?_
    funext a
    apply Fin.ext
    match a with
    | ⟨0, _⟩ => show 0 = win0_14.index t 0 * 1 + 1 * (y 0).val; rw [(hi t).1]; omega
    | ⟨1, _⟩ => show (y 1).val = win0_14.index t 1 * 1024 + 1 * (y 1).val; rw [(hi t).2]; omega
  · have h0 : (i 0).val < 1 := (i 0).isLt
    have h1 : (i 1).val < 1024 := (i 1).isLt
    have key := hi ⟨43, by omega⟩
    refine ⟨⟨43, by omega⟩, (flush0_14 _).mpr (by dsimp only), ?_⟩
    rw [mem_blk14]
    intro a
    match a with
    | ⟨0, _⟩ => show win0_14.index _ 0 * 1 ≤ (i 0).val ∧ (i 0).val < win0_14.index _ 0 * 1 + 1; rw [key.1]; omega
    | ⟨1, _⟩ => show win0_14.index _ 1 * 1024 ≤ (i 1).val ∧ (i 1).val < win0_14.index _ 1 * 1024 + 1024; rw [key.2]; omega

end Cert.Kernel8Ideal.Math

namespace Cert.Reference8Ideal.Math

open Cert.Reference8Ideal Cert.Reference8Ideal.Read Cert.FfnHead

variable (x0 : Vec Ideal S8448x1024 .f32) (x1 : Vec Ideal S1x1024 .f32) (x2 : Vec Ideal S1024x5632 .f32)
  (x3 : Vec Ideal S2816x1024 .f32) (x4 : Vec Ideal S1x1024 .f32) (x5 : Vec Ideal S8192x1024 .f32)
variable (H : Fin 8448 → Fin 1024 → ℝ) (G : Fin 1024 → ℝ) (W : Fin 1024 → Fin 5632 → ℝ) (O : Fin 2816 → Fin 1024 → ℝ)
  (F : Fin 1024 → ℝ) (T : Fin 8192 → Fin 1024 → ℝ)
variable (hH : ∀ x d, x0 (ix2 x d) = ((H x d : ℝ) : EReal)) (hG : ∀ d, x1 (ix2 0 d) = ((G d : ℝ) : EReal))
  (hW : ∀ d k, x2 (ix2 d k) = ((W d k : ℝ) : EReal)) (hO : ∀ q d, x3 (ix2 q d) = ((O q d : ℝ) : EReal))
  (hF : ∀ d, x4 (ix2 0 d) = ((F d : ℝ) : EReal)) (hT : ∀ y d, x5 (ix2 y d) = ((T y d : ℝ) : EReal))
include hH hG hW hO hF hT

theorem dx_eq : val_main_v71 (F := Ideal) x0 x1 x2 x3 x4 x5 = dxVec (h3 H G W O) F T := funext fun i =>
  (congrArg (val_main_v71 (F := Ideal) x0 x1 x2 x3 x4 x5) (ix2_self i)).trans
    (dx_at x0 x1 x2 x3 x4 x5 (h3 H G W O) F T (rows_at x0 x1 x2 x3 H G W O hH hG hW hO) hF hT (i 0) (i 1))

theorem loss_eq : val_main_v72 (F := Ideal) x0 x1 x2 x3 x4 x5 = lossVec (h3 H G W O) F T := funext fun i =>
  (congrArg (val_main_v72 (F := Ideal) x0 x1 x2 x3 x4 x5) (ix2_row i)).trans
    (loss_at x0 x1 x2 x3 x4 x5 (h3 H G W O) F T (rows_at x0 x1 x2 x3 H G W O hH hG hW hO) hF hT (i 1))

theorem dgain_eq : val_main_v55 (F := Ideal) x0 x1 x2 x3 x4 x5 = dgainVec (h3 H G W O) F T := funext fun i =>
  (congrArg (val_main_v55 (F := Ideal) x0 x1 x2 x3 x4 x5) (ix2_row i)).trans
    (dgain_at x0 x1 x2 x3 x4 x5 (h3 H G W O) F T (rows_at x0 x1 x2 x3 H G W O hH hG hW hO) hF hT (i 1))

end Cert.Reference8Ideal.Math

namespace Cert.Proof

open Cert.FfnHead

theorem ffn_head : algebraic_Kernel8Ideal_Reference8Ideal_pre_finite8 := by
  intro m g m' g' hpre heq
  have real : ∀ c, ∃ H G W O F T, Cert.Kernel8Ideal.Math.Args m H G W O F T c := by
    intro c
    obtain ⟨h0, h1, h2, h3, h4, h5⟩ := args_real _ _ _ _ _ _ (hpre c)
    choose r0 e0 using h0
    choose r1 e1 using h1
    choose r2 e2 using h2
    choose r3 e3 using h3
    choose r4 e4 using h4
    choose r5 e5 using h5
    exact ⟨fun x d => r0 (ix2 x d), fun d => r1 (ix2 0 d), fun d k => r2 (ix2 d k), fun q d => r3 (ix2 q d),
      fun d => r4 (ix2 0 d), fun y d => r5 (ix2 y d),
      ⟨fun x d => e0 _, fun d => e1 _, fun d k => e2 _, fun q d => e3 _, fun d => e4 _, fun y d => e5 _⟩⟩
  choose H G W O F T A using real
  refine ⟨fun c => dxVec (h3 (H c) (G c) (W c) (O c)) (F c) (T c), fun c => lossVec (h3 (H c) (G c) (W c) (O c)) (F c) (T c),
    fun c => dgainVec (h3 (H c) (G c) (W c) (O c)) (F c) (T c), ?_, ?_⟩
  · refine (θ_run _ _ _).mono (fun r h c => ?_) (Cert.Kernel8Ideal.Head.run_blocks m g)
    obtain ⟨h0, h1, h2, k⟩ := h c
    exact ⟨h0.trans (Cert.Kernel8Ideal.Math.dx_final (A c)), h1.trans (Cert.Kernel8Ideal.Math.loss_final (A c)),
      h2.trans (Cert.Kernel8Ideal.Math.dgain_final (A c)), k⟩
  · refine (θ_run _ _ _).mono (fun r h c => ?_) (Cert.Reference8Ideal.Value.run m' g')
    obtain ⟨h0, h1, h2, k⟩ := h c
    obtain ⟨e0, e1, e2, e3, e4, e5⟩ := heq c
    have B := A c
    refine ⟨h0.trans ((Cert.Reference8Ideal.Read.val_main_v71_eq m' c).trans ?_),
      h1.trans ((Cert.Reference8Ideal.Read.val_main_v72_eq m' c).trans ?_),
      h2.trans ((Cert.Reference8Ideal.Read.val_main_v55_eq m' c).trans ?_), k⟩
    · rw [e0, e1, e2, e3, e4, e5]
      exact Cert.Reference8Ideal.Math.dx_eq _ _ _ _ _ _ _ _ _ _ _ _ B.h B.g B.w B.o B.f B.t
    · rw [e0, e1, e2, e3, e4, e5]
      exact Cert.Reference8Ideal.Math.loss_eq _ _ _ _ _ _ _ _ _ _ _ _ B.h B.g B.w B.o B.f B.t
    · rw [e0, e1, e2, e3, e4, e5]
      exact Cert.Reference8Ideal.Math.dgain_eq _ _ _ _ _ _ _ _ _ _ _ _ B.h B.g B.w B.o B.f B.t

end Cert.Proof

end
-- ==== Proof.FfnHeadBits.lean ====
/- The feed-forward with the loss: the frame of the program as printed, from the idealized program's run. The two have the
   same text. -/
module

public import proofs.«01_k».proof.Defs
public import proofs.«01_k».proof.Proof.Gen.Kernel8
public import proofs.«01_k».proof.Proof.FfnHeadFrame

@[expose] public section
open Idealize.ShloMosaic Idealize.SL.Sem

noncomputable section

namespace Cert.Proof
set_option maxRecDepth 16384

/-- The two programs have the same body, … -/
theorem head_body : @Cert.Kernel8.cc0_ffn2_fwd Bits _ _ = @Cert.Kernel8Ideal.cc0_ffn2_fwd Bits _ _ := rfl

set_option maxHeartbeats 2000000 in
/-- … so the same table of bodies, … -/
theorem head_defs₀ : Cert.Kernel8.defs₀ (F := Bits) = Cert.Kernel8Ideal.defs₀ (F := Bits) := by
  unfold Cert.Kernel8.defs₀ Cert.Kernel8Ideal.defs₀
  refine congrArg Defs.onTc ?_
  funext l a
  match l, a with
  | 0, (t, s) =>
    rfl

theorem head_defs : Cert.Kernel8.defs (F := Bits) = Cert.Kernel8Ideal.defs (F := Bits) :=
  congrArg (Pipeline.defs (Cert.Kernel8Ideal.pcfgs (F := Bits))) head_defs₀

/-- … and the same run. -/
theorem frame_kernel8 : Cert.quiescent_Kernel8 := by
  intro m ρ _
  have h := Cert.Kernel8Ideal.Head.frame (F := Bits) m ρ
  rw [← head_defs] at h
  exact h

end Cert.Proof

end
-- ==== Proof.PostFwdPoints.lean ====
/- The mixer's output call (`Kernel9Ideal`): thirty-three row blocks, each in one point. The body normalises and gates the two
   mixers' rows head by head, each head's columns stored into a scratch, multiplies both scratches with their weights, gates
   and adds the products, multiplies with the last weight and adds the rows. -/
module

public import proofs.«01_k».proof.Defs
public import proofs.«01_k».proof.Proof.Gen.Kernel9Ideal.Value
public import Idealize.ShloMosaic.Lib.Pointwise
public import Idealize.ShloMosaic.Lib.Tactic
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.Kernel9Ideal.Math

open Cert.Kernel9Ideal Cert.Kernel9Ideal.Gen

variable (m : (ℓ : Loc nD τ sig) → Buf (Elt Ideal) ℓ)
theorem hz2 : (![0, 0] : Fin 2 → Nat) = fun _ => 0 := funext fun a => by fin_cases a <;> rfl

/-- Point `t`'s blocks of the operands. -/
abbrev oaBlk (c : Dev nD) (t : Fin cfg0.N) : Vec Ideal S256x1024 .f32 := iblk m c 0 t
abbrev obBlk (c : Dev nD) (t : Fin cfg0.N) : Vec Ideal S256x1024 .f32 := iblk m c 1 t
abbrev zBlk (c : Dev nD) (t : Fin cfg0.N) : Vec Ideal S256x1024 .f32 := X0_2 m c t
abbrev rgBlk (c : Dev nD) (t : Fin cfg0.N) : Vec Ideal S256x1024 .f32 := X0_3 m c t
abbrev gaBlk (c : Dev nD) (t : Fin cfg0.N) : Vec Ideal S256x1024 .f32 := X0_4 m c t
abbrev gbBlk (c : Dev nD) (t : Fin cfg0.N) : Vec Ideal S256x1024 .f32 := X0_5 m c t
abbrev gnBlk (c : Dev nD) (t : Fin cfg0.N) : Vec Ideal S1x128 .f32 := iblk m c 6 t
abbrev rnBlk (c : Dev nD) (t : Fin cfg0.N) : Vec Ideal S1x1024 .f32 := iblk m c 7 t
abbrev wbgBlk (c : Dev nD) (t : Fin cfg0.N) : Vec Ideal S1024x1024 .bf16 := iblk m c 8 t
abbrev wbrBlk (c : Dev nD) (t : Fin cfg0.N) : Vec Ideal S1024x1024 .bf16 := iblk m c 9 t
abbrev woBlk (c : Dev nD) (t : Fin cfg0.N) : Vec Ideal S1024x1024 .bf16 := iblk m c 10 t
abbrev hBlk (c : Dev nD) (t : Fin cfg0.N) : Vec Ideal S256x1024 .f32 := iblk m c 11 t

/-! ### A head's columns -/

/-- The columns of head `k`. -/
def cols (k : Fin 8) (x : Vec Ideal S256x1024 .f32) : Vec Ideal S256x128 .f32 :=
  fun i => x (ix2 (i 0) ⟨k.val * 128 + (i 1).val, by have : (i 1).val < 128 := (i 1).isLt; omega⟩)

def cols1 (k : Fin 8) (x : Vec Ideal S1x1024 .f32) : Vec Ideal S1x128 .f32 :=
  fun i => x (ix2 (i 0) ⟨k.val * 128 + (i 1).val, by have : (i 1).val < 128 := (i 1).isLt; omega⟩)

theorem ld_cols (k : Fin 8) (x : Vec Ideal S256x1024 .f32) (off : Fin 2 → Nat) (h0 : off 0 = 0) (h1 : off 1 = k.val * 128)
    (inb : ∀ a, off a + S256x128.size a ≤ S256x1024.size a) :
    View.ld (S := S256x1024) x (Rect.unit off S256x128.size inb) = cols k x := by
  funext i
  refine View.ld_unit_apply_of (S := S256x1024) x off S256x128.size inb i _ fun a => ?_
  match a with
  | ⟨0, _⟩ => show (i 0).val = off 0 + (i 0).val; rw [h0, Nat.zero_add]
  | ⟨1, _⟩ => show k.val * 128 + (i 1).val = off 1 + (i 1).val; rw [h1]

theorem ld_cols1 (k : Fin 8) (x : Vec Ideal S1x1024 .f32) (off : Fin 2 → Nat) (h0 : off 0 = 0) (h1 : off 1 = k.val * 128)
    (inb : ∀ a, off a + S1x128.size a ≤ S1x1024.size a) :
    View.ld (S := S1x1024) x (Rect.unit off S1x128.size inb) = cols1 k x := by
  funext i
  refine View.ld_unit_apply_of (S := S1x1024) x off S1x128.size inb i _ fun a => ?_
  match a with
  | ⟨0, _⟩ => show (i 0).val = off 0 + (i 0).val; rw [h0, Nat.zero_add]
  | ⟨1, _⟩ => show k.val * 128 + (i 1).val = off 1 + (i 1).val; rw [h1]

/-- The eight heads' columns side by side. -/
def join (P : Fin 8 → Vec Ideal S256x128 .bf16) : Vec Ideal S256x1024 .bf16 := fun i =>
  P ⟨(i 1).val / 128, by have : (i 1).val < 1024 := (i 1).isLt; omega⟩
    (ix2 (i 0) ⟨(i 1).val % 128, Nat.mod_lt _ (by decide)⟩)

theorem col_hit (P : Fin 8 → Vec Ideal S256x128 .bf16) (k : Fin 8) (y : S256x1024.Idx) (off : Fin 2 → Nat) (h0 : off 0 = 0)
    (h1 : off 1 = k.val * 128) : View.TileAt (S := S256x1024) (Val := Elt Ideal) (e := .bf16)
      y off S256x128.size (P k) (join P y) := by
  intro x hx
  have e0 : (y 0).val = off 0 + (x 0).val := hx 0
  have e1 : (y 1).val = off 1 + (x 1).val := hx 1
  have l1 : (x 1).val < 128 := (x 1).isLt
  have l2 : (y 1).val < 1024 := (y 1).isLt
  have e : k = ⟨(y 1).val / 128, by omega⟩ := Fin.ext (by dsimp only; omega)
  unfold join
  rw [← e]
  refine congrArg (P k) ?_
  funext a
  match a with
  | ⟨0, _⟩ => exact Fin.ext (show (x 0).val = (y 0).val by omega)
  | ⟨1, _⟩ => exact Fin.ext (show (x 1).val = (y 1).val % 128 by omega)

/-- A block that was stored head by head, as the stores leave it. -/
theorem canon_join (P : Fin 8 → Vec Ideal S256x128 .bf16)
    (p0 p1 p2 p3 p4 p5 p6 p7 : Vec Ideal S256x128 .bf16) (h0 : p0 = P 0) (h1 : p1 = P 1) (h2 : p2 = P 2) (h3 : p3 = P 3)
    (h4 : p4 = P 4) (h5 : p5 = P 5) (h6 : p6 = P 6) (h7 : p7 = P 7) :
    View.canon (Val := Elt Ideal) (s := S256x1024) (e := .bf16)
      [⟨Rect.unit ![0, 896] ![256, 128] inb_S256x1024_S256x128_0_896, p7⟩,
       ⟨Rect.unit ![0, 768] ![256, 128] inb_S256x1024_S256x128_0_768, p6⟩,
       ⟨Rect.unit ![0, 640] ![256, 128] inb_S256x1024_S256x128_0_640, p5⟩,
       ⟨Rect.unit ![0, 512] ![256, 128] inb_S256x1024_S256x128_0_512, p4⟩,
       ⟨Rect.unit ![0, 384] ![256, 128] inb_S256x1024_S256x128_0_384, p3⟩,
       ⟨Rect.unit ![0, 256] ![256, 128] inb_S256x1024_S256x128_0_256, p2⟩,
       ⟨Rect.unit ![0, 128] ![256, 128] inb_S256x1024_S256x128_0_128, p1⟩,
       ⟨Rect.unit ![0, 0] ![256, 128] inb_S256x1024_S256x128_0_0, p0⟩] = join P := by
  subst h0 h1 h2 h3 h4 h5 h6 h7
  funext y
  refine View.canon_eq_of_allAt _ _ _ (View.cover_of_tiled_head (S := S256x1024) (Val := Elt Ideal) (e := .bf16) _ _ _ rfl y) ?_
  exact View.allAt_cons_unit _ _ _ _ _ (col_hit P 7 y _ rfl rfl)
    (View.allAt_cons_unit _ _ _ _ _ (col_hit P 6 y _ rfl rfl)
    (View.allAt_cons_unit _ _ _ _ _ (col_hit P 5 y _ rfl rfl)
    (View.allAt_cons_unit _ _ _ _ _ (col_hit P 4 y _ rfl rfl)
    (View.allAt_cons_unit _ _ _ _ _ (col_hit P 3 y _ rfl rfl)
    (View.allAt_cons_unit _ _ _ _ _ (col_hit P 2 y _ rfl rfl)
    (View.allAt_cons_unit _ _ _ _ _ (col_hit P 1 y _ rfl rfl)
    (View.allAt_cons_unit _ _ _ _ _ (col_hit P 0 y _ rfl rfl) (View.allAt_nil _ _))))))))

/-- The same, read whole. -/
theorem cov_join {sg : RefSig} {κ : Kind} {sp : Space} (v : View sg κ sp S256x1024 .bf16) (P : Fin 8 → Vec Ideal S256x128 .bf16)
    (p0 p1 p2 p3 p4 p5 p6 p7 : Vec Ideal S256x128 .bf16) (h0 : p0 = P 0) (h1 : p1 = P 1) (h2 : p2 = P 2) (h3 : p3 = P 3)
    (h4 : p4 = P 4) (h5 : p5 = P 5) (h6 : p6 = P 6) (h7 : p7 = P 7) :
    v.readCov (Val := Elt Ideal)
      [⟨Rect.unit ![0, 896] ![256, 128] inb_S256x1024_S256x128_0_896, p7⟩,
       ⟨Rect.unit ![0, 768] ![256, 128] inb_S256x1024_S256x128_0_768, p6⟩,
       ⟨Rect.unit ![0, 640] ![256, 128] inb_S256x1024_S256x128_0_640, p5⟩,
       ⟨Rect.unit ![0, 512] ![256, 128] inb_S256x1024_S256x128_0_512, p4⟩,
       ⟨Rect.unit ![0, 384] ![256, 128] inb_S256x1024_S256x128_0_384, p3⟩,
       ⟨Rect.unit ![0, 256] ![256, 128] inb_S256x1024_S256x128_0_256, p2⟩,
       ⟨Rect.unit ![0, 128] ![256, 128] inb_S256x1024_S256x128_0_128, p1⟩,
       ⟨Rect.unit ![0, 0] ![256, 128] inb_S256x1024_S256x128_0_0, p0⟩]
      (Rect.unit ![0, 0] ![256, 1024] inb_S256x1024_S256x1024_0_0).toLoadRect = join P := by
  rw [View.readCov_eq_canon_ld _ _ _ (View.cover_of_tiled_head (S := S256x1024) (Val := Elt Ideal) (e := .bf16) _ _ _ rfl),
    View.ld_unit_zero (S := S256x1024) hz2]
  exact canon_join P _ _ _ _ _ _ _ _ h0 h1 h2 h3 h4 h5 h6 h7

/-- The first mixer's rows of head `k`, normalised and gated; and the second's. -/
abbrev yaP (c : Dev nD) (t : Fin cfg0.N) (k : Fin 8) : Vec Ideal S256x128 .bf16 :=
  k0_pay2 (cols k (oaBlk m c t)) (cols k (zBlk m c t)) (gnBlk m c t)
abbrev ybP (c : Dev nD) (t : Fin cfg0.N) (k : Fin 8) : Vec Ideal S256x128 .bf16 :=
  k0_pay8 (cols k (obBlk m c t)) (cols k (rgBlk m c t)) (cols1 k (rnBlk m c t))

theorem out_eq (c : Dev nD) (t : Fin cfg0.N) : outsAt0 m c t = k0_pay1 (hBlk m c t)
    (k0_pay33 (join (yaP m c t)) (wbgBlk m c t) (join (ybP m c t)) (wbrBlk m c t) (gaBlk m c t) (gbBlk m c t))
    (woBlk m c t) := by
  unfold outsAt0 out0_A_12
  rw [View.read_writes_eq_canon _ _ _ (fun y => cover0_A_12 (y := y) ..)]
  unfold kernelRun0_A
  dsimp only
  sl_unfold_words
  rw [View.canon_unit_zero hz2]
  simp only [View.readAt_eq_ld, (hs0_0 t).read_unread, (hs0_1 t).read_unread,
    (hs0_2 t).read_unread, (hs0_3 t).read_unread, (hs0_4 t).read_unread, (hs0_5 t).read_unread, (hs0_6 t).read_unread,
    (hs0_7 t).read_unread, (hs0_8 t).read_unread, (hs0_9 t).read_unread, (hs0_10 t).read_unread, (hs0_11 t).read_unread,
    View.ld_unit_zero (S := S256x1024) hz2, View.ld_unit_zero (S := S1x128) hz2, View.ld_unit_zero (S := S1024x1024) hz2]
  simp only [ld_cols 0 _ ![0, 0] rfl rfl, ld_cols 1 _ ![0, 128] rfl rfl, ld_cols 2 _ ![0, 256] rfl rfl,
    ld_cols 3 _ ![0, 384] rfl rfl, ld_cols 4 _ ![0, 512] rfl rfl, ld_cols 5 _ ![0, 640] rfl rfl,
    ld_cols 6 _ ![0, 768] rfl rfl, ld_cols 7 _ ![0, 896] rfl rfl,
    ld_cols1 0 _ ![0, 0] rfl rfl, ld_cols1 1 _ ![0, 128] rfl rfl, ld_cols1 2 _ ![0, 256] rfl rfl,
    ld_cols1 3 _ ![0, 384] rfl rfl, ld_cols1 4 _ ![0, 512] rfl rfl, ld_cols1 5 _ ![0, 640] rfl rfl,
    ld_cols1 6 _ ![0, 768] rfl rfl, ld_cols1 7 _ ![0, 896] rfl rfl]
  rw [cov_join (View.whole cc0_scratch0) (yaP m c t), cov_join (View.whole cc0_scratch1) (ybP m c t)]
  all_goals rfl

/-! ### The payloads at an index -/

/-- A head's row normalised by its root mean square, and gated. -/
def gdn (o z : Fin 128 → EReal) (g : EReal) (q : Fin 128) : EReal :=
  o q * Ideal.rsqrt (Ideal.div (∑ e, o e * o e) (Ideal.ofBits .f32 0x43000000#32) + Ideal.ofBits .f32 0x358637BD#32) * g
    * (z q * Ideal.logistic (z q))

/-- A head's mean. -/
def mean (o : Fin 128 → EReal) : EReal := Ideal.div (∑ e, o e) (Ideal.ofBits .f32 0x43000000#32)

/-- A head's row normalised by its mean and its deviation, and gated. -/
def ret (o z : Fin 128 → EReal) (g : EReal) (q : Fin 128) : EReal :=
  z q * Ideal.logistic (z q) * ((o q - mean o)
    * Ideal.rsqrt (mean (fun e => (o e - mean o) * (o e - mean o)) + Ideal.ofBits .f32 0x358637BD#32) * g)

theorem pay2_at (o z : Vec Ideal S256x128 .f32) (g : Vec Ideal S1x128 .f32) (r : Fin 256) (q : Fin 128) :
    k0_pay2 o z g (ix2 r q) = gdn (fun e => o (ix2 r e)) (fun e => z (ix2 r e)) (g (ix2 0 q)) q := by
  unfold gdn
  pointwise [k0_pay2]

theorem pay8_at (o z : Vec Ideal S256x128 .f32) (g : Vec Ideal S1x128 .f32) (r : Fin 256) (q : Fin 128) :
    k0_pay8 o z g (ix2 r q) = ret (fun e => o (ix2 r e)) (fun e => z (ix2 r e)) (g (ix2 0 q)) q := by
  unfold ret mean
  pointwise [k0_pay8]

theorem pay33_at (a b : Vec Ideal S256x1024 .bf16) (u v : Vec Ideal S1024x1024 .bf16) (x y : Vec Ideal S256x1024 .f32)
    (r : Fin 256) (e : Fin 1024) :
    k0_pay33 a u b v x y (ix2 r e) = Ideal.logistic (x (ix2 r e)) * (∑ j, a (ix2 r j) * u (ix2 j e))
      + Ideal.logistic (y (ix2 r e)) * ∑ j, b (ix2 r j) * v (ix2 j e) := by
  pointwise [k0_pay33]

theorem pay1_at (h : Vec Ideal S256x1024 .f32) (u : FVec Ideal S256x1024 .bf16) (w : Vec Ideal S1024x1024 .bf16)
    (r : Fin 256) (d : Fin 1024) :
    k0_pay1 h u w (ix2 r d) = h (ix2 r d) + ∑ e, u (ix2 r e) * w (ix2 e d) := by
  pointwise [k0_pay1]

end Cert.Kernel9Ideal.Math

end
-- ==== Proof.PostFwdBlocks.lean ====
/- The mixer's output call (`Kernel9Ideal`): the result as a function of the arguments, block by block. -/
module

public import proofs.«01_k».proof.Proof.PostFwdPoints

@[expose] public section

set_option maxRecDepth 16384

noncomputable section

open Idealize.ShloMosaic Idealize.ShloMosaic.TcCoe Idealize.SL.Sem
open Idealize.ShloMosaic.Pipeline (Dat)

namespace Cert.Kernel9Ideal.Math

open Cert.Kernel9Ideal Cert.Kernel9Ideal.Gen

variable (m : (ℓ : Loc nD τ sig) → Buf (Elt Ideal) ℓ)

/-! ### The blocks the windows bring in, read off the arguments -/

theorem oa_at (c : Dev nD) (t : Fin cfg0.N) (r : Fin 256) (x : Fin 8448)
    (hx : t.val * 256 + r.val = x.val) (d : Fin 1024) :
    oaBlk m c t (ix2 r d) = m ((c : Thread nD τ).loc main_arg0) (ix2 x d) := by
  have hi : ∀ t : Fin cfg0.N, win0_0.index t 0 = t.val ∧ win0_0.index t 1 = 0 := by decide +kernel
  rw [← V_main_arg0 m c]
  unfold oaBlk iblk
  rw [View.read_apply]
  show V m c main_arg0 _ = V m c main_arg0 _
  congr 1
  funext a
  apply Fin.ext
  match a with
  | ⟨0, _⟩ => show win0_0.index t 0 * 256 + 1 * r.val = x.val; rw [(hi t).1]; omega
  | ⟨1, _⟩ => show win0_0.index t 1 * 1024 + 1 * d.val = d.val; rw [(hi t).2, Nat.zero_mul, Nat.one_mul, Nat.zero_add]

theorem ob_at (c : Dev nD) (t : Fin cfg0.N) (r : Fin 256) (x : Fin 8448)
    (hx : t.val * 256 + r.val = x.val) (d : Fin 1024) :
    obBlk m c t (ix2 r d) = m ((c : Thread nD τ).loc main_arg1) (ix2 x d) := by
  have hi : ∀ t : Fin cfg0.N, win0_1.index t 0 = t.val ∧ win0_1.index t 1 = 0 := by decide +kernel
  rw [← V_main_arg1 m c]
  unfold obBlk iblk
  rw [View.read_apply]
  show V m c main_arg1 _ = V m c main_arg1 _
  congr 1
  funext a
  apply Fin.ext
  match a with
  | ⟨0, _⟩ => show win0_1.index t 0 * 256 + 1 * r.val = x.val; rw [(hi t).1]; omega
  | ⟨1, _⟩ => show win0_1.index t 1 * 1024 + 1 * d.val = d.val; rw [(hi t).2, Nat.zero_mul, Nat.one_mul, Nat.zero_add]

theorem h_at (c : Dev nD) (t : Fin cfg0.N) (r : Fin 256) (x : Fin 8448)
    (hx : t.val * 256 + r.val = x.val) (d : Fin 1024) :
    hBlk m c t (ix2 r d) = m ((c : Thread nD τ).loc main_arg8) (ix2 x d) := by
  have hi : ∀ t : Fin cfg0.N, win0_11.index t 0 = t.val ∧ win0_11.index t 1 = 0 := by decide +kernel
  rw [← V_main_arg8 m c]
  unfold hBlk iblk
  rw [View.read_apply]
  show V m c main_arg8 _ = V m c main_arg8 _
  congr 1
  funext a
  apply Fin.ext
  match a with
  | ⟨0, _⟩ => show win0_11.index t 0 * 256 + 1 * r.val = x.val; rw [(hi t).1]; omega
  | ⟨1, _⟩ => show win0_11.index t 1 * 1024 + 1 * d.val = d.val; rw [(hi t).2, Nat.zero_mul, Nat.one_mul, Nat.zero_add]

theorem z_at (c : Dev nD) (t : Fin cfg0.N) (r : Fin 256) (x : Fin 8448)
    (hx : t.val * 256 + r.val = x.val) (d : Fin 1024) :
    zBlk m c t (ix2 r d) = m ((c : Thread nD τ).loc main_arg2) (ix2 x ⟨6144 + d.val, by omega⟩) := by
  have hi : ∀ t : Fin cfg0.N, win0_2.index t 0 = t.val ∧ win0_2.index t 1 = 6 := by decide +kernel
  rw [← V_main_arg2 m c]
  unfold zBlk X0_2 Pipeline.Window.fill
  rw [dif_pos (moved0_2 t _)]
  unfold iblk
  rw [View.read_apply]
  show V m c main_arg2 _ = V m c main_arg2 _
  congr 1
  funext a
  apply Fin.ext
  match a with
  | ⟨0, _⟩ => show win0_2.index t 0 * 256 + 1 * r.val = x.val; rw [(hi t).1]; omega
  | ⟨1, _⟩ => show win0_2.index t 1 * 1024 + 1 * d.val = 6144 + d.val; rw [(hi t).2]; omega

theorem rg_at (c : Dev nD) (t : Fin cfg0.N) (r : Fin 256) (x : Fin 8448)
    (hx : t.val * 256 + r.val = x.val) (d : Fin 1024) :
    rgBlk m c t (ix2 r d) = m ((c : Thread nD τ).loc main_arg2) (ix2 x ⟨7168 + d.val, by omega⟩) := by
  have hi : ∀ t : Fin cfg0.N, win0_3.index t 0 = t.val ∧ win0_3.index t 1 = 7 := by decide +kernel
  rw [← V_main_arg2 m c]
  unfold rgBlk X0_3 Pipeline.Window.fill
  rw [dif_pos (moved0_3 t _)]
  unfold iblk
  rw [View.read_apply]
  show V m c main_arg2 _ = V m c main_arg2 _
  congr 1
  funext a
  apply Fin.ext
  match a with
  | ⟨0, _⟩ => show win0_3.index t 0 * 256 + 1 * r.val = x.val; rw [(hi t).1]; omega
  | ⟨1, _⟩ => show win0_3.index t 1 * 1024 + 1 * d.val = 7168 + d.val; rw [(hi t).2]; omega

theorem ga_at (c : Dev nD) (t : Fin cfg0.N) (r : Fin 256) (x : Fin 8448)
    (hx : t.val * 256 + r.val = x.val) (d : Fin 1024) :
    gaBlk m c t (ix2 r d) = m ((c : Thread nD τ).loc main_arg2) (ix2 x ⟨8192 + d.val, by omega⟩) := by
  have hi : ∀ t : Fin cfg0.N, win0_4.index t 0 = t.val ∧ win0_4.index t 1 = 8 := by decide +kernel
  rw [← V_main_arg2 m c]
  unfold gaBlk X0_4 Pipeline.Window.fill
  rw [dif_pos (moved0_4 t _)]
  unfold iblk
  rw [View.read_apply]
  show V m c main_arg2 _ = V m c main_arg2 _
  congr 1
  funext a
  apply Fin.ext
  match a with
  | ⟨0, _⟩ => show win0_4.index t 0 * 256 + 1 * r.val = x.val; rw [(hi t).1]; omega
  | ⟨1, _⟩ => show win0_4.index t 1 * 1024 + 1 * d.val = 8192 + d.val; rw [(hi t).2]; omega

theorem gb_at (c : Dev nD) (t : Fin cfg0.N) (r : Fin 256) (x : Fin 8448)
    (hx : t.val * 256 + r.val = x.val) (d : Fin 1024) :
    gbBlk m c t (ix2 r d) = m ((c : Thread nD τ).loc main_arg2) (ix2 x ⟨9216 + d.val, by omega⟩) := by
  have hi : ∀ t : Fin cfg0.N, win0_5.index t 0 = t.val ∧ win0_5.index t 1 = 9 := by decide +kernel
  rw [← V_main_arg2 m c]
  unfold gbBlk X0_5 Pipeline.Window.fill
  rw [dif_pos (moved0_5 t _)]
  unfold iblk
  rw [View.read_apply]
  show V m c main_arg2 _ = V m c main_arg2 _
  congr 1
  funext a
  apply Fin.ext
  match a with
  | ⟨0, _⟩ => show win0_5.index t 0 * 256 + 1 * r.val = x.val; rw [(hi t).1]; omega
  | ⟨1, _⟩ => show win0_5.index t 1 * 1024 + 1 * d.val = 9216 + d.val; rw [(hi t).2]; omega

theorem gn_at (c : Dev nD) (t : Fin cfg0.N) (d : Fin 128) :
    gnBlk m c t (ix2 0 d) = m ((c : Thread nD τ).loc main_arg3) (ix2 0 d) := by
  have hi : ∀ t : Fin cfg0.N, win0_6.index t 0 = 0 ∧ win0_6.index t 1 = 0 := by decide +kernel
  rw [← V_main_arg3 m c]
  unfold gnBlk iblk
  rw [View.read_apply]
  show V m c main_arg3 _ = V m c main_arg3 _
  congr 1
  funext a
  apply Fin.ext
  match a with
  | ⟨0, _⟩ => show win0_6.index t 0 * 1 + 1 * 0 = 0; rw [(hi t).1]
  | ⟨1, _⟩ => show win0_6.index t 1 * 128 + 1 * d.val = d.val; rw [(hi t).2, Nat.zero_mul, Nat.one_mul, Nat.zero_add]

theorem rn_at (c : Dev nD) (t : Fin cfg0.N) (d : Fin 1024) :
    rnBlk m c t (ix2 0 d) = m ((c : Thread nD τ).loc main_arg4) (ix2 0 d) := by
  have hi : ∀ t : Fin cfg0.N, win0_7.index t 0 = 0 ∧ win0_7.index t 1 = 0 := by decide +kernel
  rw [← V_main_arg4 m c]
  unfold rnBlk iblk
  rw [View.read_apply]
  show V m c main_arg4 _ = V m c main_arg4 _
  congr 1
  funext a
  apply Fin.ext
  match a with
  | ⟨0, _⟩ => show win0_7.index t 0 * 1 + 1 * 0 = 0; rw [(hi t).1]
  | ⟨1, _⟩ => show win0_7.index t 1 * 1024 + 1 * d.val = d.val; rw [(hi t).2, Nat.zero_mul, Nat.one_mul, Nat.zero_add]

theorem cast5 (c : Dev nD) : V m c main_v0 = m ((c : Thread nD τ).loc main_arg5) := by
  unfold V hostOps0
  after_results
  rfl

theorem wbg_at (c : Dev nD) (t : Fin cfg0.N) (j d : Fin 1024) :
    wbgBlk m c t (ix2 j d) = m ((c : Thread nD τ).loc main_arg5) (ix2 j d) := by
  have hi : ∀ t : Fin cfg0.N, win0_8.index t 0 = 0 ∧ win0_8.index t 1 = 0 := by decide +kernel
  rw [← cast5 m c]
  unfold wbgBlk iblk
  rw [View.read_apply]
  show V m c main_v0 _ = V m c main_v0 _
  congr 1
  funext a
  apply Fin.ext
  match a with
  | ⟨0, _⟩ => show win0_8.index t 0 * 1024 + 1 * j.val = j.val; rw [(hi t).1]; omega
  | ⟨1, _⟩ => show win0_8.index t 1 * 1024 + 1 * d.val = d.val; rw [(hi t).2, Nat.zero_mul, Nat.one_mul, Nat.zero_add]

theorem cast6 (c : Dev nD) : V m c main_v1 = m ((c : Thread nD τ).loc main_arg6) := by
  unfold V hostOps0
  after_results
  rfl

theorem wbr_at (c : Dev nD) (t : Fin cfg0.N) (j d : Fin 1024) :
    wbrBlk m c t (ix2 j d) = m ((c : Thread nD τ).loc main_arg6) (ix2 j d) := by
  have hi : ∀ t : Fin cfg0.N, win0_9.index t 0 = 0 ∧ win0_9.index t 1 = 0 := by decide +kernel
  rw [← cast6 m c]
  unfold wbrBlk iblk
  rw [View.read_apply]
  show V m c main_v1 _ = V m c main_v1 _
  congr 1
  funext a
  apply Fin.ext
  match a with
  | ⟨0, _⟩ => show win0_9.index t 0 * 1024 + 1 * j.val = j.val; rw [(hi t).1]; omega
  | ⟨1, _⟩ => show win0_9.index t 1 * 1024 + 1 * d.val = d.val; rw [(hi t).2, Nat.zero_mul, Nat.one_mul, Nat.zero_add]

theorem cast7 (c : Dev nD) : V m c main_v2 = m ((c : Thread nD τ).loc main_arg7) := by
  unfold V hostOps0
  after_results
  rfl

theorem wo_at (c : Dev nD) (t : Fin cfg0.N) (j d : Fin 1024) :
    woBlk m c t (ix2 j d) = m ((c : Thread nD τ).loc main_arg7) (ix2 j d) := by
  have hi : ∀ t : Fin cfg0.N, win0_10.index t 0 = 0 ∧ win0_10.index t 1 = 0 := by decide +kernel
  rw [← cast7 m c]
  unfold woBlk iblk
  rw [View.read_apply]
  show V m c main_v2 _ = V m c main_v2 _
  congr 1
  funext a
  apply Fin.ext
  match a with
  | ⟨0, _⟩ => show win0_10.index t 0 * 1024 + 1 * j.val = j.val; rw [(hi t).1]; omega
  | ⟨1, _⟩ => show win0_10.index t 1 * 1024 + 1 * d.val = d.val; rw [(hi t).2, Nat.zero_mul, Nat.one_mul, Nat.zero_add]

/-! ### The result -/

section Spec
variable (oa ob : Vec Ideal S8448x1024 .f32) (p : Vec Ideal S8448x10368 .f32) (gn : Vec Ideal S1x128 .f32)
  (rn : Vec Ideal S1x1024 .f32) (wbg wbr wo : Vec Ideal S1024x1024 .f32) (h : Vec Ideal S8448x1024 .f32)

/-- Head `k` of the first mixer's row, normalised and gated; and of the second's. -/
def ya (x : Fin 8448) (k : Fin 8) (q : Fin 128) : EReal :=
  gdn (fun e => oa (ix2 x ⟨k.val * 128 + e.val, by omega⟩)) (fun e => p (ix2 x ⟨6144 + (k.val * 128 + e.val), by omega⟩))
    (gn (ix2 0 q)) q
def yb (x : Fin 8448) (k : Fin 8) (q : Fin 128) : EReal :=
  ret (fun e => ob (ix2 x ⟨k.val * 128 + e.val, by omega⟩)) (fun e => p (ix2 x ⟨7168 + (k.val * 128 + e.val), by omega⟩))
    (rn (ix2 0 ⟨k.val * 128 + q.val, by omega⟩)) q

/-- Column `j`'s head, and its place in it. -/
abbrev hd (j : Fin 1024) : Fin 8 := ⟨j.val / 128, by omega⟩
abbrev pl (j : Fin 1024) : Fin 128 := ⟨j.val % 128, Nat.mod_lt _ (by decide)⟩

/-- The two mixers' products, gated and added. -/
def merged (x : Fin 8448) (e : Fin 1024) : EReal :=
  Ideal.logistic (p (ix2 x ⟨8192 + e.val, by omega⟩)) * (∑ j, ya oa p gn x (hd j) (pl j) * wbg (ix2 j e))
    + Ideal.logistic (p (ix2 x ⟨9216 + e.val, by omega⟩)) * ∑ j, yb ob p rn x (hd j) (pl j) * wbr (ix2 j e)

def spec : Vec Ideal S8448x1024 .f32 := fun i =>
  h (ix2 (i 0) (i 1)) + ∑ e, merged oa ob p gn rn wbg wbr (i 0) e * wo (ix2 e (i 1))

theorem spec_apply (x : Fin 8448) (d : Fin 1024) : spec oa ob p gn rn wbg wbr wo h (ix2 x d)
    = h (ix2 x d) + ∑ e, merged oa ob p gn rn wbg wbr x e * wo (ix2 e d) := rfl
end Spec

theorem full (c : Dev nD) (t : Fin cfg0.N) (r : Fin 256) (x : Fin 8448) (hx : t.val * 256 + r.val = x.val) (d : Fin 1024) :
    (outsAt0 m c t : Vec Ideal S256x1024 .f32) (ix2 r d) = spec (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (ix2 x d) := by
  have a (j : Fin 1024) : join (yaP m c t) (ix2 r j) = ya (m ((c : Thread nD τ).loc main_arg0))
      (m ((c : Thread nD τ).loc main_arg2)) (m ((c : Thread nD τ).loc main_arg3)) x (hd j) (pl j) := by
    show k0_pay2 (cols (hd j) (oaBlk m c t)) (cols (hd j) (zBlk m c t)) (gnBlk m c t) (ix2 r (pl j)) = _
    rw [pay2_at]
    unfold ya
    rw [gn_at]
    refine congrArg₂ (fun u v => gdn u v _ _) (funext fun e => oa_at m c t r x hx _) (funext fun e => z_at m c t r x hx _)
  have b (j : Fin 1024) : join (ybP m c t) (ix2 r j) = yb (m ((c : Thread nD τ).loc main_arg1))
      (m ((c : Thread nD τ).loc main_arg2)) (m ((c : Thread nD τ).loc main_arg4)) x (hd j) (pl j) := by
    show k0_pay8 (cols (hd j) (obBlk m c t)) (cols (hd j) (rgBlk m c t)) (cols1 (hd j) (rnBlk m c t)) (ix2 r (pl j)) = _
    rw [pay8_at]
    unfold yb
    rw [← rn_at m c t]
    refine congrArg₂ (fun u v => ret u v _ _) (funext fun e => ob_at m c t r x hx _) (funext fun e => rg_at m c t r x hx _)
  rw [out_eq, pay1_at, h_at m c t r x hx]
  rw [spec_apply]
  refine congrArg₂ (fun a b : EReal => a + b) rfl (Finset.sum_congr rfl fun e _ => ?_)
  rw [pay33_at, wo_at, ga_at m c t r x hx, gb_at m c t r x hx]
  unfold merged
  simp only [a, b, wbg_at, wbr_at]

theorem mem_blk12 (t : Fin cfg0.N) (i : S8448x1024.Idx) : i ∈ ((cfg0.win 12).blk t).view.set
    ↔ ∀ a : Fin 2, win0_12.index t a * S256x1024.size a ≤ (i a).val
      ∧ (i a).val < win0_12.index t a * S256x1024.size a + S256x1024.size a := by
  show i ∈ ((View.whole main_v3).slice (win0_12.rect t)).set ↔ _
  rw [View.set_slice_whole, Rect.mem_set_unit]
  exact Iff.rfl

theorem final (c : Dev nD) : (dats m 0 c).arrAt 12 cfg0.N = spec (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) := by
  have hN : cfg0.N = 33 := N_0
  have hi : ∀ t : Fin cfg0.N, win0_12.index t 0 = t.val ∧ win0_12.index t 1 = 0 := by decide +kernel
  refine (dats m 0 c).arrAt_eq_of_cover 12 _ (fun t hf => ?_) (fun i => ?_)
  · rw [Value.flushed12]
    funext y
    rw [View.read_apply]
    have hy : y = ix2 (y 0) (y 1) := by
      funext a
      match a with
      | ⟨0, _⟩ => rfl
      | ⟨1, _⟩ => rfl
    rw [hy]
    have htl : t.val < cfg0.N := t.isLt
    have hr : (y 0).val < 256 := (y 0).isLt
    refine Eq.trans (full m c t (y 0) ⟨t.val * 256 + (y 0).val, by omega⟩ rfl (y 1)) ?_
    refine congrArg (spec _ _ _ _ _ _ _ _ _) ?_
    funext a
    apply Fin.ext
    match a with
    | ⟨0, _⟩ => show t.val * 256 + (y 0).val = win0_12.index t 0 * 256 + 1 * (y 0).val; rw [(hi t).1]; omega
    | ⟨1, _⟩ => show (y 1).val = win0_12.index t 1 * 1024 + 1 * (y 1).val; rw [(hi t).2]; omega
  · have h0 : (i 0).val < 8448 := (i 0).isLt
    have h1 : (i 1).val < 1024 := (i 1).isLt
    have key := hi ⟨(i 0).val / 256, by omega⟩
    dsimp only at key
    refine ⟨⟨(i 0).val / 256, by omega⟩, flush0_12 _, ?_⟩
    rw [mem_blk12]
    intro a
    match a with
    | ⟨0, _⟩ => show win0_12.index _ 0 * 256 ≤ (i 0).val ∧ (i 0).val < win0_12.index _ 0 * 256 + 256; rw [key.1]; omega
    | ⟨1, _⟩ => show win0_12.index _ 1 * 1024 ≤ (i 1).val ∧ (i 1).val < win0_12.index _ 1 * 1024 + 1024; rw [key.2]; omega

end Cert.Kernel9Ideal.Math

end
-- ==== Proof.PostFwdRef.lean ====
/- The mixer's output call: the reference's value at an index. -/
module

public import proofs.«01_k».proof.Proof.PostFwdBlocks
public import proofs.«01_k».proof.Proof.Gen.Reference9Ideal.Read

@[expose] public section

set_option maxRecDepth 16384

noncomputable section

open Idealize.ShloMosaic Idealize.ShloMosaic.TcCoe Idealize.SL.Sem
open Idealize.ShloMosaic.Pipeline (Dat)

namespace Cert.Reference9Ideal.Math

open Cert.Reference9Ideal Cert.Reference9Ideal.Read
open Cert.Kernel9Ideal.Math (gdn mean ret ya yb hd pl merged spec)

variable (oa ob : Vec Ideal S8448x1024 .f32) (p : Vec Ideal S8448x10368 .f32) (gn : Vec Ideal S1x128 .f32)
  (rn : Vec Ideal S1x1024 .f32) (wbg wbr wo : Vec Ideal S1024x1024 .f32) (h : Vec Ideal S8448x1024 .f32)

/-- Rows cut into heads. -/
theorem heads_oa (x : Fin 8448) (k : Fin 8) (q : Fin 128) :
    val_main_v4 (F := Ideal) oa (ix3 x k q) = oa (ix2 x ⟨k.val * 128 + q.val, by omega⟩) := by
  rw [val_main_v4_apply]
  refine congrArg oa (funext fun a => Fin.ext ?_)
  match a with
  | ⟨0, _⟩ => show ((x.val * 8 + k.val) * 128 + q.val) / 1024 = x.val; omega
  | ⟨1, _⟩ => show ((x.val * 8 + k.val) * 128 + q.val) % 1024 = k.val * 128 + q.val; omega

theorem heads_ob (x : Fin 8448) (k : Fin 8) (q : Fin 128) :
    val_main_v22 (F := Ideal) ob (ix3 x k q) = ob (ix2 x ⟨k.val * 128 + q.val, by omega⟩) := by
  rw [val_main_v22_apply]
  refine congrArg ob (funext fun a => Fin.ext ?_)
  match a with
  | ⟨0, _⟩ => show ((x.val * 8 + k.val) * 128 + q.val) / 1024 = x.val; omega
  | ⟨1, _⟩ => show ((x.val * 8 + k.val) * 128 + q.val) % 1024 = k.val * 128 + q.val; omega

theorem heads_z (x : Fin 8448) (k : Fin 8) (q : Fin 128) :
    val_main_v18 (F := Ideal) p (ix3 x k q) = p (ix2 x ⟨6144 + (k.val * 128 + q.val), by omega⟩) := by
  rw [val_main_v18_apply, val_main_v0_apply]
  refine congrArg p (funext fun a => Fin.ext ?_)
  match a with
  | ⟨0, _⟩ => show ((x.val * 8 + k.val) * 128 + q.val) / 1024 = x.val; omega
  | ⟨1, _⟩ => show 6144 + ((x.val * 8 + k.val) * 128 + q.val) % 1024 = 6144 + (k.val * 128 + q.val); omega

theorem ya_head (x : Fin 8448) (k : Fin 8) (q : Fin 128) :
    val_main_v20 (F := Ideal) oa p gn (ix3 x k q) = ya oa p gn x k q := by
  unfold ya gdn Ideal.logistic
  simp only [← heads_oa, ← heads_z]
  pointwise [val_main_v20, val_main_v19, val_main_v17, val_main_v16, val_main_v15, val_main_v14, val_main_v13, val_main_v12,
    val_main_v11, val_main_v10, val_main_v9, val_main_v8, val_main_v7, val_main_v6, val_main_v5, val_main_cst,
    val_main_cst_0, val_main_cst_1, val_main_call0_v0, val_main_call0_v1, val_main_call0_v2, val_main_call0_v3,
    val_main_call0_v4, val_main_call0_v5, val_main_call0_cst, val_main_call0_cst_0]

theorem ya_at (x : Fin 8448) (j : Fin 1024) :
    val_main_v21 (F := Ideal) oa p gn (ix2 x j) = ya oa p gn x (hd j) (pl j) := by
  rw [val_main_v21_apply, ← ya_head]
  refine congrArg (val_main_v20 (F := Ideal) oa p gn) (funext fun a => Fin.ext ?_)
  match a with
  | ⟨0, _⟩ => show (x.val * 1024 + j.val) / 1024 = x.val; omega
  | ⟨1, _⟩ => show (x.val * 1024 + j.val) / 128 % 8 = j.val / 128; omega
  | ⟨2, _⟩ => show (x.val * 1024 + j.val) % 128 = j.val % 128; omega

theorem mean_at (x : Fin 8448) (k : Fin 8) : val_main_v26 (F := Ideal) ob (ix3 x k 0)
    = mean (fun e => ob (ix2 x ⟨k.val * 128 + e.val, by omega⟩)) := by
  unfold mean
  simp only [← heads_ob]
  pointwise [val_main_v26, val_main_v25, val_main_v24, val_main_v23, val_main_cst_2, val_main_cst_3]

/-- The second mixer's head, normalised. -/
theorem nb_head (x : Fin 8448) (k : Fin 8) (q : Fin 128) : val_main_v40 (F := Ideal) ob (ix3 x k q)
    = (ob (ix2 x ⟨k.val * 128 + q.val, by omega⟩) - mean (fun e => ob (ix2 x ⟨k.val * 128 + e.val, by omega⟩)))
      * Ideal.rsqrt (mean (fun e => (ob (ix2 x ⟨k.val * 128 + e.val, by omega⟩)
          - mean (fun e => ob (ix2 x ⟨k.val * 128 + e.val, by omega⟩)))
        * (ob (ix2 x ⟨k.val * 128 + e.val, by omega⟩) - mean (fun e => ob (ix2 x ⟨k.val * 128 + e.val, by omega⟩))))
        + Ideal.ofBits .f32 0x358637BD#32) := by
  rw [← mean_at]
  unfold mean
  simp only [← heads_ob]
  pointwise [val_main_v40, val_main_v39, val_main_v38, val_main_v37, val_main_v36, val_main_v35, val_main_v34, val_main_v33,
    val_main_v32, val_main_v31, val_main_v30, val_main_v29, val_main_v28, val_main_v27, val_main_cst_4, val_main_cst_5,
    val_main_cst_6]

theorem nb_at (x : Fin 8448) (j : Fin 1024) :
    val_main_v41 (F := Ideal) ob (ix2 x j) = val_main_v40 (F := Ideal) ob (ix3 x (hd j) (pl j)) := by
  rw [val_main_v41_apply]
  refine congrArg (val_main_v40 (F := Ideal) ob) (funext fun a => Fin.ext ?_)
  match a with
  | ⟨0, _⟩ => show (x.val * 1024 + j.val) / 1024 = x.val; omega
  | ⟨1, _⟩ => show (x.val * 1024 + j.val) / 128 % 8 = j.val / 128; omega
  | ⟨2, _⟩ => show (x.val * 1024 + j.val) % 128 = j.val % 128; omega

theorem yb_at (x : Fin 8448) (j : Fin 1024) :
    val_main_v45 (F := Ideal) ob p rn (ix2 x j) = yb ob p rn x (hd j) (pl j) := by
  have e : (⟨(hd j).val * 128 + (pl j).val, by omega⟩ : Fin 1024) = j := Fin.ext (by dsimp only; omega)
  have e' : (⟨7168 + ((hd j).val * 128 + (pl j).val), by omega⟩ : Fin 10368) = ⟨7168 + j.val, by omega⟩ :=
    Fin.ext (by dsimp only; omega)
  have n := (nb_at ob x j).trans (nb_head ob x (hd j) (pl j))
  unfold yb ret
  beta_reduce
  rw [← n, e, e']
  unfold Ideal.logistic
  pointwise [val_main_v45, val_main_v44, val_main_v43, val_main_v42, val_main_v1, val_main_call1_v0, val_main_call1_v1,
    val_main_call1_v2, val_main_call1_v3, val_main_call1_v4, val_main_call1_v5, val_main_call1_cst, val_main_call1_cst_0]

theorem merged_at (x : Fin 8448) (e : Fin 1024) :
    val_main_v62 (F := Ideal) oa ob p gn rn wbg wbr (ix2 x e) = merged oa ob p gn rn wbg wbr x e := by
  unfold merged Ideal.logistic
  simp only [← ya_at, ← yb_at]
  pointwise [val_main_v62, val_main_v61, val_main_v60, val_main_v59, val_main_v58, val_main_v57, val_main_v56, val_main_v55,
    val_main_v54, val_main_v53, val_main_v52, val_main_v51, val_main_v50, val_main_v49, val_main_v48, val_main_v47,
    val_main_v46, val_main_v3, val_main_v2, val_main_cst_7, val_main_cst_8, val_main_cst_9, val_main_cst_10]

theorem spec_at (x : Fin 8448) (d : Fin 1024) :
    val_main_v64 (F := Ideal) oa ob p gn rn wbg wbr wo h (ix2 x d) = spec oa ob p gn rn wbg wbr wo h (ix2 x d) := by
  show _ = h (ix2 x d) + ∑ e, merged oa ob p gn rn wbg wbr x e * wo (ix2 e d)
  simp only [← merged_at]
  pointwise [val_main_v64, val_main_v63]

theorem spec_eq : val_main_v64 (F := Ideal) oa ob p gn rn wbg wbr wo h = spec oa ob p gn rn wbg wbr wo h := by
  funext i
  have hi : i = ix2 (i 0) (i 1) := by
    funext a
    match a with
    | ⟨0, _⟩ => rfl
    | ⟨1, _⟩ => rfl
  exact (congrArg (val_main_v64 (F := Ideal) oa ob p gn rn wbg wbr wo h) hi).trans
    ((spec_at oa ob p gn rn wbg wbr wo h _ _).trans (congrArg (spec oa ob p gn rn wbg wbr wo h) hi.symm))

end Cert.Reference9Ideal.Math

end
-- ==== Proof.PostFwd.lean ====
/- The mixer's output call: the claim. -/
module

public import proofs.«01_k».proof.Proof.PostFwdRef
public import proofs.«01_k».proof.Proof.Gen.Reference9Ideal.Run

@[expose] public section

set_option maxRecDepth 16384

noncomputable section

open Idealize.ShloMosaic Idealize.ShloMosaic.TcCoe Idealize.SL.Sem
open Idealize.ShloMosaic.Pipeline (Dat)

namespace Cert.Proof

theorem post_fwd :
    algebraic_Kernel9Ideal_Reference9Ideal := by
  intro m g m' g' _ heq
  refine ⟨fun c => Cert.Kernel9Ideal.Math.spec
      (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      (m ((c.tc : Thread Cert.Kernel9Ideal.nD Cert.Kernel9Ideal.τ).loc Cert.Kernel9Ideal.main_arg3))
      (m ((c.tc : Thread Cert.Kernel9Ideal.nD Cert.Kernel9Ideal.τ).loc Cert.Kernel9Ideal.main_arg4))
      (m ((c.tc : Thread Cert.Kernel9Ideal.nD Cert.Kernel9Ideal.τ).loc Cert.Kernel9Ideal.main_arg5))
      (m ((c.tc : Thread Cert.Kernel9Ideal.nD Cert.Kernel9Ideal.τ).loc Cert.Kernel9Ideal.main_arg6))
      (m ((c.tc : Thread Cert.Kernel9Ideal.nD Cert.Kernel9Ideal.τ).loc Cert.Kernel9Ideal.main_arg7))
      (m ((c.tc : Thread Cert.Kernel9Ideal.nD Cert.Kernel9Ideal.τ).loc Cert.Kernel9Ideal.main_arg8)), ?_, ?_⟩
  · refine (θ_run _ _ _).mono (fun r h c => ?_) (Cert.Kernel9Ideal.Value.run_blocks m g)
    obtain ⟨h0, h1⟩ := h c
    exact ⟨h0.trans (Cert.Kernel9Ideal.Math.final m c), h1⟩
  · refine (θ_run _ _ _).mono (fun r h c => ?_) (Cert.Reference9Ideal.Value.run m' g')
    obtain ⟨h0, h1⟩ := h c
    refine ⟨h0.trans ((Cert.Reference9Ideal.Read.val_main_v64_eq m' c).trans ?_), h1⟩
    obtain ⟨a0, a1, a2, a3, a4, a5, a6, a7, a8⟩ := heq c
    rw [a0, a1, a2, a3, a4, a5, a6, a7, a8]
    exact Cert.Reference9Ideal.Math.spec_eq _ _ _ _ _ _ _ _ _

end Cert.Proof

end
-- ==== Proof.PostBwdPoints.lean ====
/- The gradient at the mixer's output call (`Kernel10Ideal`), five of its results at a point: both mixers' rows normalised and
   gated head by head, their products gated and added, and the gradients of both products. The sixth to the tenth result's
   stores are left aside. -/
module

public import proofs.«01_k».proof.Proof.PostFwdBlocks
public import proofs.«01_k».proof.Proof.Gen.Kernel10Ideal.Value

@[expose] public section

set_option maxRecDepth 16384

noncomputable section

open Idealize.ShloMosaic Idealize.ShloMosaic.TcCoe Idealize.SL.Sem
open Idealize.ShloMosaic.Pipeline (Dat)

namespace Cert.Kernel10Ideal.Math

open Cert.Kernel10Ideal Cert.Kernel10Ideal.Gen
open Cert.Kernel9Ideal.Math (hz2 cols cols1 ld_cols ld_cols1 join canon_join cov_join gdn mean ret)

variable (m : (ℓ : Loc nD τ sig) → Buf (Elt Ideal) ℓ)

/-- Point `t`'s blocks of the operands. -/
abbrev oaBlk (c : Dev nD) (t : Fin cfg0.N) : Vec Ideal S256x1024 .f32 := iblk m c 0 t
abbrev obBlk (c : Dev nD) (t : Fin cfg0.N) : Vec Ideal S256x1024 .f32 := iblk m c 1 t
abbrev zBlk (c : Dev nD) (t : Fin cfg0.N) : Vec Ideal S256x1024 .f32 := X0_2 m c t
abbrev rgBlk (c : Dev nD) (t : Fin cfg0.N) : Vec Ideal S256x1024 .f32 := X0_3 m c t
abbrev gaBlk (c : Dev nD) (t : Fin cfg0.N) : Vec Ideal S256x1024 .f32 := X0_4 m c t
abbrev gbBlk (c : Dev nD) (t : Fin cfg0.N) : Vec Ideal S256x1024 .f32 := X0_5 m c t
abbrev gnBlk (c : Dev nD) (t : Fin cfg0.N) : Vec Ideal S1x128 .f32 := iblk m c 6 t
abbrev rnBlk (c : Dev nD) (t : Fin cfg0.N) : Vec Ideal S1x1024 .f32 := iblk m c 7 t
abbrev wbgBlk (c : Dev nD) (t : Fin cfg0.N) : Vec Ideal S1024x1024 .bf16 := iblk m c 8 t
abbrev wbrBlk (c : Dev nD) (t : Fin cfg0.N) : Vec Ideal S1024x1024 .bf16 := iblk m c 9 t
abbrev woBlk (c : Dev nD) (t : Fin cfg0.N) : Vec Ideal S1024x1024 .bf16 := iblk m c 10 t
abbrev dhBlk (c : Dev nD) (t : Fin cfg0.N) : Vec Ideal S256x1024 .f32 := iblk m c 11 t

/-- The first mixer's rows of head `k`, normalised and gated; and the second's. -/
abbrev yaP (c : Dev nD) (t : Fin cfg0.N) (k : Fin 8) : Vec Ideal S256x128 .bf16 :=
  k0_pay4 (cols k (oaBlk m c t)) (cols k (zBlk m c t)) (gnBlk m c t)
abbrev ybP (c : Dev nD) (t : Fin cfg0.N) (k : Fin 8) : Vec Ideal S256x128 .bf16 :=
  k0_pay9 (cols k (obBlk m c t)) (cols k (rgBlk m c t)) (cols1 k (rnBlk m c t))

/-- What point `t` leaves of the five results: the case of the first point and that of the others store the same. -/
theorem out15_eq (c : Dev nD) (t : Fin cfg0.N) : (outsAt0 m c t.val t.isLt).2.2.2.1 = join (yaP m c t) := by
  by_cases h0 : t.val % 33 = 0
  refine (congrArg (fun x => x.2.2.2.1) (outsAt0_A m c t h0)).trans ?_
  dsimp only
  unfold out0_A_15
  rw [View.read_writes_eq_canon _ _ _ (fun y => cover0_A_15 (y := y) ..)]
  unfold kernelRun0_A
  dsimp only
  sl_unfold_words
  rotate_left
  refine (congrArg (fun x => x.2.2.2.1) (outsAt0_B m c t h0)).trans ?_
  dsimp only
  unfold out0_B_15
  rw [View.read_writes_eq_canon _ _ _ (fun y => cover0_B_15 (y := y) ..)]
  unfold kernelRun0_B
  dsimp only
  sl_unfold_words
  all_goals
    simp only [View.readAt_eq_ld, (hs0_0 t).read_unread, (hs0_1 t).read_unread,
      (hs0_2 t).read_unread, (hs0_3 t).read_unread, (hs0_4 t).read_unread, (hs0_5 t).read_unread, (hs0_6 t).read_unread,
      (hs0_7 t).read_unread, (hs0_8 t).read_unread, (hs0_9 t).read_unread, (hs0_10 t).read_unread, (hs0_11 t).read_unread,
      View.ld_unit_zero (S := S256x1024) hz2, View.ld_unit_zero (S := S1x128) hz2, View.ld_unit_zero (S := S1024x1024) hz2]
    simp only [ld_cols 0 _ ![0, 0] rfl rfl, ld_cols 1 _ ![0, 128] rfl rfl, ld_cols 2 _ ![0, 256] rfl rfl,
      ld_cols 3 _ ![0, 384] rfl rfl, ld_cols 4 _ ![0, 512] rfl rfl, ld_cols 5 _ ![0, 640] rfl rfl,
      ld_cols 6 _ ![0, 768] rfl rfl, ld_cols 7 _ ![0, 896] rfl rfl,
      ld_cols1 0 _ ![0, 0] rfl rfl, ld_cols1 1 _ ![0, 128] rfl rfl, ld_cols1 2 _ ![0, 256] rfl rfl,
      ld_cols1 3 _ ![0, 384] rfl rfl, ld_cols1 4 _ ![0, 512] rfl rfl, ld_cols1 5 _ ![0, 640] rfl rfl,
      ld_cols1 6 _ ![0, 768] rfl rfl, ld_cols1 7 _ ![0, 896] rfl rfl]
    exact canon_join (yaP m c t) _ _ _ _ _ _ _ _ rfl rfl rfl rfl rfl rfl rfl rfl

theorem out16_eq (c : Dev nD) (t : Fin cfg0.N) : (outsAt0 m c t.val t.isLt).2.2.2.2.1 = join (ybP m c t) := by
  by_cases h0 : t.val % 33 = 0
  refine (congrArg (fun x => x.2.2.2.2.1) (outsAt0_A m c t h0)).trans ?_
  dsimp only
  unfold out0_A_16
  rw [View.read_writes_eq_canon _ _ _ (fun y => cover0_A_16 (y := y) ..)]
  unfold kernelRun0_A
  dsimp only
  sl_unfold_words
  rotate_left
  refine (congrArg (fun x => x.2.2.2.2.1) (outsAt0_B m c t h0)).trans ?_
  dsimp only
  unfold out0_B_16
  rw [View.read_writes_eq_canon _ _ _ (fun y => cover0_B_16 (y := y) ..)]
  unfold kernelRun0_B
  dsimp only
  sl_unfold_words
  all_goals
    simp only [View.readAt_eq_ld, (hs0_0 t).read_unread, (hs0_1 t).read_unread,
      (hs0_2 t).read_unread, (hs0_3 t).read_unread, (hs0_4 t).read_unread, (hs0_5 t).read_unread, (hs0_6 t).read_unread,
      (hs0_7 t).read_unread, (hs0_8 t).read_unread, (hs0_9 t).read_unread, (hs0_10 t).read_unread, (hs0_11 t).read_unread,
      View.ld_unit_zero (S := S256x1024) hz2, View.ld_unit_zero (S := S1x128) hz2, View.ld_unit_zero (S := S1024x1024) hz2]
    simp only [ld_cols 0 _ ![0, 0] rfl rfl, ld_cols 1 _ ![0, 128] rfl rfl, ld_cols 2 _ ![0, 256] rfl rfl,
      ld_cols 3 _ ![0, 384] rfl rfl, ld_cols 4 _ ![0, 512] rfl rfl, ld_cols 5 _ ![0, 640] rfl rfl,
      ld_cols 6 _ ![0, 768] rfl rfl, ld_cols 7 _ ![0, 896] rfl rfl,
      ld_cols1 0 _ ![0, 0] rfl rfl, ld_cols1 1 _ ![0, 128] rfl rfl, ld_cols1 2 _ ![0, 256] rfl rfl,
      ld_cols1 3 _ ![0, 384] rfl rfl, ld_cols1 4 _ ![0, 512] rfl rfl, ld_cols1 5 _ ![0, 640] rfl rfl,
      ld_cols1 6 _ ![0, 768] rfl rfl, ld_cols1 7 _ ![0, 896] rfl rfl]
    exact canon_join (ybP m c t) _ _ _ _ _ _ _ _ rfl rfl rfl rfl rfl rfl rfl rfl

theorem out17_eq (c : Dev nD) (t : Fin cfg0.N) : (outsAt0 m c t.val t.isLt).2.2.2.2.2.1 = k0_pay35 (join (yaP m c t)) (wbgBlk m c t) (join (ybP m c t))
      (wbrBlk m c t) (gaBlk m c t) (gbBlk m c t) := by
  by_cases h0 : t.val % 33 = 0
  refine (congrArg (fun x => x.2.2.2.2.2.1) (outsAt0_A m c t h0)).trans ?_
  dsimp only
  unfold out0_A_17
  rw [View.read_writes_eq_canon _ _ _ (fun y => cover0_A_17 (y := y) ..)]
  unfold kernelRun0_A
  dsimp only
  sl_unfold_words
  rotate_left
  refine (congrArg (fun x => x.2.2.2.2.2.1) (outsAt0_B m c t h0)).trans ?_
  dsimp only
  unfold out0_B_17
  rw [View.read_writes_eq_canon _ _ _ (fun y => cover0_B_17 (y := y) ..)]
  unfold kernelRun0_B
  dsimp only
  sl_unfold_words
  all_goals
    simp only [View.readAt_eq_ld, (hs0_0 t).read_unread, (hs0_1 t).read_unread,
      (hs0_2 t).read_unread, (hs0_3 t).read_unread, (hs0_4 t).read_unread, (hs0_5 t).read_unread, (hs0_6 t).read_unread,
      (hs0_7 t).read_unread, (hs0_8 t).read_unread, (hs0_9 t).read_unread, (hs0_10 t).read_unread, (hs0_11 t).read_unread,
      View.ld_unit_zero (S := S256x1024) hz2, View.ld_unit_zero (S := S1x128) hz2, View.ld_unit_zero (S := S1024x1024) hz2]
    simp only [ld_cols 0 _ ![0, 0] rfl rfl, ld_cols 1 _ ![0, 128] rfl rfl, ld_cols 2 _ ![0, 256] rfl rfl,
      ld_cols 3 _ ![0, 384] rfl rfl, ld_cols 4 _ ![0, 512] rfl rfl, ld_cols 5 _ ![0, 640] rfl rfl,
      ld_cols 6 _ ![0, 768] rfl rfl, ld_cols 7 _ ![0, 896] rfl rfl,
      ld_cols1 0 _ ![0, 0] rfl rfl, ld_cols1 1 _ ![0, 128] rfl rfl, ld_cols1 2 _ ![0, 256] rfl rfl,
      ld_cols1 3 _ ![0, 384] rfl rfl, ld_cols1 4 _ ![0, 512] rfl rfl, ld_cols1 5 _ ![0, 640] rfl rfl,
      ld_cols1 6 _ ![0, 768] rfl rfl, ld_cols1 7 _ ![0, 896] rfl rfl]
    rw [View.canon_unit_zero hz2, cov_join _ (yaP m c t), cov_join _ (ybP m c t)]
    all_goals rfl

theorem out18_eq (c : Dev nD) (t : Fin cfg0.N) : (outsAt0 m c t.val t.isLt).2.2.2.2.2.2.1 = k0_pay37 (gaBlk m c t) (dhBlk m c t) (woBlk m c t) := by
  by_cases h0 : t.val % 33 = 0
  refine (congrArg (fun x => x.2.2.2.2.2.2.1) (outsAt0_A m c t h0)).trans ?_
  dsimp only
  unfold out0_A_18
  rw [View.read_writes_eq_canon _ _ _ (fun y => cover0_A_18 (y := y) ..)]
  unfold kernelRun0_A
  dsimp only
  sl_unfold_words
  rotate_left
  refine (congrArg (fun x => x.2.2.2.2.2.2.1) (outsAt0_B m c t h0)).trans ?_
  dsimp only
  unfold out0_B_18
  rw [View.read_writes_eq_canon _ _ _ (fun y => cover0_B_18 (y := y) ..)]
  unfold kernelRun0_B
  dsimp only
  sl_unfold_words
  all_goals
    simp only [View.readAt_eq_ld, (hs0_0 t).read_unread, (hs0_1 t).read_unread,
      (hs0_2 t).read_unread, (hs0_3 t).read_unread, (hs0_4 t).read_unread, (hs0_5 t).read_unread, (hs0_6 t).read_unread,
      (hs0_7 t).read_unread, (hs0_8 t).read_unread, (hs0_9 t).read_unread, (hs0_10 t).read_unread, (hs0_11 t).read_unread,
      View.ld_unit_zero (S := S256x1024) hz2, View.ld_unit_zero (S := S1x128) hz2, View.ld_unit_zero (S := S1024x1024) hz2]
    exact View.canon_unit_zero hz2 _ _

theorem out19_eq (c : Dev nD) (t : Fin cfg0.N) : (outsAt0 m c t.val t.isLt).2.2.2.2.2.2.2.1 = k0_pay38 (gbBlk m c t) (dhBlk m c t) (woBlk m c t) := by
  by_cases h0 : t.val % 33 = 0
  refine (congrArg (fun x => x.2.2.2.2.2.2.2.1) (outsAt0_A m c t h0)).trans ?_
  dsimp only
  unfold out0_A_19
  rw [View.read_writes_eq_canon _ _ _ (fun y => cover0_A_19 (y := y) ..)]
  unfold kernelRun0_A
  dsimp only
  sl_unfold_words
  rotate_left
  refine (congrArg (fun x => x.2.2.2.2.2.2.2.1) (outsAt0_B m c t h0)).trans ?_
  dsimp only
  unfold out0_B_19
  rw [View.read_writes_eq_canon _ _ _ (fun y => cover0_B_19 (y := y) ..)]
  unfold kernelRun0_B
  dsimp only
  sl_unfold_words
  all_goals
    simp only [View.readAt_eq_ld, (hs0_0 t).read_unread, (hs0_1 t).read_unread,
      (hs0_2 t).read_unread, (hs0_3 t).read_unread, (hs0_4 t).read_unread, (hs0_5 t).read_unread, (hs0_6 t).read_unread,
      (hs0_7 t).read_unread, (hs0_8 t).read_unread, (hs0_9 t).read_unread, (hs0_10 t).read_unread, (hs0_11 t).read_unread,
      View.ld_unit_zero (S := S256x1024) hz2, View.ld_unit_zero (S := S1x128) hz2, View.ld_unit_zero (S := S1024x1024) hz2]
    exact View.canon_unit_zero hz2 _ _

/-! ### The payloads at an index -/

theorem pay4_at (o z : Vec Ideal S256x128 .f32) (g : Vec Ideal S1x128 .f32) (r : Fin 256) (q : Fin 128) :
    k0_pay4 o z g (ix2 r q) = gdn (fun e => o (ix2 r e)) (fun e => z (ix2 r e)) (g (ix2 0 q)) q := by
  unfold gdn
  pointwise [k0_pay4]

theorem pay9_at (o z : Vec Ideal S256x128 .f32) (g : Vec Ideal S1x128 .f32) (r : Fin 256) (q : Fin 128) :
    k0_pay9 o z g (ix2 r q) = ret (fun e => o (ix2 r e)) (fun e => z (ix2 r e)) (g (ix2 0 q)) q := by
  unfold ret mean
  pointwise [k0_pay9]

theorem pay35_at (a b : Vec Ideal S256x1024 .bf16) (u v : Vec Ideal S1024x1024 .bf16) (x y : Vec Ideal S256x1024 .f32)
    (r : Fin 256) (e : Fin 1024) :
    k0_pay35 a u b v x y (ix2 r e) = Ideal.logistic (x (ix2 r e)) * (∑ j, a (ix2 r j) * u (ix2 j e))
      + Ideal.logistic (y (ix2 r e)) * ∑ j, b (ix2 r j) * v (ix2 j e) := by
  pointwise [k0_pay35, k0_pay34, k0_pay33, k0_pay32, k0_pay31]

theorem pay37_at (g d : Vec Ideal S256x1024 .f32) (w : Vec Ideal S1024x1024 .bf16) (r : Fin 256) (e : Fin 1024) :
    k0_pay37 g d w (ix2 r e) = (∑ j, d (ix2 r j) * w (ix2 e j)) * Ideal.logistic (g (ix2 r e)) := by
  pointwise [k0_pay37, k0_pay36, k0_pay33]

theorem pay38_at (g d : Vec Ideal S256x1024 .f32) (w : Vec Ideal S1024x1024 .bf16) (r : Fin 256) (e : Fin 1024) :
    k0_pay38 g d w (ix2 r e) = (∑ j, d (ix2 r j) * w (ix2 e j)) * Ideal.logistic (g (ix2 r e)) := by
  pointwise [k0_pay38, k0_pay36, k0_pay34]

end Cert.Kernel10Ideal.Math

end
-- ==== Proof.PostBwdBlocks.lean ====
/- The gradient at the mixer's output call: the five arrays from the arguments. -/
module

public import proofs.«01_k».proof.Proof.PostBwdPoints

@[expose] public section

set_option maxRecDepth 16384

noncomputable section

open Idealize.ShloMosaic Idealize.ShloMosaic.TcCoe Idealize.SL.Sem
open Idealize.ShloMosaic.Pipeline (Dat)

namespace Cert.Kernel10Ideal.Math

open Cert.Kernel10Ideal Cert.Kernel10Ideal.Gen
open Cert.Kernel9Ideal.Math (cols cols1 join gdn ret ya yb hd pl merged)

variable (m : (ℓ : Loc nD τ sig) → Buf (Elt Ideal) ℓ)

/-- An index from its two coordinates. -/
theorem ix2_ext {P Q : Nat} (j : (⟨2, ![P, Q]⟩ : Shape).Idx) (x : Fin P) (y : Fin Q) (h0 : (j 0).val = x.val)
    (h1 : (j 1).val = y.val) : j = ix2 x y := by
  funext a
  match a with
  | ⟨0, _⟩ => exact Fin.ext h0
  | ⟨1, _⟩ => exact Fin.ext h1

/-- The place of an element of a block in its array, at the block's start. -/
theorem off_row {i t r x : Nat} (h : i = t) (hx : t * 256 + r = x) : i * 256 + 1 * r = x := by rw [h, Nat.one_mul]; exact hx
theorem off_col {i n b d y : Nat} (h : i = b) (hy : b * n + d = y) : i * n + 1 * d = y := by rw [h, Nat.one_mul]; exact hy
theorem off_zero {n d : Nat} : 0 * n + d = d := by rw [Nat.zero_mul, Nat.zero_add]

/-! ### The blocks the windows bring in, read off the arguments -/

theorem oa_at (c : Dev nD) (t : Fin cfg0.N) (r : Fin 256) (x : Fin 8448) (hx : t.val * 256 + r.val = x.val) (d : Fin 1024) :
    oaBlk m c t (ix2 r d) = m ((c : Thread nD τ).loc main_arg0) (ix2 x d) := by
  have hi : ∀ t : Fin cfg0.N, win0_0.index t 0 = t.val ∧ win0_0.index t 1 = 0 := by decide +kernel
  rw [← V_main_arg0 m c]
  unfold oaBlk iblk
  rw [View.read_apply]
  refine congrArg (V m c main_arg0) (ix2_ext _ _ _ ?_ ?_)
  · exact show win0_0.index t 0 * 256 + 1 * r.val = x.val from off_row (hi t).1 hx
  · exact show win0_0.index t 1 * 1024 + 1 * d.val = d.val from off_col (hi t).2 off_zero

theorem ob_at (c : Dev nD) (t : Fin cfg0.N) (r : Fin 256) (x : Fin 8448) (hx : t.val * 256 + r.val = x.val) (d : Fin 1024) :
    obBlk m c t (ix2 r d) = m ((c : Thread nD τ).loc main_arg1) (ix2 x d) := by
  have hi : ∀ t : Fin cfg0.N, win0_1.index t 0 = t.val ∧ win0_1.index t 1 = 0 := by decide +kernel
  rw [← V_main_arg1 m c]
  unfold obBlk iblk
  rw [View.read_apply]
  refine congrArg (V m c main_arg1) (ix2_ext _ _ _ ?_ ?_)
  · exact show win0_1.index t 0 * 256 + 1 * r.val = x.val from off_row (hi t).1 hx
  · exact show win0_1.index t 1 * 1024 + 1 * d.val = d.val from off_col (hi t).2 off_zero

theorem dh_at (c : Dev nD) (t : Fin cfg0.N) (r : Fin 256) (x : Fin 8448) (hx : t.val * 256 + r.val = x.val) (d : Fin 1024) :
    dhBlk m c t (ix2 r d) = m ((c : Thread nD τ).loc main_arg8) (ix2 x d) := by
  have hi : ∀ t : Fin cfg0.N, win0_11.index t 0 = t.val ∧ win0_11.index t 1 = 0 := by decide +kernel
  rw [← V_main_arg8 m c]
  unfold dhBlk iblk
  rw [View.read_apply]
  refine congrArg (V m c main_arg8) (ix2_ext _ _ _ ?_ ?_)
  · exact show win0_11.index t 0 * 256 + 1 * r.val = x.val from off_row (hi t).1 hx
  · exact show win0_11.index t 1 * 1024 + 1 * d.val = d.val from off_col (hi t).2 off_zero

theorem z_at (c : Dev nD) (t : Fin cfg0.N) (r : Fin 256) (x : Fin 8448) (hx : t.val * 256 + r.val = x.val) (d : Fin 1024) :
    zBlk m c t (ix2 r d) = m ((c : Thread nD τ).loc main_arg2) (ix2 x ⟨6144 + d.val, by omega⟩) := by
  have hi : ∀ t : Fin cfg0.N, win0_2.index t 0 = t.val ∧ win0_2.index t 1 = 6 := by decide +kernel
  rw [← V_main_arg2 m c]
  unfold zBlk X0_2 Pipeline.Window.fill
  rw [dif_pos (moved0_2 t _)]
  unfold iblk
  rw [View.read_apply]
  refine congrArg (V m c main_arg2) (ix2_ext _ _ _ ?_ ?_)
  · exact show win0_2.index t 0 * 256 + 1 * r.val = x.val from off_row (hi t).1 hx
  · exact show win0_2.index t 1 * 1024 + 1 * d.val = 6144 + d.val from off_col (hi t).2 (by omega)

theorem rg_at (c : Dev nD) (t : Fin cfg0.N) (r : Fin 256) (x : Fin 8448) (hx : t.val * 256 + r.val = x.val) (d : Fin 1024) :
    rgBlk m c t (ix2 r d) = m ((c : Thread nD τ).loc main_arg2) (ix2 x ⟨7168 + d.val, by omega⟩) := by
  have hi : ∀ t : Fin cfg0.N, win0_3.index t 0 = t.val ∧ win0_3.index t 1 = 7 := by decide +kernel
  rw [← V_main_arg2 m c]
  unfold rgBlk X0_3 Pipeline.Window.fill
  rw [dif_pos (moved0_3 t _)]
  unfold iblk
  rw [View.read_apply]
  refine congrArg (V m c main_arg2) (ix2_ext _ _ _ ?_ ?_)
  · exact show win0_3.index t 0 * 256 + 1 * r.val = x.val from off_row (hi t).1 hx
  · exact show win0_3.index t 1 * 1024 + 1 * d.val = 7168 + d.val from off_col (hi t).2 (by omega)

theorem ga_at (c : Dev nD) (t : Fin cfg0.N) (r : Fin 256) (x : Fin 8448) (hx : t.val * 256 + r.val = x.val) (d : Fin 1024) :
    gaBlk m c t (ix2 r d) = m ((c : Thread nD τ).loc main_arg2) (ix2 x ⟨8192 + d.val, by omega⟩) := by
  have hi : ∀ t : Fin cfg0.N, win0_4.index t 0 = t.val ∧ win0_4.index t 1 = 8 := by decide +kernel
  rw [← V_main_arg2 m c]
  unfold gaBlk X0_4 Pipeline.Window.fill
  rw [dif_pos (moved0_4 t _)]
  unfold iblk
  rw [View.read_apply]
  refine congrArg (V m c main_arg2) (ix2_ext _ _ _ ?_ ?_)
  · exact show win0_4.index t 0 * 256 + 1 * r.val = x.val from off_row (hi t).1 hx
  · exact show win0_4.index t 1 * 1024 + 1 * d.val = 8192 + d.val from off_col (hi t).2 (by omega)

theorem gb_at (c : Dev nD) (t : Fin cfg0.N) (r : Fin 256) (x : Fin 8448) (hx : t.val * 256 + r.val = x.val) (d : Fin 1024) :
    gbBlk m c t (ix2 r d) = m ((c : Thread nD τ).loc main_arg2) (ix2 x ⟨9216 + d.val, by omega⟩) := by
  have hi : ∀ t : Fin cfg0.N, win0_5.index t 0 = t.val ∧ win0_5.index t 1 = 9 := by decide +kernel
  rw [← V_main_arg2 m c]
  unfold gbBlk X0_5 Pipeline.Window.fill
  rw [dif_pos (moved0_5 t _)]
  unfold iblk
  rw [View.read_apply]
  refine congrArg (V m c main_arg2) (ix2_ext _ _ _ ?_ ?_)
  · exact show win0_5.index t 0 * 256 + 1 * r.val = x.val from off_row (hi t).1 hx
  · exact show win0_5.index t 1 * 1024 + 1 * d.val = 9216 + d.val from off_col (hi t).2 (by omega)

theorem gn_at (c : Dev nD) (t : Fin cfg0.N) (d : Fin 128) :
    gnBlk m c t (ix2 0 d) = m ((c : Thread nD τ).loc main_arg3) (ix2 0 d) := by
  have hi : ∀ t : Fin cfg0.N, win0_6.index t 0 = 0 ∧ win0_6.index t 1 = 0 := by decide +kernel
  rw [← V_main_arg3 m c]
  unfold gnBlk iblk
  rw [View.read_apply]
  refine congrArg (V m c main_arg3) (ix2_ext _ _ _ ?_ ?_)
  · exact show win0_6.index t 0 * 1 + 1 * 0 = 0 from off_col (hi t).1 off_zero
  · exact show win0_6.index t 1 * 128 + 1 * d.val = d.val from off_col (hi t).2 off_zero

theorem rn_at (c : Dev nD) (t : Fin cfg0.N) (d : Fin 1024) :
    rnBlk m c t (ix2 0 d) = m ((c : Thread nD τ).loc main_arg4) (ix2 0 d) := by
  have hi : ∀ t : Fin cfg0.N, win0_7.index t 0 = 0 ∧ win0_7.index t 1 = 0 := by decide +kernel
  rw [← V_main_arg4 m c]
  unfold rnBlk iblk
  rw [View.read_apply]
  refine congrArg (V m c main_arg4) (ix2_ext _ _ _ ?_ ?_)
  · exact show win0_7.index t 0 * 1 + 1 * 0 = 0 from off_col (hi t).1 off_zero
  · exact show win0_7.index t 1 * 1024 + 1 * d.val = d.val from off_col (hi t).2 off_zero

theorem cast5 (c : Dev nD) : V m c main_v0 = m ((c : Thread nD τ).loc main_arg5) := by
  unfold V hostOps0
  after_results
  rfl

theorem wbg_at (c : Dev nD) (t : Fin cfg0.N) (j d : Fin 1024) :
    wbgBlk m c t (ix2 j d) = m ((c : Thread nD τ).loc main_arg5) (ix2 j d) := by
  have hi : ∀ t : Fin cfg0.N, win0_8.index t 0 = 0 ∧ win0_8.index t 1 = 0 := by decide +kernel
  rw [← cast5 m c]
  unfold wbgBlk iblk
  rw [View.read_apply]
  refine congrArg (V m c main_v0) (ix2_ext _ _ _ ?_ ?_)
  · exact show win0_8.index t 0 * 1024 + 1 * j.val = j.val from off_col (hi t).1 off_zero
  · exact show win0_8.index t 1 * 1024 + 1 * d.val = d.val from off_col (hi t).2 off_zero

theorem cast6 (c : Dev nD) : V m c main_v1 = m ((c : Thread nD τ).loc main_arg6) := by
  unfold V hostOps0
  after_results
  rfl

theorem wbr_at (c : Dev nD) (t : Fin cfg0.N) (j d : Fin 1024) :
    wbrBlk m c t (ix2 j d) = m ((c : Thread nD τ).loc main_arg6) (ix2 j d) := by
  have hi : ∀ t : Fin cfg0.N, win0_9.index t 0 = 0 ∧ win0_9.index t 1 = 0 := by decide +kernel
  rw [← cast6 m c]
  unfold wbrBlk iblk
  rw [View.read_apply]
  refine congrArg (V m c main_v1) (ix2_ext _ _ _ ?_ ?_)
  · exact show win0_9.index t 0 * 1024 + 1 * j.val = j.val from off_col (hi t).1 off_zero
  · exact show win0_9.index t 1 * 1024 + 1 * d.val = d.val from off_col (hi t).2 off_zero

theorem cast7 (c : Dev nD) : V m c main_v2 = m ((c : Thread nD τ).loc main_arg7) := by
  unfold V hostOps0
  after_results
  rfl

theorem wo_at (c : Dev nD) (t : Fin cfg0.N) (j d : Fin 1024) :
    woBlk m c t (ix2 j d) = m ((c : Thread nD τ).loc main_arg7) (ix2 j d) := by
  have hi : ∀ t : Fin cfg0.N, win0_10.index t 0 = 0 ∧ win0_10.index t 1 = 0 := by decide +kernel
  rw [← cast7 m c]
  unfold woBlk iblk
  rw [View.read_apply]
  refine congrArg (V m c main_v2) (ix2_ext _ _ _ ?_ ?_)
  · exact show win0_10.index t 0 * 1024 + 1 * j.val = j.val from off_col (hi t).1 off_zero
  · exact show win0_10.index t 1 * 1024 + 1 * d.val = d.val from off_col (hi t).2 off_zero

/-! ### The results -/

section Spec
variable (oa ob : Vec Ideal S8448x1024 .f32) (p : Vec Ideal S8448x10368 .f32) (gn : Vec Ideal S1x128 .f32)
  (rn : Vec Ideal S1x1024 .f32) (wbg wbr wo : Vec Ideal S1024x1024 .f32) (dh : Vec Ideal S8448x1024 .f32)

/-- The gradient of the gated sum. -/
def dm (x : Fin 8448) (e : Fin 1024) : EReal := ∑ j, dh (ix2 x j) * wo (ix2 e j)

/-- The five results: both mixers' rows, their gated sum, and the gradients of the two products in it. -/
def specYa : Vec Ideal S8448x1024 .bf16 := fun i => ya oa p gn (i 0) (hd (i 1)) (pl (i 1))
def specYb : Vec Ideal S8448x1024 .bf16 := fun i => yb ob p rn (i 0) (hd (i 1)) (pl (i 1))
def specMg : Vec Ideal S8448x1024 .bf16 := fun i => merged oa ob p gn rn wbg wbr (i 0) (i 1)
def specPa : Vec Ideal S8448x1024 .bf16 := fun i =>
  dm wo dh (i 0) (i 1) * Ideal.logistic (p (ix2 (i 0) ⟨8192 + (i 1).val, by have : (i 1).val < 1024 := (i 1).isLt; omega⟩))
def specPb : Vec Ideal S8448x1024 .bf16 := fun i =>
  dm wo dh (i 0) (i 1) * Ideal.logistic (p (ix2 (i 0) ⟨9216 + (i 1).val, by have : (i 1).val < 1024 := (i 1).isLt; omega⟩))
end Spec

section Arg
variable (c : Dev nD)
abbrev arg0 : Vec Ideal S8448x1024 .f32 := m ((c : Thread nD τ).loc main_arg0)
abbrev arg1 : Vec Ideal S8448x1024 .f32 := m ((c : Thread nD τ).loc main_arg1)
abbrev arg2 : Vec Ideal S8448x10368 .f32 := m ((c : Thread nD τ).loc main_arg2)
abbrev arg3 : Vec Ideal S1x128 .f32 := m ((c : Thread nD τ).loc main_arg3)
abbrev arg4 : Vec Ideal S1x1024 .f32 := m ((c : Thread nD τ).loc main_arg4)
abbrev arg5 : Vec Ideal S1024x1024 .f32 := m ((c : Thread nD τ).loc main_arg5)
abbrev arg6 : Vec Ideal S1024x1024 .f32 := m ((c : Thread nD τ).loc main_arg6)
abbrev arg7 : Vec Ideal S1024x1024 .f32 := m ((c : Thread nD τ).loc main_arg7)
abbrev arg8 : Vec Ideal S8448x1024 .f32 := m ((c : Thread nD τ).loc main_arg8)
end Arg

section Point
variable (c : Dev nD) (t : Fin cfg0.N) (r : Fin 256) (x : Fin 8448) (hx : t.val * 256 + r.val = x.val)
include hx

theorem ya_pt (j : Fin 1024) : join (yaP m c t) (ix2 r j) = ya (arg0 m c) (arg2 m c) (arg3 m c) x (hd j) (pl j) := by
  show k0_pay4 (cols (hd j) (oaBlk m c t)) (cols (hd j) (zBlk m c t)) (gnBlk m c t) (ix2 r (pl j)) = _
  rw [pay4_at]
  unfold ya
  rw [gn_at]
  refine congrArg₂ (fun u v => gdn u v _ _) (funext fun e => oa_at m c t r x hx _) (funext fun e => z_at m c t r x hx _)

theorem yb_pt (j : Fin 1024) : join (ybP m c t) (ix2 r j) = yb (arg1 m c) (arg2 m c) (arg4 m c) x (hd j) (pl j) := by
  show k0_pay9 (cols (hd j) (obBlk m c t)) (cols (hd j) (rgBlk m c t)) (cols1 (hd j) (rnBlk m c t)) (ix2 r (pl j)) = _
  rw [pay9_at]
  unfold yb arg4
  rw [← rn_at m c t]
  refine congrArg₂ (fun u v => ret u v _ _) (funext fun e => ob_at m c t r x hx _) (funext fun e => rg_at m c t r x hx _)

theorem mg_pt (e : Fin 1024) : k0_pay35 (join (yaP m c t)) (wbgBlk m c t) (join (ybP m c t)) (wbrBlk m c t) (gaBlk m c t)
      (gbBlk m c t) (ix2 r e)
    = merged (arg0 m c) (arg1 m c) (arg2 m c) (arg3 m c) (arg4 m c) (arg5 m c) (arg6 m c) x e := by
  rw [pay35_at, ga_at m c t r x hx, gb_at m c t r x hx]
  unfold merged
  simp only [ya_pt m c t r x hx, yb_pt m c t r x hx, wbg_at, wbr_at]

theorem pa_pt (e : Fin 1024) : k0_pay37 (gaBlk m c t) (dhBlk m c t) (woBlk m c t) (ix2 r e)
    = specPa (arg2 m c) (arg7 m c) (arg8 m c) (ix2 x e) := by
  rw [pay37_at, ga_at m c t r x hx]
  simp only [dh_at m c t r x hx, wo_at]
  rfl

theorem pb_pt (e : Fin 1024) : k0_pay38 (gbBlk m c t) (dhBlk m c t) (woBlk m c t) (ix2 r e)
    = specPb (arg2 m c) (arg7 m c) (arg8 m c) (ix2 x e) := by
  rw [pay38_at, gb_at m c t r x hx]
  simp only [dh_at m c t r x hx, wo_at]
  rfl
end Point

/-! ### The arrays -/

/-- Rows of the blocks are rows of the array: a block and the array at the block's places. -/
theorem rows_eq (G : Vec Ideal S8448x1024 .bf16) (B : Vec Ideal S256x1024 .bf16) (t : Fin cfg0.N)
    (f : S256x1024.Idx → S8448x1024.Idx) (h0 : ∀ y, (f y 0).val = t.val * 256 + (y 0).val) (h1 : ∀ y, (f y 1).val = (y 1).val)
    (hB : ∀ (r : Fin 256) (x : Fin 8448) (_ : t.val * 256 + r.val = x.val) (e : Fin 1024), B (ix2 r e) = G (ix2 x e))
    (y : S256x1024.Idx) : B y = G (f y) := by
  rw [ix2_ext (f y) (f y 0) (f y 1) rfl rfl]
  have e : f y 1 = y 1 := Fin.ext (h1 y)
  rw [e]
  exact (congrArg B (ix2_ext y (y 0) (y 1) rfl rfl)).trans (hB (y 0) (f y 0) (h0 y).symm (y 1))

/-- An index lies in its row's block. -/
theorem mem_rows (I : Fin 2 → Nat) (i : S8448x1024.Idx) (h0 : I 0 = (i 0).val / 256) (h1 : I 1 = 0) (a : Fin 2) :
    I a * S256x1024.size a ≤ (i a).val ∧ (i a).val < I a * S256x1024.size a + S256x1024.size a := by
  have l1 : (i 1).val < 1024 := (i 1).isLt
  match a with
  | ⟨0, _⟩ => show I 0 * 256 ≤ (i 0).val ∧ (i 0).val < I 0 * 256 + 256; rw [h0]; omega
  | ⟨1, _⟩ => show I 1 * 1024 ≤ (i 1).val ∧ (i 1).val < I 1 * 1024 + 1024; rw [h1]; omega

theorem mem_blk15 (t : Fin cfg0.N) (i : S8448x1024.Idx) : i ∈ ((cfg0.win 15).blk t).view.set
    ↔ ∀ a : Fin 2, win0_15.index t a * S256x1024.size a ≤ (i a).val
      ∧ (i a).val < win0_15.index t a * S256x1024.size a + S256x1024.size a := by
  show i ∈ ((View.whole main_v3_3).slice (win0_15.rect t)).set ↔ _
  rw [View.set_slice_whole, Rect.mem_set_unit]
  exact Iff.rfl

theorem finalYa (c : Dev nD) : (dats m 0 c).arrAt 15 cfg0.N = specYa (arg0 m c) (arg2 m c) (arg3 m c) := by
  have hN : cfg0.N = 33 := N_0
  have hi : ∀ t : Fin cfg0.N, win0_15.index t 0 = t.val ∧ win0_15.index t 1 = 0 := by decide +kernel
  refine (dats m 0 c).arrAt_eq_of_cover 15 _ (fun t hf => ?_) (fun i => ?_)
  · rw [Value.flushed15, out15_eq m c t]
    funext y
    rw [View.read_apply]
    exact rows_eq (specYa (arg0 m c) (arg2 m c) (arg3 m c)) _ t _
      (fun y => show win0_15.index t 0 * 256 + 1 * (y 0).val = _ from off_row (hi t).1 rfl)
      (fun y => show win0_15.index t 1 * 1024 + 1 * (y 1).val = _ from off_col (hi t).2 off_zero)
      (fun r x hx e => ya_pt m c t r x hx e) y
  · have h0 : (i 0).val < 8448 := (i 0).isLt
    refine ⟨⟨(i 0).val / 256, by omega⟩, flush0_15 _, (mem_blk15 _ i).2 (mem_rows _ i (hi _).1 (hi _).2)⟩

theorem mem_blk16 (t : Fin cfg0.N) (i : S8448x1024.Idx) : i ∈ ((cfg0.win 16).blk t).view.set
    ↔ ∀ a : Fin 2, win0_16.index t a * S256x1024.size a ≤ (i a).val
      ∧ (i a).val < win0_16.index t a * S256x1024.size a + S256x1024.size a := by
  show i ∈ ((View.whole main_v3_4).slice (win0_16.rect t)).set ↔ _
  rw [View.set_slice_whole, Rect.mem_set_unit]
  exact Iff.rfl

theorem finalYb (c : Dev nD) : (dats m 0 c).arrAt 16 cfg0.N = specYb (arg1 m c) (arg2 m c) (arg4 m c) := by
  have hN : cfg0.N = 33 := N_0
  have hi : ∀ t : Fin cfg0.N, win0_16.index t 0 = t.val ∧ win0_16.index t 1 = 0 := by decide +kernel
  refine (dats m 0 c).arrAt_eq_of_cover 16 _ (fun t hf => ?_) (fun i => ?_)
  · rw [Value.flushed16, out16_eq m c t]
    funext y
    rw [View.read_apply]
    exact rows_eq (specYb (arg1 m c) (arg2 m c) (arg4 m c)) _ t _
      (fun y => show win0_16.index t 0 * 256 + 1 * (y 0).val = _ from off_row (hi t).1 rfl)
      (fun y => show win0_16.index t 1 * 1024 + 1 * (y 1).val = _ from off_col (hi t).2 off_zero)
      (fun r x hx e => yb_pt m c t r x hx e) y
  · have h0 : (i 0).val < 8448 := (i 0).isLt
    refine ⟨⟨(i 0).val / 256, by omega⟩, flush0_16 _, (mem_blk16 _ i).2 (mem_rows _ i (hi _).1 (hi _).2)⟩

theorem mem_blk17 (t : Fin cfg0.N) (i : S8448x1024.Idx) : i ∈ ((cfg0.win 17).blk t).view.set
    ↔ ∀ a : Fin 2, win0_17.index t a * S256x1024.size a ≤ (i a).val
      ∧ (i a).val < win0_17.index t a * S256x1024.size a + S256x1024.size a := by
  show i ∈ ((View.whole main_v3_5).slice (win0_17.rect t)).set ↔ _
  rw [View.set_slice_whole, Rect.mem_set_unit]
  exact Iff.rfl

theorem finalMg (c : Dev nD) : (dats m 0 c).arrAt 17 cfg0.N = specMg (arg0 m c) (arg1 m c) (arg2 m c) (arg3 m c) (arg4 m c) (arg5 m c) (arg6 m c) := by
  have hN : cfg0.N = 33 := N_0
  have hi : ∀ t : Fin cfg0.N, win0_17.index t 0 = t.val ∧ win0_17.index t 1 = 0 := by decide +kernel
  refine (dats m 0 c).arrAt_eq_of_cover 17 _ (fun t hf => ?_) (fun i => ?_)
  · rw [Value.flushed17, out17_eq m c t]
    funext y
    rw [View.read_apply]
    exact rows_eq (specMg (arg0 m c) (arg1 m c) (arg2 m c) (arg3 m c) (arg4 m c) (arg5 m c) (arg6 m c)) _ t _
      (fun y => show win0_17.index t 0 * 256 + 1 * (y 0).val = _ from off_row (hi t).1 rfl)
      (fun y => show win0_17.index t 1 * 1024 + 1 * (y 1).val = _ from off_col (hi t).2 off_zero)
      (fun r x hx e => mg_pt m c t r x hx e) y
  · have h0 : (i 0).val < 8448 := (i 0).isLt
    refine ⟨⟨(i 0).val / 256, by omega⟩, flush0_17 _, (mem_blk17 _ i).2 (mem_rows _ i (hi _).1 (hi _).2)⟩

theorem mem_blk18 (t : Fin cfg0.N) (i : S8448x1024.Idx) : i ∈ ((cfg0.win 18).blk t).view.set
    ↔ ∀ a : Fin 2, win0_18.index t a * S256x1024.size a ≤ (i a).val
      ∧ (i a).val < win0_18.index t a * S256x1024.size a + S256x1024.size a := by
  show i ∈ ((View.whole main_v3_6).slice (win0_18.rect t)).set ↔ _
  rw [View.set_slice_whole, Rect.mem_set_unit]
  exact Iff.rfl

theorem finalPa (c : Dev nD) : (dats m 0 c).arrAt 18 cfg0.N = specPa (arg2 m c) (arg7 m c) (arg8 m c) := by
  have hN : cfg0.N = 33 := N_0
  have hi : ∀ t : Fin cfg0.N, win0_18.index t 0 = t.val ∧ win0_18.index t 1 = 0 := by decide +kernel
  refine (dats m 0 c).arrAt_eq_of_cover 18 _ (fun t hf => ?_) (fun i => ?_)
  · rw [Value.flushed18, out18_eq m c t]
    funext y
    rw [View.read_apply]
    exact rows_eq (specPa (arg2 m c) (arg7 m c) (arg8 m c)) _ t _
      (fun y => show win0_18.index t 0 * 256 + 1 * (y 0).val = _ from off_row (hi t).1 rfl)
      (fun y => show win0_18.index t 1 * 1024 + 1 * (y 1).val = _ from off_col (hi t).2 off_zero)
      (fun r x hx e => pa_pt m c t r x hx e) y
  · have h0 : (i 0).val < 8448 := (i 0).isLt
    refine ⟨⟨(i 0).val / 256, by omega⟩, flush0_18 _, (mem_blk18 _ i).2 (mem_rows _ i (hi _).1 (hi _).2)⟩

theorem mem_blk19 (t : Fin cfg0.N) (i : S8448x1024.Idx) : i ∈ ((cfg0.win 19).blk t).view.set
    ↔ ∀ a : Fin 2, win0_19.index t a * S256x1024.size a ≤ (i a).val
      ∧ (i a).val < win0_19.index t a * S256x1024.size a + S256x1024.size a := by
  show i ∈ ((View.whole main_v3_7).slice (win0_19.rect t)).set ↔ _
  rw [View.set_slice_whole, Rect.mem_set_unit]
  exact Iff.rfl

theorem finalPb (c : Dev nD) : (dats m 0 c).arrAt 19 cfg0.N = specPb (arg2 m c) (arg7 m c) (arg8 m c) := by
  have hN : cfg0.N = 33 := N_0
  have hi : ∀ t : Fin cfg0.N, win0_19.index t 0 = t.val ∧ win0_19.index t 1 = 0 := by decide +kernel
  refine (dats m 0 c).arrAt_eq_of_cover 19 _ (fun t hf => ?_) (fun i => ?_)
  · rw [Value.flushed19, out19_eq m c t]
    funext y
    rw [View.read_apply]
    exact rows_eq (specPb (arg2 m c) (arg7 m c) (arg8 m c)) _ t _
      (fun y => show win0_19.index t 0 * 256 + 1 * (y 0).val = _ from off_row (hi t).1 rfl)
      (fun y => show win0_19.index t 1 * 1024 + 1 * (y 1).val = _ from off_col (hi t).2 off_zero)
      (fun r x hx e => pb_pt m c t r x hx e) y
  · have h0 : (i 0).val < 8448 := (i 0).isLt
    refine ⟨⟨(i 0).val / 256, by omega⟩, flush0_19 _, (mem_blk19 _ i).2 (mem_rows _ i (hi _).1 (hi _).2)⟩

end Cert.Kernel10Ideal.Math

end
-- ==== Proof.PostBwdRef.lean ====
/- The gradient at the mixer's output call: the reference's values at an index. -/
module

public import proofs.«01_k».proof.Proof.PostFwdRef
public import proofs.«01_k».proof.Proof.PostBwdBlocks
public import proofs.«01_k».proof.Proof.Gen.Reference10Ideal.Read

@[expose] public section

set_option maxRecDepth 16384

noncomputable section

open Idealize.ShloMosaic Idealize.ShloMosaic.TcCoe Idealize.SL.Sem
open Idealize.ShloMosaic.Pipeline (Dat)

namespace Cert.Reference10Ideal.Math

open Cert.Reference10Ideal Cert.Reference10Ideal.Read
open Cert.Kernel9Ideal.Math (ya yb hd pl merged)
open Cert.Kernel10Ideal.Math (dm specYa specYb specMg specPa specPb ix2_ext)

variable (oa ob : Vec Ideal S8448x1024 .f32) (p : Vec Ideal S8448x10368 .f32) (gn : Vec Ideal S1x128 .f32)
  (rn : Vec Ideal S1x1024 .f32) (wbg wbr wo : Vec Ideal S1024x1024 .f32) (dh : Vec Ideal S8448x1024 .f32)

/-- The mixers' rows are those of the forward call's reference. -/
theorem ya_same : val_main_v21 (F := Ideal) oa p gn = Cert.Reference9Ideal.Read.val_main_v21 (F := Ideal) oa p gn := rfl
theorem yb_same : val_main_v45 (F := Ideal) ob p rn = Cert.Reference9Ideal.Read.val_main_v45 (F := Ideal) ob p rn := rfl

theorem ya_at (x : Fin 8448) (j : Fin 1024) : val_main_v21 (F := Ideal) oa p gn (ix2 x j) = ya oa p gn x (hd j) (pl j) := by
  rw [ya_same]
  exact Cert.Reference9Ideal.Math.ya_at oa p gn x j

theorem yb_at (x : Fin 8448) (j : Fin 1024) : val_main_v45 (F := Ideal) ob p rn (ix2 x j) = yb ob p rn x (hd j) (pl j) := by
  rw [yb_same]
  exact Cert.Reference9Ideal.Math.yb_at ob p rn x j

/-- Two arrays that agree at both coordinates. -/
theorem arr_ext (A B : Vec Ideal S8448x1024 .bf16) (h : ∀ (x : Fin 8448) (e : Fin 1024), A (ix2 x e) = B (ix2 x e)) : A = B := by
  funext i
  rw [ix2_ext i (i 0) (i 1) rfl rfl]
  exact h _ _

theorem spec_ya : val_main_v67 (F := Ideal) oa p gn = specYa oa p gn := arr_ext _ _ fun x e => ya_at oa p gn x e
theorem spec_yb : val_main_v68 (F := Ideal) ob p rn = specYb ob p rn := arr_ext _ _ fun x e => yb_at ob p rn x e

theorem mg_same : val_main_v62 (F := Ideal) oa ob p gn rn wbg wbr
    = Cert.Reference9Ideal.Read.val_main_v62 (F := Ideal) oa ob p gn rn wbg wbr := rfl

theorem spec_mg : val_main_v69 (F := Ideal) oa ob p gn rn wbg wbr = specMg oa ob p gn rn wbg wbr :=
  arr_ext _ _ fun x e => (congrFun (mg_same oa ob p gn rn wbg wbr) (ix2 x e)).trans
    (Cert.Reference9Ideal.Math.merged_at oa ob p gn rn wbg wbr x e)

theorem spec_pa : val_main_v70 (F := Ideal) p wo dh = specPa p wo dh := arr_ext _ _ fun x e => by
  show _ = dm wo dh x e * Ideal.logistic (p (ix2 x ⟨8192 + e.val, _⟩))
  rw [mul_comm]
  unfold dm Ideal.logistic
  pointwise [val_main_v70, val_main_v66, val_main_v64, val_main_v53, val_main_v52, val_main_v51, val_main_v50, val_main_v49,
    val_main_v48, val_main_v2, val_main_cst_7, val_main_cst_8]

theorem spec_pb : val_main_v71 (F := Ideal) p wo dh = specPb p wo dh := arr_ext _ _ fun x e => by
  show _ = dm wo dh x e * Ideal.logistic (p (ix2 x ⟨9216 + e.val, _⟩))
  rw [mul_comm]
  unfold dm Ideal.logistic
  pointwise [val_main_v71, val_main_v65, val_main_v64, val_main_v60, val_main_v59, val_main_v58, val_main_v57, val_main_v56,
    val_main_v55, val_main_v3, val_main_cst_9, val_main_cst_10]
end Cert.Reference10Ideal.Math

end
-- ==== Proof.PostBwd.lean ====
/- The gradient at the mixer's output call: the claim. -/
module

public import proofs.«01_k».proof.Proof.PostBwdRef
public import proofs.«01_k».proof.Proof.Gen.Reference10Ideal.Run

@[expose] public section

set_option maxRecDepth 16384

noncomputable section

open Idealize.ShloMosaic Idealize.ShloMosaic.TcCoe Idealize.SL.Sem
open Idealize.ShloMosaic.Pipeline (Dat)

namespace Cert.Proof

open Cert.Kernel10Ideal.Math (arg0 arg1 arg2 arg3 arg4 arg5 arg6 arg7 arg8 specYa specYb specMg specPa specPb)

theorem post_bwd :
    algebraic_Kernel10Ideal_Reference10Ideal := by
  intro m g m' g' _ heq
  refine ⟨fun c => specYa (arg0 m c) (arg2 m c) (arg3 m c),
    fun c => specYb (arg1 m c) (arg2 m c) (arg4 m c),
    fun c => specMg (arg0 m c) (arg1 m c) (arg2 m c) (arg3 m c) (arg4 m c) (arg5 m c) (arg6 m c),
    fun c => specPa (arg2 m c) (arg7 m c) (arg8 m c),
    fun c => specPb (arg2 m c) (arg7 m c) (arg8 m c), ?_, ?_⟩
  · refine (θ_run _ _ _).mono (fun r h c => ?_) (Cert.Kernel10Ideal.Value.run_blocks m g)
    obtain ⟨_, _, _, h3, h4, h5, h6, h7, _, _, hr⟩ := h c
    exact ⟨h3.trans (Cert.Kernel10Ideal.Math.finalYa m c), h4.trans (Cert.Kernel10Ideal.Math.finalYb m c),
      h5.trans (Cert.Kernel10Ideal.Math.finalMg m c), h6.trans (Cert.Kernel10Ideal.Math.finalPa m c),
      h7.trans (Cert.Kernel10Ideal.Math.finalPb m c), hr⟩
  · refine (θ_run _ _ _).mono (fun r h c => ?_) (Cert.Reference10Ideal.Value.run m' g')
    obtain ⟨h0, h1, h2, h3, h4, hr⟩ := h c
    obtain ⟨a0, a1, a2, a3, a4, a5, a6, a7, a8⟩ := heq c
    refine ⟨h0.trans ((Cert.Reference10Ideal.Read.val_main_v67_eq _ _ _).trans ?_),
      h1.trans ((Cert.Reference10Ideal.Read.val_main_v68_eq _ _ _).trans ?_),
      h2.trans ((Cert.Reference10Ideal.Read.val_main_v69_eq m' c).trans ?_),
      h3.trans ((Cert.Reference10Ideal.Read.val_main_v70_eq _ _ _).trans ?_),
      h4.trans ((Cert.Reference10Ideal.Read.val_main_v71_eq _ _ _).trans ?_), hr⟩
    · rw [a0, a2, a3]
      exact Cert.Reference10Ideal.Math.spec_ya _ _ _
    · rw [a1, a2, a4]
      exact Cert.Reference10Ideal.Math.spec_yb _ _ _
    · rw [a0, a1, a2, a3, a4, a5, a6]
      exact Cert.Reference10Ideal.Math.spec_mg _ _ _ _ _ _ _
    · rw [a2, a7, a8]
      exact Cert.Reference10Ideal.Math.spec_pa _ _ _
    · rw [a2, a7, a8]
      exact Cert.Reference10Ideal.Math.spec_pb _ _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.DwBlocks
public import proofs.«01_k».proof.Proof.DwOut
public import proofs.«01_k».proof.Proof.FfnFwd
public import proofs.«01_k».proof.Proof.FfnBwdClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.DwIn
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.DnWide
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.ProjFwd
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.FfnHead
public import proofs.«01_k».proof.Proof.FfnHeadBits
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.PostFwd
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.PostBwd
public import Idealize.ShloMosaic.Adequacy
public import Idealize.ShloMosaic.Init

@[expose] public section

noncomputable section

namespace Cert.Proof

open Idealize.ShloMosaic Idealize.SL.Sem

/-! The references' frames: their runs leave the arguments, and they declare no semaphore. -/

theorem frame_referenceideal : Cert.quiescent_ReferenceIdeal := by
  intro m ρ _
  exact (θ_run Cert.ReferenceIdeal.defs _ _).mono (fun r h => ⟨fun c => ⟨(h c).2.2.2.2.2.1, (h c).2.2.2.2.2.2.1, (h c).2.2.2.2.2.2.2.1, (h c).2.2.2.2.2.2.2.2.1, (h c).2.2.2.2.2.2.2.2.2⟩,
    Idealize.ShloMosaic.sem_eq_zero_of_no_sems (by decide) r.2⟩) (Cert.ReferenceIdeal.Value.run (F := Ideal) m ρ)

theorem frame_reference2ideal : Cert.quiescent_Reference2Ideal := by
  intro m ρ _
  exact (θ_run Cert.Reference2Ideal.defs _ _).mono (fun r h => ⟨fun c => ⟨(h c).2.1, (h c).2.2⟩,
    Idealize.ShloMosaic.sem_eq_zero_of_no_sems (by decide) r.2⟩) (Cert.Reference2Ideal.Value.run (F := Ideal) m ρ)

theorem frame_reference3ideal : Cert.quiescent_Reference3Ideal := by
  intro m ρ _
  exact (θ_run Cert.Reference3Ideal.defs _ _).mono (fun r h => ⟨fun c => ⟨(h c).2.1, (h c).2.2⟩,
    Idealize.ShloMosaic.sem_eq_zero_of_no_sems (by decide) r.2⟩) (Cert.Reference3Ideal.Value.run (F := Ideal) m ρ)

theorem frame_reference4ideal : Cert.quiescent_Reference4Ideal := by
  intro m ρ _
  exact (θ_run Cert.Reference4Ideal.defs _ _).mono (fun r h => ⟨fun c => ⟨(h c).2.1, (h c).2.2.1, (h c).2.2.2.1, (h c).2.2.2.2⟩,
    Idealize.ShloMosaic.sem_eq_zero_of_no_sems (by decide) r.2⟩) (Cert.Reference4Ideal.Value.run (F := Ideal) m ρ)

theorem frame_reference5ideal : Cert.quiescent_Reference5Ideal := by
  intro m ρ _
  exact (θ_run Cert.Reference5Ideal.defs _ _).mono (fun r h => ⟨fun c => ⟨(h c).2.1, (h c).2.2⟩,
    Idealize.ShloMosaic.sem_eq_zero_of_no_sems (by decide) r.2⟩) (Cert.Reference5Ideal.Value.run (F := Ideal) m ρ)

theorem frame_reference6ideal : Cert.quiescent_Reference6Ideal := by
  intro m ρ _
  exact (θ_run Cert.Reference6Ideal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2⟩,
    Idealize.ShloMosaic.sem_eq_zero_of_no_sems (by decide) r.2⟩) (Cert.Reference6Ideal.Value.run (F := Ideal) m ρ)

theorem frame_reference7ideal : Cert.quiescent_Reference7Ideal := by
  intro m ρ _
  exact (θ_run Cert.Reference7Ideal.defs _ _).mono (fun r h => ⟨fun c => ⟨(h c).2.2.1, (h c).2.2.2.1, (h c).2.2.2.2⟩,
    Idealize.ShloMosaic.sem_eq_zero_of_no_sems (by decide) r.2⟩) (Cert.Reference7Ideal.Value.run (F := Ideal) m ρ)

theorem frame_reference8ideal : Cert.quiescent_Reference8Ideal := by
  intro m ρ _
  exact (θ_run Cert.Reference8Ideal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2⟩,
    Idealize.ShloMosaic.sem_eq_zero_of_no_sems (by decide) r.2⟩) (Cert.Reference8Ideal.Value.run (F := Ideal) m ρ)

theorem frame_reference9ideal : Cert.quiescent_Reference9Ideal := by
  intro m ρ _
  exact (θ_run Cert.Reference9Ideal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩,
    Idealize.ShloMosaic.sem_eq_zero_of_no_sems (by decide) r.2⟩) (Cert.Reference9Ideal.Value.run (F := Ideal) m ρ)

theorem frame_reference10ideal : Cert.quiescent_Reference10Ideal := by
  intro m ρ _
  exact (θ_run Cert.Reference10Ideal.defs _ _).mono (fun r h => ⟨fun c => ⟨(h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩,
    Idealize.ShloMosaic.sem_eq_zero_of_no_sems (by decide) r.2⟩) (Cert.Reference10Ideal.Value.run (F := Ideal) m ρ)

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_kernel8Ideal : Cert.quiescent_Kernel8Ideal := fun m ρ _ => Cert.Kernel8Ideal.Head.frame m ρ
theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Pre_finite.Gen.facts, Cert.Pre_finite8.Gen.facts, frame_kernel,
    frame_kernelIdeal, fun m ρ _ => frame_kernelIdeal m ρ trivial, frame_referenceideal,
    fun m ρ _ => frame_referenceideal m ρ trivial, frame_kernel2, frame_kernel2Ideal, frame_reference2ideal,
    frame_kernel3, frame_kernel3Ideal, frame_reference3ideal, frame_kernel4, frame_kernel4Ideal,
    frame_reference4ideal, frame_kernel5, frame_kernel5Ideal, frame_reference5ideal, frame_kernel6,
    frame_kernel6Ideal, frame_reference6ideal, frame_kernel7, frame_kernel7Ideal, frame_reference7ideal,
    frame_kernel8, frame_kernel8Ideal, fun m ρ _ => frame_kernel8Ideal m ρ trivial, frame_reference8ideal,
    fun m ρ _ => frame_reference8ideal m ρ trivial, frame_kernel9, frame_kernel9Ideal, frame_reference9ideal,
    frame_kernel10, frame_kernel10Ideal, frame_reference10ideal, trivial, ffn_bwd, trivial, dw_blocks, trivial,
    dw_out, trivial, ffn_fwd, trivial, dw_in, trivial, dn_wide, trivial, proj_fwd, trivial, ffn_head, trivial,
    post_fwd, trivial, post_bwd⟩

end Cert.Proof

end
